-- ==== Defs.lean ====
def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1Ideal_finite [hPre_finite : Cert.Pre_finite.Facts] (m : (ℓ : Loc Cert.Dil1Ideal.nD Cert.Dil1Ideal.τ Cert.Dil1Ideal.sig) → Buf (Elt Ideal) ℓ) : Prop :=
  ∀ c : Dev Cert.Dil1Ideal.nD,
    (Cert.Pre_finite.fn (F := Ideal) (m ((c.tc : Thread Cert.Dil1Ideal.nD Cert.Dil1Ideal.τ).loc Cert.Dil1Ideal.main_arg0)) (m ((c.tc : Thread Cert.Dil1Ideal.nD Cert.Dil1Ideal.τ).loc Cert.Dil1Ideal.main_arg1)) (m ((c.tc : Thread Cert.Dil1Ideal.nD Cert.Dil1Ideal.τ).loc Cert.Dil1Ideal.main_arg2))) = (fun _ => 1#1)

def Pre_Ref1Ideal (m : (ℓ : Loc Cert.Ref1Ideal.nD Cert.Ref1Ideal.τ Cert.Ref1Ideal.sig) → Buf (Elt Ideal) ℓ) : Prop :=
  True

def Pre_Ref1Ideal_finite [hPre_finite : Cert.Pre_finite.Facts] (m : (ℓ : Loc Cert.Ref1Ideal.nD Cert.Ref1Ideal.τ Cert.Ref1Ideal.sig) → Buf (Elt Ideal) ℓ) : Prop :=
  ∀ c : Dev Cert.Ref1Ideal.nD,
    (Cert.Pre_finite.fn (F := Ideal) (m ((c.tc : Thread Cert.Ref1Ideal.nD Cert.Ref1Ideal.τ).loc Cert.Ref1Ideal.main_arg0)) (m ((c.tc : Thread Cert.Ref1Ideal.nD Cert.Ref1Ideal.τ).loc Cert.Ref1Ideal.main_arg1)) (m ((c.tc : Thread Cert.Ref1Ideal.nD Cert.Ref1Ideal.τ).loc Cert.Ref1Ideal.main_arg2))) = (fun _ => 1#1)

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_RefCombIdeal (m : (ℓ : Loc Cert.RefCombIdeal.nD Cert.RefCombIdeal.τ Cert.RefCombIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_heaviest_finite [hPre_heaviest_finite : Cert.Pre_heaviest_finite.Facts] (m : (ℓ : Loc Cert.MergeIdeal.nD Cert.MergeIdeal.τ Cert.MergeIdeal.sig) → Buf (Elt Ideal) ℓ) : Prop :=
  ∀ c : Dev Cert.MergeIdeal.nD,
    (Cert.Pre_heaviest_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18))) = (fun _ => 1#1)

def Pre_RefMergeIdeal (m : (ℓ : Loc Cert.RefMergeIdeal.nD Cert.RefMergeIdeal.τ Cert.RefMergeIdeal.sig) → Buf (Elt Ideal) ℓ) : Prop :=
  True

def Pre_RefMergeIdeal_heaviest_finite [hPre_heaviest_finite : Cert.Pre_heaviest_finite.Facts] (m : (ℓ : Loc Cert.RefMergeIdeal.nD Cert.RefMergeIdeal.τ Cert.RefMergeIdeal.sig) → Buf (Elt Ideal) ℓ) : Prop :=
  ∀ c : Dev Cert.RefMergeIdeal.nD,
    (Cert.Pre_heaviest_finite.fn (F := Ideal) (m ((c.tc : Thread Cert.RefMergeIdeal.nD Cert.RefMergeIdeal.τ).loc Cert.RefMergeIdeal.main_arg0)) (m ((c.tc : Thread Cert.RefMergeIdeal.nD Cert.RefMergeIdeal.τ).loc Cert.RefMergeIdeal.main_arg1)) (m ((c.tc : Thread Cert.RefMergeIdeal.nD Cert.RefMergeIdeal.τ).loc Cert.RefMergeIdeal.main_arg2)) (m ((c.tc : Thread Cert.RefMergeIdeal.nD Cert.RefMergeIdeal.τ).loc Cert.RefMergeIdeal.main_arg3)) (m ((c.tc : Thread Cert.RefMergeIdeal.nD Cert.RefMergeIdeal.τ).loc Cert.RefMergeIdeal.main_arg4)) (m ((c.tc : Thread Cert.RefMergeIdeal.nD Cert.RefMergeIdeal.τ).loc Cert.RefMergeIdeal.main_arg5)) (m ((c.tc : Thread Cert.RefMergeIdeal.nD Cert.RefMergeIdeal.τ).loc Cert.RefMergeIdeal.main_arg6)) (m ((c.tc : Thread Cert.RefMergeIdeal.nD Cert.RefMergeIdeal.τ).loc Cert.RefMergeIdeal.main_arg7)) (m ((c.tc : Thread Cert.RefMergeIdeal.nD Cert.RefMergeIdeal.τ).loc Cert.RefMergeIdeal.main_arg8)) (m ((c.tc : Thread Cert.RefMergeIdeal.nD Cert.RefMergeIdeal.τ).loc Cert.RefMergeIdeal.main_arg9)) (m ((c.tc : Thread Cert.RefMergeIdeal.nD Cert.RefMergeIdeal.τ).loc Cert.RefMergeIdeal.main_arg10)) (m ((c.tc : Thread Cert.RefMergeIdeal.nD Cert.RefMergeIdeal.τ).loc Cert.RefMergeIdeal.main_arg11)) (m ((c.tc : Thread Cert.RefMergeIdeal.nD Cert.RefMergeIdeal.τ).loc Cert.RefMergeIdeal.main_arg12)) (m ((c.tc : Thread Cert.RefMergeIdeal.nD Cert.RefMergeIdeal.τ).loc Cert.RefMergeIdeal.main_arg13)) (m ((c.tc : Thread Cert.RefMergeIdeal.nD Cert.RefMergeIdeal.τ).loc Cert.RefMergeIdeal.main_arg14)) (m ((c.tc : Thread Cert.RefMergeIdeal.nD Cert.RefMergeIdeal.τ).loc Cert.RefMergeIdeal.main_arg15)) (m ((c.tc : Thread Cert.RefMergeIdeal.nD Cert.RefMergeIdeal.τ).loc Cert.RefMergeIdeal.main_arg16)) (m ((c.tc : Thread Cert.RefMergeIdeal.nD Cert.RefMergeIdeal.τ).loc Cert.RefMergeIdeal.main_arg17)) (m ((c.tc : Thread Cert.RefMergeIdeal.nD Cert.RefMergeIdeal.τ).loc Cert.RefMergeIdeal.main_arg18))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInprojIdeal (m : (ℓ : Loc Cert.RefInprojIdeal.nD Cert.RefInprojIdeal.τ Cert.RefInprojIdeal.sig) → Buf (Elt Ideal) ℓ) : Prop :=
  True

def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Dil4Ideal_finite [hPre_finite : Cert.Pre_finite.Facts] (m : (ℓ : Loc Cert.Dil4Ideal.nD Cert.Dil4Ideal.τ Cert.Dil4Ideal.sig) → Buf (Elt Ideal) ℓ) : Prop :=
  ∀ c : Dev Cert.Dil4Ideal.nD,
    (Cert.Pre_finite.fn (F := Ideal) (m ((c.tc : Thread Cert.Dil4Ideal.nD Cert.Dil4Ideal.τ).loc Cert.Dil4Ideal.main_arg0)) (m ((c.tc : Thread Cert.Dil4Ideal.nD Cert.Dil4Ideal.τ).loc Cert.Dil4Ideal.main_arg1)) (m ((c.tc : Thread Cert.Dil4Ideal.nD Cert.Dil4Ideal.τ).loc Cert.Dil4Ideal.main_arg2))) = (fun _ => 1#1)

def Pre_Ref4Ideal (m : (ℓ : Loc Cert.Ref4Ideal.nD Cert.Ref4Ideal.τ Cert.Ref4Ideal.sig) → Buf (Elt Ideal) ℓ) : Prop :=
  True

def Pre_Ref4Ideal_finite [hPre_finite : Cert.Pre_finite.Facts] (m : (ℓ : Loc Cert.Ref4Ideal.nD Cert.Ref4Ideal.τ Cert.Ref4Ideal.sig) → Buf (Elt Ideal) ℓ) : Prop :=
  ∀ c : Dev Cert.Ref4Ideal.nD,
    (Cert.Pre_finite.fn (F := Ideal) (m ((c.tc : Thread Cert.Ref4Ideal.nD Cert.Ref4Ideal.τ).loc Cert.Ref4Ideal.main_arg0)) (m ((c.tc : Thread Cert.Ref4Ideal.nD Cert.Ref4Ideal.τ).loc Cert.Ref4Ideal.main_arg1)) (m ((c.tc : Thread Cert.Ref4Ideal.nD Cert.Ref4Ideal.τ).loc Cert.Ref4Ideal.main_arg2))) = (fun _ => 1#1)

def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16Ideal_finite [hPre_finite : Cert.Pre_finite.Facts] (m : (ℓ : Loc Cert.Dil16Ideal.nD Cert.Dil16Ideal.τ Cert.Dil16Ideal.sig) → Buf (Elt Ideal) ℓ) : Prop :=
  ∀ c : Dev Cert.Dil16Ideal.nD,
    (Cert.Pre_finite.fn (F := Ideal) (m ((c.tc : Thread Cert.Dil16Ideal.nD Cert.Dil16Ideal.τ).loc Cert.Dil16Ideal.main_arg0)) (m ((c.tc : Thread Cert.Dil16Ideal.nD Cert.Dil16Ideal.τ).loc Cert.Dil16Ideal.main_arg1)) (m ((c.tc : Thread Cert.Dil16Ideal.nD Cert.Dil16Ideal.τ).loc Cert.Dil16Ideal.main_arg2))) = (fun _ => 1#1)

def Pre_Ref16Ideal (m : (ℓ : Loc Cert.Ref16Ideal.nD Cert.Ref16Ideal.τ Cert.Ref16Ideal.sig) → Buf (Elt Ideal) ℓ) : Prop :=
  True

def Pre_Ref16Ideal_finite [hPre_finite : Cert.Pre_finite.Facts] (m : (ℓ : Loc Cert.Ref16Ideal.nD Cert.Ref16Ideal.τ Cert.Ref16Ideal.sig) → Buf (Elt Ideal) ℓ) : Prop :=
  ∀ c : Dev Cert.Ref16Ideal.nD,
    (Cert.Pre_finite.fn (F := Ideal) (m ((c.tc : Thread Cert.Ref16Ideal.nD Cert.Ref16Ideal.τ).loc Cert.Ref16Ideal.main_arg0)) (m ((c.tc : Thread Cert.Ref16Ideal.nD Cert.Ref16Ideal.τ).loc Cert.Ref16Ideal.main_arg1)) (m ((c.tc : Thread Cert.Ref16Ideal.nD Cert.Ref16Ideal.τ).loc Cert.Ref16Ideal.main_arg2))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_RefMemkvIdeal (m : (ℓ : Loc Cert.RefMemkvIdeal.nD Cert.RefMemkvIdeal.τ Cert.RefMemkvIdeal.sig) → Buf (Elt Ideal) ℓ) : Prop :=
  True

def Pre_Memattn (m : (ℓ : Loc Cert.Memattn.nD Cert.Memattn.τ Cert.Memattn.sig) → Buf (Elt Bits) ℓ) : Prop :=
  True

def Pre_MemattnIdeal (m : (ℓ : Loc Cert.MemattnIdeal.nD Cert.MemattnIdeal.τ Cert.MemattnIdeal.sig) → Buf (Elt Ideal) ℓ) : Prop :=
  True

def Pre_MemattnIdeal_scores_finite [hPre_scores_finite : Cert.Pre_scores_finite.Facts] (m : (ℓ : Loc Cert.MemattnIdeal.nD Cert.MemattnIdeal.τ Cert.MemattnIdeal.sig) → Buf (Elt Ideal) ℓ) : Prop :=
  ∀ c : Dev Cert.MemattnIdeal.nD,
    (Cert.Pre_scores_finite.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2))) = (fun _ => 1#1)

def Pre_RefMemattnIdeal (m : (ℓ : Loc Cert.RefMemattnIdeal.nD Cert.RefMemattnIdeal.τ Cert.RefMemattnIdeal.sig) → Buf (Elt Ideal) ℓ) : Prop :=
  True

def Pre_RefMemattnIdeal_scores_finite [hPre_scores_finite : Cert.Pre_scores_finite.Facts] (m : (ℓ : Loc Cert.RefMemattnIdeal.nD Cert.RefMemattnIdeal.τ Cert.RefMemattnIdeal.sig) → Buf (Elt Ideal) ℓ) : Prop :=
  ∀ c : Dev Cert.RefMemattnIdeal.nD,
    (Cert.Pre_scores_finite.fn (F := Ideal) (m ((c.tc : Thread Cert.RefMemattnIdeal.nD Cert.RefMemattnIdeal.τ).loc Cert.RefMemattnIdeal.main_arg0)) (m ((c.tc : Thread Cert.RefMemattnIdeal.nD Cert.RefMemattnIdeal.τ).loc Cert.RefMemattnIdeal.main_arg1)) (m ((c.tc : Thread Cert.RefMemattnIdeal.nD Cert.RefMemattnIdeal.τ).loc Cert.RefMemattnIdeal.main_arg2))) = (fun _ => 1#1)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1)
      ∧ r.2.mem ((c.tc : Thread Cert.Dil1.nD Cert.Dil1.τ).loc Cert.Dil1.main_arg2) = m ((c.tc : Thread Cert.Dil1.nD Cert.Dil1.τ).loc Cert.Dil1.main_arg2))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1)
      ∧ r.2.mem ((c.tc : Thread Cert.Dil1Ideal.nD Cert.Dil1Ideal.τ).loc Cert.Dil1Ideal.main_arg2) = m ((c.tc : Thread Cert.Dil1Ideal.nD Cert.Dil1Ideal.τ).loc Cert.Dil1Ideal.main_arg2))
      ∧ r.2.sem = fun _ => 0)

def quiescent_Dil1Ideal_pre_finite [hDil1Ideal : Cert.Dil1Ideal.Facts] [hPre_finite : Cert.Pre_finite.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal_finite m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1)
      ∧ r.2.mem ((c.tc : Thread Cert.Dil1Ideal.nD Cert.Dil1Ideal.τ).loc Cert.Dil1Ideal.main_arg2) = m ((c.tc : Thread Cert.Dil1Ideal.nD Cert.Dil1Ideal.τ).loc Cert.Dil1Ideal.main_arg2))
      ∧ r.2.sem = fun _ => 0)

def quiescent_Ref1Ideal [hRef1Ideal : Cert.Ref1Ideal.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2))
      ∧ r.2.sem = fun _ => 0)

def quiescent_Ref1Ideal_pre_finite [hRef1Ideal : Cert.Ref1Ideal.Facts] [hPre_finite : Cert.Pre_finite.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal_finite m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5)
      ∧ r.2.mem ((c.tc : Thread Cert.Comb.nD Cert.Comb.τ).loc Cert.Comb.main_arg6) = m ((c.tc : Thread Cert.Comb.nD Cert.Comb.τ).loc Cert.Comb.main_arg6)
      ∧ r.2.mem ((c.tc : Thread Cert.Comb.nD Cert.Comb.τ).loc Cert.Comb.main_arg7) = m ((c.tc : Thread Cert.Comb.nD Cert.Comb.τ).loc Cert.Comb.main_arg7))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
      ∧ r.2.mem ((c.tc : Thread Cert.CombIdeal.nD Cert.CombIdeal.τ).loc Cert.CombIdeal.main_arg7) = m ((c.tc : Thread Cert.CombIdeal.nD Cert.CombIdeal.τ).loc Cert.CombIdeal.main_arg7))
      ∧ r.2.sem = fun _ => 0)

def quiescent_RefCombIdeal [hRefCombIdeal : Cert.RefCombIdeal.Facts] : Prop :=
  ∀ (m : (ℓ : Loc Cert.RefCombIdeal.nD Cert.RefCombIdeal.τ Cert.RefCombIdeal.sig) → Buf (Elt Ideal) ℓ) (g : Dev Cert.RefCombIdeal.nD → PrngReg), Pre_RefCombIdeal m →
    θ_run (Cert.RefCombIdeal.defs (F := Ideal)) (onTc (τ := Cert.RefCombIdeal.τ) (Cert.RefCombIdeal.main (F := Ideal))) ⟨m, fun _ => 0, g⟩ (fun r => (∀ c : Dev Cert.RefCombIdeal.nD,
      r.2.mem ((c.tc : Thread Cert.RefCombIdeal.nD Cert.RefCombIdeal.τ).loc Cert.RefCombIdeal.main_arg0) = m ((c.tc : Thread Cert.RefCombIdeal.nD Cert.RefCombIdeal.τ).loc Cert.RefCombIdeal.main_arg0)
      ∧ r.2.mem ((c.tc : Thread Cert.RefCombIdeal.nD Cert.RefCombIdeal.τ).loc Cert.RefCombIdeal.main_arg1) = m ((c.tc : Thread Cert.RefCombIdeal.nD Cert.RefCombIdeal.τ).loc Cert.RefCombIdeal.main_arg1)
      ∧ r.2.mem ((c.tc : Thread Cert.RefCombIdeal.nD Cert.RefCombIdeal.τ).loc Cert.RefCombIdeal.main_arg2) = m ((c.tc : Thread Cert.RefCombIdeal.nD Cert.RefCombIdeal.τ).loc Cert.RefCombIdeal.main_arg2)
      ∧ r.2.mem ((c.tc : Thread Cert.RefCombIdeal.nD Cert.RefCombIdeal.τ).loc Cert.RefCombIdeal.main_arg3) = m ((c.tc : Thread Cert.RefCombIdeal.nD Cert.RefCombIdeal.τ).loc Cert.RefCombIdeal.main_arg3)
      ∧ r.2.mem ((c.tc : Thread Cert.RefCombIdeal.nD Cert.RefCombIdeal.τ).loc Cert.RefCombIdeal.main_arg4) = m ((c.tc : Thread Cert.RefCombIdeal.nD Cert.RefCombIdeal.τ).loc Cert.RefCombIdeal.main_arg4)
      ∧ r.2.mem ((c.tc : Thread Cert.RefCombIdeal.nD Cert.RefCombIdeal.τ).loc Cert.RefCombIdeal.main_arg5) = m ((c.tc : Thread Cert.RefCombIdeal.nD Cert.RefCombIdeal.τ).loc Cert.RefCombIdeal.main_arg5)
      ∧ r.2.mem ((c.tc : Thread Cert.RefCombIdeal.nD Cert.RefCombIdeal.τ).loc Cert.RefCombIdeal.main_arg6) = m ((c.tc : Thread Cert.RefCombIdeal.nD Cert.RefCombIdeal.τ).loc Cert.RefCombIdeal.main_arg6)
      ∧ r.2.mem ((c.tc : Thread Cert.RefCombIdeal.nD Cert.RefCombIdeal.τ).loc Cert.RefCombIdeal.main_arg7) = m ((c.tc : Thread Cert.RefCombIdeal.nD Cert.RefCombIdeal.τ).loc Cert.RefCombIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeIdeal_pre_heaviest_finite [hMergeIdeal : Cert.MergeIdeal.Facts] [hPre_heaviest_finite : Cert.Pre_heaviest_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_heaviest_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9)
      ∧ r.2.mem ((c.tc : Thread Cert.RefMergeIdeal.nD Cert.RefMergeIdeal.τ).loc Cert.RefMergeIdeal.main_arg10) = m ((c.tc : Thread Cert.RefMergeIdeal.nD Cert.RefMergeIdeal.τ).loc Cert.RefMergeIdeal.main_arg10)
      ∧ r.2.mem ((c.tc : Thread Cert.RefMergeIdeal.nD Cert.RefMergeIdeal.τ).loc Cert.RefMergeIdeal.main_arg11) = m ((c.tc : Thread Cert.RefMergeIdeal.nD Cert.RefMergeIdeal.τ).loc Cert.RefMergeIdeal.main_arg11)
      ∧ r.2.mem ((c.tc : Thread Cert.RefMergeIdeal.nD Cert.RefMergeIdeal.τ).loc Cert.RefMergeIdeal.main_arg12) = m ((c.tc : Thread Cert.RefMergeIdeal.nD Cert.RefMergeIdeal.τ).loc Cert.RefMergeIdeal.main_arg12)
      ∧ r.2.mem ((c.tc : Thread Cert.RefMergeIdeal.nD Cert.RefMergeIdeal.τ).loc Cert.RefMergeIdeal.main_arg13) = m ((c.tc : Thread Cert.RefMergeIdeal.nD Cert.RefMergeIdeal.τ).loc Cert.RefMergeIdeal.main_arg13)
      ∧ r.2.mem ((c.tc : Thread Cert.RefMergeIdeal.nD Cert.RefMergeIdeal.τ).loc Cert.RefMergeIdeal.main_arg14) = m ((c.tc : Thread Cert.RefMergeIdeal.nD Cert.RefMergeIdeal.τ).loc Cert.RefMergeIdeal.main_arg14)
      ∧ r.2.mem ((c.tc : Thread Cert.RefMergeIdeal.nD Cert.RefMergeIdeal.τ).loc Cert.RefMergeIdeal.main_arg15) = m ((c.tc : Thread Cert.RefMergeIdeal.nD Cert.RefMergeIdeal.τ).loc Cert.RefMergeIdeal.main_arg15)
      ∧ r.2.mem ((c.tc : Thread Cert.RefMergeIdeal.nD Cert.RefMergeIdeal.τ).loc Cert.RefMergeIdeal.main_arg16) = m ((c.tc : Thread Cert.RefMergeIdeal.nD Cert.RefMergeIdeal.τ).loc Cert.RefMergeIdeal.main_arg16)
      ∧ r.2.mem ((c.tc : Thread Cert.RefMergeIdeal.nD Cert.RefMergeIdeal.τ).loc Cert.RefMergeIdeal.main_arg17) = m ((c.tc : Thread Cert.RefMergeIdeal.nD Cert.RefMergeIdeal.τ).loc Cert.RefMergeIdeal.main_arg17)
      ∧ r.2.mem ((c.tc : Thread Cert.RefMergeIdeal.nD Cert.RefMergeIdeal.τ).loc Cert.RefMergeIdeal.main_arg18) = m ((c.tc : Thread Cert.RefMergeIdeal.nD Cert.RefMergeIdeal.τ).loc Cert.RefMergeIdeal.main_arg18))
      ∧ r.2.sem = fun _ => 0)

def quiescent_RefMergeIdeal_pre_heaviest_finite [hRefMergeIdeal : Cert.RefMergeIdeal.Facts] [hPre_heaviest_finite : Cert.Pre_heaviest_finite.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal_heaviest_finite m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9)
      ∧ r.2.mem ((c.tc : Thread Cert.RefMergeIdeal.nD Cert.RefMergeIdeal.τ).loc Cert.RefMergeIdeal.main_arg10) = m ((c.tc : Thread Cert.RefMergeIdeal.nD Cert.RefMergeIdeal.τ).loc Cert.RefMergeIdeal.main_arg10)
      ∧ r.2.mem ((c.tc : Thread Cert.RefMergeIdeal.nD Cert.RefMergeIdeal.τ).loc Cert.RefMergeIdeal.main_arg11) = m ((c.tc : Thread Cert.RefMergeIdeal.nD Cert.RefMergeIdeal.τ).loc Cert.RefMergeIdeal.main_arg11)
      ∧ r.2.mem ((c.tc : Thread Cert.RefMergeIdeal.nD Cert.RefMergeIdeal.τ).loc Cert.RefMergeIdeal.main_arg12) = m ((c.tc : Thread Cert.RefMergeIdeal.nD Cert.RefMergeIdeal.τ).loc Cert.RefMergeIdeal.main_arg12)
      ∧ r.2.mem ((c.tc : Thread Cert.RefMergeIdeal.nD Cert.RefMergeIdeal.τ).loc Cert.RefMergeIdeal.main_arg13) = m ((c.tc : Thread Cert.RefMergeIdeal.nD Cert.RefMergeIdeal.τ).loc Cert.RefMergeIdeal.main_arg13)
      ∧ r.2.mem ((c.tc : Thread Cert.RefMergeIdeal.nD Cert.RefMergeIdeal.τ).loc Cert.RefMergeIdeal.main_arg14) = m ((c.tc : Thread Cert.RefMergeIdeal.nD Cert.RefMergeIdeal.τ).loc Cert.RefMergeIdeal.main_arg14)
      ∧ r.2.mem ((c.tc : Thread Cert.RefMergeIdeal.nD Cert.RefMergeIdeal.τ).loc Cert.RefMergeIdeal.main_arg15) = m ((c.tc : Thread Cert.RefMergeIdeal.nD Cert.RefMergeIdeal.τ).loc Cert.RefMergeIdeal.main_arg15)
      ∧ r.2.mem ((c.tc : Thread Cert.RefMergeIdeal.nD Cert.RefMergeIdeal.τ).loc Cert.RefMergeIdeal.main_arg16) = m ((c.tc : Thread Cert.RefMergeIdeal.nD Cert.RefMergeIdeal.τ).loc Cert.RefMergeIdeal.main_arg16)
      ∧ r.2.mem ((c.tc : Thread Cert.RefMergeIdeal.nD Cert.RefMergeIdeal.τ).loc Cert.RefMergeIdeal.main_arg17) = m ((c.tc : Thread Cert.RefMergeIdeal.nD Cert.RefMergeIdeal.τ).loc Cert.RefMergeIdeal.main_arg17)
      ∧ r.2.mem ((c.tc : Thread Cert.RefMergeIdeal.nD Cert.RefMergeIdeal.τ).loc Cert.RefMergeIdeal.main_arg18) = m ((c.tc : Thread Cert.RefMergeIdeal.nD Cert.RefMergeIdeal.τ).loc Cert.RefMergeIdeal.main_arg18))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2))
      ∧ r.2.sem = fun _ => 0)

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0)
      ∧ r.2.mem ((c.tc : Thread Cert.Dil4.nD Cert.Dil4.τ).loc Cert.Dil4.main_arg1) = m ((c.tc : Thread Cert.Dil4.nD Cert.Dil4.τ).loc Cert.Dil4.main_arg1)
      ∧ r.2.mem ((c.tc : Thread Cert.Dil4.nD Cert.Dil4.τ).loc Cert.Dil4.main_arg2) = m ((c.tc : Thread Cert.Dil4.nD Cert.Dil4.τ).loc Cert.Dil4.main_arg2))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
      ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1)
      ∧ r.2.mem ((c.tc : Thread Cert.Dil4Ideal.nD Cert.Dil4Ideal.τ).loc Cert.Dil4Ideal.main_arg2) = m ((c.tc : Thread Cert.Dil4Ideal.nD Cert.Dil4Ideal.τ).loc Cert.Dil4Ideal.main_arg2))
      ∧ r.2.sem = fun _ => 0)

def quiescent_Dil4Ideal_pre_finite [hDil4Ideal : Cert.Dil4Ideal.Facts] [hPre_finite : Cert.Pre_finite.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal_finite m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
      ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1)
      ∧ r.2.mem ((c.tc : Thread Cert.Dil4Ideal.nD Cert.Dil4Ideal.τ).loc Cert.Dil4Ideal.main_arg2) = m ((c.tc : Thread Cert.Dil4Ideal.nD Cert.Dil4Ideal.τ).loc Cert.Dil4Ideal.main_arg2))
      ∧ r.2.sem = fun _ => 0)

def quiescent_Ref4Ideal [hRef4Ideal : Cert.Ref4Ideal.Facts] : Prop :=
  ∀ (m : (ℓ : Loc Cert.Ref4Ideal.nD Cert.Ref4Ideal.τ Cert.Ref4Ideal.sig) → Buf (Elt Ideal) ℓ) (g : Dev Cert.Ref4Ideal.nD → PrngReg), Pre_Ref4Ideal m →
    θ_run (Cert.Ref4Ideal.defs (F := Ideal)) (onTc (τ := Cert.Ref4Ideal.τ) (Cert.Ref4Ideal.main (F := Ideal))) ⟨m, fun _ => 0, g⟩ (fun r => (∀ c : Dev Cert.Ref4Ideal.nD,
      r.2.mem ((c.tc : Thread Cert.Ref4Ideal.nD Cert.Ref4Ideal.τ).loc Cert.Ref4Ideal.main_arg0) = m ((c.tc : Thread Cert.Ref4Ideal.nD Cert.Ref4Ideal.τ).loc Cert.Ref4Ideal.main_arg0)
      ∧ r.2.mem ((c.tc : Thread Cert.Ref4Ideal.nD Cert.Ref4Ideal.τ).loc Cert.Ref4Ideal.main_arg1) = m ((c.tc : Thread Cert.Ref4Ideal.nD Cert.Ref4Ideal.τ).loc Cert.Ref4Ideal.main_arg1)
      ∧ r.2.mem ((c.tc : Thread Cert.Ref4Ideal.nD Cert.Ref4Ideal.τ).loc Cert.Ref4Ideal.main_arg2) = m ((c.tc : Thread Cert.Ref4Ideal.nD Cert.Ref4Ideal.τ).loc Cert.Ref4Ideal.main_arg2))
      ∧ r.2.sem = fun _ => 0)

def quiescent_Ref4Ideal_pre_finite [hRef4Ideal : Cert.Ref4Ideal.Facts] [hPre_finite : Cert.Pre_finite.Facts] : Prop :=
  ∀ (m : (ℓ : Loc Cert.Ref4Ideal.nD Cert.Ref4Ideal.τ Cert.Ref4Ideal.sig) → Buf (Elt Ideal) ℓ) (g : Dev Cert.Ref4Ideal.nD → PrngReg), Pre_Ref4Ideal_finite m →
    θ_run (Cert.Ref4Ideal.defs (F := Ideal)) (onTc (τ := Cert.Ref4Ideal.τ) (Cert.Ref4Ideal.main (F := Ideal))) ⟨m, fun _ => 0, g⟩ (fun r => (∀ c : Dev Cert.Ref4Ideal.nD,
      r.2.mem ((c.tc : Thread Cert.Ref4Ideal.nD Cert.Ref4Ideal.τ).loc Cert.Ref4Ideal.main_arg0) = m ((c.tc : Thread Cert.Ref4Ideal.nD Cert.Ref4Ideal.τ).loc Cert.Ref4Ideal.main_arg0)
      ∧ r.2.mem ((c.tc : Thread Cert.Ref4Ideal.nD Cert.Ref4Ideal.τ).loc Cert.Ref4Ideal.main_arg1) = m ((c.tc : Thread Cert.Ref4Ideal.nD Cert.Ref4Ideal.τ).loc Cert.Ref4Ideal.main_arg1)
      ∧ r.2.mem ((c.tc : Thread Cert.Ref4Ideal.nD Cert.Ref4Ideal.τ).loc Cert.Ref4Ideal.main_arg2) = m ((c.tc : Thread Cert.Ref4Ideal.nD Cert.Ref4Ideal.τ).loc Cert.Ref4Ideal.main_arg2))
      ∧ r.2.sem = fun _ => 0)

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0)
      ∧ r.2.mem ((c.tc : Thread Cert.Dil16.nD Cert.Dil16.τ).loc Cert.Dil16.main_arg1) = m ((c.tc : Thread Cert.Dil16.nD Cert.Dil16.τ).loc Cert.Dil16.main_arg1)
      ∧ r.2.mem ((c.tc : Thread Cert.Dil16.nD Cert.Dil16.τ).loc Cert.Dil16.main_arg2) = m ((c.tc : Thread Cert.Dil16.nD Cert.Dil16.τ).loc Cert.Dil16.main_arg2))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
      ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1)
      ∧ r.2.mem ((c.tc : Thread Cert.Dil16Ideal.nD Cert.Dil16Ideal.τ).loc Cert.Dil16Ideal.main_arg2) = m ((c.tc : Thread Cert.Dil16Ideal.nD Cert.Dil16Ideal.τ).loc Cert.Dil16Ideal.main_arg2))
      ∧ r.2.sem = fun _ => 0)

def quiescent_Dil16Ideal_pre_finite [hDil16Ideal : Cert.Dil16Ideal.Facts] [hPre_finite : Cert.Pre_finite.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal_finite m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
      ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1)
      ∧ r.2.mem ((c.tc : Thread Cert.Dil16Ideal.nD Cert.Dil16Ideal.τ).loc Cert.Dil16Ideal.main_arg2) = m ((c.tc : Thread Cert.Dil16Ideal.nD Cert.Dil16Ideal.τ).loc Cert.Dil16Ideal.main_arg2))
      ∧ r.2.sem = fun _ => 0)

def quiescent_Ref16Ideal [hRef16Ideal : Cert.Ref16Ideal.Facts] : Prop :=
  ∀ (m : (ℓ : Loc Cert.Ref16Ideal.nD Cert.Ref16Ideal.τ Cert.Ref16Ideal.sig) → Buf (Elt Ideal) ℓ) (g : Dev Cert.Ref16Ideal.nD → PrngReg), Pre_Ref16Ideal m →
    θ_run (Cert.Ref16Ideal.defs (F := Ideal)) (onTc (τ := Cert.Ref16Ideal.τ) (Cert.Ref16Ideal.main (F := Ideal))) ⟨m, fun _ => 0, g⟩ (fun r => (∀ c : Dev Cert.Ref16Ideal.nD,
      r.2.mem ((c.tc : Thread Cert.Ref16Ideal.nD Cert.Ref16Ideal.τ).loc Cert.Ref16Ideal.main_arg0) = m ((c.tc : Thread Cert.Ref16Ideal.nD Cert.Ref16Ideal.τ).loc Cert.Ref16Ideal.main_arg0)
      ∧ r.2.mem ((c.tc : Thread Cert.Ref16Ideal.nD Cert.Ref16Ideal.τ).loc Cert.Ref16Ideal.main_arg1) = m ((c.tc : Thread Cert.Ref16Ideal.nD Cert.Ref16Ideal.τ).loc Cert.Ref16Ideal.main_arg1)
      ∧ r.2.mem ((c.tc : Thread Cert.Ref16Ideal.nD Cert.Ref16Ideal.τ).loc Cert.Ref16Ideal.main_arg2) = m ((c.tc : Thread Cert.Ref16Ideal.nD Cert.Ref16Ideal.τ).loc Cert.Ref16Ideal.main_arg2))
      ∧ r.2.sem = fun _ => 0)

def quiescent_Ref16Ideal_pre_finite [hRef16Ideal : Cert.Ref16Ideal.Facts] [hPre_finite : Cert.Pre_finite.Facts] : Prop :=
  ∀ (m : (ℓ : Loc Cert.Ref16Ideal.nD Cert.Ref16Ideal.τ Cert.Ref16Ideal.sig) → Buf (Elt Ideal) ℓ) (g : Dev Cert.Ref16Ideal.nD → PrngReg), Pre_Ref16Ideal_finite m →
    θ_run (Cert.Ref16Ideal.defs (F := Ideal)) (onTc (τ := Cert.Ref16Ideal.τ) (Cert.Ref16Ideal.main (F := Ideal))) ⟨m, fun _ => 0, g⟩ (fun r => (∀ c : Dev Cert.Ref16Ideal.nD,
      r.2.mem ((c.tc : Thread Cert.Ref16Ideal.nD Cert.Ref16Ideal.τ).loc Cert.Ref16Ideal.main_arg0) = m ((c.tc : Thread Cert.Ref16Ideal.nD Cert.Ref16Ideal.τ).loc Cert.Ref16Ideal.main_arg0)
      ∧ r.2.mem ((c.tc : Thread Cert.Ref16Ideal.nD Cert.Ref16Ideal.τ).loc Cert.Ref16Ideal.main_arg1) = m ((c.tc : Thread Cert.Ref16Ideal.nD Cert.Ref16Ideal.τ).loc Cert.Ref16Ideal.main_arg1)
      ∧ r.2.mem ((c.tc : Thread Cert.Ref16Ideal.nD Cert.Ref16Ideal.τ).loc Cert.Ref16Ideal.main_arg2) = m ((c.tc : Thread Cert.Ref16Ideal.nD Cert.Ref16Ideal.τ).loc Cert.Ref16Ideal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ r.2.sem = fun _ => 0)

def quiescent_RefMemkvIdeal [hRefMemkvIdeal : Cert.RefMemkvIdeal.Facts] : Prop :=
  ∀ (m : (ℓ : Loc Cert.RefMemkvIdeal.nD Cert.RefMemkvIdeal.τ Cert.RefMemkvIdeal.sig) → Buf (Elt Ideal) ℓ) (g : Dev Cert.RefMemkvIdeal.nD → PrngReg), Pre_RefMemkvIdeal m →
    θ_run (Cert.RefMemkvIdeal.defs (F := Ideal)) (onTc (τ := Cert.RefMemkvIdeal.τ) (Cert.RefMemkvIdeal.main (F := Ideal))) ⟨m, fun _ => 0, g⟩ (fun r => (∀ c : Dev Cert.RefMemkvIdeal.nD,
      r.2.mem ((c.tc : Thread Cert.RefMemkvIdeal.nD Cert.RefMemkvIdeal.τ).loc Cert.RefMemkvIdeal.main_arg0) = m ((c.tc : Thread Cert.RefMemkvIdeal.nD Cert.RefMemkvIdeal.τ).loc Cert.RefMemkvIdeal.main_arg0)
      ∧ r.2.mem ((c.tc : Thread Cert.RefMemkvIdeal.nD Cert.RefMemkvIdeal.τ).loc Cert.RefMemkvIdeal.main_arg1) = m ((c.tc : Thread Cert.RefMemkvIdeal.nD Cert.RefMemkvIdeal.τ).loc Cert.RefMemkvIdeal.main_arg1))
      ∧ r.2.sem = fun _ => 0)

def quiescent_Memattn [hMemattn : Cert.Memattn.Facts] : Prop :=
  ∀ (m : (ℓ : Loc Cert.Memattn.nD Cert.Memattn.τ Cert.Memattn.sig) → Buf (Elt Bits) ℓ) (g : Dev Cert.Memattn.nD → PrngReg), Pre_Memattn m →
    θ_run (Cert.Memattn.defs (F := Bits)) (onTc (τ := Cert.Memattn.τ) (Cert.Memattn.main (F := Bits))) ⟨m, fun _ => 0, g⟩ (fun r => (∀ c : Dev Cert.Memattn.nD,
      r.2.mem ((c.tc : Thread Cert.Memattn.nD Cert.Memattn.τ).loc Cert.Memattn.main_arg0) = m ((c.tc : Thread Cert.Memattn.nD Cert.Memattn.τ).loc Cert.Memattn.main_arg0)
      ∧ r.2.mem ((c.tc : Thread Cert.Memattn.nD Cert.Memattn.τ).loc Cert.Memattn.main_arg1) = m ((c.tc : Thread Cert.Memattn.nD Cert.Memattn.τ).loc Cert.Memattn.main_arg1)
      ∧ r.2.mem ((c.tc : Thread Cert.Memattn.nD Cert.Memattn.τ).loc Cert.Memattn.main_arg2) = m ((c.tc : Thread Cert.Memattn.nD Cert.Memattn.τ).loc Cert.Memattn.main_arg2))
      ∧ r.2.sem = fun _ => 0)

def quiescent_MemattnIdeal [hMemattnIdeal : Cert.MemattnIdeal.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2))
      ∧ r.2.sem = fun _ => 0)

def quiescent_MemattnIdeal_pre_scores_finite [hMemattnIdeal : Cert.MemattnIdeal.Facts] [hPre_scores_finite : Cert.Pre_scores_finite.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal_scores_finite m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2))
      ∧ r.2.sem = fun _ => 0)

def quiescent_RefMemattnIdeal [hRefMemattnIdeal : Cert.RefMemattnIdeal.Facts] : Prop :=
  ∀ (m : (ℓ : Loc Cert.RefMemattnIdeal.nD Cert.RefMemattnIdeal.τ Cert.RefMemattnIdeal.sig) → Buf (Elt Ideal) ℓ) (g : Dev Cert.RefMemattnIdeal.nD → PrngReg), Pre_RefMemattnIdeal m →
    θ_run (Cert.RefMemattnIdeal.defs (F := Ideal)) (onTc (τ := Cert.RefMemattnIdeal.τ) (Cert.RefMemattnIdeal.main (F := Ideal))) ⟨m, fun _ => 0, g⟩ (fun r => (∀ c : Dev Cert.RefMemattnIdeal.nD,
      r.2.mem ((c.tc : Thread Cert.RefMemattnIdeal.nD Cert.RefMemattnIdeal.τ).loc Cert.RefMemattnIdeal.main_arg0) = m ((c.tc : Thread Cert.RefMemattnIdeal.nD Cert.RefMemattnIdeal.τ).loc Cert.RefMemattnIdeal.main_arg0)
      ∧ r.2.mem ((c.tc : Thread Cert.RefMemattnIdeal.nD Cert.RefMemattnIdeal.τ).loc Cert.RefMemattnIdeal.main_arg1) = m ((c.tc : Thread Cert.RefMemattnIdeal.nD Cert.RefMemattnIdeal.τ).loc Cert.RefMemattnIdeal.main_arg1)
      ∧ r.2.mem ((c.tc : Thread Cert.RefMemattnIdeal.nD Cert.RefMemattnIdeal.τ).loc Cert.RefMemattnIdeal.main_arg2) = m ((c.tc : Thread Cert.RefMemattnIdeal.nD Cert.RefMemattnIdeal.τ).loc Cert.RefMemattnIdeal.main_arg2))
      ∧ r.2.sem = fun _ => 0)

def quiescent_RefMemattnIdeal_pre_scores_finite [hRefMemattnIdeal : Cert.RefMemattnIdeal.Facts] [hPre_scores_finite : Cert.Pre_scores_finite.Facts] : Prop :=
  ∀ (m : (ℓ : Loc Cert.RefMemattnIdeal.nD Cert.RefMemattnIdeal.τ Cert.RefMemattnIdeal.sig) → Buf (Elt Ideal) ℓ) (g : Dev Cert.RefMemattnIdeal.nD → PrngReg), Pre_RefMemattnIdeal_scores_finite m →
    θ_run (Cert.RefMemattnIdeal.defs (F := Ideal)) (onTc (τ := Cert.RefMemattnIdeal.τ) (Cert.RefMemattnIdeal.main (F := Ideal))) ⟨m, fun _ => 0, g⟩ (fun r => (∀ c : Dev Cert.RefMemattnIdeal.nD,
      r.2.mem ((c.tc : Thread Cert.RefMemattnIdeal.nD Cert.RefMemattnIdeal.τ).loc Cert.RefMemattnIdeal.main_arg0) = m ((c.tc : Thread Cert.RefMemattnIdeal.nD Cert.RefMemattnIdeal.τ).loc Cert.RefMemattnIdeal.main_arg0)
      ∧ r.2.mem ((c.tc : Thread Cert.RefMemattnIdeal.nD Cert.RefMemattnIdeal.τ).loc Cert.RefMemattnIdeal.main_arg1) = m ((c.tc : Thread Cert.RefMemattnIdeal.nD Cert.RefMemattnIdeal.τ).loc Cert.RefMemattnIdeal.main_arg1)
      ∧ r.2.mem ((c.tc : Thread Cert.RefMemattnIdeal.nD Cert.RefMemattnIdeal.τ).loc Cert.RefMemattnIdeal.main_arg2) = m ((c.tc : Thread Cert.RefMemattnIdeal.nD Cert.RefMemattnIdeal.τ).loc Cert.RefMemattnIdeal.main_arg2))
      ∧ r.2.sem = fun _ => 0)

def preserves_Dil1_Dil1Ideal : Prop :=
  IdealRules.named_const.Statement Cert.Dil1Ideal.κ "mask" .f32 0xF149F2CA#32 ⊥

def algebraic_Dil1Ideal_Ref1Ideal_pre_finite [hDil1Ideal : Cert.Dil1Ideal.Facts] [hRef1Ideal : Cert.Ref1Ideal.Facts] [hPre_finite : Cert.Pre_finite.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Ref1Ideal.nD Cert.Ref1Ideal.τ Cert.Ref1Ideal.sig) → Buf (Elt Ideal) ℓ) (g' : Dev Cert.Ref1Ideal.nD → PrngReg), Pre_Dil1Ideal_finite m →
    (∀ c : Dev Cert.Dil1Ideal.nD,
      m' ((c.tc : Thread Cert.Ref1Ideal.nD Cert.Ref1Ideal.τ).loc Cert.Ref1Ideal.main_arg0) = m ((c.tc : Thread Cert.Dil1Ideal.nD Cert.Dil1Ideal.τ).loc Cert.Dil1Ideal.main_arg0)
      ∧ m' ((c.tc : Thread Cert.Ref1Ideal.nD Cert.Ref1Ideal.τ).loc Cert.Ref1Ideal.main_arg1) = m ((c.tc : Thread Cert.Dil1Ideal.nD Cert.Dil1Ideal.τ).loc Cert.Dil1Ideal.main_arg1)
      ∧ m' ((c.tc : Thread Cert.Ref1Ideal.nD Cert.Ref1Ideal.τ).loc Cert.Ref1Ideal.main_arg2) = m ((c.tc : Thread Cert.Dil1Ideal.nD Cert.Dil1Ideal.τ).loc Cert.Dil1Ideal.main_arg2)) →
    ∃ (v0 : (c : Dev Cert.Dil1Ideal.nD) → Buf (Elt Ideal) ((c.tc : Thread Cert.Dil1Ideal.nD Cert.Dil1Ideal.τ).loc Cert.Dil1Ideal.main_v11_0)) (v1 : (c : Dev Cert.Dil1Ideal.nD) → Buf (Elt Ideal) ((c.tc : Thread Cert.Dil1Ideal.nD Cert.Dil1Ideal.τ).loc Cert.Dil1Ideal.main_v11_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v11_0) = v0 c
          ∧ r.2.mem ((c.tc : Thread Cert.Dil1Ideal.nD Cert.Dil1Ideal.τ).loc Cert.Dil1Ideal.main_v11_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1)
          ∧ r.2.mem ((c.tc : Thread Cert.Dil1Ideal.nD Cert.Dil1Ideal.τ).loc Cert.Dil1Ideal.main_arg2) = m ((c.tc : Thread Cert.Dil1Ideal.nD Cert.Dil1Ideal.τ).loc Cert.Dil1Ideal.main_arg2))
      ∧ θ_run (Cert.Ref1Ideal.defs (F := Ideal)) (onTc (τ := Cert.Ref1Ideal.τ) (Cert.Ref1Ideal.main (F := Ideal))) ⟨m', fun _ => 0, g'⟩ (fun r => ∀ c : Dev Cert.Ref1Ideal.nD,
          r.2.mem ((c.tc : Thread Cert.Ref1Ideal.nD Cert.Ref1Ideal.τ).loc Cert.Ref1Ideal.main_v65) = v0 c
          ∧ r.2.mem ((c.tc : Thread Cert.Ref1Ideal.nD Cert.Ref1Ideal.τ).loc Cert.Ref1Ideal.main_v64) = v1 c
          ∧ r.2.mem ((c.tc : Thread Cert.Ref1Ideal.nD Cert.Ref1Ideal.τ).loc Cert.Ref1Ideal.main_arg0) = m' ((c.tc : Thread Cert.Ref1Ideal.nD Cert.Ref1Ideal.τ).loc Cert.Ref1Ideal.main_arg0)
          ∧ r.2.mem ((c.tc : Thread Cert.Ref1Ideal.nD Cert.Ref1Ideal.τ).loc Cert.Ref1Ideal.main_arg1) = m' ((c.tc : Thread Cert.Ref1Ideal.nD Cert.Ref1Ideal.τ).loc Cert.Ref1Ideal.main_arg1)
          ∧ r.2.mem ((c.tc : Thread Cert.Ref1Ideal.nD Cert.Ref1Ideal.τ).loc Cert.Ref1Ideal.main_arg2) = m' ((c.tc : Thread Cert.Ref1Ideal.nD Cert.Ref1Ideal.τ).loc Cert.Ref1Ideal.main_arg2))

def preserves_Comb_CombIdeal : Prop :=
  True

def algebraic_CombIdeal_RefCombIdeal [hCombIdeal : Cert.CombIdeal.Facts] [hRefCombIdeal : Cert.RefCombIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.RefCombIdeal.nD Cert.RefCombIdeal.τ Cert.RefCombIdeal.sig) → Buf (Elt Ideal) ℓ) (g' : Dev Cert.RefCombIdeal.nD → PrngReg), Pre_CombIdeal m →
    (∀ c : Dev Cert.CombIdeal.nD,
      m' ((c.tc : Thread Cert.RefCombIdeal.nD Cert.RefCombIdeal.τ).loc Cert.RefCombIdeal.main_arg0) = m ((c.tc : Thread Cert.CombIdeal.nD Cert.CombIdeal.τ).loc Cert.CombIdeal.main_arg0)
      ∧ m' ((c.tc : Thread Cert.RefCombIdeal.nD Cert.RefCombIdeal.τ).loc Cert.RefCombIdeal.main_arg1) = m ((c.tc : Thread Cert.CombIdeal.nD Cert.CombIdeal.τ).loc Cert.CombIdeal.main_arg1)
      ∧ m' ((c.tc : Thread Cert.RefCombIdeal.nD Cert.RefCombIdeal.τ).loc Cert.RefCombIdeal.main_arg2) = m ((c.tc : Thread Cert.CombIdeal.nD Cert.CombIdeal.τ).loc Cert.CombIdeal.main_arg2)
      ∧ m' ((c.tc : Thread Cert.RefCombIdeal.nD Cert.RefCombIdeal.τ).loc Cert.RefCombIdeal.main_arg3) = m ((c.tc : Thread Cert.CombIdeal.nD Cert.CombIdeal.τ).loc Cert.CombIdeal.main_arg3)
      ∧ m' ((c.tc : Thread Cert.RefCombIdeal.nD Cert.RefCombIdeal.τ).loc Cert.RefCombIdeal.main_arg4) = m ((c.tc : Thread Cert.CombIdeal.nD Cert.CombIdeal.τ).loc Cert.CombIdeal.main_arg4)
      ∧ m' ((c.tc : Thread Cert.RefCombIdeal.nD Cert.RefCombIdeal.τ).loc Cert.RefCombIdeal.main_arg5) = m ((c.tc : Thread Cert.CombIdeal.nD Cert.CombIdeal.τ).loc Cert.CombIdeal.main_arg5)
      ∧ m' ((c.tc : Thread Cert.RefCombIdeal.nD Cert.RefCombIdeal.τ).loc Cert.RefCombIdeal.main_arg6) = m ((c.tc : Thread Cert.CombIdeal.nD Cert.CombIdeal.τ).loc Cert.CombIdeal.main_arg6)
      ∧ m' ((c.tc : Thread Cert.RefCombIdeal.nD Cert.RefCombIdeal.τ).loc Cert.RefCombIdeal.main_arg7) = m ((c.tc : Thread Cert.CombIdeal.nD Cert.CombIdeal.τ).loc Cert.CombIdeal.main_arg7)) →
    ∃ (v0 : (c : Dev Cert.CombIdeal.nD) → Buf (Elt Ideal) ((c.tc : Thread Cert.CombIdeal.nD Cert.CombIdeal.τ).loc Cert.CombIdeal.main_v5)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v5) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
          ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
          ∧ r.2.mem ((c.tc : Thread Cert.CombIdeal.nD Cert.CombIdeal.τ).loc Cert.CombIdeal.main_arg7) = m ((c.tc : Thread Cert.CombIdeal.nD Cert.CombIdeal.τ).loc Cert.CombIdeal.main_arg7))
      ∧ θ_run (Cert.RefCombIdeal.defs (F := Ideal)) (onTc (τ := Cert.RefCombIdeal.τ) (Cert.RefCombIdeal.main (F := Ideal))) ⟨m', fun _ => 0, g'⟩ (fun r => ∀ c : Dev Cert.RefCombIdeal.nD,
          r.2.mem ((c.tc : Thread Cert.RefCombIdeal.nD Cert.RefCombIdeal.τ).loc Cert.RefCombIdeal.main_v43) = v0 c
          ∧ r.2.mem ((c.tc : Thread Cert.RefCombIdeal.nD Cert.RefCombIdeal.τ).loc Cert.RefCombIdeal.main_arg0) = m' ((c.tc : Thread Cert.RefCombIdeal.nD Cert.RefCombIdeal.τ).loc Cert.RefCombIdeal.main_arg0)
          ∧ r.2.mem ((c.tc : Thread Cert.RefCombIdeal.nD Cert.RefCombIdeal.τ).loc Cert.RefCombIdeal.main_arg1) = m' ((c.tc : Thread Cert.RefCombIdeal.nD Cert.RefCombIdeal.τ).loc Cert.RefCombIdeal.main_arg1)
          ∧ r.2.mem ((c.tc : Thread Cert.RefCombIdeal.nD Cert.RefCombIdeal.τ).loc Cert.RefCombIdeal.main_arg2) = m' ((c.tc : Thread Cert.RefCombIdeal.nD Cert.RefCombIdeal.τ).loc Cert.RefCombIdeal.main_arg2)
          ∧ r.2.mem ((c.tc : Thread Cert.RefCombIdeal.nD Cert.RefCombIdeal.τ).loc Cert.RefCombIdeal.main_arg3) = m' ((c.tc : Thread Cert.RefCombIdeal.nD Cert.RefCombIdeal.τ).loc Cert.RefCombIdeal.main_arg3)
          ∧ r.2.mem ((c.tc : Thread Cert.RefCombIdeal.nD Cert.RefCombIdeal.τ).loc Cert.RefCombIdeal.main_arg4) = m' ((c.tc : Thread Cert.RefCombIdeal.nD Cert.RefCombIdeal.τ).loc Cert.RefCombIdeal.main_arg4)
          ∧ r.2.mem ((c.tc : Thread Cert.RefCombIdeal.nD Cert.RefCombIdeal.τ).loc Cert.RefCombIdeal.main_arg5) = m' ((c.tc : Thread Cert.RefCombIdeal.nD Cert.RefCombIdeal.τ).loc Cert.RefCombIdeal.main_arg5)
          ∧ r.2.mem ((c.tc : Thread Cert.RefCombIdeal.nD Cert.RefCombIdeal.τ).loc Cert.RefCombIdeal.main_arg6) = m' ((c.tc : Thread Cert.RefCombIdeal.nD Cert.RefCombIdeal.τ).loc Cert.RefCombIdeal.main_arg6)
          ∧ r.2.mem ((c.tc : Thread Cert.RefCombIdeal.nD Cert.RefCombIdeal.τ).loc Cert.RefCombIdeal.main_arg7) = m' ((c.tc : Thread Cert.RefCombIdeal.nD Cert.RefCombIdeal.τ).loc Cert.RefCombIdeal.main_arg7))

def preserves_Merge_MergeIdeal : Prop :=
  IdealRules.bf16_pair.BufferStatement Cert.MergeIdeal.S32768x2x512 Cert.MergeIdeal.S32768x1x512
  ∧ IdealRules.bf16_pair.BufferStatement Cert.MergeIdeal.S512x2x512 Cert.MergeIdeal.S512x1x512
  ∧ IdealRules.bf16_pair.PackStatement Cert.MergeIdeal.S512x512
  ∧ IdealRules.bf16_pair.Statement Cert.MergeIdeal.S512x2x512 Cert.MergeIdeal.S512x1x512

def algebraic_MergeIdeal_RefMergeIdeal_pre_heaviest_finite [hMergeIdeal : Cert.MergeIdeal.Facts] [hRefMergeIdeal : Cert.RefMergeIdeal.Facts] [hPre_heaviest_finite : Cert.Pre_heaviest_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal_heaviest_finite m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)
      ∧ m' ((c.tc : Thread Cert.RefMergeIdeal.nD Cert.RefMergeIdeal.τ).loc Cert.RefMergeIdeal.main_arg10) = m ((c.tc : Thread Cert.MergeIdeal.nD Cert.MergeIdeal.τ).loc Cert.MergeIdeal.main_arg10)
      ∧ m' ((c.tc : Thread Cert.RefMergeIdeal.nD Cert.RefMergeIdeal.τ).loc Cert.RefMergeIdeal.main_arg11) = m ((c.tc : Thread Cert.MergeIdeal.nD Cert.MergeIdeal.τ).loc Cert.MergeIdeal.main_arg11)
      ∧ m' ((c.tc : Thread Cert.RefMergeIdeal.nD Cert.RefMergeIdeal.τ).loc Cert.RefMergeIdeal.main_arg12) = m ((c.tc : Thread Cert.MergeIdeal.nD Cert.MergeIdeal.τ).loc Cert.MergeIdeal.main_arg12)
      ∧ m' ((c.tc : Thread Cert.RefMergeIdeal.nD Cert.RefMergeIdeal.τ).loc Cert.RefMergeIdeal.main_arg13) = m ((c.tc : Thread Cert.MergeIdeal.nD Cert.MergeIdeal.τ).loc Cert.MergeIdeal.main_arg13)
      ∧ m' ((c.tc : Thread Cert.RefMergeIdeal.nD Cert.RefMergeIdeal.τ).loc Cert.RefMergeIdeal.main_arg14) = m ((c.tc : Thread Cert.MergeIdeal.nD Cert.MergeIdeal.τ).loc Cert.MergeIdeal.main_arg14)
      ∧ m' ((c.tc : Thread Cert.RefMergeIdeal.nD Cert.RefMergeIdeal.τ).loc Cert.RefMergeIdeal.main_arg15) = m ((c.tc : Thread Cert.MergeIdeal.nD Cert.MergeIdeal.τ).loc Cert.MergeIdeal.main_arg15)
      ∧ m' ((c.tc : Thread Cert.RefMergeIdeal.nD Cert.RefMergeIdeal.τ).loc Cert.RefMergeIdeal.main_arg16) = m ((c.tc : Thread Cert.MergeIdeal.nD Cert.MergeIdeal.τ).loc Cert.MergeIdeal.main_arg16)
      ∧ m' ((c.tc : Thread Cert.RefMergeIdeal.nD Cert.RefMergeIdeal.τ).loc Cert.RefMergeIdeal.main_arg17) = m ((c.tc : Thread Cert.MergeIdeal.nD Cert.MergeIdeal.τ).loc Cert.MergeIdeal.main_arg17)
      ∧ m' ((c.tc : Thread Cert.RefMergeIdeal.nD Cert.RefMergeIdeal.τ).loc Cert.RefMergeIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v41_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v41_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v77) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9)
          ∧ r.2.mem ((c.tc : Thread Cert.RefMergeIdeal.nD Cert.RefMergeIdeal.τ).loc Cert.RefMergeIdeal.main_arg10) = m' ((c.tc : Thread Cert.RefMergeIdeal.nD Cert.RefMergeIdeal.τ).loc Cert.RefMergeIdeal.main_arg10)
          ∧ r.2.mem ((c.tc : Thread Cert.RefMergeIdeal.nD Cert.RefMergeIdeal.τ).loc Cert.RefMergeIdeal.main_arg11) = m' ((c.tc : Thread Cert.RefMergeIdeal.nD Cert.RefMergeIdeal.τ).loc Cert.RefMergeIdeal.main_arg11)
          ∧ r.2.mem ((c.tc : Thread Cert.RefMergeIdeal.nD Cert.RefMergeIdeal.τ).loc Cert.RefMergeIdeal.main_arg12) = m' ((c.tc : Thread Cert.RefMergeIdeal.nD Cert.RefMergeIdeal.τ).loc Cert.RefMergeIdeal.main_arg12)
          ∧ r.2.mem ((c.tc : Thread Cert.RefMergeIdeal.nD Cert.RefMergeIdeal.τ).loc Cert.RefMergeIdeal.main_arg13) = m' ((c.tc : Thread Cert.RefMergeIdeal.nD Cert.RefMergeIdeal.τ).loc Cert.RefMergeIdeal.main_arg13)
          ∧ r.2.mem ((c.tc : Thread Cert.RefMergeIdeal.nD Cert.RefMergeIdeal.τ).loc Cert.RefMergeIdeal.main_arg14) = m' ((c.tc : Thread Cert.RefMergeIdeal.nD Cert.RefMergeIdeal.τ).loc Cert.RefMergeIdeal.main_arg14)
          ∧ r.2.mem ((c.tc : Thread Cert.RefMergeIdeal.nD Cert.RefMergeIdeal.τ).loc Cert.RefMergeIdeal.main_arg15) = m' ((c.tc : Thread Cert.RefMergeIdeal.nD Cert.RefMergeIdeal.τ).loc Cert.RefMergeIdeal.main_arg15)
          ∧ r.2.mem ((c.tc : Thread Cert.RefMergeIdeal.nD Cert.RefMergeIdeal.τ).loc Cert.RefMergeIdeal.main_arg16) = m' ((c.tc : Thread Cert.RefMergeIdeal.nD Cert.RefMergeIdeal.τ).loc Cert.RefMergeIdeal.main_arg16)
          ∧ r.2.mem ((c.tc : Thread Cert.RefMergeIdeal.nD Cert.RefMergeIdeal.τ).loc Cert.RefMergeIdeal.main_arg17) = m' ((c.tc : Thread Cert.RefMergeIdeal.nD Cert.RefMergeIdeal.τ).loc Cert.RefMergeIdeal.main_arg17)
          ∧ r.2.mem ((c.tc : Thread Cert.RefMergeIdeal.nD Cert.RefMergeIdeal.τ).loc Cert.RefMergeIdeal.main_arg18) = m' ((c.tc : Thread Cert.RefMergeIdeal.nD Cert.RefMergeIdeal.τ).loc Cert.RefMergeIdeal.main_arg18))

def preserves_Inproj_InprojIdeal : Prop :=
  True

def algebraic_InprojIdeal_RefInprojIdeal [hInprojIdeal : Cert.InprojIdeal.Facts] [hRefInprojIdeal : Cert.RefInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v31_0)) (v1 : (c : Dev Cert.InprojIdeal.nD) → Buf (Elt Ideal) ((c.tc : Thread Cert.InprojIdeal.nD Cert.InprojIdeal.τ).loc Cert.InprojIdeal.main_v31_1)) (v2 : (c : Dev Cert.InprojIdeal.nD) → Buf (Elt Ideal) ((c.tc : Thread Cert.InprojIdeal.nD Cert.InprojIdeal.τ).loc Cert.InprojIdeal.main_v31_2)) (v3 : (c : Dev Cert.InprojIdeal.nD) → Buf (Elt Ideal) ((c.tc : Thread Cert.InprojIdeal.nD Cert.InprojIdeal.τ).loc Cert.InprojIdeal.main_v31_3)) (v4 : (c : Dev Cert.InprojIdeal.nD) → Buf (Elt Ideal) ((c.tc : Thread Cert.InprojIdeal.nD Cert.InprojIdeal.τ).loc Cert.InprojIdeal.main_v31_4)) (v5 : (c : Dev Cert.InprojIdeal.nD) → Buf (Elt Ideal) ((c.tc : Thread Cert.InprojIdeal.nD Cert.InprojIdeal.τ).loc Cert.InprojIdeal.main_v31_5)) (v6 : (c : Dev Cert.InprojIdeal.nD) → Buf (Elt Ideal) ((c.tc : Thread Cert.InprojIdeal.nD Cert.InprojIdeal.τ).loc Cert.InprojIdeal.main_v31_6)) (v7 : (c : Dev Cert.InprojIdeal.nD) → Buf (Elt Ideal) ((c.tc : Thread Cert.InprojIdeal.nD Cert.InprojIdeal.τ).loc Cert.InprojIdeal.main_v31_7)) (v8 : (c : Dev Cert.InprojIdeal.nD) → Buf (Elt Ideal) ((c.tc : Thread Cert.InprojIdeal.nD Cert.InprojIdeal.τ).loc Cert.InprojIdeal.main_v31_8)) (v9 : (c : Dev Cert.InprojIdeal.nD) → Buf (Elt Ideal) ((c.tc : Thread Cert.InprojIdeal.nD Cert.InprojIdeal.τ).loc Cert.InprojIdeal.main_v31_9)) (v10 : (c : Dev Cert.InprojIdeal.nD) → Buf (Elt Ideal) ((c.tc : Thread Cert.InprojIdeal.nD Cert.InprojIdeal.τ).loc Cert.InprojIdeal.main_v31_10)) (v11 : (c : Dev Cert.InprojIdeal.nD) → Buf (Elt Ideal) ((c.tc : Thread Cert.InprojIdeal.nD Cert.InprojIdeal.τ).loc Cert.InprojIdeal.main_v31_11)) (v12 : (c : Dev Cert.InprojIdeal.nD) → Buf (Elt Ideal) ((c.tc : Thread Cert.InprojIdeal.nD Cert.InprojIdeal.τ).loc Cert.InprojIdeal.main_v31_12)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v31_0) = v0 c
          ∧ r.2.mem ((c.tc : Thread Cert.InprojIdeal.nD Cert.InprojIdeal.τ).loc Cert.InprojIdeal.main_v31_1) = v1 c
          ∧ r.2.mem ((c.tc : Thread Cert.InprojIdeal.nD Cert.InprojIdeal.τ).loc Cert.InprojIdeal.main_v31_2) = v2 c
          ∧ r.2.mem ((c.tc : Thread Cert.InprojIdeal.nD Cert.InprojIdeal.τ).loc Cert.InprojIdeal.main_v31_3) = v3 c
          ∧ r.2.mem ((c.tc : Thread Cert.InprojIdeal.nD Cert.InprojIdeal.τ).loc Cert.InprojIdeal.main_v31_4) = v4 c
          ∧ r.2.mem ((c.tc : Thread Cert.InprojIdeal.nD Cert.InprojIdeal.τ).loc Cert.InprojIdeal.main_v31_5) = v5 c
          ∧ r.2.mem ((c.tc : Thread Cert.InprojIdeal.nD Cert.InprojIdeal.τ).loc Cert.InprojIdeal.main_v31_6) = v6 c
          ∧ r.2.mem ((c.tc : Thread Cert.InprojIdeal.nD Cert.InprojIdeal.τ).loc Cert.InprojIdeal.main_v31_7) = v7 c
          ∧ r.2.mem ((c.tc : Thread Cert.InprojIdeal.nD Cert.InprojIdeal.τ).loc Cert.InprojIdeal.main_v31_8) = v8 c
          ∧ r.2.mem ((c.tc : Thread Cert.InprojIdeal.nD Cert.InprojIdeal.τ).loc Cert.InprojIdeal.main_v31_9) = v9 c
          ∧ r.2.mem ((c.tc : Thread Cert.InprojIdeal.nD Cert.InprojIdeal.τ).loc Cert.InprojIdeal.main_v31_10) = v10 c
          ∧ r.2.mem ((c.tc : Thread Cert.InprojIdeal.nD Cert.InprojIdeal.τ).loc Cert.InprojIdeal.main_v31_11) = v11 c
          ∧ r.2.mem ((c.tc : Thread Cert.InprojIdeal.nD Cert.InprojIdeal.τ).loc Cert.InprojIdeal.main_v31_12) = v12 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v146) = v0 c
          ∧ r.2.mem ((c.tc : Thread Cert.RefInprojIdeal.nD Cert.RefInprojIdeal.τ).loc Cert.RefInprojIdeal.main_v150) = v1 c
          ∧ r.2.mem ((c.tc : Thread Cert.RefInprojIdeal.nD Cert.RefInprojIdeal.τ).loc Cert.RefInprojIdeal.main_v154) = v2 c
          ∧ r.2.mem ((c.tc : Thread Cert.RefInprojIdeal.nD Cert.RefInprojIdeal.τ).loc Cert.RefInprojIdeal.main_v158) = v3 c
          ∧ r.2.mem ((c.tc : Thread Cert.RefInprojIdeal.nD Cert.RefInprojIdeal.τ).loc Cert.RefInprojIdeal.main_v162) = v4 c
          ∧ r.2.mem ((c.tc : Thread Cert.RefInprojIdeal.nD Cert.RefInprojIdeal.τ).loc Cert.RefInprojIdeal.main_v166) = v5 c
          ∧ r.2.mem ((c.tc : Thread Cert.RefInprojIdeal.nD Cert.RefInprojIdeal.τ).loc Cert.RefInprojIdeal.main_v170) = v6 c
          ∧ r.2.mem ((c.tc : Thread Cert.RefInprojIdeal.nD Cert.RefInprojIdeal.τ).loc Cert.RefInprojIdeal.main_v174) = v7 c
          ∧ r.2.mem ((c.tc : Thread Cert.RefInprojIdeal.nD Cert.RefInprojIdeal.τ).loc Cert.RefInprojIdeal.main_v178) = v8 c
          ∧ r.2.mem ((c.tc : Thread Cert.RefInprojIdeal.nD Cert.RefInprojIdeal.τ).loc Cert.RefInprojIdeal.main_v182) = v9 c
          ∧ r.2.mem ((c.tc : Thread Cert.RefInprojIdeal.nD Cert.RefInprojIdeal.τ).loc Cert.RefInprojIdeal.main_v184) = v10 c
          ∧ r.2.mem ((c.tc : Thread Cert.RefInprojIdeal.nD Cert.RefInprojIdeal.τ).loc Cert.RefInprojIdeal.main_v186) = v11 c
          ∧ r.2.mem ((c.tc : Thread Cert.RefInprojIdeal.nD Cert.RefInprojIdeal.τ).loc Cert.RefInprojIdeal.main_v188) = v12 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2))

def preserves_Dil4_Dil4Ideal : Prop :=
  IdealRules.named_const.Statement Cert.Dil4Ideal.κ "mask" .f32 0xF149F2CA#32 ⊥

def algebraic_Dil4Ideal_Ref4Ideal_pre_finite [hDil4Ideal : Cert.Dil4Ideal.Facts] [hRef4Ideal : Cert.Ref4Ideal.Facts] [hPre_finite : Cert.Pre_finite.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Ref4Ideal.nD Cert.Ref4Ideal.τ Cert.Ref4Ideal.sig) → Buf (Elt Ideal) ℓ) (g' : Dev Cert.Ref4Ideal.nD → PrngReg), Pre_Dil4Ideal_finite m →
    (∀ c : Dev Cert.Dil4Ideal.nD,
      m' ((c.tc : Thread Cert.Ref4Ideal.nD Cert.Ref4Ideal.τ).loc Cert.Ref4Ideal.main_arg0) = m ((c.tc : Thread Cert.Dil4Ideal.nD Cert.Dil4Ideal.τ).loc Cert.Dil4Ideal.main_arg0)
      ∧ m' ((c.tc : Thread Cert.Ref4Ideal.nD Cert.Ref4Ideal.τ).loc Cert.Ref4Ideal.main_arg1) = m ((c.tc : Thread Cert.Dil4Ideal.nD Cert.Dil4Ideal.τ).loc Cert.Dil4Ideal.main_arg1)
      ∧ m' ((c.tc : Thread Cert.Ref4Ideal.nD Cert.Ref4Ideal.τ).loc Cert.Ref4Ideal.main_arg2) = m ((c.tc : Thread Cert.Dil4Ideal.nD Cert.Dil4Ideal.τ).loc Cert.Dil4Ideal.main_arg2)) →
    ∃ (v0 : (c : Dev Cert.Dil4Ideal.nD) → Buf (Elt Ideal) ((c.tc : Thread Cert.Dil4Ideal.nD Cert.Dil4Ideal.τ).loc Cert.Dil4Ideal.main_v11_0)) (v1 : (c : Dev Cert.Dil4Ideal.nD) → Buf (Elt Ideal) ((c.tc : Thread Cert.Dil4Ideal.nD Cert.Dil4Ideal.τ).loc Cert.Dil4Ideal.main_v11_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v11_0) = v0 c
          ∧ r.2.mem ((c.tc : Thread Cert.Dil4Ideal.nD Cert.Dil4Ideal.τ).loc Cert.Dil4Ideal.main_v11_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0)
          ∧ r.2.mem ((c.tc : Thread Cert.Dil4Ideal.nD Cert.Dil4Ideal.τ).loc Cert.Dil4Ideal.main_arg1) = m ((c.tc : Thread Cert.Dil4Ideal.nD Cert.Dil4Ideal.τ).loc Cert.Dil4Ideal.main_arg1)
          ∧ r.2.mem ((c.tc : Thread Cert.Dil4Ideal.nD Cert.Dil4Ideal.τ).loc Cert.Dil4Ideal.main_arg2) = m ((c.tc : Thread Cert.Dil4Ideal.nD Cert.Dil4Ideal.τ).loc Cert.Dil4Ideal.main_arg2))
      ∧ θ_run (Cert.Ref4Ideal.defs (F := Ideal)) (onTc (τ := Cert.Ref4Ideal.τ) (Cert.Ref4Ideal.main (F := Ideal))) ⟨m', fun _ => 0, g'⟩ (fun r => ∀ c : Dev Cert.Ref4Ideal.nD,
          r.2.mem ((c.tc : Thread Cert.Ref4Ideal.nD Cert.Ref4Ideal.τ).loc Cert.Ref4Ideal.main_v65) = v0 c
          ∧ r.2.mem ((c.tc : Thread Cert.Ref4Ideal.nD Cert.Ref4Ideal.τ).loc Cert.Ref4Ideal.main_v64) = v1 c
          ∧ r.2.mem ((c.tc : Thread Cert.Ref4Ideal.nD Cert.Ref4Ideal.τ).loc Cert.Ref4Ideal.main_arg0) = m' ((c.tc : Thread Cert.Ref4Ideal.nD Cert.Ref4Ideal.τ).loc Cert.Ref4Ideal.main_arg0)
          ∧ r.2.mem ((c.tc : Thread Cert.Ref4Ideal.nD Cert.Ref4Ideal.τ).loc Cert.Ref4Ideal.main_arg1) = m' ((c.tc : Thread Cert.Ref4Ideal.nD Cert.Ref4Ideal.τ).loc Cert.Ref4Ideal.main_arg1)
          ∧ r.2.mem ((c.tc : Thread Cert.Ref4Ideal.nD Cert.Ref4Ideal.τ).loc Cert.Ref4Ideal.main_arg2) = m' ((c.tc : Thread Cert.Ref4Ideal.nD Cert.Ref4Ideal.τ).loc Cert.Ref4Ideal.main_arg2))

def preserves_Dil16_Dil16Ideal : Prop :=
  IdealRules.named_const.Statement Cert.Dil16Ideal.κ "mask" .f32 0xF149F2CA#32 ⊥

def algebraic_Dil16Ideal_Ref16Ideal_pre_finite [hDil16Ideal : Cert.Dil16Ideal.Facts] [hRef16Ideal : Cert.Ref16Ideal.Facts] [hPre_finite : Cert.Pre_finite.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Ref16Ideal.nD Cert.Ref16Ideal.τ Cert.Ref16Ideal.sig) → Buf (Elt Ideal) ℓ) (g' : Dev Cert.Ref16Ideal.nD → PrngReg), Pre_Dil16Ideal_finite m →
    (∀ c : Dev Cert.Dil16Ideal.nD,
      m' ((c.tc : Thread Cert.Ref16Ideal.nD Cert.Ref16Ideal.τ).loc Cert.Ref16Ideal.main_arg0) = m ((c.tc : Thread Cert.Dil16Ideal.nD Cert.Dil16Ideal.τ).loc Cert.Dil16Ideal.main_arg0)
      ∧ m' ((c.tc : Thread Cert.Ref16Ideal.nD Cert.Ref16Ideal.τ).loc Cert.Ref16Ideal.main_arg1) = m ((c.tc : Thread Cert.Dil16Ideal.nD Cert.Dil16Ideal.τ).loc Cert.Dil16Ideal.main_arg1)
      ∧ m' ((c.tc : Thread Cert.Ref16Ideal.nD Cert.Ref16Ideal.τ).loc Cert.Ref16Ideal.main_arg2) = m ((c.tc : Thread Cert.Dil16Ideal.nD Cert.Dil16Ideal.τ).loc Cert.Dil16Ideal.main_arg2)) →
    ∃ (v0 : (c : Dev Cert.Dil16Ideal.nD) → Buf (Elt Ideal) ((c.tc : Thread Cert.Dil16Ideal.nD Cert.Dil16Ideal.τ).loc Cert.Dil16Ideal.main_v11_0)) (v1 : (c : Dev Cert.Dil16Ideal.nD) → Buf (Elt Ideal) ((c.tc : Thread Cert.Dil16Ideal.nD Cert.Dil16Ideal.τ).loc Cert.Dil16Ideal.main_v11_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v11_0) = v0 c
          ∧ r.2.mem ((c.tc : Thread Cert.Dil16Ideal.nD Cert.Dil16Ideal.τ).loc Cert.Dil16Ideal.main_v11_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0)
          ∧ r.2.mem ((c.tc : Thread Cert.Dil16Ideal.nD Cert.Dil16Ideal.τ).loc Cert.Dil16Ideal.main_arg1) = m ((c.tc : Thread Cert.Dil16Ideal.nD Cert.Dil16Ideal.τ).loc Cert.Dil16Ideal.main_arg1)
          ∧ r.2.mem ((c.tc : Thread Cert.Dil16Ideal.nD Cert.Dil16Ideal.τ).loc Cert.Dil16Ideal.main_arg2) = m ((c.tc : Thread Cert.Dil16Ideal.nD Cert.Dil16Ideal.τ).loc Cert.Dil16Ideal.main_arg2))
      ∧ θ_run (Cert.Ref16Ideal.defs (F := Ideal)) (onTc (τ := Cert.Ref16Ideal.τ) (Cert.Ref16Ideal.main (F := Ideal))) ⟨m', fun _ => 0, g'⟩ (fun r => ∀ c : Dev Cert.Ref16Ideal.nD,
          r.2.mem ((c.tc : Thread Cert.Ref16Ideal.nD Cert.Ref16Ideal.τ).loc Cert.Ref16Ideal.main_v65) = v0 c
          ∧ r.2.mem ((c.tc : Thread Cert.Ref16Ideal.nD Cert.Ref16Ideal.τ).loc Cert.Ref16Ideal.main_v64) = v1 c
          ∧ r.2.mem ((c.tc : Thread Cert.Ref16Ideal.nD Cert.Ref16Ideal.τ).loc Cert.Ref16Ideal.main_arg0) = m' ((c.tc : Thread Cert.Ref16Ideal.nD Cert.Ref16Ideal.τ).loc Cert.Ref16Ideal.main_arg0)
          ∧ r.2.mem ((c.tc : Thread Cert.Ref16Ideal.nD Cert.Ref16Ideal.τ).loc Cert.Ref16Ideal.main_arg1) = m' ((c.tc : Thread Cert.Ref16Ideal.nD Cert.Ref16Ideal.τ).loc Cert.Ref16Ideal.main_arg1)
          ∧ r.2.mem ((c.tc : Thread Cert.Ref16Ideal.nD Cert.Ref16Ideal.τ).loc Cert.Ref16Ideal.main_arg2) = m' ((c.tc : Thread Cert.Ref16Ideal.nD Cert.Ref16Ideal.τ).loc Cert.Ref16Ideal.main_arg2))

def preserves_Memkv_MemkvIdeal : Prop :=
  True

def algebraic_MemkvIdeal_RefMemkvIdeal [hMemkvIdeal : Cert.MemkvIdeal.Facts] [hRefMemkvIdeal : Cert.RefMemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.RefMemkvIdeal.nD Cert.RefMemkvIdeal.τ Cert.RefMemkvIdeal.sig) → Buf (Elt Ideal) ℓ) (g' : Dev Cert.RefMemkvIdeal.nD → PrngReg), Pre_MemkvIdeal m →
    (∀ c : Dev Cert.MemkvIdeal.nD,
      m' ((c.tc : Thread Cert.RefMemkvIdeal.nD Cert.RefMemkvIdeal.τ).loc Cert.RefMemkvIdeal.main_arg0) = m ((c.tc : Thread Cert.MemkvIdeal.nD Cert.MemkvIdeal.τ).loc Cert.MemkvIdeal.main_arg0)
      ∧ m' ((c.tc : Thread Cert.RefMemkvIdeal.nD Cert.RefMemkvIdeal.τ).loc Cert.RefMemkvIdeal.main_arg1) = m ((c.tc : Thread Cert.MemkvIdeal.nD Cert.MemkvIdeal.τ).loc Cert.MemkvIdeal.main_arg1)) →
    ∃ (v0 : (c : Dev Cert.MemkvIdeal.nD) → Buf (Elt Ideal) ((c.tc : Thread Cert.MemkvIdeal.nD Cert.MemkvIdeal.τ).loc Cert.MemkvIdeal.main_v1_0)) (v1 : (c : Dev Cert.MemkvIdeal.nD) → Buf (Elt Ideal) ((c.tc : Thread Cert.MemkvIdeal.nD Cert.MemkvIdeal.τ).loc Cert.MemkvIdeal.main_v1_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v1_0) = v0 c
          ∧ r.2.mem ((c.tc : Thread Cert.MemkvIdeal.nD Cert.MemkvIdeal.τ).loc Cert.MemkvIdeal.main_v1_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ θ_run (Cert.RefMemkvIdeal.defs (F := Ideal)) (onTc (τ := Cert.RefMemkvIdeal.τ) (Cert.RefMemkvIdeal.main (F := Ideal))) ⟨m', fun _ => 0, g'⟩ (fun r => ∀ c : Dev Cert.RefMemkvIdeal.nD,
          r.2.mem ((c.tc : Thread Cert.RefMemkvIdeal.nD Cert.RefMemkvIdeal.τ).loc Cert.RefMemkvIdeal.main_v4) = v0 c
          ∧ r.2.mem ((c.tc : Thread Cert.RefMemkvIdeal.nD Cert.RefMemkvIdeal.τ).loc Cert.RefMemkvIdeal.main_v7) = v1 c
          ∧ r.2.mem ((c.tc : Thread Cert.RefMemkvIdeal.nD Cert.RefMemkvIdeal.τ).loc Cert.RefMemkvIdeal.main_arg0) = m' ((c.tc : Thread Cert.RefMemkvIdeal.nD Cert.RefMemkvIdeal.τ).loc Cert.RefMemkvIdeal.main_arg0)
          ∧ r.2.mem ((c.tc : Thread Cert.RefMemkvIdeal.nD Cert.RefMemkvIdeal.τ).loc Cert.RefMemkvIdeal.main_arg1) = m' ((c.tc : Thread Cert.RefMemkvIdeal.nD Cert.RefMemkvIdeal.τ).loc Cert.RefMemkvIdeal.main_arg1))

def preserves_Memattn_MemattnIdeal : Prop :=
  True

def algebraic_MemattnIdeal_RefMemattnIdeal_pre_scores_finite [hMemattnIdeal : Cert.MemattnIdeal.Facts] [hRefMemattnIdeal : Cert.RefMemattnIdeal.Facts] [hPre_scores_finite : Cert.Pre_scores_finite.Facts] : Prop :=
  ∀ (m : (ℓ : Loc Cert.MemattnIdeal.nD Cert.MemattnIdeal.τ Cert.MemattnIdeal.sig) → Buf (Elt Ideal) ℓ) (g : Dev Cert.MemattnIdeal.nD → PrngReg)
    (m' : (ℓ : Loc Cert.RefMemattnIdeal.nD Cert.RefMemattnIdeal.τ Cert.RefMemattnIdeal.sig) → Buf (Elt Ideal) ℓ) (g' : Dev Cert.RefMemattnIdeal.nD → PrngReg), Pre_MemattnIdeal_scores_finite m →
    (∀ c : Dev Cert.MemattnIdeal.nD,
      m' ((c.tc : Thread Cert.RefMemattnIdeal.nD Cert.RefMemattnIdeal.τ).loc Cert.RefMemattnIdeal.main_arg0) = m ((c.tc : Thread Cert.MemattnIdeal.nD Cert.MemattnIdeal.τ).loc Cert.MemattnIdeal.main_arg0)
      ∧ m' ((c.tc : Thread Cert.RefMemattnIdeal.nD Cert.RefMemattnIdeal.τ).loc Cert.RefMemattnIdeal.main_arg1) = m ((c.tc : Thread Cert.MemattnIdeal.nD Cert.MemattnIdeal.τ).loc Cert.MemattnIdeal.main_arg1)
      ∧ m' ((c.tc : Thread Cert.RefMemattnIdeal.nD Cert.RefMemattnIdeal.τ).loc Cert.RefMemattnIdeal.main_arg2) = m ((c.tc : Thread Cert.MemattnIdeal.nD Cert.MemattnIdeal.τ).loc Cert.MemattnIdeal.main_arg2)) →
    ∃ (v0 : (c : Dev Cert.MemattnIdeal.nD) → Buf (Elt Ideal) ((c.tc : Thread Cert.MemattnIdeal.nD Cert.MemattnIdeal.τ).loc Cert.MemattnIdeal.main_v8)),
      θ_run (Cert.MemattnIdeal.defs (F := Ideal)) (onTc (τ := Cert.MemattnIdeal.τ) (Cert.MemattnIdeal.main (F := Ideal))) ⟨m, fun _ => 0, g⟩ (fun r => ∀ c : Dev Cert.MemattnIdeal.nD,
          r.2.mem ((c.tc : Thread Cert.MemattnIdeal.nD Cert.MemattnIdeal.τ).loc Cert.MemattnIdeal.main_v8) = v0 c
          ∧ r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
          ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
          ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2))
      ∧ θ_run (Cert.RefMemattnIdeal.defs (F := Ideal)) (onTc (τ := Cert.RefMemattnIdeal.τ) (Cert.RefMemattnIdeal.main (F := Ideal))) ⟨m', fun _ => 0, g'⟩ (fun r => ∀ c : Dev Cert.RefMemattnIdeal.nD,
          r.2.mem ((c.tc : Thread Cert.RefMemattnIdeal.nD Cert.RefMemattnIdeal.τ).loc Cert.RefMemattnIdeal.main_v17) = v0 c
          ∧ r.2.mem ((c.tc : Thread Cert.RefMemattnIdeal.nD Cert.RefMemattnIdeal.τ).loc Cert.RefMemattnIdeal.main_arg0) = m' ((c.tc : Thread Cert.RefMemattnIdeal.nD Cert.RefMemattnIdeal.τ).loc Cert.RefMemattnIdeal.main_arg0)
          ∧ r.2.mem ((c.tc : Thread Cert.RefMemattnIdeal.nD Cert.RefMemattnIdeal.τ).loc Cert.RefMemattnIdeal.main_arg1) = m' ((c.tc : Thread Cert.RefMemattnIdeal.nD Cert.RefMemattnIdeal.τ).loc Cert.RefMemattnIdeal.main_arg1)
          ∧ r.2.mem ((c.tc : Thread Cert.RefMemattnIdeal.nD Cert.RefMemattnIdeal.τ).loc Cert.RefMemattnIdeal.main_arg2) = m' ((c.tc : Thread Cert.RefMemattnIdeal.nD Cert.RefMemattnIdeal.τ).loc Cert.RefMemattnIdeal.main_arg2))

def Claim : Prop :=
  ∃ (hDil1 : Cert.Dil1.Facts) (hDil1Ideal : Cert.Dil1Ideal.Facts) (hRef1Ideal : Cert.Ref1Ideal.Facts) (hComb : Cert.Comb.Facts) (hCombIdeal : Cert.CombIdeal.Facts) (hRefCombIdeal : Cert.RefCombIdeal.Facts) (hMerge : Cert.Merge.Facts) (hMergeIdeal : Cert.MergeIdeal.Facts) (hRefMergeIdeal : Cert.RefMergeIdeal.Facts) (hInproj : Cert.Inproj.Facts) (hInprojIdeal : Cert.InprojIdeal.Facts) (hRefInprojIdeal : Cert.RefInprojIdeal.Facts) (hDil4 : Cert.Dil4.Facts) (hDil4Ideal : Cert.Dil4Ideal.Facts) (hRef4Ideal : Cert.Ref4Ideal.Facts) (hDil16 : Cert.Dil16.Facts) (hDil16Ideal : Cert.Dil16Ideal.Facts) (hRef16Ideal : Cert.Ref16Ideal.Facts) (hMemkv : Cert.Memkv.Facts) (hMemkvIdeal : Cert.MemkvIdeal.Facts) (hRefMemkvIdeal : Cert.RefMemkvIdeal.Facts) (hMemattn : Cert.Memattn.Facts) (hMemattnIdeal : Cert.MemattnIdeal.Facts) (hRefMemattnIdeal : Cert.RefMemattnIdeal.Facts) (hPre_finite : Cert.Pre_finite.Facts) (hPre_heaviest_finite : Cert.Pre_heaviest_finite.Facts) (hPre_scores_finite : Cert.Pre_scores_finite.Facts),
    quiescent_Dil1 (hDil1 := hDil1)
    ∧ quiescent_Dil1Ideal (hDil1Ideal := hDil1Ideal)
    ∧ quiescent_Dil1Ideal_pre_finite (hDil1Ideal := hDil1Ideal) (hPre_finite := hPre_finite)
    ∧ quiescent_Ref1Ideal (hRef1Ideal := hRef1Ideal)
    ∧ quiescent_Ref1Ideal_pre_finite (hRef1Ideal := hRef1Ideal) (hPre_finite := hPre_finite)
    ∧ quiescent_Comb (hComb := hComb)
    ∧ quiescent_CombIdeal (hCombIdeal := hCombIdeal)
    ∧ quiescent_RefCombIdeal (hRefCombIdeal := hRefCombIdeal)
    ∧ quiescent_Merge (hMerge := hMerge)
    ∧ quiescent_MergeIdeal (hMergeIdeal := hMergeIdeal)
    ∧ quiescent_MergeIdeal_pre_heaviest_finite (hMergeIdeal := hMergeIdeal) (hPre_heaviest_finite := hPre_heaviest_finite)
    ∧ quiescent_RefMergeIdeal (hRefMergeIdeal := hRefMergeIdeal)
    ∧ quiescent_RefMergeIdeal_pre_heaviest_finite (hRefMergeIdeal := hRefMergeIdeal) (hPre_heaviest_finite := hPre_heaviest_finite)
    ∧ quiescent_Inproj (hInproj := hInproj)
    ∧ quiescent_InprojIdeal (hInprojIdeal := hInprojIdeal)
    ∧ quiescent_RefInprojIdeal (hRefInprojIdeal := hRefInprojIdeal)
    ∧ quiescent_Dil4 (hDil4 := hDil4)
    ∧ quiescent_Dil4Ideal (hDil4Ideal := hDil4Ideal)
    ∧ quiescent_Dil4Ideal_pre_finite (hDil4Ideal := hDil4Ideal) (hPre_finite := hPre_finite)
    ∧ quiescent_Ref4Ideal (hRef4Ideal := hRef4Ideal)
    ∧ quiescent_Ref4Ideal_pre_finite (hRef4Ideal := hRef4Ideal) (hPre_finite := hPre_finite)
    ∧ quiescent_Dil16 (hDil16 := hDil16)
    ∧ quiescent_Dil16Ideal (hDil16Ideal := hDil16Ideal)
    ∧ quiescent_Dil16Ideal_pre_finite (hDil16Ideal := hDil16Ideal) (hPre_finite := hPre_finite)
    ∧ quiescent_Ref16Ideal (hRef16Ideal := hRef16Ideal)
    ∧ quiescent_Ref16Ideal_pre_finite (hRef16Ideal := hRef16Ideal) (hPre_finite := hPre_finite)
    ∧ quiescent_Memkv (hMemkv := hMemkv)
    ∧ quiescent_MemkvIdeal (hMemkvIdeal := hMemkvIdeal)
    ∧ quiescent_RefMemkvIdeal (hRefMemkvIdeal := hRefMemkvIdeal)
    ∧ quiescent_Memattn (hMemattn := hMemattn)
    ∧ quiescent_MemattnIdeal (hMemattnIdeal := hMemattnIdeal)
    ∧ quiescent_MemattnIdeal_pre_scores_finite (hMemattnIdeal := hMemattnIdeal) (hPre_scores_finite := hPre_scores_finite)
    ∧ quiescent_RefMemattnIdeal (hRefMemattnIdeal := hRefMemattnIdeal)
    ∧ quiescent_RefMemattnIdeal_pre_scores_finite (hRefMemattnIdeal := hRefMemattnIdeal) (hPre_scores_finite := hPre_scores_finite)
    ∧ preserves_Dil1_Dil1Ideal
    ∧ algebraic_Dil1Ideal_Ref1Ideal_pre_finite (hDil1Ideal := hDil1Ideal) (hRef1Ideal := hRef1Ideal) (hPre_finite := hPre_finite)
    ∧ preserves_Comb_CombIdeal
    ∧ algebraic_CombIdeal_RefCombIdeal (hCombIdeal := hCombIdeal) (hRefCombIdeal := hRefCombIdeal)
    ∧ preserves_Merge_MergeIdeal
    ∧ algebraic_MergeIdeal_RefMergeIdeal_pre_heaviest_finite (hMergeIdeal := hMergeIdeal) (hRefMergeIdeal := hRefMergeIdeal) (hPre_heaviest_finite := hPre_heaviest_finite)
    ∧ preserves_Inproj_InprojIdeal
    ∧ algebraic_InprojIdeal_RefInprojIdeal (hInprojIdeal := hInprojIdeal) (hRefInprojIdeal := hRefInprojIdeal)
    ∧ preserves_Dil4_Dil4Ideal
    ∧ algebraic_Dil4Ideal_Ref4Ideal_pre_finite (hDil4Ideal := hDil4Ideal) (hRef4Ideal := hRef4Ideal) (hPre_finite := hPre_finite)
    ∧ preserves_Dil16_Dil16Ideal
    ∧ algebraic_Dil16Ideal_Ref16Ideal_pre_finite (hDil16Ideal := hDil16Ideal) (hRef16Ideal := hRef16Ideal) (hPre_finite := hPre_finite)
    ∧ preserves_Memkv_MemkvIdeal
    ∧ algebraic_MemkvIdeal_RefMemkvIdeal (hMemkvIdeal := hMemkvIdeal) (hRefMemkvIdeal := hRefMemkvIdeal)
    ∧ preserves_Memattn_MemattnIdeal
    ∧ algebraic_MemattnIdeal_RefMemattnIdeal_pre_scores_finite (hMemattnIdeal := hMemattnIdeal) (hRefMemattnIdeal := hRefMemattnIdeal) (hPre_scores_finite := hPre_scores_finite)
-- ==== Pre_finite.lean ====
abbrev S8x4096x2x64 : Shape := ⟨4, ![8, 4096, 2, 64]⟩
abbrev S_ : Shape := ⟨0, ![]⟩

class Facts : Prop where
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  h_S_ : 0 < S_.numel

variable [Facts]

def fn {F : FTy → Type} [FloatOps F] (main_arg0 : FVec F S8x4096x2x64 .f32) (main_arg1 : FVec F S8x4096x2x64 .f32) (main_arg2 : FVec F S8x4096x2x64 .f32) : IVec S_ 1 :=
  let main_v0 : FVec F S8x4096x2x64 .f32 := Host.absf main_arg0
  let main_cst : FVec F S_ .f32 := constant S_ .f32 0x7F800000#32
  let main_v1 : FVec F S8x4096x2x64 .f32 := broadcastInDim S8x4096x2x64 ![] bcast_S_S8x4096x2x64 main_cst
  let main_v2 : IVec S8x4096x2x64 1 := cmpf .olt main_v0 main_v1
  let main_c : IVec S_ 1 := constantI S_ 1 1#1
  let main_v3 : IVec S_ 1 := (fun x v => Host.reduce IntOp.andi x v reducesTo_S8x4096x2x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  main_v8
-- ==== Pre_heaviest_finite.lean ====
abbrev S8x4096x1024 : Shape := ⟨3, ![8, 4096, 1024]⟩
abbrev S8x4096x2x64 : Shape := ⟨4, ![8, 4096, 2, 64]⟩
abbrev S8x4096x2 : Shape := ⟨3, ![8, 4096, 2]⟩
abbrev S8x4096x384 : Shape := ⟨3, ![8, 4096, 384]⟩
abbrev S8x4096x256 : Shape := ⟨3, ![8, 4096, 256]⟩
abbrev S1024x3072 : Shape := ⟨2, ![1024, 3072]⟩
abbrev S3072 : Shape := ⟨1, ![3072]⟩
abbrev S128x1024 : Shape := ⟨2, ![128, 1024]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x1024 .f32) (main_arg1 : FVec F S8x4096x2x64 .f32) (main_arg2 : FVec F S8x4096x2x64 .f32) (main_arg3 : FVec F S8x4096x2x64 .f32) (main_arg4 : FVec F S8x4096x2 .f32) (main_arg5 : FVec F S8x4096x2 .f32) (main_arg6 : FVec F S8x4096x2 .f32) (main_arg7 : FVec F S8x4096x384 .f32) (main_arg8 : FVec F S8x4096x256 .f32) (main_arg9 : FVec F S1024x3072 .f32) (main_arg10 : FVec F S3072 .f32) (main_arg11 : FVec F S128x1024 .f32) (main_arg12 : FVec F S384x1024 .f32) (main_arg13 : FVec F S256x1024 .f32) (main_arg14 : FVec F S1024x1024 .f32) (main_arg15 : FVec F S1024 .f32) (main_arg16 : FVec F S1024 .f32) (main_arg17 : FVec F S1024x256 .f32) (main_arg18 : FVec F S256 .f32) : IVec S_ 1 :=
  let main_v0 : FVec F S8x4096x2 .f32 := maximumf main_arg4 main_arg5
  let main_v1 : FVec F S8x4096x2 .f32 := maximumf main_v0 main_arg6
  let main_v2 : FVec F S8x4096x2 .f32 := Host.absf main_v1
  let main_cst : FVec F S_ .f32 := constant S_ .f32 0x7F800000#32
  let main_v3 : FVec F S8x4096x2 .f32 := broadcastInDim S8x4096x2 ![] bcast_S_S8x4096x2 main_cst
  let main_v4 : IVec S8x4096x2 1 := cmpf .olt main_v2 main_v3
  let main_c : IVec S_ 1 := constantI S_ 1 1#1
  let main_v5 : IVec S_ 1 := (fun x v => Host.reduce IntOp.andi x v reducesTo_S8x4096x2_S_d0_1_2 h_S_) main_v4 main_c
  main_v5
-- ==== Pre_scores_finite.lean ====
abbrev S8x4096x4x64 : Shape := ⟨4, ![8, 4096, 4, 64]⟩
abbrev S8x256x4x64 : Shape := ⟨4, ![8, 256, 4, 64]⟩
abbrev S_ : Shape := ⟨0, ![]⟩

class Facts : Prop where
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  h_S_ : 0 < S_.numel
  bcast_S_S8x256x4x64 : S_.BroadcastsInDim S8x256x4x64 (![] : Fin 0 → Fin S8x256x4x64.rank)
  reducesTo_S8x256x4x64_S_d0_1_2_3 : S8x256x4x64.ReducesTo [0, 1, 2, 3] S_

variable [Facts]

def fn {F : FTy → Type} [FloatOps F] (main_arg0 : FVec F S8x4096x4x64 .f32) (main_arg1 : FVec F S8x256x4x64 .f32) (main_arg2 : FVec F S8x256x4x64 .f32) : IVec S_ 1 :=
  let main_v0 : FVec F S8x4096x4x64 .f32 := Host.absf main_arg0
  let main_cst : FVec F S_ .f32 := constant S_ .f32 0x7F800000#32
  let main_v1 : FVec F S8x4096x4x64 .f32 := broadcastInDim S8x4096x4x64 ![] bcast_S_S8x4096x4x64 main_cst
  let main_v2 : IVec S8x4096x4x64 1 := cmpf .olt main_v0 main_v1
  let main_c : IVec S_ 1 := constantI S_ 1 1#1
  let main_v3 : IVec S_ 1 := (fun x v => Host.reduce IntOp.andi x v reducesTo_S8x4096x4x64_S_d0_1_2_3 h_S_) main_v2 main_c
  let main_v4 : FVec F S8x256x4x64 .f32 := Host.absf main_arg1
  let main_cst_0 : FVec F S_ .f32 := constant S_ .f32 0x7F800000#32
  let main_v5 : FVec F S8x256x4x64 .f32 := broadcastInDim S8x256x4x64 ![] bcast_S_S8x256x4x64 main_cst_0
  let main_v6 : IVec S8x256x4x64 1 := cmpf .olt main_v4 main_v5
  let main_c_1 : IVec S_ 1 := constantI S_ 1 1#1
  let main_v7 : IVec S_ 1 := (fun x v => Host.reduce IntOp.andi x v reducesTo_S8x256x4x64_S_d0_1_2_3 h_S_) main_v6 main_c_1
  let main_v8 : IVec S_ 1 := andi main_v3 main_v7
  main_v8
-- ==== Dil1.lean ====
abbrev S8x4096x2x64 : Shape := ⟨4, ![8, 4096, 2, 64]⟩
abbrev S_ : Shape := ⟨0, ![]⟩
abbrev S8x4096x1x128 : Shape := ⟨4, ![8, 4096, 1, 128]⟩
abbrev S8x1x4096x128 : Shape := ⟨4, ![8, 1, 4096, 128]⟩
abbrev S1x1x1024x128 : Shape := ⟨4, ![1, 1, 1024, 128]⟩
abbrev S1x1x128x128 : Shape := ⟨4, ![1, 1, 128, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x2x64, .f32⟩
  | .hbm, ⟨5, _⟩ => ⟨S8x4096x2x64, .f32⟩
  | .hbm, ⟨6, _⟩ => ⟨S8x4096x2x64, .bf16⟩
  | .hbm, ⟨7, _⟩ => ⟨S8x4096x1x128, .bf16⟩
  | .hbm, ⟨8, _⟩ => ⟨S8x1x4096x128, .bf16⟩
  | .hbm, ⟨9, _⟩ => ⟨S8x4096x2x64, .bf16⟩
  | .hbm, ⟨10, _⟩ => ⟨S8x4096x1x128, .bf16⟩
  | .hbm, ⟨11, _⟩ => ⟨S8x1x4096x128, .bf16⟩
  | .hbm, ⟨12, _⟩ => ⟨S8x4096x2x64, .bf16⟩
  | .hbm, ⟨13, _⟩ => ⟨S8x4096x1x128, .bf16⟩
  | .hbm, ⟨14, _⟩ => ⟨S8x1x4096x128, .bf16⟩
  | .hbm, ⟨15, _⟩ => ⟨S8x1x4096x128, .bf16⟩
  | .hbm, ⟨16, _⟩ => ⟨S8x1x4096x128, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x1024x128, .bf16⟩
  | .local _ .vmem, ⟨9, _⟩ => ⟨S1x1x1024x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .f32⟩
  | .local _ .vmem, ⟨13, _⟩ => ⟨S1x1x1024x128, .f32⟩
  | _, _ => ⟨S8x4096x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil1Ideal.lean ====
abbrev S8x4096x2x64 : Shape := ⟨4, ![8, 4096, 2, 64]⟩
abbrev S_ : Shape := ⟨0, ![]⟩
abbrev S8x4096x1x128 : Shape := ⟨4, ![8, 4096, 1, 128]⟩
abbrev S8x1x4096x128 : Shape := ⟨4, ![8, 1, 4096, 128]⟩
abbrev S1x1x1024x128 : Shape := ⟨4, ![1, 1, 1024, 128]⟩
abbrev S1x1x128x128 : Shape := ⟨4, ![1, 1, 128, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x2x64, .f32⟩
  | .hbm, ⟨5, _⟩ => ⟨S8x4096x2x64, .f32⟩
  | .hbm, ⟨6, _⟩ => ⟨S8x4096x2x64, .bf16⟩
  | .hbm, ⟨7, _⟩ => ⟨S8x4096x1x128, .bf16⟩
  | .hbm, ⟨8, _⟩ => ⟨S8x1x4096x128, .bf16⟩
  | .hbm, ⟨9, _⟩ => ⟨S8x4096x2x64, .bf16⟩
  | .hbm, ⟨10, _⟩ => ⟨S8x4096x1x128, .bf16⟩
  | .hbm, ⟨11, _⟩ => ⟨S8x1x4096x128, .bf16⟩
  | .hbm, ⟨12, _⟩ => ⟨S8x4096x2x64, .bf16⟩
  | .hbm, ⟨13, _⟩ => ⟨S8x4096x1x128, .bf16⟩
  | .hbm, ⟨14, _⟩ => ⟨S8x1x4096x128, .bf16⟩
  | .hbm, ⟨15, _⟩ => ⟨S8x1x4096x128, .bf16⟩
  | .hbm, ⟨16, _⟩ => ⟨S8x1x4096x128, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x1024x128, .bf16⟩
  | .local _ .vmem, ⟨9, _⟩ => ⟨S1x1x1024x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .f32⟩
  | .local _ .vmem, ⟨13, _⟩ => ⟨S1x1x1024x128, .f32⟩
  | _, _ => ⟨S8x4096x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![8, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Ref1Ideal.lean ====
abbrev S8x4096x2x64 : Shape := ⟨4, ![8, 4096, 2, 64]⟩
abbrev S8x4096x1x2x64 : Shape := ⟨5, ![8, 4096, 1, 2, 64]⟩
abbrev S8x1x2x4096x64 : Shape := ⟨5, ![8, 1, 2, 4096, 64]⟩
abbrev S8x1x2x32x128x64 : Shape := ⟨6, ![8, 1, 2, 32, 128, 64]⟩
abbrev S_ : Shape := ⟨0, ![]⟩
abbrev S8x1x2x33x128x64 : Shape := ⟨6, ![8, 1, 2, 33, 128, 64]⟩
abbrev S8x1x2x32x256x64 : Shape := ⟨6, ![8, 1, 2, 32, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x1x2x32x128x256 : Shape := ⟨6, ![8, 1, 2, 32, 128, 256]⟩
abbrev S8x1x2x32x128 : Shape := ⟨5, ![8, 1, 2, 32, 128]⟩
abbrev S8x1x2x32x128x1 : Shape := ⟨6, ![8, 1, 2, 32, 128, 1]⟩
abbrev S8x1x4096x2x64 : Shape := ⟨5, ![8, 1, 4096, 2, 64]⟩
abbrev S8x1x4096x128 : Shape := ⟨4, ![8, 1, 4096, 128]⟩
abbrev S8x1x2x4096 : Shape := ⟨4, ![8, 1, 2, 4096]⟩
abbrev S8x1x4096x2 : Shape := ⟨4, ![8, 1, 4096, 2]⟩
abbrev S8x1x4096x2x1 : Shape := ⟨5, ![8, 1, 4096, 2, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S8x4096x1x2x64, .f32⟩
  | .hbm, ⟨4, _⟩ => ⟨S8x1x2x4096x64, .f32⟩
  | .hbm, ⟨5, _⟩ => ⟨S8x1x2x32x128x64, .f32⟩
  | .hbm, ⟨6, _⟩ => ⟨S8x4096x1x2x64, .f32⟩
  | .hbm, ⟨7, _⟩ => ⟨S8x1x2x4096x64, .f32⟩
  | .hbm, ⟨8, _⟩ => ⟨S8x1x2x32x128x64, .f32⟩
  | .hbm, ⟨9, _⟩ => ⟨S8x4096x1x2x64, .f32⟩
  | .hbm, ⟨10, _⟩ => ⟨S8x1x2x4096x64, .f32⟩
  | .hbm, ⟨11, _⟩ => ⟨S8x1x2x32x128x64, .f32⟩
  | .hbm, ⟨12, _⟩ => ⟨S_, .i32⟩
  | .hbm, ⟨13, _⟩ => ⟨S_, .f32⟩
  | .hbm, ⟨14, _⟩ => ⟨S8x1x2x33x128x64, .f32⟩
  | .hbm, ⟨15, _⟩ => ⟨S8x1x2x32x128x64, .f32⟩
  | .hbm, ⟨16, _⟩ => ⟨S8x1x2x32x256x64, .f32⟩
  | .hbm, ⟨17, _⟩ => ⟨S_, .i32⟩
  | .hbm, ⟨18, _⟩ => ⟨S_, .f32⟩
  | .hbm, ⟨19, _⟩ => ⟨S8x1x2x33x128x64, .f32⟩
  | .hbm, ⟨20, _⟩ => ⟨S8x1x2x32x128x64, .f32⟩
  | .hbm, ⟨21, _⟩ => ⟨S8x1x2x32x256x64, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S32, .i32⟩
  | .hbm, ⟨33, _⟩ => ⟨S32x1x1, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S1x1x256, .i32⟩
  | .hbm, ⟨45, _⟩ => ⟨S32x1x256, .i32⟩
  | .hbm, ⟨46, _⟩ => ⟨S32x1x256, .i32⟩
  | .hbm, ⟨47, _⟩ => ⟨S32x1x256, .i32⟩
  | .hbm, ⟨48, _⟩ => ⟨S_, .i32⟩
  | .hbm, ⟨49, _⟩ => ⟨S32x1x256, .i32⟩
  | .hbm, ⟨50, _⟩ => ⟨S32x1x256, .i32⟩
  | .hbm, ⟨51, _⟩ => ⟨S_, .i32⟩
  | .hbm, ⟨52, _⟩ => ⟨S32x1x256, .i32⟩
  | .hbm, ⟨53, _⟩ => ⟨S32x1x256, .i1⟩
  | .hbm, ⟨54, _⟩ => ⟨S1x128x256, .i1⟩
  | .hbm, ⟨55, _⟩ => ⟨S32x128x256, .i1⟩
  | .hbm, ⟨56, _⟩ => ⟨S32x128x256, .i1⟩
  | .hbm, ⟨57, _⟩ => ⟨S32x128x256, .i1⟩
  | .hbm, ⟨58, _⟩ => ⟨S8x1x2x32x128x256, .f32⟩
  | .hbm, ⟨59, _⟩ => ⟨S_, .f32⟩
  | .hbm, ⟨60, _⟩ => ⟨S8x1x2x32x128x256, .f32⟩
  | .hbm, ⟨61, _⟩ => ⟨S8x1x2x32x128x256, .f32⟩
  | .hbm, ⟨62, _⟩ => ⟨S_, .f32⟩
  | .hbm, ⟨63, _⟩ => ⟨S_, .f32⟩
  | .hbm, ⟨64, _⟩ => ⟨S8x1x2x32x128x256, .i1⟩
  | .hbm, ⟨65, _⟩ => ⟨S8x1x2x32x128x256, .f32⟩
  | .hbm, ⟨66, _⟩ => ⟨S8x1x2x32x128x256, .f32⟩
  | .hbm, ⟨67, _⟩ => ⟨S8x1x2x32x128x256, .f32⟩
  | .hbm, ⟨68, _⟩ => ⟨S_, .f32⟩
  | .hbm, ⟨69, _⟩ => ⟨S8x1x2x32x128, .f32⟩
  | .hbm, ⟨70, _⟩ => ⟨S8x1x2x32x128, .f32⟩
  | .hbm, ⟨71, _⟩ => ⟨S8x1x2x32x128x1, .f32⟩
  | .hbm, ⟨72, _⟩ => ⟨S8x1x2x32x128x256, .f32⟩
  | .hbm, ⟨73, _⟩ => ⟨S8x1x2x32x128x256, .f32⟩
  | .hbm, ⟨74, _⟩ => ⟨S8x1x2x32x128x256, .f32⟩
  | .hbm, ⟨75, _⟩ => ⟨S8x1x2x32x128x64, .f32⟩
  | .hbm, ⟨76, _⟩ => ⟨S8x1x2x4096x64, .f32⟩
  | .hbm, ⟨77, _⟩ => ⟨S8x1x4096x2x64, .f32⟩
  | .hbm, ⟨78, _⟩ => ⟨S8x1x4096x128, .f32⟩
  | .hbm, ⟨79, _⟩ => ⟨S8x1x2x4096, .f32⟩
  | .hbm, ⟨80, _⟩ => ⟨S8x1x4096x2, .f32⟩
  | .hbm, ⟨81, _⟩ => ⟨S8x1x4096x2x1, .f32⟩
  | .hbm, ⟨82, _⟩ => ⟨S8x1x4096x2x64, .f32⟩
  | .hbm, ⟨83, _⟩ => ⟨S8x1x4096x128, .f32⟩
  | .hbm, ⟨84, _⟩ => ⟨S8x1x4096x128, .bf16⟩
  | _, _ => ⟨S8x4096x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Comb.lean ====
abbrev S32768x1024 : Shape := ⟨2, ![32768, 1024]⟩
abbrev S32768x8 : Shape := ⟨2, ![32768, 8]⟩
abbrev S8x32768x512 : Shape := ⟨3, ![8, 32768, 512]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S512x8 : Shape := ⟨2, ![512, 8]⟩
abbrev S8x512x512 : Shape := ⟨3, ![8, 512, 512]⟩
abbrev S512x256 : Shape := ⟨2, ![512, 256]⟩
abbrev S512x512 : Shape := ⟨2, ![512, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S8x32768x512, .i32⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S1024x256, .bf16⟩
  | .hbm, ⟨9, _⟩ => ⟨S1024x256, .bf16⟩
  | .hbm, ⟨10, _⟩ => ⟨S256x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x8, .f32⟩
  | .local _ .vmem, ⟨3, _⟩ => ⟨S512x8, .f32⟩
  | .local _ .vmem, ⟨4, _⟩ => ⟨S8x512x512, .i32⟩
  | .local _ .vmem, ⟨5, _⟩ => ⟨S8x512x512, .i32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefCombIdeal.lean ====
abbrev S32768x1024 : Shape := ⟨2, ![32768, 1024]⟩
abbrev S32768x8 : Shape := ⟨2, ![32768, 8]⟩
abbrev S8x32768x512 : Shape := ⟨3, ![8, 32768, 512]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S8x32768x1024 : Shape := ⟨3, ![8, 32768, 1024]⟩
abbrev S32768x256 : Shape := ⟨2, ![32768, 256]⟩
abbrev S32768 : Shape := ⟨1, ![32768]⟩
abbrev S32768x1 : Shape := ⟨2, ![32768, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S8x32768x512, .i32⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S_, .i32⟩
  | .hbm, ⟨9, _⟩ => ⟨S8x32768x512, .i32⟩
  | .hbm, ⟨10, _⟩ => ⟨S8x32768x512, .i32⟩
  | .hbm, ⟨11, _⟩ => ⟨S8x32768x512, .i16⟩
  | .hbm, ⟨12, _⟩ => ⟨S8x32768x512, .bf16⟩
  | .hbm, ⟨13, _⟩ => ⟨S_, .i32⟩
  | .hbm, ⟨14, _⟩ => ⟨S8x32768x512, .i32⟩
  | .hbm, ⟨15, _⟩ => ⟨S8x32768x512, .i32⟩
  | .hbm, ⟨16, _⟩ => ⟨S8x32768x512, .i16⟩
  | .hbm, ⟨17, _⟩ => ⟨S8x32768x512, .bf16⟩
  | .hbm, ⟨18, _⟩ => ⟨S8x32768x1024, .bf16⟩
  | .hbm, ⟨19, _⟩ => ⟨S8x32768x1024, .f32⟩
  | .hbm, ⟨20, _⟩ => ⟨S32768x1024, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768x256, .f32⟩
  | .hbm, ⟨26, _⟩ => ⟨S32768x256, .f32⟩
  | .hbm, ⟨27, _⟩ => ⟨S_, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x2x64 : Shape := ⟨4, ![8, 4096, 2, 64]⟩
abbrev S8x4096x2 : Shape := ⟨3, ![8, 4096, 2]⟩
abbrev S8x4096x384 : Shape := ⟨3, ![8, 4096, 384]⟩
abbrev S8x4096x256 : Shape := ⟨3, ![8, 4096, 256]⟩
abbrev S1024x3072 : Shape := ⟨2, ![1024, 3072]⟩
abbrev S3072 : Shape := ⟨1, ![3072]⟩
abbrev S128x1024 : Shape := ⟨2, ![128, 1024]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1 : Shape := ⟨2, ![256, 1]⟩
abbrev S256x128 : Shape := ⟨2, ![256, 128]⟩
abbrev S32768x1024 : Shape := ⟨2, ![32768, 1024]⟩
abbrev S8x4096x1x128 : Shape := ⟨4, ![8, 4096, 1, 128]⟩
abbrev S8x1x4096x128 : Shape := ⟨4, ![8, 1, 4096, 128]⟩
abbrev S8x1024x4x128 : Shape := ⟨4, ![8, 1024, 4, 128]⟩
abbrev S8x4x1024x128 : Shape := ⟨4, ![8, 4, 1024, 128]⟩
abbrev S8x256x16x128 : Shape := ⟨4, ![8, 256, 16, 128]⟩
abbrev S8x16x256x128 : Shape := ⟨4, ![8, 16, 256, 128]⟩
abbrev S8x4096x2x1 : Shape := ⟨4, ![8, 4096, 2, 1]⟩
abbrev S32768x384 : Shape := ⟨2, ![32768, 384]⟩
abbrev S32768x256 : Shape := ⟨2, ![32768, 256]⟩
abbrev S1x3072 : Shape := ⟨2, ![1, 3072]⟩
abbrev S1x1024 : Shape := ⟨2, ![1, 1024]⟩
abbrev S32768x512 : Shape := ⟨2, ![32768, 512]⟩
abbrev S8x32768 : Shape := ⟨2, ![8, 32768]⟩
abbrev S512x1024 : Shape := ⟨2, ![512, 1024]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S512x384 : Shape := ⟨2, ![512, 384]⟩
abbrev S512x256 : Shape := ⟨2, ![512, 256]⟩
abbrev S512x512 : Shape := ⟨2, ![512, 512]⟩
abbrev S8x512 : Shape := ⟨2, ![8, 512]⟩
abbrev S6x512x128 : Shape := ⟨3, ![6, 512, 128]⟩
abbrev S256x256 : Shape := ⟨2, ![256, 256]⟩
abbrev S32x256 : Shape := ⟨2, ![32, 256]⟩
abbrev S1x256 : Shape := ⟨2, ![1, 256]⟩
abbrev S8x256 : Shape := ⟨2, ![8, 256]⟩
abbrev S128x256 : Shape := ⟨2, ![128, 256]⟩
abbrev S512x128 : Shape := ⟨2, ![512, 128]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S1x1x32x128 : Shape := ⟨4, ![1, 1, 32, 128]⟩
abbrev S32x128 : Shape := ⟨2, ![32, 128]⟩
abbrev S1x32x128 : Shape := ⟨3, ![1, 32, 128]⟩
abbrev S512 : Shape := ⟨1, ![512]⟩
abbrev S512x1 : Shape := ⟨2, ![512, 1]⟩

abbrev nBuf : Space → Nat
  | .hbm => 66
  | .vmem => 43
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2x64, .f32⟩
  | .hbm, ⟨2, _⟩ => ⟨S8x4096x2x64, .f32⟩
  | .hbm, ⟨3, _⟩ => ⟨S8x4096x2x64, .f32⟩
  | .hbm, ⟨4, _⟩ => ⟨S8x4096x2, .f32⟩
  | .hbm, ⟨5, _⟩ => ⟨S8x4096x2, .f32⟩
  | .hbm, ⟨6, _⟩ => ⟨S8x4096x2, .f32⟩
  | .hbm, ⟨7, _⟩ => ⟨S8x4096x384, .f32⟩
  | .hbm, ⟨8, _⟩ => ⟨S8x4096x256, .f32⟩
  | .hbm, ⟨9, _⟩ => ⟨S1024x3072, .f32⟩
  | .hbm, ⟨10, _⟩ => ⟨S3072, .f32⟩
  | .hbm, ⟨11, _⟩ => ⟨S128x1024, .f32⟩
  | .hbm, ⟨12, _⟩ => ⟨S384x1024, .f32⟩
  | .hbm, ⟨13, _⟩ => ⟨S256x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x256, .f32⟩
  | .hbm, ⟨18, _⟩ => ⟨S256, .f32⟩
  | .hbm, ⟨19, _⟩ => ⟨S256x1024, .f32⟩
  | .hbm, ⟨20, _⟩ => ⟨S256x1024, .bf16⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S256x1, .f32⟩
  | .hbm, ⟨25, _⟩ => ⟨S256x128, .f32⟩
  | .hbm, ⟨26, _⟩ => ⟨S32768x1024, .f32⟩
  | .hbm, ⟨27, _⟩ => ⟨S8x4096x2x64, .bf16⟩
  | .hbm, ⟨28, _⟩ => ⟨S8x4096x1x128, .bf16⟩
  | .hbm, ⟨29, _⟩ => ⟨S8x1x4096x128, .bf16⟩
  | .hbm, ⟨30, _⟩ => ⟨S8x4096x2x64, .bf16⟩
  | .hbm, ⟨31, _⟩ => ⟨S8x1024x4x128, .bf16⟩
  | .hbm, ⟨32, _⟩ => ⟨S8x4x1024x128, .bf16⟩
  | .hbm, ⟨33, _⟩ => ⟨S8x4096x2x64, .bf16⟩
  | .hbm, ⟨34, _⟩ => ⟨S8x256x16x128, .bf16⟩
  | .hbm, ⟨35, _⟩ => ⟨S8x16x256x128, .bf16⟩
  | .hbm, ⟨36, _⟩ => ⟨S8x4096x2x1, .f32⟩
  | .hbm, ⟨37, _⟩ => ⟨S8x4096x2x64, .f32⟩
  | .hbm, ⟨38, _⟩ => ⟨S8x4096x1x128, .f32⟩
  | .hbm, ⟨39, _⟩ => ⟨S8x1x4096x128, .f32⟩
  | .hbm, ⟨40, _⟩ => ⟨S8x4096x2x1, .f32⟩
  | .hbm, ⟨41, _⟩ => ⟨S8x4096x2x64, .f32⟩
  | .hbm, ⟨42, _⟩ => ⟨S8x1024x4x128, .f32⟩
  | .hbm, ⟨43, _⟩ => ⟨S8x4x1024x128, .f32⟩
  | .hbm, ⟨44, _⟩ => ⟨S8x4096x2x1, .f32⟩
  | .hbm, ⟨45, _⟩ => ⟨S8x4096x2x64, .f32⟩
  | .hbm, ⟨46, _⟩ => ⟨S8x256x16x128, .f32⟩
  | .hbm, ⟨47, _⟩ => ⟨S8x16x256x128, .f32⟩
  | .hbm, ⟨48, _⟩ => ⟨S8x4096x384, .bf16⟩
  | .hbm, ⟨49, _⟩ => ⟨S32768x384, .bf16⟩
  | .hbm, ⟨50, _⟩ => ⟨S8x4096x256, .bf16⟩
  | .hbm, ⟨51, _⟩ => ⟨S32768x256, .bf16⟩
  | .hbm, ⟨52, _⟩ => ⟨S1024x3072, .bf16⟩
  | .hbm, ⟨53, _⟩ => ⟨S1x3072, .f32⟩
  | .hbm, ⟨54, _⟩ => ⟨S128x1024, .bf16⟩
  | .hbm, ⟨55, _⟩ => ⟨S384x1024, .bf16⟩
  | .hbm, ⟨56, _⟩ => ⟨S256x1024, .bf16⟩
  | .hbm, ⟨57, _⟩ => ⟨S1024x1024, .bf16⟩
  | .hbm, ⟨58, _⟩ => ⟨S1x1024, .f32⟩
  | .hbm, ⟨59, _⟩ => ⟨S1x1024, .f32⟩
  | .hbm, ⟨60, _⟩ => ⟨S32768x1024, .f32⟩
  | .hbm, ⟨61, _⟩ => ⟨S32768x512, .i32⟩
  | .hbm, ⟨62, _⟩ => ⟨S8x32768, .i32⟩
  | .hbm, ⟨63, _⟩ => ⟨S8x32768, .f32⟩
  | .hbm, ⟨64, _⟩ => ⟨S8x32768, .i32⟩
  | .hbm, ⟨65, _⟩ => ⟨S256x128, .i32⟩
  | .local _ .vmem, ⟨0, _⟩ => ⟨S512x1024, .f32⟩
  | .local _ .vmem, ⟨1, _⟩ => ⟨S512x1024, .f32⟩
  | .local _ .vmem, ⟨2, _⟩ => ⟨S1x1x512x128, .bf16⟩
  | .local _ .vmem, ⟨3, _⟩ => ⟨S1x1x512x128, .bf16⟩
  | .local _ .vmem, ⟨4, _⟩ => ⟨S1x4x128x128, .bf16⟩
  | .local _ .vmem, ⟨5, _⟩ => ⟨S1x4x128x128, .bf16⟩
  | .local _ .vmem, ⟨6, _⟩ => ⟨S1x16x32x128, .bf16⟩
  | .local _ .vmem, ⟨7, _⟩ => ⟨S1x16x32x128, .bf16⟩
  | .local _ .vmem, ⟨8, _⟩ => ⟨S1x1x512x128, .f32⟩
  | .local _ .vmem, ⟨9, _⟩ => ⟨S1x1x512x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x16x32x128, .f32⟩
  | .local _ .vmem, ⟨13, _⟩ => ⟨S1x16x32x128, .f32⟩
  | .local _ .vmem, ⟨14, _⟩ => ⟨S512x384, .bf16⟩
  | .local _ .vmem, ⟨15, _⟩ => ⟨S512x384, .bf16⟩
  | .local _ .vmem, ⟨16, _⟩ => ⟨S512x256, .bf16⟩
  | .local _ .vmem, ⟨17, _⟩ => ⟨S512x256, .bf16⟩
  | .local _ .vmem, ⟨18, _⟩ => ⟨S1024x3072, .bf16⟩
  | .local _ .vmem, ⟨19, _⟩ => ⟨S1x3072, .f32⟩
  | .local _ .vmem, ⟨20, _⟩ => ⟨S128x1024, .bf16⟩
  | .local _ .vmem, ⟨21, _⟩ => ⟨S384x1024, .bf16⟩
  | .local _ .vmem, ⟨22, _⟩ => ⟨S256x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S256x1024, .bf16⟩
  | .local _ .vmem, ⟨27, _⟩ => ⟨S256x1024, .bf16⟩
  | .local _ .vmem, ⟨28, _⟩ => ⟨S256x128, .f32⟩
  | .local _ .vmem, ⟨29, _⟩ => ⟨S512x1024, .f32⟩
  | .local _ .vmem, ⟨30, _⟩ => ⟨S512x1024, .f32⟩
  | .local _ .vmem, ⟨31, _⟩ => ⟨S512x512, .i32⟩
  | .local _ .vmem, ⟨32, _⟩ => ⟨S512x512, .i32⟩
  | .local _ .vmem, ⟨33, _⟩ => ⟨S8x512, .i32⟩
  | .local _ .vmem, ⟨34, _⟩ => ⟨S8x512, .i32⟩
  | .local _ .vmem, ⟨35, _⟩ => ⟨S8x512, .f32⟩
  | .local _ .vmem, ⟨36, _⟩ => ⟨S8x512, .f32⟩
  | .local _ .vmem, ⟨37, _⟩ => ⟨S8x512, .i32⟩
  | .local _ .vmem, ⟨38, _⟩ => ⟨S8x512, .i32⟩
  | .local _ .vmem, ⟨39, _⟩ => ⟨S256x128, .i32⟩
  | .local _ .vmem, ⟨40, _⟩ => ⟨S6x512x128, .f32⟩
  | .local _ .vmem, ⟨41, _⟩ => ⟨S256x128, .f32⟩
  | .local _ .vmem, ⟨42, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev main_v41_4 : Ref sig .tc := ⟨.hbm, 64, rfl⟩
abbrev main_v41_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39

abbrev nD : Nat := 1
abbrev τ : Topo := Topo.v7x

variable {F : FTy → Type} [BitOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_2 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_3 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_4 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_5 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_6 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_24 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512 .i32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x512 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S256x128 .i32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MergeIdeal.lean ====
abbrev S8x4096x1024 : Shape := ⟨3, ![8, 4096, 1024]⟩
abbrev S8x4096x2x64 : Shape := ⟨4, ![8, 4096, 2, 64]⟩
abbrev S8x4096x2 : Shape := ⟨3, ![8, 4096, 2]⟩
abbrev S8x4096x384 : Shape := ⟨3, ![8, 4096, 384]⟩
abbrev S8x4096x256 : Shape := ⟨3, ![8, 4096, 256]⟩
abbrev S1024x3072 : Shape := ⟨2, ![1024, 3072]⟩
abbrev S3072 : Shape := ⟨1, ![3072]⟩
abbrev S128x1024 : Shape := ⟨2, ![128, 1024]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S256x1 : Shape := ⟨2, ![256, 1]⟩
abbrev S256x128 : Shape := ⟨2, ![256, 128]⟩
abbrev S32768x1024 : Shape := ⟨2, ![32768, 1024]⟩
abbrev S8x4096x1x128 : Shape := ⟨4, ![8, 4096, 1, 128]⟩
abbrev S8x1x4096x128 : Shape := ⟨4, ![8, 1, 4096, 128]⟩
abbrev S8x1024x4x128 : Shape := ⟨4, ![8, 1024, 4, 128]⟩
abbrev S8x4x1024x128 : Shape := ⟨4, ![8, 4, 1024, 128]⟩
abbrev S8x256x16x128 : Shape := ⟨4, ![8, 256, 16, 128]⟩
abbrev S8x16x256x128 : Shape := ⟨4, ![8, 16, 256, 128]⟩
abbrev S8x4096x2x1 : Shape := ⟨4, ![8, 4096, 2, 1]⟩
abbrev S32768x384 : Shape := ⟨2, ![32768, 384]⟩
abbrev S32768x256 : Shape := ⟨2, ![32768, 256]⟩
abbrev S1x3072 : Shape := ⟨2, ![1, 3072]⟩
abbrev S1x1024 : Shape := ⟨2, ![1, 1024]⟩
abbrev S32768x2x512 : Shape := ⟨3, ![32768, 2, 512]⟩
abbrev S8x32768 : Shape := ⟨2, ![8, 32768]⟩
abbrev S32768x1x512 : Shape := ⟨3, ![32768, 1, 512]⟩
abbrev S32768x512 : Shape := ⟨2, ![32768, 512]⟩
abbrev S512x1024 : Shape := ⟨2, ![512, 1024]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S512x384 : Shape := ⟨2, ![512, 384]⟩
abbrev S512x256 : Shape := ⟨2, ![512, 256]⟩
abbrev S512x512 : Shape := ⟨2, ![512, 512]⟩
abbrev S512x2x512 : Shape := ⟨3, ![512, 2, 512]⟩
abbrev S512x1x512 : Shape := ⟨3, ![512, 1, 512]⟩
abbrev S8x512 : Shape := ⟨2, ![8, 512]⟩
abbrev S6x512x128 : Shape := ⟨3, ![6, 512, 128]⟩
abbrev S256x256 : Shape := ⟨2, ![256, 256]⟩
abbrev S32x256 : Shape := ⟨2, ![32, 256]⟩
abbrev S1x256 : Shape := ⟨2, ![1, 256]⟩
abbrev S8x256 : Shape := ⟨2, ![8, 256]⟩
abbrev S128x256 : Shape := ⟨2, ![128, 256]⟩
abbrev S512x128 : Shape := ⟨2, ![512, 128]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S1x1x32x128 : Shape := ⟨4, ![1, 1, 32, 128]⟩
abbrev S32x128 : Shape := ⟨2, ![32, 128]⟩
abbrev S1x32x128 : Shape := ⟨3, ![1, 32, 128]⟩
abbrev S512 : Shape := ⟨1, ![512]⟩
abbrev S512x1 : Shape := ⟨2, ![512, 1]⟩

abbrev nBuf : Space → Nat
  | .hbm => 66
  | .vmem => 43
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2x64, .f32⟩
  | .hbm, ⟨2, _⟩ => ⟨S8x4096x2x64, .f32⟩
  | .hbm, ⟨3, _⟩ => ⟨S8x4096x2x64, .f32⟩
  | .hbm, ⟨4, _⟩ => ⟨S8x4096x2, .f32⟩
  | .hbm, ⟨5, _⟩ => ⟨S8x4096x2, .f32⟩
  | .hbm, ⟨6, _⟩ => ⟨S8x4096x2, .f32⟩
  | .hbm, ⟨7, _⟩ => ⟨S8x4096x384, .f32⟩
  | .hbm, ⟨8, _⟩ => ⟨S8x4096x256, .f32⟩
  | .hbm, ⟨9, _⟩ => ⟨S1024x3072, .f32⟩
  | .hbm, ⟨10, _⟩ => ⟨S3072, .f32⟩
  | .hbm, ⟨11, _⟩ => ⟨S128x1024, .f32⟩
  | .hbm, ⟨12, _⟩ => ⟨S384x1024, .f32⟩
  | .hbm, ⟨13, _⟩ => ⟨S256x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x256, .f32⟩
  | .hbm, ⟨18, _⟩ => ⟨S256, .f32⟩
  | .hbm, ⟨19, _⟩ => ⟨S256x1024, .f32⟩
  | .hbm, ⟨20, _⟩ => ⟨S256x1024, .bf16⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S256x1, .f32⟩
  | .hbm, ⟨25, _⟩ => ⟨S256x128, .f32⟩
  | .hbm, ⟨26, _⟩ => ⟨S32768x1024, .f32⟩
  | .hbm, ⟨27, _⟩ => ⟨S8x4096x2x64, .bf16⟩
  | .hbm, ⟨28, _⟩ => ⟨S8x4096x1x128, .bf16⟩
  | .hbm, ⟨29, _⟩ => ⟨S8x1x4096x128, .bf16⟩
  | .hbm, ⟨30, _⟩ => ⟨S8x4096x2x64, .bf16⟩
  | .hbm, ⟨31, _⟩ => ⟨S8x1024x4x128, .bf16⟩
  | .hbm, ⟨32, _⟩ => ⟨S8x4x1024x128, .bf16⟩
  | .hbm, ⟨33, _⟩ => ⟨S8x4096x2x64, .bf16⟩
  | .hbm, ⟨34, _⟩ => ⟨S8x256x16x128, .bf16⟩
  | .hbm, ⟨35, _⟩ => ⟨S8x16x256x128, .bf16⟩
  | .hbm, ⟨36, _⟩ => ⟨S8x4096x2x1, .f32⟩
  | .hbm, ⟨37, _⟩ => ⟨S8x4096x2x64, .f32⟩
  | .hbm, ⟨38, _⟩ => ⟨S8x4096x1x128, .f32⟩
  | .hbm, ⟨39, _⟩ => ⟨S8x1x4096x128, .f32⟩
  | .hbm, ⟨40, _⟩ => ⟨S8x4096x2x1, .f32⟩
  | .hbm, ⟨41, _⟩ => ⟨S8x4096x2x64, .f32⟩
  | .hbm, ⟨42, _⟩ => ⟨S8x1024x4x128, .f32⟩
  | .hbm, ⟨43, _⟩ => ⟨S8x4x1024x128, .f32⟩
  | .hbm, ⟨44, _⟩ => ⟨S8x4096x2x1, .f32⟩
  | .hbm, ⟨45, _⟩ => ⟨S8x4096x2x64, .f32⟩
  | .hbm, ⟨46, _⟩ => ⟨S8x256x16x128, .f32⟩
  | .hbm, ⟨47, _⟩ => ⟨S8x16x256x128, .f32⟩
  | .hbm, ⟨48, _⟩ => ⟨S8x4096x384, .bf16⟩
  | .hbm, ⟨49, _⟩ => ⟨S32768x384, .bf16⟩
  | .hbm, ⟨50, _⟩ => ⟨S8x4096x256, .bf16⟩
  | .hbm, ⟨51, _⟩ => ⟨S32768x256, .bf16⟩
  | .hbm, ⟨52, _⟩ => ⟨S1024x3072, .bf16⟩
  | .hbm, ⟨53, _⟩ => ⟨S1x3072, .f32⟩
  | .hbm, ⟨54, _⟩ => ⟨S128x1024, .bf16⟩
  | .hbm, ⟨55, _⟩ => ⟨S384x1024, .bf16⟩
  | .hbm, ⟨56, _⟩ => ⟨S256x1024, .bf16⟩
  | .hbm, ⟨57, _⟩ => ⟨S1024x1024, .bf16⟩
  | .hbm, ⟨58, _⟩ => ⟨S1x1024, .f32⟩
  | .hbm, ⟨59, _⟩ => ⟨S1x1024, .f32⟩
  | .hbm, ⟨60, _⟩ => ⟨S32768x1024, .f32⟩
  | .hbm, ⟨61, _⟩ => ⟨S32768x2x512, .bf16⟩
  | .hbm, ⟨62, _⟩ => ⟨S8x32768, .i32⟩
  | .hbm, ⟨63, _⟩ => ⟨S8x32768, .f32⟩
  | .hbm, ⟨64, _⟩ => ⟨S8x32768, .i32⟩
  | .hbm, ⟨65, _⟩ => ⟨S256x128, .i32⟩
  | .local _ .vmem, ⟨0, _⟩ => ⟨S512x1024, .f32⟩
  | .local _ .vmem, ⟨1, _⟩ => ⟨S512x1024, .f32⟩
  | .local _ .vmem, ⟨2, _⟩ => ⟨S1x1x512x128, .bf16⟩
  | .local _ .vmem, ⟨3, _⟩ => ⟨S1x1x512x128, .bf16⟩
  | .local _ .vmem, ⟨4, _⟩ => ⟨S1x4x128x128, .bf16⟩
  | .local _ .vmem, ⟨5, _⟩ => ⟨S1x4x128x128, .bf16⟩
  | .local _ .vmem, ⟨6, _⟩ => ⟨S1x16x32x128, .bf16⟩
  | .local _ .vmem, ⟨7, _⟩ => ⟨S1x16x32x128, .bf16⟩
  | .local _ .vmem, ⟨8, _⟩ => ⟨S1x1x512x128, .f32⟩
  | .local _ .vmem, ⟨9, _⟩ => ⟨S1x1x512x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x16x32x128, .f32⟩
  | .local _ .vmem, ⟨13, _⟩ => ⟨S1x16x32x128, .f32⟩
  | .local _ .vmem, ⟨14, _⟩ => ⟨S512x384, .bf16⟩
  | .local _ .vmem, ⟨15, _⟩ => ⟨S512x384, .bf16⟩
  | .local _ .vmem, ⟨16, _⟩ => ⟨S512x256, .bf16⟩
  | .local _ .vmem, ⟨17, _⟩ => ⟨S512x256, .bf16⟩
  | .local _ .vmem, ⟨18, _⟩ => ⟨S1024x3072, .bf16⟩
  | .local _ .vmem, ⟨19, _⟩ => ⟨S1x3072, .f32⟩
  | .local _ .vmem, ⟨20, _⟩ => ⟨S128x1024, .bf16⟩
  | .local _ .vmem, ⟨21, _⟩ => ⟨S384x1024, .bf16⟩
  | .local _ .vmem, ⟨22, _⟩ => ⟨S256x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S256x1024, .bf16⟩
  | .local _ .vmem, ⟨27, _⟩ => ⟨S256x1024, .bf16⟩
  | .local _ .vmem, ⟨28, _⟩ => ⟨S256x128, .f32⟩
  | .local _ .vmem, ⟨29, _⟩ => ⟨S512x1024, .f32⟩
  | .local _ .vmem, ⟨30, _⟩ => ⟨S512x1024, .f32⟩
  | .local _ .vmem, ⟨31, _⟩ => ⟨S512x2x512, .bf16⟩
  | .local _ .vmem, ⟨32, _⟩ => ⟨S512x2x512, .bf16⟩
  | .local _ .vmem, ⟨33, _⟩ => ⟨S8x512, .i32⟩
  | .local _ .vmem, ⟨34, _⟩ => ⟨S8x512, .i32⟩
  | .local _ .vmem, ⟨35, _⟩ => ⟨S8x512, .f32⟩
  | .local _ .vmem, ⟨36, _⟩ => ⟨S8x512, .f32⟩
  | .local _ .vmem, ⟨37, _⟩ => ⟨S8x512, .i32⟩
  | .local _ .vmem, ⟨38, _⟩ => ⟨S8x512, .i32⟩
  | .local _ .vmem, ⟨39, _⟩ => ⟨S256x128, .i32⟩
  | .local _ .vmem, ⟨40, _⟩ => ⟨S6x512x128, .f32⟩
  | .local _ .vmem, ⟨41, _⟩ => ⟨S256x128, .f32⟩
  | .local _ .vmem, ⟨42, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev main_v41_4 : Ref sig .tc := ⟨.hbm, 64, rfl⟩
abbrev main_v41_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_2 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_3 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_4 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_5 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_6 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, 0, c0_i32.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_24 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x2x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512 .i32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x512 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S256x128 .i32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== RefMergeIdeal.lean ====
abbrev S8x4096x1024 : Shape := ⟨3, ![8, 4096, 1024]⟩
abbrev S8x4096x2x64 : Shape := ⟨4, ![8, 4096, 2, 64]⟩
abbrev S8x4096x2 : Shape := ⟨3, ![8, 4096, 2]⟩
abbrev S8x4096x384 : Shape := ⟨3, ![8, 4096, 384]⟩
abbrev S8x4096x256 : Shape := ⟨3, ![8, 4096, 256]⟩
abbrev S1024x3072 : Shape := ⟨2, ![1024, 3072]⟩
abbrev S3072 : Shape := ⟨1, ![3072]⟩
abbrev S128x1024 : Shape := ⟨2, ![128, 1024]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S8x4096x1x2 : Shape := ⟨4, ![8, 4096, 1, 2]⟩
abbrev S8x4096x3x2 : Shape := ⟨4, ![8, 4096, 3, 2]⟩
abbrev S_ : Shape := ⟨0, ![]⟩
abbrev S8x4096x3x2x1 : Shape := ⟨5, ![8, 4096, 3, 2, 1]⟩
abbrev S8x4096x1x2x64 : Shape := ⟨5, ![8, 4096, 1, 2, 64]⟩
abbrev S8x4096x3x2x64 : Shape := ⟨5, ![8, 4096, 3, 2, 64]⟩
abbrev S8x4096x128 : Shape := ⟨3, ![8, 4096, 128]⟩
abbrev S8x4096x3072 : Shape := ⟨3, ![8, 4096, 3072]⟩
abbrev S1x1x3072 : Shape := ⟨3, ![1, 1, 3072]⟩
abbrev S8x4096x3x1024 : Shape := ⟨4, ![8, 4096, 3, 1024]⟩
abbrev S8x4096x1x1024 : Shape := ⟨4, ![8, 4096, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2x64, .f32⟩
  | .hbm, ⟨2, _⟩ => ⟨S8x4096x2x64, .f32⟩
  | .hbm, ⟨3, _⟩ => ⟨S8x4096x2x64, .f32⟩
  | .hbm, ⟨4, _⟩ => ⟨S8x4096x2, .f32⟩
  | .hbm, ⟨5, _⟩ => ⟨S8x4096x2, .f32⟩
  | .hbm, ⟨6, _⟩ => ⟨S8x4096x2, .f32⟩
  | .hbm, ⟨7, _⟩ => ⟨S8x4096x384, .f32⟩
  | .hbm, ⟨8, _⟩ => ⟨S8x4096x256, .f32⟩
  | .hbm, ⟨9, _⟩ => ⟨S1024x3072, .f32⟩
  | .hbm, ⟨10, _⟩ => ⟨S3072, .f32⟩
  | .hbm, ⟨11, _⟩ => ⟨S128x1024, .f32⟩
  | .hbm, ⟨12, _⟩ => ⟨S384x1024, .f32⟩
  | .hbm, ⟨13, _⟩ => ⟨S256x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024x256, .f32⟩
  | .hbm, ⟨18, _⟩ => ⟨S256, .f32⟩
  | .hbm, ⟨19, _⟩ => ⟨S8x4096x1x2, .f32⟩
  | .hbm, ⟨20, _⟩ => ⟨S8x4096x1x2, .f32⟩
  | .hbm, ⟨21, _⟩ => ⟨S8x4096x1x2, .f32⟩
  | .hbm, ⟨22, _⟩ => ⟨S8x4096x3x2, .f32⟩
  | .hbm, ⟨23, _⟩ => ⟨S_, .f32⟩
  | .hbm, ⟨24, _⟩ => ⟨S8x4096x2, .f32⟩
  | .hbm, ⟨25, _⟩ => ⟨S_, .f32⟩
  | .hbm, ⟨26, _⟩ => ⟨S8x4096x2, .f32⟩
  | .hbm, ⟨27, _⟩ => ⟨S8x4096x2, .f32⟩
  | .hbm, ⟨28, _⟩ => ⟨S8x4096x1x2, .f32⟩
  | .hbm, ⟨29, _⟩ => ⟨S8x4096x3x2, .f32⟩
  | .hbm, ⟨30, _⟩ => ⟨S8x4096x3x2, .f32⟩
  | .hbm, ⟨31, _⟩ => ⟨S8x4096x3x2, .f32⟩
  | .hbm, ⟨32, _⟩ => ⟨S_, .f32⟩
  | .hbm, ⟨33, _⟩ => ⟨S8x4096x2, .f32⟩
  | .hbm, ⟨34, _⟩ => ⟨S8x4096x1x2, .f32⟩
  | .hbm, ⟨35, _⟩ => ⟨S8x4096x3x2, .f32⟩
  | .hbm, ⟨36, _⟩ => ⟨S8x4096x3x2, .f32⟩
  | .hbm, ⟨37, _⟩ => ⟨S8x4096x3x2x1, .f32⟩
  | .hbm, ⟨38, _⟩ => ⟨S8x4096x1x2x64, .f32⟩
  | .hbm, ⟨39, _⟩ => ⟨S8x4096x1x2x64, .f32⟩
  | .hbm, ⟨40, _⟩ => ⟨S8x4096x1x2x64, .f32⟩
  | .hbm, ⟨41, _⟩ => ⟨S8x4096x3x2x64, .f32⟩
  | .hbm, ⟨42, _⟩ => ⟨S8x4096x3x2x64, .f32⟩
  | .hbm, ⟨43, _⟩ => ⟨S8x4096x3x2x64, .f32⟩
  | .hbm, ⟨44, _⟩ => ⟨S_, .f32⟩
  | .hbm, ⟨45, _⟩ => ⟨S8x4096x2x64, .f32⟩
  | .hbm, ⟨46, _⟩ => ⟨S8x4096x128, .f32⟩
  | .hbm, ⟨47, _⟩ => ⟨S8x4096x3072, .f32⟩
  | .hbm, ⟨48, _⟩ => ⟨S1x1x3072, .f32⟩
  | .hbm, ⟨49, _⟩ => ⟨S8x4096x3072, .f32⟩
  | .hbm, ⟨50, _⟩ => ⟨S8x4096x3072, .f32⟩
  | .hbm, ⟨51, _⟩ => ⟨S8x4096x3072, .f32⟩
  | .hbm, ⟨52, _⟩ => ⟨S8x4096x3072, .f32⟩
  | .hbm, ⟨53, _⟩ => ⟨S_, .f32⟩
  | .hbm, ⟨54, _⟩ => ⟨S8x4096x3072, .f32⟩
  | .hbm, ⟨55, _⟩ => ⟨S8x4096x3072, .f32⟩
  | .hbm, ⟨56, _⟩ => ⟨S_, .f32⟩
  | .hbm, ⟨57, _⟩ => ⟨S8x4096x3072, .f32⟩
  | .hbm, ⟨58, _⟩ => ⟨S8x4096x3072, .f32⟩
  | .hbm, ⟨59, _⟩ => ⟨S8x4096x3x1024, .f32⟩
  | .hbm, ⟨60, _⟩ => ⟨S8x4096x1x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1024, .f32⟩
  | .hbm, ⟨95, _⟩ => ⟨S8x4096x1024, .f32⟩
  | .hbm, ⟨96, _⟩ => ⟨S_, .f32⟩
  | .hbm, ⟨97, _⟩ => ⟨S8x4096x1, .f32⟩
  | .hbm, ⟨98, _⟩ => ⟨S8x4096x1, .f32⟩
  | .hbm, ⟨99, _⟩ => ⟨S8x4096x1, .f32⟩
  | .hbm, ⟨100, _⟩ => ⟨S8x4096x1024, .f32⟩
  | .hbm, ⟨101, _⟩ => ⟨S8x4096x1024, .f32⟩
  | .hbm, ⟨102, _⟩ => ⟨S1x1x1024, .f32⟩
  | .hbm, ⟨103, _⟩ => ⟨S8x4096x1024, .f32⟩
  | .hbm, ⟨104, _⟩ => ⟨S8x4096x1024, .f32⟩
  | .hbm, ⟨105, _⟩ => ⟨S1x1x1024, .f32⟩
  | .hbm, ⟨106, _⟩ => ⟨S8x4096x1024, .f32⟩
  | .hbm, ⟨107, _⟩ => ⟨S8x4096x1024, .f32⟩
  | .hbm, ⟨108, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Inproj.lean ====
abbrev S8x4096x1024 : Shape := ⟨3, ![8, 4096, 1024]⟩
abbrev S8x4096 : Shape := ⟨2, ![8, 4096]⟩
abbrev S1024x2560 : Shape := ⟨2, ![1024, 2560]⟩
abbrev S128 : Shape := ⟨1, ![128]⟩
abbrev S_ : Shape := ⟨0, ![]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S32768x1024 : Shape := ⟨2, ![32768, 1024]⟩
abbrev S8x1x4096x128 : Shape := ⟨4, ![8, 1, 4096, 128]⟩
abbrev S8x4x1024x128 : Shape := ⟨4, ![8, 4, 1024, 128]⟩
abbrev S8x16x256x128 : Shape := ⟨4, ![8, 16, 256, 128]⟩
abbrev S32768x384 : Shape := ⟨2, ![32768, 384]⟩
abbrev S32768x256 : Shape := ⟨2, ![32768, 256]⟩
abbrev S1024x1024 : Shape := ⟨2, ![1024, 1024]⟩
abbrev S1024x128 : Shape := ⟨2, ![1024, 128]⟩
abbrev S1x1x1024x128 : Shape := ⟨4, ![1, 1, 1024, 128]⟩
abbrev S1x4x256x128 : Shape := ⟨4, ![1, 4, 256, 128]⟩
abbrev S1x16x64x128 : Shape := ⟨4, ![1, 16, 64, 128]⟩
abbrev S1024x384 : Shape := ⟨2, ![1024, 384]⟩
abbrev S1024x256 : Shape := ⟨2, ![1024, 256]⟩
abbrev S9x1024x128 : Shape := ⟨3, ![9, 1024, 128]⟩
abbrev S1024x512 : Shape := ⟨2, ![1024, 512]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 121
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024x2560, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S_, .i1⟩
  | .hbm, ⟨20, _⟩ => ⟨S128, .i1⟩
  | .hbm, ⟨21, _⟩ => ⟨S128, .i1⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S_, .i1⟩
  | .hbm, ⟨45, _⟩ => ⟨S128, .i1⟩
  | .hbm, ⟨46, _⟩ => ⟨S128, .i1⟩
  | .hbm, ⟨47, _⟩ => ⟨S128, .i1⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S32768, .i32⟩
  | .hbm, ⟨60, _⟩ => ⟨S32768, .f32⟩
  | .hbm, ⟨61, _⟩ => ⟨S32768x1, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S_, .i32⟩
  | .hbm, ⟨79, _⟩ => ⟨S128, .i32⟩
  | .hbm, ⟨80, _⟩ => ⟨S128, .i1⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S_, .i32⟩
  | .hbm, ⟨85, _⟩ => ⟨S_, .i1⟩
  | .hbm, ⟨86, _⟩ => ⟨S128, .i1⟩
  | .hbm, ⟨87, _⟩ => ⟨S128, .i1⟩
  | .hbm, ⟨88, _⟩ => ⟨S128, .i1⟩
  | .hbm, ⟨89, _⟩ => ⟨S128, .i32⟩
  | .hbm, ⟨90, _⟩ => ⟨S128, .i32⟩
  | .hbm, ⟨91, _⟩ => ⟨S128, .i32⟩
  | .hbm, ⟨92, _⟩ => ⟨S_, .i32⟩
  | .hbm, ⟨93, _⟩ => ⟨S128, .i32⟩
  | .hbm, ⟨94, _⟩ => ⟨S128, .i1⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S32768x128, .f32⟩
  | .hbm, ⟨101, _⟩ => ⟨S32768x128, .f32⟩
  | .hbm, ⟨102, _⟩ => ⟨S128, .f32⟩
  | .hbm, ⟨103, _⟩ => ⟨S1x128, .f32⟩
  | .hbm, ⟨104, _⟩ => ⟨S32768x128, .f32⟩
  | .hbm, ⟨105, _⟩ => ⟨S32768x128, .f32⟩
  | .hbm, ⟨106, _⟩ => ⟨S32768x1024, .f32⟩
  | .hbm, ⟨107, _⟩ => ⟨S1024x2560, .bf16⟩
  | .hbm, ⟨108, _⟩ => ⟨S8x1x4096x128, .bf16⟩
  | .hbm, ⟨109, _⟩ => ⟨S8x4x1024x128, .bf16⟩
  | .hbm, ⟨110, _⟩ => ⟨S8x16x256x128, .bf16⟩
  | .hbm, ⟨111, _⟩ => ⟨S8x1x4096x128, .bf16⟩
  | .hbm, ⟨112, _⟩ => ⟨S8x4x1024x128, .bf16⟩
  | .hbm, ⟨113, _⟩ => ⟨S8x16x256x128, .bf16⟩
  | .hbm, ⟨114, _⟩ => ⟨S8x1x4096x128, .bf16⟩
  | .hbm, ⟨115, _⟩ => ⟨S8x4x1024x128, .bf16⟩
  | .hbm, ⟨116, _⟩ => ⟨S8x16x256x128, .bf16⟩
  | .hbm, ⟨117, _⟩ => ⟨S32768x384, .bf16⟩
  | .hbm, ⟨118, _⟩ => ⟨S32768x384, .bf16⟩
  | .hbm, ⟨119, _⟩ => ⟨S32768x384, .bf16⟩
  | .hbm, ⟨120, _⟩ => ⟨S32768x256, .bf16⟩
  | .local _ .vmem, ⟨0, _⟩ => ⟨S1024x1024, .f32⟩
  | .local _ .vmem, ⟨1, _⟩ => ⟨S1024x1024, .f32⟩
  | .local _ .vmem, ⟨2, _⟩ => ⟨S1024x2560, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x1x1024x128, .bf16⟩
  | .local _ .vmem, ⟨8, _⟩ => ⟨S1x1x1024x128, .bf16⟩
  | .local _ .vmem, ⟨9, _⟩ => ⟨S1x4x256x128, .bf16⟩
  | .local _ .vmem, ⟨10, _⟩ => ⟨S1x4x256x128, .bf16⟩
  | .local _ .vmem, ⟨11, _⟩ => ⟨S1x16x64x128, .bf16⟩
  | .local _ .vmem, ⟨12, _⟩ => ⟨S1x16x64x128, .bf16⟩
  | .local _ .vmem, ⟨13, _⟩ => ⟨S1x1x1024x128, .bf16⟩
  | .local _ .vmem, ⟨14, _⟩ => ⟨S1x1x1024x128, .bf16⟩
  | .local _ .vmem, ⟨15, _⟩ => ⟨S1x4x256x128, .bf16⟩
  | .local _ .vmem, ⟨16, _⟩ => ⟨S1x4x256x128, .bf16⟩
  | .local _ .vmem, ⟨17, _⟩ => ⟨S1x16x64x128, .bf16⟩
  | .local _ .vmem, ⟨18, _⟩ => ⟨S1x16x64x128, .bf16⟩
  | .local _ .vmem, ⟨19, _⟩ => ⟨S1x1x1024x128, .bf16⟩
  | .local _ .vmem, ⟨20, _⟩ => ⟨S1x1x1024x128, .bf16⟩
  | .local _ .vmem, ⟨21, _⟩ => ⟨S1x4x256x128, .bf16⟩
  | .local _ .vmem, ⟨22, _⟩ => ⟨S1x4x256x128, .bf16⟩
  | .local _ .vmem, ⟨23, _⟩ => ⟨S1x16x64x128, .bf16⟩
  | .local _ .vmem, ⟨24, _⟩ => ⟨S1x16x64x128, .bf16⟩
  | .local _ .vmem, ⟨25, _⟩ => ⟨S1024x384, .bf16⟩
  | .local _ .vmem, ⟨26, _⟩ => ⟨S1024x384, .bf16⟩
  | .local _ .vmem, ⟨27, _⟩ => ⟨S1024x384, .bf16⟩
  | .local _ .vmem, ⟨28, _⟩ => ⟨S1024x384, .bf16⟩
  | .local _ .vmem, ⟨29, _⟩ => ⟨S1024x384, .bf16⟩
  | .local _ .vmem, ⟨30, _⟩ => ⟨S1024x384, .bf16⟩
  | .local _ .vmem, ⟨31, _⟩ => ⟨S1024x256, .bf16⟩
  | .local _ .vmem, ⟨32, _⟩ => ⟨S1024x256, .bf16⟩
  | .local _ .vmem, ⟨33, _⟩ => ⟨S9x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_c_1 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_cst_2 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_4 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v19 : Ref sig .tc := ⟨.hbm, 91, rfl⟩
abbrev main_c_5 : Ref sig .tc := ⟨.hbm, 92, rfl⟩
abbrev main_v20 : Ref sig .tc := ⟨.hbm, 93, rfl⟩
abbrev main_v21 : Ref sig .tc := ⟨.hbm, 94, rfl⟩
abbrev main_cst_6 : Ref sig .tc := ⟨.hbm, 95, rfl⟩
abbrev main_cst_7 : Ref sig .tc := ⟨.hbm, 96, rfl⟩
abbrev main_call4_v0 : Ref sig .tc := ⟨.hbm, 97, rfl⟩
abbrev main_call4_v1 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31_0 : Ref sig .tc := ⟨.hbm, 108, rfl⟩
abbrev main_v31_1 : Ref sig .tc := ⟨.hbm, 109, rfl⟩
abbrev main_v31_2 : Ref sig .tc := ⟨.hbm, 110, rfl⟩
abbrev main_v31_3 : Ref sig .tc := ⟨.hbm, 111, rfl⟩
abbrev main_v31_4 : Ref sig .tc := ⟨.hbm, 112, rfl⟩
abbrev main_v31_5 : Ref sig .tc := ⟨.hbm, 113, rfl⟩
abbrev main_v31_6 : Ref sig .tc := ⟨.hbm, 114, rfl⟩
abbrev main_v31_7 : Ref sig .tc := ⟨.hbm, 115, rfl⟩
abbrev main_v31_8 : Ref sig .tc := ⟨.hbm, 116, rfl⟩
abbrev main_v31_9 : Ref sig .tc := ⟨.hbm, 117, rfl⟩
abbrev main_v31_10 : Ref sig .tc := ⟨.hbm, 118, rfl⟩
abbrev main_v31_11 : Ref sig .tc := ⟨.hbm, 119, rfl⟩
abbrev main_v31_12 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x64x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RefInprojIdeal.lean ====
abbrev S8x4096x1024 : Shape := ⟨3, ![8, 4096, 1024]⟩
abbrev S8x4096 : Shape := ⟨2, ![8, 4096]⟩
abbrev S1024x2560 : Shape := ⟨2, ![1024, 2560]⟩
abbrev S8x4096x2560 : Shape := ⟨3, ![8, 4096, 2560]⟩
abbrev S8x4096x384 : Shape := ⟨3, ![8, 4096, 384]⟩
abbrev S8x4096x256 : Shape := ⟨3, ![8, 4096, 256]⟩
abbrev S8x4096x6x64 : Shape := ⟨4, ![8, 4096, 6, 64]⟩
abbrev S8x4096x4x64 : Shape := ⟨4, ![8, 4096, 4, 64]⟩
abbrev S8 : Shape := ⟨1, ![8]⟩
abbrev S_ : Shape := ⟨0, ![]⟩
abbrev S8x4096x1 : Shape := ⟨3, ![8, 4096, 1]⟩
abbrev S1x1x8 : Shape := ⟨3, ![1, 1, 8]⟩
abbrev S8x4096x8 : Shape := ⟨3, ![8, 4096, 8]⟩
abbrev S8x4096x1x8 : Shape := ⟨4, ![8, 4096, 1, 8]⟩
abbrev S8x4096x6x8 : Shape := ⟨4, ![8, 4096, 6, 8]⟩
abbrev S8x4096x6x16 : Shape := ⟨4, ![8, 4096, 6, 16]⟩
abbrev S8x4096x6x48 : Shape := ⟨4, ![8, 4096, 6, 48]⟩
abbrev S8x4096x2x64 : Shape := ⟨4, ![8, 4096, 2, 64]⟩
abbrev S8x4096x1x128 : Shape := ⟨4, ![8, 4096, 1, 128]⟩
abbrev S8x1x4096x128 : Shape := ⟨4, ![8, 1, 4096, 128]⟩
abbrev S8x1024x4x128 : Shape := ⟨4, ![8, 1024, 4, 128]⟩
abbrev S8x4x1024x128 : Shape := ⟨4, ![8, 4, 1024, 128]⟩
abbrev S8x256x16x128 : Shape := ⟨4, ![8, 256, 16, 128]⟩
abbrev S8x16x256x128 : Shape := ⟨4, ![8, 16, 256, 128]⟩
abbrev S32768x384 : Shape := ⟨2, ![32768, 384]⟩
abbrev S32768x256 : Shape := ⟨2, ![32768, 256]⟩

abbrev nBuf : Space → Nat
  | .hbm => 203
  | .vmem => 0
  | .smem => 0
  | _ => 0

abbrev hbmTy0_0 (i : Nat) : BufTy := match i % 128 with
  | 0 => ⟨S8x4096x1024, .f32⟩
  | 1 => ⟨S8x4096, .i32⟩
  | 2 => ⟨S1024x2560, .f32⟩
  | 3 => ⟨S8x4096x2560, .f32⟩
  | 4 => ⟨S8x4096x384, .f32⟩
  | 5 => ⟨S8x4096x384, .f32⟩
  | 6 => ⟨S8x4096x384, .f32⟩
  | 7 => ⟨S8x4096x384, .f32⟩
  | 8 => ⟨S8x4096x384, .f32⟩
  | 9 => ⟨S8x4096x384, .f32⟩
  | 10 => ⟨S8x4096x256, .f32⟩
  | 11 => ⟨S8x4096x6x64, .f32⟩
  | 12 => ⟨S8x4096x6x64, .f32⟩
  | 13 => ⟨S8x4096x6x64, .f32⟩
  | 14 => ⟨S8x4096x6x64, .f32⟩
  | 15 => ⟨S8x4096x6x64, .f32⟩
  | 16 => ⟨S8x4096x6x64, .f32⟩
  | 17 => ⟨S8x4096x4x64, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8x4096, .f32⟩
  | 27 => ⟨S8x4096x1, .f32⟩
  | 28 => ⟨S1x1x8, .f32⟩
  | 29 => ⟨S8x4096x8, .f32⟩
  | 30 => ⟨S8x4096x8, .f32⟩
  | 31 => ⟨S8x4096x8, .f32⟩
  | 32 => ⟨S8x4096x8, .f32⟩
  | 33 => ⟨S8x4096x1x8, .f32⟩
  | 34 => ⟨S8x4096x8, .f32⟩
  | 35 => ⟨S8x4096x1x8, .f32⟩
  | 36 => ⟨S8x4096x6x8, .f32⟩
  | 37 => ⟨S8x4096x6x8, .f32⟩
  | 38 => ⟨S8x4096x6x8, .f32⟩
  | 39 => ⟨S8x4096x6x8, .f32⟩
  | 40 => ⟨S8x4096x6x8, .f32⟩
  | 41 => ⟨S8x4096x6x8, .f32⟩
  | 42 => ⟨S8x4096x6x8, .f32⟩
  | 43 => ⟨S8x4096x6x8, .f32⟩
  | 44 => ⟨S8x4096x6x8, .f32⟩
  | 45 => ⟨S8x4096x6x8, .f32⟩
  | 46 => ⟨S8x4096x6x8, .f32⟩
  | 47 => ⟨S8x4096x6x8, .f32⟩
  | 48 => ⟨S8x4096x6x16, .f32⟩
  | 49 => ⟨S8x4096x6x48, .f32⟩
  | 50 => ⟨S8x4096x6x64, .f32⟩
  | 51 => ⟨S_, .f32⟩
  | 52 => ⟨S8x4096x6x64, .f32⟩
  | 53 => ⟨S8x4096x6x64, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8x4096, .f32⟩
  | 63 => ⟨S8x4096x1, .f32⟩
  | 64 => ⟨S1x1x8, .f32⟩
  | 65 => ⟨S8x4096x8, .f32⟩
  | 66 => ⟨S8x4096x8, .f32⟩
  | 67 => ⟨S8x4096x8, .f32⟩
  | 68 => ⟨S8x4096x8, .f32⟩
  | 69 => ⟨S8x4096x1x8, .f32⟩
  | 70 => ⟨S8x4096x8, .f32⟩
  | 71 => ⟨S8x4096x1x8, .f32⟩
  | 72 => ⟨S8x4096x6x8, .f32⟩
  | 73 => ⟨S8x4096x6x8, .f32⟩
  | 74 => ⟨S8x4096x6x8, .f32⟩
  | 75 => ⟨S8x4096x6x8, .f32⟩
  | 76 => ⟨S8x4096x6x8, .f32⟩
  | 77 => ⟨S8x4096x6x8, .f32⟩
  | 78 => ⟨S8x4096x6x8, .f32⟩
  | 79 => ⟨S8x4096x6x8, .f32⟩
  | 80 => ⟨S8x4096x6x8, .f32⟩
  | 81 => ⟨S8x4096x6x8, .f32⟩
  | 82 => ⟨S8x4096x6x8, .f32⟩
  | 83 => ⟨S8x4096x6x8, .f32⟩
  | 84 => ⟨S8x4096x6x16, .f32⟩
  | 85 => ⟨S8x4096x6x48, .f32⟩
  | 86 => ⟨S8x4096x6x64, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8x4096, .f32⟩
  | 96 => ⟨S8x4096x1, .f32⟩
  | 97 => ⟨S1x1x8, .f32⟩
  | 98 => ⟨S8x4096x8, .f32⟩
  | 99 => ⟨S8x4096x8, .f32⟩
  | 100 => ⟨S8x4096x8, .f32⟩
  | 101 => ⟨S8x4096x8, .f32⟩
  | 102 => ⟨S8x4096x1x8, .f32⟩
  | 103 => ⟨S8x4096x8, .f32⟩
  | 104 => ⟨S8x4096x1x8, .f32⟩
  | 105 => ⟨S8x4096x6x8, .f32⟩
  | 106 => ⟨S8x4096x6x8, .f32⟩
  | 107 => ⟨S8x4096x6x8, .f32⟩
  | 108 => ⟨S8x4096x6x8, .f32⟩
  | 109 => ⟨S8x4096x6x8, .f32⟩
  | 110 => ⟨S8x4096x6x8, .f32⟩
  | 111 => ⟨S8x4096x6x8, .f32⟩
  | 112 => ⟨S8x4096x6x8, .f32⟩
  | 113 => ⟨S8x4096x6x8, .f32⟩
  | 114 => ⟨S8x4096x6x8, .f32⟩
  | 115 => ⟨S8x4096x6x8, .f32⟩
  | 116 => ⟨S8x4096x6x8, .f32⟩
  | 117 => ⟨S8x4096x6x16, .f32⟩
  | 118 => ⟨S8x4096x6x48, .f32⟩
  | 119 => ⟨S8x4096x6x64, .f32⟩
  | 120 => ⟨S_, .f32⟩
  | 121 => ⟨S8x4096x6x64, .f32⟩
  | 122 => ⟨S8x4096x6x64, .f32⟩
  | 123 => ⟨S8, .f32⟩
  | 124 => ⟨S8, .f32⟩
  | 125 => ⟨S_, .f32⟩
  | 126 => ⟨S8, .f32⟩
  | 127 => ⟨S8, .f32⟩
  | _ => ⟨S8x4096x1024, .f32⟩

abbrev hbmTy0_1 (i : Nat) : BufTy := match i % 128 with
  | 0 => ⟨S_, .f32⟩
  | 1 => ⟨S8, .f32⟩
  | 2 => ⟨S8, .f32⟩
  | 3 => ⟨S8x4096, .f32⟩
  | 4 => ⟨S8x4096x1, .f32⟩
  | 5 => ⟨S1x1x8, .f32⟩
  | 6 => ⟨S8x4096x8, .f32⟩
  | 7 => ⟨S8x4096x8, .f32⟩
  | 8 => ⟨S8x4096x8, .f32⟩
  | 9 => ⟨S8x4096x8, .f32⟩
  | 10 => ⟨S8x4096x1x8, .f32⟩
  | 11 => ⟨S8x4096x8, .f32⟩
  | 12 => ⟨S8x4096x1x8, .f32⟩
  | 13 => ⟨S8x4096x6x8, .f32⟩
  | 14 => ⟨S8x4096x6x8, .f32⟩
  | 15 => ⟨S8x4096x6x8, .f32⟩
  | 16 => ⟨S8x4096x6x8, .f32⟩
  | 17 => ⟨S8x4096x6x8, .f32⟩
  | 18 => ⟨S8x4096x6x8, .f32⟩
  | 19 => ⟨S8x4096x6x8, .f32⟩
  | 20 => ⟨S8x4096x6x8, .f32⟩
  | 21 => ⟨S8x4096x6x8, .f32⟩
  | 22 => ⟨S8x4096x6x8, .f32⟩
  | 23 => ⟨S8x4096x6x8, .f32⟩
  | 24 => ⟨S8x4096x6x8, .f32⟩
  | 25 => ⟨S8x4096x6x16, .f32⟩
  | 26 => ⟨S8x4096x6x48, .f32⟩
  | 27 => ⟨S8x4096x6x64, .f32⟩
  | 28 => ⟨S8x4096x2x64, .f32⟩
  | 29 => ⟨S8x4096x1x128, .f32⟩
  | 30 => ⟨S8x1x4096x128, .f32⟩
  | 31 => ⟨S8x1x4096x128, .bf16⟩
  | 32 => ⟨S8x4096x2x64, .f32⟩
  | 33 => ⟨S8x1024x4x128, .f32⟩
  | 34 => ⟨S8x4x1024x128, .f32⟩
  | 35 => ⟨S8x4x1024x128, .bf16⟩
  | 36 => ⟨S8x4096x2x64, .f32⟩
  | 37 => ⟨S8x256x16x128, .f32⟩
  | 38 => ⟨S8x16x256x128, .f32⟩
  | 39 => ⟨S8x16x256x128, .bf16⟩
  | 40 => ⟨S8x4096x2x64, .f32⟩
  | 41 => ⟨S8x4096x1x128, .f32⟩
  | 42 => ⟨S8x1x4096x128, .f32⟩
  | 43 => ⟨S8x1x4096x128, .bf16⟩
  | 44 => ⟨S8x4096x2x64, .f32⟩
  | 45 => ⟨S8x1024x4x128, .f32⟩
  | 46 => ⟨S8x4x1024x128, .f32⟩
  | 47 => ⟨S8x4x1024x128, .bf16⟩
  | 48 => ⟨S8x4096x2x64, .f32⟩
  | 49 => ⟨S8x256x16x128, .f32⟩
  | 50 => ⟨S8x16x256x128, .f32⟩
  | 51 => ⟨S8x16x256x128, .bf16⟩
  | 52 => ⟨S8x4096x2x64, .f32⟩
  | 53 => ⟨S8x4096x1x128, .f32⟩
  | 54 => ⟨S8x1x4096x128, .f32⟩
  | 55 => ⟨S8x1x4096x128, .bf16⟩
  | 56 => ⟨S8x4096x2x64, .f32⟩
  | 57 => ⟨S8x1024x4x128, .f32⟩
  | 58 => ⟨S8x4x1024x128, .f32⟩
  | 59 => ⟨S8x4x1024x128, .bf16⟩
  | 60 => ⟨S8x4096x2x64, .f32⟩
  | 61 => ⟨S8x256x16x128, .f32⟩
  | 62 => ⟨S8x16x256x128, .f32⟩
  | 63 => ⟨S8x16x256x128, .bf16⟩
  | 64 => ⟨S_, .f32⟩
  | 65 => ⟨S8x4096x4x64, .f32⟩
  | 66 => ⟨S8x4096x4x64, .f32⟩
  | 67 => ⟨S32768x384, .f32⟩
  | 68 => ⟨S32768x384, .bf16⟩
  | 69 => ⟨S32768x384, .f32⟩
  | 70 => ⟨S32768x384, .bf16⟩
  | 71 => ⟨S32768x384, .f32⟩
  | 72 => ⟨S32768x384, .bf16⟩
  | 73 => ⟨S32768x256, .f32⟩
  | 74 => ⟨S32768x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_1 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_4 : Ref sig .tc := ⟨.hbm, 89, rfl⟩
abbrev main_v81 : Ref sig .tc := ⟨.hbm, 90, rfl⟩
abbrev main_v82 : Ref sig .tc := ⟨.hbm, 91, rfl⟩
abbrev main_cst_5 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_cst_6 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_cst_7 : Ref sig .tc := ⟨.hbm, 125, rfl⟩
abbrev main_v114 : Ref sig .tc := ⟨.hbm, 126, rfl⟩
abbrev main_v115 : Ref sig .tc := ⟨.hbm, 127, rfl⟩
abbrev main_cst_8 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_cst_9 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩

abbrev nD : Nat := 1
abbrev τ : Topo := Topo.v7x

variable {F : FTy → Type} [FloatOps F]
-- ==== Dil4.lean ====
abbrev S8x4096x2x64 : Shape := ⟨4, ![8, 4096, 2, 64]⟩
abbrev S_ : Shape := ⟨0, ![]⟩
abbrev S8x1024x4x128 : Shape := ⟨4, ![8, 1024, 4, 128]⟩
abbrev S8x4x1024x128 : Shape := ⟨4, ![8, 4, 1024, 128]⟩
abbrev S1x1x1024x128 : Shape := ⟨4, ![1, 1, 1024, 128]⟩
abbrev S1x1x128x128 : Shape := ⟨4, ![1, 1, 128, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x2x64, .f32⟩
  | .hbm, ⟨5, _⟩ => ⟨S8x4096x2x64, .f32⟩
  | .hbm, ⟨6, _⟩ => ⟨S8x4096x2x64, .bf16⟩
  | .hbm, ⟨7, _⟩ => ⟨S8x1024x4x128, .bf16⟩
  | .hbm, ⟨8, _⟩ => ⟨S8x4x1024x128, .bf16⟩
  | .hbm, ⟨9, _⟩ => ⟨S8x4096x2x64, .bf16⟩
  | .hbm, ⟨10, _⟩ => ⟨S8x1024x4x128, .bf16⟩
  | .hbm, ⟨11, _⟩ => ⟨S8x4x1024x128, .bf16⟩
  | .hbm, ⟨12, _⟩ => ⟨S8x4096x2x64, .bf16⟩
  | .hbm, ⟨13, _⟩ => ⟨S8x1024x4x128, .bf16⟩
  | .hbm, ⟨14, _⟩ => ⟨S8x4x1024x128, .bf16⟩
  | .hbm, ⟨15, _⟩ => ⟨S8x4x1024x128, .bf16⟩
  | .hbm, ⟨16, _⟩ => ⟨S8x4x1024x128, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x1024x128, .bf16⟩
  | .local _ .vmem, ⟨9, _⟩ => ⟨S1x1x1024x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .f32⟩
  | .local _ .vmem, ⟨13, _⟩ => ⟨S1x1x1024x128, .f32⟩
  | _, _ => ⟨S8x4096x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil4Ideal.lean ====
abbrev S8x4096x2x64 : Shape := ⟨4, ![8, 4096, 2, 64]⟩
abbrev S_ : Shape := ⟨0, ![]⟩
abbrev S8x1024x4x128 : Shape := ⟨4, ![8, 1024, 4, 128]⟩
abbrev S8x4x1024x128 : Shape := ⟨4, ![8, 4, 1024, 128]⟩
abbrev S1x1x1024x128 : Shape := ⟨4, ![1, 1, 1024, 128]⟩
abbrev S1x1x128x128 : Shape := ⟨4, ![1, 1, 128, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x2x64, .f32⟩
  | .hbm, ⟨5, _⟩ => ⟨S8x4096x2x64, .f32⟩
  | .hbm, ⟨6, _⟩ => ⟨S8x4096x2x64, .bf16⟩
  | .hbm, ⟨7, _⟩ => ⟨S8x1024x4x128, .bf16⟩
  | .hbm, ⟨8, _⟩ => ⟨S8x4x1024x128, .bf16⟩
  | .hbm, ⟨9, _⟩ => ⟨S8x4096x2x64, .bf16⟩
  | .hbm, ⟨10, _⟩ => ⟨S8x1024x4x128, .bf16⟩
  | .hbm, ⟨11, _⟩ => ⟨S8x4x1024x128, .bf16⟩
  | .hbm, ⟨12, _⟩ => ⟨S8x4096x2x64, .bf16⟩
  | .hbm, ⟨13, _⟩ => ⟨S8x1024x4x128, .bf16⟩
  | .hbm, ⟨14, _⟩ => ⟨S8x4x1024x128, .bf16⟩
  | .hbm, ⟨15, _⟩ => ⟨S8x4x1024x128, .bf16⟩
  | .hbm, ⟨16, _⟩ => ⟨S8x4x1024x128, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x1024x128, .bf16⟩
  | .local _ .vmem, ⟨9, _⟩ => ⟨S1x1x1024x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .f32⟩
  | .local _ .vmem, ⟨13, _⟩ => ⟨S1x1x1024x128, .f32⟩
  | _, _ => ⟨S8x4096x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![8, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Ref4Ideal.lean ====
abbrev S8x4096x2x64 : Shape := ⟨4, ![8, 4096, 2, 64]⟩
abbrev S8x1024x4x2x64 : Shape := ⟨5, ![8, 1024, 4, 2, 64]⟩
abbrev S8x4x2x1024x64 : Shape := ⟨5, ![8, 4, 2, 1024, 64]⟩
abbrev S8x4x2x8x128x64 : Shape := ⟨6, ![8, 4, 2, 8, 128, 64]⟩
abbrev S_ : Shape := ⟨0, ![]⟩
abbrev S8x4x2x9x128x64 : Shape := ⟨6, ![8, 4, 2, 9, 128, 64]⟩
abbrev S8x4x2x8x256x64 : Shape := ⟨6, ![8, 4, 2, 8, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S8x4x2x8x128x256 : Shape := ⟨6, ![8, 4, 2, 8, 128, 256]⟩
abbrev S8x4x2x8x128 : Shape := ⟨5, ![8, 4, 2, 8, 128]⟩
abbrev S8x4x2x8x128x1 : Shape := ⟨6, ![8, 4, 2, 8, 128, 1]⟩
abbrev S8x4x1024x2x64 : Shape := ⟨5, ![8, 4, 1024, 2, 64]⟩
abbrev S8x4x1024x128 : Shape := ⟨4, ![8, 4, 1024, 128]⟩
abbrev S8x4x2x1024 : Shape := ⟨4, ![8, 4, 2, 1024]⟩
abbrev S8x4x1024x2 : Shape := ⟨4, ![8, 4, 1024, 2]⟩
abbrev S8x4x1024x2x1 : Shape := ⟨5, ![8, 4, 1024, 2, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S8x1024x4x2x64, .f32⟩
  | .hbm, ⟨4, _⟩ => ⟨S8x4x2x1024x64, .f32⟩
  | .hbm, ⟨5, _⟩ => ⟨S8x4x2x8x128x64, .f32⟩
  | .hbm, ⟨6, _⟩ => ⟨S8x1024x4x2x64, .f32⟩
  | .hbm, ⟨7, _⟩ => ⟨S8x4x2x1024x64, .f32⟩
  | .hbm, ⟨8, _⟩ => ⟨S8x4x2x8x128x64, .f32⟩
  | .hbm, ⟨9, _⟩ => ⟨S8x1024x4x2x64, .f32⟩
  | .hbm, ⟨10, _⟩ => ⟨S8x4x2x1024x64, .f32⟩
  | .hbm, ⟨11, _⟩ => ⟨S8x4x2x8x128x64, .f32⟩
  | .hbm, ⟨12, _⟩ => ⟨S_, .i32⟩
  | .hbm, ⟨13, _⟩ => ⟨S_, .f32⟩
  | .hbm, ⟨14, _⟩ => ⟨S8x4x2x9x128x64, .f32⟩
  | .hbm, ⟨15, _⟩ => ⟨S8x4x2x8x128x64, .f32⟩
  | .hbm, ⟨16, _⟩ => ⟨S8x4x2x8x256x64, .f32⟩
  | .hbm, ⟨17, _⟩ => ⟨S_, .i32⟩
  | .hbm, ⟨18, _⟩ => ⟨S_, .f32⟩
  | .hbm, ⟨19, _⟩ => ⟨S8x4x2x9x128x64, .f32⟩
  | .hbm, ⟨20, _⟩ => ⟨S8x4x2x8x128x64, .f32⟩
  | .hbm, ⟨21, _⟩ => ⟨S8x4x2x8x256x64, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S8, .i32⟩
  | .hbm, ⟨33, _⟩ => ⟨S8x1x1, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S8x1x1, .i32⟩
  | .hbm, ⟨43, _⟩ => ⟨S8x1x1, .i32⟩
  | .hbm, ⟨44, _⟩ => ⟨S1x1x256, .i32⟩
  | .hbm, ⟨45, _⟩ => ⟨S8x1x256, .i32⟩
  | .hbm, ⟨46, _⟩ => ⟨S8x1x256, .i32⟩
  | .hbm, ⟨47, _⟩ => ⟨S8x1x256, .i32⟩
  | .hbm, ⟨48, _⟩ => ⟨S_, .i32⟩
  | .hbm, ⟨49, _⟩ => ⟨S8x1x256, .i32⟩
  | .hbm, ⟨50, _⟩ => ⟨S8x1x256, .i32⟩
  | .hbm, ⟨51, _⟩ => ⟨S_, .i32⟩
  | .hbm, ⟨52, _⟩ => ⟨S8x1x256, .i32⟩
  | .hbm, ⟨53, _⟩ => ⟨S8x1x256, .i1⟩
  | .hbm, ⟨54, _⟩ => ⟨S1x128x256, .i1⟩
  | .hbm, ⟨55, _⟩ => ⟨S8x128x256, .i1⟩
  | .hbm, ⟨56, _⟩ => ⟨S8x128x256, .i1⟩
  | .hbm, ⟨57, _⟩ => ⟨S8x128x256, .i1⟩
  | .hbm, ⟨58, _⟩ => ⟨S8x4x2x8x128x256, .f32⟩
  | .hbm, ⟨59, _⟩ => ⟨S_, .f32⟩
  | .hbm, ⟨60, _⟩ => ⟨S8x4x2x8x128x256, .f32⟩
  | .hbm, ⟨61, _⟩ => ⟨S8x4x2x8x128x256, .f32⟩
  | .hbm, ⟨62, _⟩ => ⟨S_, .f32⟩
  | .hbm, ⟨63, _⟩ => ⟨S_, .f32⟩
  | .hbm, ⟨64, _⟩ => ⟨S8x4x2x8x128x256, .i1⟩
  | .hbm, ⟨65, _⟩ => ⟨S8x4x2x8x128x256, .f32⟩
  | .hbm, ⟨66, _⟩ => ⟨S8x4x2x8x128x256, .f32⟩
  | .hbm, ⟨67, _⟩ => ⟨S8x4x2x8x128x256, .f32⟩
  | .hbm, ⟨68, _⟩ => ⟨S_, .f32⟩
  | .hbm, ⟨69, _⟩ => ⟨S8x4x2x8x128, .f32⟩
  | .hbm, ⟨70, _⟩ => ⟨S8x4x2x8x128, .f32⟩
  | .hbm, ⟨71, _⟩ => ⟨S8x4x2x8x128x1, .f32⟩
  | .hbm, ⟨72, _⟩ => ⟨S8x4x2x8x128x256, .f32⟩
  | .hbm, ⟨73, _⟩ => ⟨S8x4x2x8x128x256, .f32⟩
  | .hbm, ⟨74, _⟩ => ⟨S8x4x2x8x128x256, .f32⟩
  | .hbm, ⟨75, _⟩ => ⟨S8x4x2x8x128x64, .f32⟩
  | .hbm, ⟨76, _⟩ => ⟨S8x4x2x1024x64, .f32⟩
  | .hbm, ⟨77, _⟩ => ⟨S8x4x1024x2x64, .f32⟩
  | .hbm, ⟨78, _⟩ => ⟨S8x4x1024x128, .f32⟩
  | .hbm, ⟨79, _⟩ => ⟨S8x4x2x1024, .f32⟩
  | .hbm, ⟨80, _⟩ => ⟨S8x4x1024x2, .f32⟩
  | .hbm, ⟨81, _⟩ => ⟨S8x4x1024x2x1, .f32⟩
  | .hbm, ⟨82, _⟩ => ⟨S8x4x1024x2x64, .f32⟩
  | .hbm, ⟨83, _⟩ => ⟨S8x4x1024x128, .f32⟩
  | .hbm, ⟨84, _⟩ => ⟨S8x4x1024x128, .bf16⟩
  | _, _ => ⟨S8x4096x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Dil16.lean ====
abbrev S8x4096x2x64 : Shape := ⟨4, ![8, 4096, 2, 64]⟩
abbrev S_ : Shape := ⟨0, ![]⟩
abbrev S8x256x16x128 : Shape := ⟨4, ![8, 256, 16, 128]⟩
abbrev S8x16x256x128 : Shape := ⟨4, ![8, 16, 256, 128]⟩
abbrev S1x4x256x128 : Shape := ⟨4, ![1, 4, 256, 128]⟩
abbrev S1x4x128x128 : Shape := ⟨4, ![1, 4, 128, 128]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x2x64, .f32⟩
  | .hbm, ⟨5, _⟩ => ⟨S8x4096x2x64, .f32⟩
  | .hbm, ⟨6, _⟩ => ⟨S8x4096x2x64, .bf16⟩
  | .hbm, ⟨7, _⟩ => ⟨S8x256x16x128, .bf16⟩
  | .hbm, ⟨8, _⟩ => ⟨S8x16x256x128, .bf16⟩
  | .hbm, ⟨9, _⟩ => ⟨S8x4096x2x64, .bf16⟩
  | .hbm, ⟨10, _⟩ => ⟨S8x256x16x128, .bf16⟩
  | .hbm, ⟨11, _⟩ => ⟨S8x16x256x128, .bf16⟩
  | .hbm, ⟨12, _⟩ => ⟨S8x4096x2x64, .bf16⟩
  | .hbm, ⟨13, _⟩ => ⟨S8x256x16x128, .bf16⟩
  | .hbm, ⟨14, _⟩ => ⟨S8x16x256x128, .bf16⟩
  | .hbm, ⟨15, _⟩ => ⟨S8x16x256x128, .bf16⟩
  | .hbm, ⟨16, _⟩ => ⟨S8x16x256x128, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x4x128x128, .bf16⟩
  | .local _ .vmem, ⟨3, _⟩ => ⟨S1x4x128x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x4x128x128, .bf16⟩
  | .local _ .vmem, ⟨7, _⟩ => ⟨S1x4x128x128, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x4x256x128, .bf16⟩
  | .local _ .vmem, ⟨11, _⟩ => ⟨S1x4x256x128, .bf16⟩
  | .local _ .vmem, ⟨12, _⟩ => ⟨S1x4x256x128, .f32⟩
  | .local _ .vmem, ⟨13, _⟩ => ⟨S1x4x256x128, .f32⟩
  | _, _ => ⟨S8x4096x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Dil16Ideal.lean ====
variable {F : FTy → Type} [FloatOps F] [Named F]
def κ : String → Option EReal := fun
  | "mask" => some ⊥
  | _ => none
-- ==== Ref16Ideal.lean ====
abbrev S8x4096x2x64 : Shape := ⟨4, ![8, 4096, 2, 64]⟩
abbrev S8x256x16x2x64 : Shape := ⟨5, ![8, 256, 16, 2, 64]⟩
abbrev S8x16x2x256x64 : Shape := ⟨5, ![8, 16, 2, 256, 64]⟩
abbrev S8x16x2x2x128x64 : Shape := ⟨6, ![8, 16, 2, 2, 128, 64]⟩
abbrev S_ : Shape := ⟨0, ![]⟩
abbrev S8x16x2x3x128x64 : Shape := ⟨6, ![8, 16, 2, 3, 128, 64]⟩
abbrev S8x16x2x2x256x64 : Shape := ⟨6, ![8, 16, 2, 2, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S8x16x2x2x128x256 : Shape := ⟨6, ![8, 16, 2, 2, 128, 256]⟩
abbrev S8x16x2x2x128 : Shape := ⟨5, ![8, 16, 2, 2, 128]⟩
abbrev S8x16x2x2x128x1 : Shape := ⟨6, ![8, 16, 2, 2, 128, 1]⟩
abbrev S8x16x256x2x64 : Shape := ⟨5, ![8, 16, 256, 2, 64]⟩
abbrev S8x16x256x128 : Shape := ⟨4, ![8, 16, 256, 128]⟩
abbrev S8x16x2x256 : Shape := ⟨4, ![8, 16, 2, 256]⟩
abbrev S8x16x256x2 : Shape := ⟨4, ![8, 16, 256, 2]⟩
abbrev S8x16x256x2x1 : Shape := ⟨5, ![8, 16, 256, 2, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x2x64, .f32⟩
  | .hbm, ⟨1, _⟩ => ⟨S8x4096x2x64, .f32⟩
  | .hbm, ⟨2, _⟩ => ⟨S8x4096x2x64, .f32⟩
  | .hbm, ⟨3, _⟩ => ⟨S8x256x16x2x64, .f32⟩
  | .hbm, ⟨4, _⟩ => ⟨S8x16x2x256x64, .f32⟩
  | .hbm, ⟨5, _⟩ => ⟨S8x16x2x2x128x64, .f32⟩
  | .hbm, ⟨6, _⟩ => ⟨S8x256x16x2x64, .f32⟩
  | .hbm, ⟨7, _⟩ => ⟨S8x16x2x256x64, .f32⟩
  | .hbm, ⟨8, _⟩ => ⟨S8x16x2x2x128x64, .f32⟩
  | .hbm, ⟨9, _⟩ => ⟨S8x256x16x2x64, .f32⟩
  | .hbm, ⟨10, _⟩ => ⟨S8x16x2x256x64, .f32⟩
  | .hbm, ⟨11, _⟩ => ⟨S8x16x2x2x128x64, .f32⟩
  | .hbm, ⟨12, _⟩ => ⟨S_, .i32⟩
  | .hbm, ⟨13, _⟩ => ⟨S_, .f32⟩
  | .hbm, ⟨14, _⟩ => ⟨S8x16x2x3x128x64, .f32⟩
  | .hbm, ⟨15, _⟩ => ⟨S8x16x2x2x128x64, .f32⟩
  | .hbm, ⟨16, _⟩ => ⟨S8x16x2x2x256x64, .f32⟩
  | .hbm, ⟨17, _⟩ => ⟨S_, .i32⟩
  | .hbm, ⟨18, _⟩ => ⟨S_, .f32⟩
  | .hbm, ⟨19, _⟩ => ⟨S8x16x2x3x128x64, .f32⟩
  | .hbm, ⟨20, _⟩ => ⟨S8x16x2x2x128x64, .f32⟩
  | .hbm, ⟨21, _⟩ => ⟨S8x16x2x2x256x64, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S2, .i32⟩
  | .hbm, ⟨33, _⟩ => ⟨S2x1x1, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S2x1x1, .i32⟩
  | .hbm, ⟨43, _⟩ => ⟨S2x1x1, .i32⟩
  | .hbm, ⟨44, _⟩ => ⟨S1x1x256, .i32⟩
  | .hbm, ⟨45, _⟩ => ⟨S2x1x256, .i32⟩
  | .hbm, ⟨46, _⟩ => ⟨S2x1x256, .i32⟩
  | .hbm, ⟨47, _⟩ => ⟨S2x1x256, .i32⟩
  | .hbm, ⟨48, _⟩ => ⟨S_, .i32⟩
  | .hbm, ⟨49, _⟩ => ⟨S2x1x256, .i32⟩
  | .hbm, ⟨50, _⟩ => ⟨S2x1x256, .i32⟩
  | .hbm, ⟨51, _⟩ => ⟨S_, .i32⟩
  | .hbm, ⟨52, _⟩ => ⟨S2x1x256, .i32⟩
  | .hbm, ⟨53, _⟩ => ⟨S2x1x256, .i1⟩
  | .hbm, ⟨54, _⟩ => ⟨S1x128x256, .i1⟩
  | .hbm, ⟨55, _⟩ => ⟨S2x128x256, .i1⟩
  | .hbm, ⟨56, _⟩ => ⟨S2x128x256, .i1⟩
  | .hbm, ⟨57, _⟩ => ⟨S2x128x256, .i1⟩
  | .hbm, ⟨58, _⟩ => ⟨S8x16x2x2x128x256, .f32⟩
  | .hbm, ⟨59, _⟩ => ⟨S_, .f32⟩
  | .hbm, ⟨60, _⟩ => ⟨S8x16x2x2x128x256, .f32⟩
  | .hbm, ⟨61, _⟩ => ⟨S8x16x2x2x128x256, .f32⟩
  | .hbm, ⟨62, _⟩ => ⟨S_, .f32⟩
  | .hbm, ⟨63, _⟩ => ⟨S_, .f32⟩
  | .hbm, ⟨64, _⟩ => ⟨S8x16x2x2x128x256, .i1⟩
  | .hbm, ⟨65, _⟩ => ⟨S8x16x2x2x128x256, .f32⟩
  | .hbm, ⟨66, _⟩ => ⟨S8x16x2x2x128x256, .f32⟩
  | .hbm, ⟨67, _⟩ => ⟨S8x16x2x2x128x256, .f32⟩
  | .hbm, ⟨68, _⟩ => ⟨S_, .f32⟩
  | .hbm, ⟨69, _⟩ => ⟨S8x16x2x2x128, .f32⟩
  | .hbm, ⟨70, _⟩ => ⟨S8x16x2x2x128, .f32⟩
  | .hbm, ⟨71, _⟩ => ⟨S8x16x2x2x128x1, .f32⟩
  | .hbm, ⟨72, _⟩ => ⟨S8x16x2x2x128x256, .f32⟩
  | .hbm, ⟨73, _⟩ => ⟨S8x16x2x2x128x256, .f32⟩
  | .hbm, ⟨74, _⟩ => ⟨S8x16x2x2x128x256, .f32⟩
  | .hbm, ⟨75, _⟩ => ⟨S8x16x2x2x128x64, .f32⟩
  | .hbm, ⟨76, _⟩ => ⟨S8x16x2x256x64, .f32⟩
  | .hbm, ⟨77, _⟩ => ⟨S8x16x256x2x64, .f32⟩
  | .hbm, ⟨78, _⟩ => ⟨S8x16x256x128, .f32⟩
  | .hbm, ⟨79, _⟩ => ⟨S8x16x2x256, .f32⟩
  | .hbm, ⟨80, _⟩ => ⟨S8x16x256x2, .f32⟩
  | .hbm, ⟨81, _⟩ => ⟨S8x16x256x2x1, .f32⟩
  | .hbm, ⟨82, _⟩ => ⟨S8x16x256x2x64, .f32⟩
  | .hbm, ⟨83, _⟩ => ⟨S8x16x256x128, .f32⟩
  | .hbm, ⟨84, _⟩ => ⟨S8x16x256x128, .bf16⟩
  | _, _ => ⟨S8x4096x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Memkv.lean ====
abbrev S8x256x1024 : Shape := ⟨3, ![8, 256, 1024]⟩
abbrev S1024x512 : Shape := ⟨2, ![1024, 512]⟩
abbrev S8x256x256 : Shape := ⟨3, ![8, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x512 : Shape := ⟨2, ![256, 512]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024x512, .f32⟩
  | .hbm, ⟨2, _⟩ => ⟨S1024x512, .bf16⟩
  | .hbm, ⟨3, _⟩ => ⟨S8x256x256, .bf16⟩
  | .hbm, ⟨4, _⟩ => ⟨S8x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1024x512, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefMemkvIdeal.lean ====
abbrev S8x256x1024 : Shape := ⟨3, ![8, 256, 1024]⟩
abbrev S1024x512 : Shape := ⟨2, ![1024, 512]⟩
abbrev S8x256x512 : Shape := ⟨3, ![8, 256, 512]⟩
abbrev S8x256x2x256 : Shape := ⟨4, ![8, 256, 2, 256]⟩
abbrev S8x256x1x256 : Shape := ⟨4, ![8, 256, 1, 256]⟩
abbrev S8x256x256 : Shape := ⟨3, ![8, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x512, .f32⟩
  | .hbm, ⟨2, _⟩ => ⟨S8x256x512, .f32⟩
  | .hbm, ⟨3, _⟩ => ⟨S8x256x2x256, .f32⟩
  | .hbm, ⟨4, _⟩ => ⟨S8x256x1x256, .f32⟩
  | .hbm, ⟨5, _⟩ => ⟨S8x256x256, .f32⟩
  | .hbm, ⟨6, _⟩ => ⟨S8x256x256, .bf16⟩
  | .hbm, ⟨7, _⟩ => ⟨S8x256x1x256, .f32⟩
  | .hbm, ⟨8, _⟩ => ⟨S8x256x256, .f32⟩
  | .hbm, ⟨9, _⟩ => ⟨S8x256x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Memattn.lean ====
abbrev S8x4096x4x64 : Shape := ⟨4, ![8, 4096, 4, 64]⟩
abbrev S8x256x4x64 : Shape := ⟨4, ![8, 256, 4, 64]⟩
abbrev S_ : Shape := ⟨0, ![]⟩
abbrev S8x4096x256 : Shape := ⟨3, ![8, 4096, 256]⟩
abbrev S8x256x256 : Shape := ⟨3, ![8, 256, 256]⟩
abbrev S1x2048x256 : Shape := ⟨3, ![1, 2048, 256]⟩
abbrev S1x256x256 : Shape := ⟨3, ![1, 256, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x4x64, .f32⟩
  | .hbm, ⟨1, _⟩ => ⟨S8x256x4x64, .f32⟩
  | .hbm, ⟨2, _⟩ => ⟨S8x256x4x64, .f32⟩
  | .hbm, ⟨3, _⟩ => ⟨S_, .f32⟩
  | .hbm, ⟨4, _⟩ => ⟨S8x4096x4x64, .f32⟩
  | .hbm, ⟨5, _⟩ => ⟨S8x4096x4x64, .f32⟩
  | .hbm, ⟨6, _⟩ => ⟨S8x4096x256, .f32⟩
  | .hbm, ⟨7, _⟩ => ⟨S8x4096x256, .bf16⟩
  | .hbm, ⟨8, _⟩ => ⟨S8x256x256, .f32⟩
  | .hbm, ⟨9, _⟩ => ⟨S8x256x256, .bf16⟩
  | .hbm, ⟨10, _⟩ => ⟨S8x256x256, .f32⟩
  | .hbm, ⟨11, _⟩ => ⟨S8x256x256, .bf16⟩
  | .hbm, ⟨12, _⟩ => ⟨S8x4096x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x2048x256, .bf16⟩
  | .local _ .vmem, ⟨7, _⟩ => ⟨S1x2048x256, .bf16⟩
  | _, _ => ⟨S8x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMemattnIdeal.lean ====
abbrev S8x4096x4x64 : Shape := ⟨4, ![8, 4096, 4, 64]⟩
abbrev S8x256x4x64 : Shape := ⟨4, ![8, 256, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096x256 : Shape := ⟨3, ![8, 4096, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x4x64, .f32⟩
  | .hbm, ⟨1, _⟩ => ⟨S8x256x4x64, .f32⟩
  | .hbm, ⟨2, _⟩ => ⟨S8x256x4x64, .f32⟩
  | .hbm, ⟨3, _⟩ => ⟨S8x4x4096x256, .f32⟩
  | .hbm, ⟨4, _⟩ => ⟨S_, .f32⟩
  | .hbm, ⟨5, _⟩ => ⟨S8x4x4096x256, .f32⟩
  | .hbm, ⟨6, _⟩ => ⟨S8x4x4096x256, .f32⟩
  | .hbm, ⟨7, _⟩ => ⟨S_, .f32⟩
  | .hbm, ⟨8, _⟩ => ⟨S8x4x4096, .f32⟩
  | .hbm, ⟨9, _⟩ => ⟨S_, .f32⟩
  | .hbm, ⟨10, _⟩ => ⟨S8x4x4096, .f32⟩
  | .hbm, ⟨11, _⟩ => ⟨S8x4x4096, .f32⟩
  | .hbm, ⟨12, _⟩ => ⟨S8x4x4096x1, .f32⟩
  | .hbm, ⟨13, _⟩ => ⟨S8x4x4096x256, .f32⟩
  | .hbm, ⟨14, _⟩ => ⟨S8x4x4096x256, .f32⟩
  | .hbm, ⟨15, _⟩ => ⟨S8x4x4096x256, .f32⟩
  | .hbm, ⟨16, _⟩ => ⟨S_, .f32⟩
  | .hbm, ⟨17, _⟩ => ⟨S8x4x4096, .f32⟩
  | .hbm, ⟨18, _⟩ => ⟨S8x4x4096x1, .f32⟩
  | .hbm, ⟨19, _⟩ => ⟨S8x4x4096x256, .f32⟩
  | .hbm, ⟨20, _⟩ => ⟨S8x4x4096x256, .f32⟩
  | .hbm, ⟨21, _⟩ => ⟨S8x4x64x4096, .f32⟩
  | .hbm, ⟨22, _⟩ => ⟨S8x4096x4x64, .f32⟩
  | .hbm, ⟨23, _⟩ => ⟨S8x4096x256, .f32⟩
  | .hbm, ⟨24, _⟩ => ⟨S8x4096x256, .bf16⟩
  | _, _ => ⟨S8x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Softmax.lean ====
/- The arithmetic of one query row of softmax attention over extended reals: scores that are real where a key
   is allowed and `⊥` where it is not, with one allowed key at least. Dividing the weighted sum by the sum of the
   exponentials is the same as taking the logarithm of that sum into the exponent first. -/
module

public import Idealize.ShloMosaic.Lib.Pipeline.ValueKit

@[expose] public section

noncomputable section

namespace Cert.Softmax

open Idealize.ShloMosaic

variable {n : ℕ}

/-- The largest score. -/
def top (s : Fin n → EReal) : EReal := Finset.univ.fold max ⊥ s

/-- The sum of the exponentials, shifted by the largest score. -/
def den (s : Fin n → EReal) : EReal := ∑ j, Ideal.exp (s j - top s)

/-- The weighted mean of the values. -/
def mean (s v : Fin n → EReal) : EReal := Ideal.div (∑ j, Ideal.exp (s j - top s) * v j) (den s)

/-- The logarithm of the softmax denominator. -/
def lse (s : Fin n → EReal) : EReal := top s + Ideal.log (den s)

/-- What a row of scores has to satisfy: no score is infinite above, and some key is allowed. -/
structure Row (s : Fin n → EReal) : Prop where
  ne_top : ∀ j, s j ≠ ⊤
  some : ∃ j, s j ≠ ⊥

theorem top_real {s : Fin n → EReal} (h : Row s) : ∃ r : ℝ, top s = r := by
  have h1 : top s ≠ ⊤ := by
    refine ne_of_lt ((Finset.fold_max_lt (⊤ : EReal)).2 ⟨bot_lt_top, fun j _ => lt_of_le_of_ne le_top (h.ne_top j)⟩)
  have h2 : top s ≠ ⊥ := by
    obtain ⟨j, hj⟩ := h.some
    exact ne_of_gt ((Finset.lt_fold_max (⊥ : EReal)).2 (Or.inr ⟨j, Finset.mem_univ j, bot_lt_iff_ne_bot.2 hj⟩))
  exact ⟨(top s).toReal, (EReal.coe_toReal h1 h2).symm⟩

/-- Every score is a real number or `⊥`. -/
theorem score {s : Fin n → EReal} (h : Row s) (j : Fin n) : s j = ⊥ ∨ ∃ r : ℝ, s j = r := by
  by_cases hb : s j = ⊥
  · exact Or.inl hb
  · exact Or.inr ⟨(s j).toReal, (EReal.coe_toReal (h.ne_top j) hb).symm⟩

/-- A shifted exponential, as a real number. -/
def wt (s : Fin n → EReal) (t : ℝ) (j : Fin n) : ℝ := if s j = ⊥ then 0 else Real.exp ((s j).toReal - t)

theorem exp_sub {s : Fin n → EReal} (h : Row s) (t : ℝ) (j : Fin n) : Ideal.exp (s j - (t : EReal)) = (wt s t j : EReal) := by
  rcases score h j with hj | ⟨r, hj⟩
  · simp [wt, hj, EReal.bot_sub]
  · rw [wt, hj, if_neg (EReal.coe_ne_bot r), ← EReal.coe_sub, Ideal.exp_coe, EReal.toReal_coe]

theorem coe_sum (f : Fin n → ℝ) : ∑ j, (f j : EReal) = ((∑ j, f j : ℝ) : EReal) :=
  (map_sum (⟨⟨Real.toEReal, EReal.coe_zero⟩, EReal.coe_add⟩ : ℝ →+ EReal) f Finset.univ).symm

theorem wt_nonneg (s : Fin n → EReal) (t : ℝ) (j : Fin n) : 0 ≤ wt s t j := by
  unfold wt; split
  · exact le_rfl
  · exact (Real.exp_pos _).le

theorem sum_pos {s : Fin n → EReal} (h : Row s) (t : ℝ) : 0 < ∑ j, wt s t j := by
  obtain ⟨j, hj⟩ := h.some
  refine Finset.sum_pos' (fun j _ => wt_nonneg s t j) ⟨j, Finset.mem_univ j, ?_⟩
  rw [wt, if_neg hj]; exact Real.exp_pos _

theorem den_real {s : Fin n → EReal} (h : Row s) {t : ℝ} (ht : top s = t) : den s = ((∑ j, wt s t j : ℝ) : EReal) := by
  rw [den, ← coe_sum]
  exact Finset.sum_congr rfl fun j _ => by rw [ht, exp_sub h]

theorem lse_real {s : Fin n → EReal} (h : Row s) {t : ℝ} (ht : top s = t) :
    lse s = ((t + Real.log (∑ j, wt s t j) : ℝ) : EReal) := by
  rw [lse, den_real h ht, ht, Ideal.log_coe, if_neg (not_le.2 (sum_pos h t)), EReal.coe_add]

/-- The logarithm in the exponent: the weights are the exponentials already divided. -/
theorem wt_lse {s : Fin n → EReal} (h : Row s) (t : ℝ) (j : Fin n) :
    wt s (t + Real.log (∑ j, wt s t j)) j = wt s t j * (1 / ∑ j, wt s t j) := by
  have hp := sum_pos h t
  by_cases hj : s j = ⊥
  · simp [wt, hj]
  · have e1 : ∀ u, wt s u j = Real.exp ((s j).toReal - u) := fun u => by rw [wt, if_neg hj]
    rw [e1, e1 t, ← sub_sub, Real.exp_sub _ (Real.log _), Real.exp_log hp, div_eq_mul_one_div]

/-- A real factor that is not negative goes into a sum of extended reals. -/
theorem sum_mul_real {ι : Type*} (t : Finset ι) (f : ι → EReal) {c : ℝ} (hc : 0 ≤ c) : (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

/-- The mean with every weight divided first. -/
theorem mean_div {s : Fin n → EReal} (h : Row s) (v : Fin n → EReal) :
    mean s v = ∑ j, Ideal.div (Ideal.exp (s j - top s)) (den s) * v j := by
  obtain ⟨t, ht⟩ := top_real h
  have hp := sum_pos h t
  rw [mean, den_real h ht, Ideal.div_coe hp.ne', sum_mul_real _ _ (one_div_pos.2 hp).le]
  refine Finset.sum_congr rfl fun j _ => ?_
  rw [Ideal.div_coe hp.ne']
  exact mul_right_comm _ _ _

/-- The mean with the logarithm taken into the exponent. -/
theorem mean_eq {s : Fin n → EReal} (h : Row s) (v : Fin n → EReal) :
    mean s v = ∑ j, Ideal.exp (s j - lse s) * v j := by
  obtain ⟨t, ht⟩ := top_real h
  have hp := sum_pos h t
  rw [mean_div h, den_real h ht, lse_real h ht]
  refine Finset.sum_congr rfl fun j _ => ?_
  rw [Ideal.div_coe hp.ne', ht, exp_sub h, exp_sub h, wt_lse h, EReal.coe_mul]

/-- The logarithm of the sum of the exponentials, without a shift. -/
theorem lse_eq {s : Fin n → EReal} (h : Row s) : Ideal.log (∑ j, Ideal.exp (s j)) = lse s := by
  obtain ⟨t, ht⟩ := top_real h
  have e : ∀ j, Ideal.exp (s j) = ((Real.exp t * wt s t j : ℝ) : EReal) := by
    intro j
    rcases score h j with hj | ⟨r, hj⟩
    · simp [wt, hj]
    · rw [wt, hj, if_neg (EReal.coe_ne_bot r), Ideal.exp_coe, EReal.toReal_coe, ← Real.exp_add]
      ring_nf
  have hp := sum_pos h t
  rw [Finset.sum_congr rfl fun j _ => e j, coe_sum, ← Finset.mul_sum, Ideal.log_coe,
    if_neg (not_le.2 (mul_pos (Real.exp_pos t) hp)), Real.log_mul (Real.exp_pos t).ne' hp.ne', Real.log_exp, lse_real h ht]

end Cert.Softmax

end
-- ==== Proof.Attend.lean ====
module

public import proofs.«01_k».proof.Proof.Softmax
public import Idealize.ShloMosaic.Lib.Pipeline.ValueKit

@[expose] public section

set_option maxRecDepth 16384

noncomputable section

/-! Attention over the last 129 steps of a residue class: what the kernel and the reference both compute, row by row. -/
namespace Cert.Attend

open Idealize.ShloMosaic

/-- Eight sequences of 4096 positions, two heads of 64 lanes. -/
abbrev Heads := (⟨4, ![8, 4096, 2, 64]⟩ : Shape).Idx → EReal

/-- Lane `c` of head `h` at position `p`; zero outside the sequence. -/
def rd (X : Heads) (b : Fin 8) (p : ℕ) (h : Fin 2) (c : Fin 64) : EReal :=
  if hp : p < 4096 then X (ix4 b ⟨p, hp⟩ h c) else 0

/-- Whether step `l` attends key `j` of its pair of blocks: at most 128 steps back, and not before the first step. -/
def Sees (l j : ℕ) : Prop := (l % 128 ≤ j ∧ j ≤ l % 128 + 128) ∧ 128 ≤ l / 128 * 128 + j

instance (l j : ℕ) : Decidable (Sees l j) := inferInstanceAs (Decidable (_ ∧ _))

/-- The position of key `j` of step `l`, in residue class `r` of dilation `d`. -/
def keyPos (d r l j : ℕ) : ℕ := (l / 128 * 128 + j - 128) * d + r

/-- The factor of the scores, one over the root of the head's width. -/
def scale : EReal := Ideal.ofBits .f32 0x3E000000#32

/-- The scores of step `l`, every query scaled before the product. -/
def scaledFirst (d : ℕ) (Q K : Heads) (b : Fin 8) (r l : ℕ) (h : Fin 2) (j : Fin 256) : EReal :=
  if Sees l j.val then ∑ x : Fin 64, rd Q b (l * d + r) h x * scale * rd K b (keyPos d r l j.val) h x else ⊥

/-- The scores of step `l`, the product scaled. -/
def scaledLast (d : ℕ) (Q K : Heads) (b : Fin 8) (r l : ℕ) (h : Fin 2) (j : Fin 256) : EReal :=
  if Sees l j.val then (∑ x : Fin 64, rd Q b (l * d + r) h x * rd K b (keyPos d r l j.val) h x) * scale else ⊥

/-- The values step `l` may mix. -/
def vals (d : ℕ) (V : Heads) (b : Fin 8) (r l : ℕ) (h : Fin 2) (c : Fin 64) (j : Fin 256) : EReal :=
  rd V b (keyPos d r l j.val) h c

/-- Every element is a real number. -/
def Real (X : Heads) : Prop := ∀ i, ∃ x : ℝ, X i = x

theorem scale_real : ∃ x : ℝ, scale = x := ⟨1 / 8, by unfold scale; simp [Ideal.ofBits, Ideal.ieee, -EReal.coe_mul]; norm_num⟩

theorem rd_real {X : Heads} (hX : Real X) (b : Fin 8) (p : ℕ) (h : Fin 2) (c : Fin 64) : ∃ x : ℝ, rd X b p h c = x := by
  unfold rd
  split
  · exact hX _
  · exact ⟨0, rfl⟩

theorem rd_of (X : Heads) (b : Fin 8) {p : ℕ} (n : Fin 4096) (h : Fin 2) (c : Fin 64) (e : n.val = p) : X (ix4 b n h c) = rd X b p h c := by
  subst e
  unfold rd
  rw [dif_pos n.isLt]

/-- A finite factor passes a sum of finite products. -/
theorem scale_sum {n : ℕ} (f g : Fin n → EReal) (k : EReal) (hf : ∀ x, ∃ a : ℝ, f x = a) (hg : ∀ x, ∃ a : ℝ, g x = a)
    (hk : ∃ a : ℝ, k = a) : ∑ x, f x * k * g x = (∑ x, f x * g x) * k := by
  choose a ha using hf
  choose e he using hg
  obtain ⟨s, rfl⟩ := hk
  simp only [ha, he, ← EReal.coe_mul, Softmax.coe_sum]
  rw [Finset.sum_mul]
  exact congrArg _ (Finset.sum_congr rfl fun x _ => by ring)

theorem scaled_eq (d : ℕ) {Q K : Heads} (hQ : Real Q) (hK : Real K) (b : Fin 8) (r l : ℕ) (h : Fin 2) :
    scaledFirst d Q K b r l h = scaledLast d Q K b r l h := by
  funext j
  unfold scaledFirst scaledLast
  split
  · exact scale_sum _ _ _ (fun x => rd_real hQ ..) (fun x => rd_real hK ..) scale_real
  · rfl

/-- A row of finite scores, at least one unmasked. -/
theorem row (d : ℕ) {Q K : Heads} (hQ : Real Q) (hK : Real K) (b : Fin 8) (r l : ℕ) (h : Fin 2) :
    Softmax.Row (scaledLast d Q K b r l h) := by
  have real : ∀ j : Fin 256, ∃ a : ℝ, (∑ x : Fin 64, rd Q b (l * d + r) h x * rd K b (keyPos d r l j.val) h x) * scale = a := by
    intro j
    choose a ha using fun x => rd_real hQ b (l * d + r) h x
    choose e he using fun x => rd_real hK b (keyPos d r l j.val) h x
    obtain ⟨s, hs⟩ := scale_real
    refine ⟨(∑ x, a x * e x) * s, ?_⟩
    simp only [ha, he, hs, ← EReal.coe_mul, Softmax.coe_sum]
  refine ⟨fun j => ?_, ⟨⟨l % 128 + 128, by omega⟩, ?_⟩⟩
  · unfold scaledLast
    split
    · obtain ⟨a, ha⟩ := real j
      rw [ha]; exact EReal.coe_ne_top a
    · exact bot_ne_top
  · have : Sees l (l % 128 + 128) := ⟨⟨by omega, le_rfl⟩, by omega⟩
    unfold scaledLast
    rw [if_pos this]
    obtain ⟨a, ha⟩ := real ⟨l % 128 + 128, by omega⟩
    rw [ha]; exact EReal.coe_ne_bot a

/-- A masked key's value has no part in the mean. -/
theorem mean_congr {n : ℕ} {s v w : Fin n → EReal} (h : ∀ j, s j ≠ ⊥ → v j = w j) : Softmax.mean s v = Softmax.mean s w := by
  unfold Softmax.mean
  congr 1
  refine Finset.sum_congr rfl fun j _ => ?_
  by_cases hj : s j = ⊥
  · have : Ideal.exp (s j - Softmax.top s) = 0 := by rw [hj, EReal.bot_sub]; rfl
    rw [this, zero_mul, zero_mul]
  · rw [h j hj]

end Cert.Attend
end
-- ==== Proof.Band.lean ====
module

public import Idealize.ShloMosaic.Lib.Pipeline.ValueKit

@[expose] public section

namespace Cert.Attend

open Idealize.ShloMosaic

/-- The band of keys, as words are compared. -/
theorem near : ∀ (i : Fin 128) (j : Fin 256), IntOp.andi
        (IntOp.cmpi CmpIPredicate.sge (IntOp.subi (IntOp.addi (BitVec.ofNat 32 i.val) 128#32) (BitVec.ofNat 32 j.val)) 0#32)
        (IntOp.cmpi CmpIPredicate.sle (IntOp.subi (IntOp.addi (BitVec.ofNat 32 i.val) 128#32) (BitVec.ofNat 32 j.val)) 128#32)
      = if i.val ≤ j.val ∧ j.val ≤ i.val + 128 then 1#1 else 0#1 := by decide +kernel

end Cert.Attend
end
-- ==== Proof.Dil1Tile.lean ====
module

public import proofs.«01_k».proof.Proof.Gen.Dil1Ideal.Frame
public import Idealize.ShloMosaic.Lib.Pipeline.ValueKit
public import proofs.«01_k».proof.Proof.Attend
public import proofs.«01_k».proof.Proof.Band

@[expose] public section

set_option maxRecDepth 16384

noncomputable section

namespace Cert.Dil1Ideal.Tile

open Idealize.ShloMosaic Idealize.ShloMosaic.TcCoe Idealize.SL.Sem
open Cert.Dil1Ideal Cert.Dil1Ideal.Gen

section tile
variable {F : FTy → Type} [FloatOps F] [Named F]

/-- The output rows a tile of 128 queries stores: both heads side by side. -/
def tileO (q : FVec F S128x128 .bf16) (a : IVec S128x256 1) (k v : FVec F S256x128 .bf16) : FVec F S1x1x128x128 .bf16 :=
  k0_pay22 k0_pay3 q a k v (k0_pay14 q a k v k0_pay8 k0_pay9 1#32) k0_pay16 k0_pay17

/-- The log-denominator rows a tile of 128 queries stores. -/
def tileL (q : FVec F S128x128 .bf16) (a : IVec S128x256 1) (k : FVec F S256x128 .bf16) : FVec F S1x1x128x128 .f32 :=
  k0_pay23 k0_pay3 q a k (k0_pay15 q a k k0_pay8 k0_pay9 1#32) k0_pay16 k0_pay17

theorem out5 (i : grid0.Coords) (x0 : Vec F S1x1x1024x128 .bf16) (x1 : Vec F S1x1x128x128 .bf16)
    (x2 : Vec F S1x1x1024x128 .bf16) (x3 : Vec F S1x1x128x128 .bf16) (x4 : Vec F S1x1x1024x128 .bf16) :
    out0_5 i x0 x1 x2 x3 x4 = View.canon [
      ⟨r0_8, tileO (k0_pay4 (View.ld x0 r0_8)) k0_pay2 (k0_pay6 (View.ld x2 r0_7) (View.ld x2 r0_8)) (k0_pay6 (View.ld x4 r0_7) (View.ld x4 r0_8))⟩,
      ⟨r0_7, tileO (k0_pay4 (View.ld x0 r0_7)) k0_pay2 (k0_pay6 (View.ld x2 r0_6) (View.ld x2 r0_7)) (k0_pay6 (View.ld x4 r0_6) (View.ld x4 r0_7))⟩,
      ⟨r0_6, tileO (k0_pay4 (View.ld x0 r0_6)) k0_pay2 (k0_pay6 (View.ld x2 r0_5) (View.ld x2 r0_6)) (k0_pay6 (View.ld x4 r0_5) (View.ld x4 r0_6))⟩,
      ⟨r0_5, tileO (k0_pay4 (View.ld x0 r0_5)) k0_pay2 (k0_pay6 (View.ld x2 r0_4) (View.ld x2 r0_5)) (k0_pay6 (View.ld x4 r0_4) (View.ld x4 r0_5))⟩,
      ⟨r0_4, tileO (k0_pay4 (View.ld x0 r0_4)) k0_pay2 (k0_pay6 (View.ld x2 r0_3) (View.ld x2 r0_4)) (k0_pay6 (View.ld x4 r0_3) (View.ld x4 r0_4))⟩,
      ⟨r0_3, tileO (k0_pay4 (View.ld x0 r0_3)) k0_pay2 (k0_pay6 (View.ld x2 r0_2) (View.ld x2 r0_3)) (k0_pay6 (View.ld x4 r0_2) (View.ld x4 r0_3))⟩,
      ⟨r0_2, tileO (k0_pay4 (View.ld x0 r0_2)) k0_pay2 (k0_pay6 (View.ld x2 r0_0) (View.ld x2 r0_2)) (k0_pay6 (View.ld x4 r0_0) (View.ld x4 r0_2))⟩,
      ⟨r0_0, tileO (k0_pay4 (View.ld x0 r0_0)) (k0_pay5 (BitVec.ofNat 32 (i 2).val) (iota .tc S128x256 32 [1] iota_S128x256_d1_w32) k0_pay2) (k0_pay6 (View.ld x1 r0_1) (View.ld x2 r0_0)) (k0_pay6 (View.ld x3 r0_1) (View.ld x4 r0_0))⟩] := rfl

theorem out6 (i : grid0.Coords) (x0 : Vec F S1x1x1024x128 .bf16) (x1 : Vec F S1x1x128x128 .bf16)
    (x2 : Vec F S1x1x1024x128 .bf16) (x3 : Vec F S1x1x128x128 .bf16) (x4 : Vec F S1x1x1024x128 .bf16) :
    out0_6 i x0 x1 x2 x3 x4 = View.canon [
      ⟨r0_8, tileL (k0_pay4 (View.ld x0 r0_8)) k0_pay2 (k0_pay6 (View.ld x2 r0_7) (View.ld x2 r0_8))⟩,
      ⟨r0_7, tileL (k0_pay4 (View.ld x0 r0_7)) k0_pay2 (k0_pay6 (View.ld x2 r0_6) (View.ld x2 r0_7))⟩,
      ⟨r0_6, tileL (k0_pay4 (View.ld x0 r0_6)) k0_pay2 (k0_pay6 (View.ld x2 r0_5) (View.ld x2 r0_6))⟩,
      ⟨r0_5, tileL (k0_pay4 (View.ld x0 r0_5)) k0_pay2 (k0_pay6 (View.ld x2 r0_4) (View.ld x2 r0_5))⟩,
      ⟨r0_4, tileL (k0_pay4 (View.ld x0 r0_4)) k0_pay2 (k0_pay6 (View.ld x2 r0_3) (View.ld x2 r0_4))⟩,
      ⟨r0_3, tileL (k0_pay4 (View.ld x0 r0_3)) k0_pay2 (k0_pay6 (View.ld x2 r0_2) (View.ld x2 r0_3))⟩,
      ⟨r0_2, tileL (k0_pay4 (View.ld x0 r0_2)) k0_pay2 (k0_pay6 (View.ld x2 r0_0) (View.ld x2 r0_2))⟩,
      ⟨r0_0, tileL (k0_pay4 (View.ld x0 r0_0)) (k0_pay5 (BitVec.ofNat 32 (i 2).val) (iota .tc S128x256 32 [1] iota_S128x256_d1_w32) k0_pay2) (k0_pay6 (View.ld x1 r0_1) (View.ld x2 r0_0))⟩] := rfl

end tile

/-- The head a lane belongs to, as the body computes it: a floor division by 64. -/
def laneHead (x : Fin 128) : BitVec 32 :=
  Scalar.select
    (IntOp.andi
      (IntOp.cmpi CmpIPredicate.ne
        (IntOp.subi (BitVec.setWidth 32 (IntOp.cmpi CmpIPredicate.sgt (BitVec.ofNat 32 ↑x) 0#32))
          (BitVec.setWidth 32 (IntOp.cmpi CmpIPredicate.slt (BitVec.ofNat 32 ↑x) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 ↑x) 64#32) 0#32))
    (IntOp.subi (IntOp.divsi ArithUnit.vector (BitVec.ofNat 32 ↑x) 64#32) 1#32)
    (IntOp.divsi ArithUnit.vector (BitVec.ofNat 32 ↑x) 64#32)

theorem laneHead_eq : ∀ x : Fin 128, laneHead x = BitVec.ofNat 32 (x.val / 64) := by decide +kernel

theorem band_eq : ∀ (i : Fin 128) (j : Fin 256), k0_pay2 (ix2 i j) = if i.val ≤ j.val ∧ j.val ≤ i.val + 128 then 1#1 else 0#1 := by
  intro i j
  pointwise [k0_pay2]
  exact Attend.near i j

theorem mask_bot : (Named.named κ "mask" 0xF149F2CA#32 : Ideal .f32) = ⊥ := rfl

end Cert.Dil1Ideal.Tile
end
-- ==== Proof.Dil1Block.lean ====
module
public import proofs.«01_k».proof.Proof.Dil1Tile
public import proofs.«01_k».proof.Proof.Softmax
@[expose] public section
set_option maxRecDepth 16384
noncomputable section
namespace Cert.Dil1Ideal.Tile
open Idealize.ShloMosaic Idealize.ShloMosaic.TcCoe Idealize.SL.Sem
open Cert.Dil1Ideal Cert.Dil1Ideal.Gen
theorem lane00 : ∀ x : Fin 64, IntOp.cmpi CmpIPredicate.eq (laneHead ⟨x.val, by omega⟩) 0#32 = 1#1 := by decide +kernel
theorem lane01 : ∀ x : Fin 64, IntOp.cmpi CmpIPredicate.eq (laneHead ⟨64 + x.val, by omega⟩) 0#32 = 0#1 := by decide +kernel
theorem lane10 : ∀ x : Fin 64, IntOp.cmpi CmpIPredicate.eq (laneHead ⟨x.val, by omega⟩) 1#32 = 0#1 := by decide +kernel
theorem lane11 : ∀ x : Fin 64, IntOp.cmpi CmpIPredicate.eq (laneHead ⟨64 + x.val, by omega⟩) 1#32 = 1#1 := by decide +kernel

theorem sel1 {α : Type} (a b : α) : Scalar.select 1#1 a b = a := rfl
theorem sel0 {α : Type} (a b : α) : Scalar.select 0#1 a b = b := rfl

theorem head0 (f : Fin 128 → EReal) :
    ∑ x : Fin 128, Scalar.select (IntOp.cmpi CmpIPredicate.eq (laneHead x) 0#32) (f x) 0 = ∑ x : Fin 64, f ⟨x.val, by omega⟩ := by
  rw [Fin.sum_univ_two_halves 64 64 rfl]
  simp only [lane00, lane01, sel1, sel0, Finset.sum_const_zero, add_zero]

theorem head1 (f : Fin 128 → EReal) :
    ∑ x : Fin 128, Scalar.select (IntOp.cmpi CmpIPredicate.eq (laneHead x) 1#32) (f x) 0 = ∑ x : Fin 64, f ⟨64 + x.val, by omega⟩ := by
  rw [Fin.sum_univ_two_halves 64 64 rfl]
  simp only [lane10, lane11, sel1, sel0, Finset.sum_const_zero, zero_add]

/-- The masked scores of query row `i` under the head that lane `c` belongs to. -/
def tileScore (q : FVec Ideal S128x128 .bf16) (a : IVec S128x256 1) (k : FVec Ideal S256x128 .bf16) (i c : Fin 128) (j : Fin 256) : EReal :=
  if a (ix2 i j) = 1#1 then
    ∑ x : Fin 64, q (ix2 i ⟨c.val / 64 * 64 + x.val, by omega⟩) * k (ix2 j ⟨c.val / 64 * 64 + x.val, by omega⟩)
  else ⊥

theorem scores0 (q : FVec Ideal S128x128 .bf16) (a : IVec S128x256 1) (k : FVec Ideal S256x128 .bf16) (i c : Fin 128) (hc : c.val < 64) (j : Fin 256) :
    k0_pay10 q a k k0_pay8 k0_pay9 1#32 (ix2 i j) = tileScore q a k i c j := by
  pointwise [k0_pay8, k0_pay9, k0_pay10]
  show Scalar.select (a (ix2 i j)) (∑ x : Fin 128, Scalar.select (IntOp.cmpi CmpIPredicate.eq (laneHead x) 0#32) (q (ix2 i x) * k (ix2 j x)) 0) ⊥ = _
  rw [head0]
  have e : c.val / 64 = 0 := by omega
  simp only [tileScore, e, Nat.zero_mul, Nat.zero_add]
  rfl

theorem scores1 (q : FVec Ideal S128x128 .bf16) (a : IVec S128x256 1) (k : FVec Ideal S256x128 .bf16) (i c : Fin 128) (hc : ¬ c.val < 64) (j : Fin 256) :
    k0_pay18 q a k k0_pay16 k0_pay17 (ix2 i j) = tileScore q a k i c j := by
  pointwise [k0_pay16, k0_pay17, k0_pay18]
  show Scalar.select (a (ix2 i j)) (∑ x : Fin 128, Scalar.select (IntOp.cmpi CmpIPredicate.eq (laneHead x) 1#32) (q (ix2 i x) * k (ix2 j x)) 0) ⊥ = _
  rw [head1]
  have e : c.val / 64 = 1 := by omega
  simp only [tileScore, e, Nat.one_mul]
  rfl

theorem neg_inf : Ideal.ofBits .f32 0xFF800000#32 = ⊥ := by
  simp [Ideal.ofBits, Ideal.ieee]

theorem firstHead : ∀ c : Fin 128, IntOp.cmpi CmpIPredicate.eq (laneHead c) 0#32 = if c.val < 64 then 1#1 else 0#1 := by decide +kernel

/-- A stored output element is the softmax mean of the values at its lane. -/
theorem tileO_at (q : FVec Ideal S128x128 .bf16) (a : IVec S128x256 1) (k v : FVec Ideal S256x128 .bf16) (u w : Fin 1) (i c : Fin 128) :
    tileO q a k v (ix4 u w i c) = Softmax.mean (tileScore q a k i c) (fun j => v (ix2 j c)) := by
  pointwise [tileO, k0_pay22, k0_pay14, k0_pay13, k0_pay12, k0_pay11, k0_pay21, k0_pay20, k0_pay19, k0_pay3]
  show Scalar.select (IntOp.cmpi CmpIPredicate.eq (laneHead c) 0#32) _ _ = _
  rw [firstHead, neg_inf]
  by_cases hc : c.val < 64
  · rw [if_pos hc, sel1]
    simp only [scores0 q a k i c hc]
    rfl
  · rw [if_neg hc, sel0]
    simp only [scores1 q a k i c hc]
    rfl

/-- A stored log-denominator is that of the row's scores under its lane's head. -/
theorem tileL_at (q : FVec Ideal S128x128 .bf16) (a : IVec S128x256 1) (k : FVec Ideal S256x128 .bf16) (u w : Fin 1) (i c : Fin 128) :
    tileL q a k (ix4 u w i c) = Softmax.lse (tileScore q a k i c) := by
  pointwise [tileL, k0_pay23, k0_pay15, k0_pay13, k0_pay12, k0_pay11, k0_pay21, k0_pay20, k0_pay19, k0_pay3]
  show Scalar.select (IntOp.cmpi CmpIPredicate.eq (laneHead c) 0#32) _ _ = _
  rw [firstHead, neg_inf]
  by_cases hc : c.val < 64
  · rw [if_pos hc, sel1]
    simp only [scores0 q a k i c hc]
    rfl
  · rw [if_neg hc, sel0]
    simp only [scores1 q a k i c hc]
    rfl

/-- Key (or value) `j` of the pair of sub-blocks that query row `r` of a tile sees, at lane `c`. -/
def blkKey (P : Vec Ideal S1x1x128x128 .bf16) (C : Vec Ideal S1x1x1024x128 .bf16) (r : Fin 1024) (j : Fin 256) (c : Fin 128) : EReal :=
  if h : r.val / 128 * 128 + j.val < 128 then P (ix4 0 0 ⟨j.val, by omega⟩ c)
  else C (ix4 0 0 ⟨r.val / 128 * 128 + j.val - 128, by omega⟩ c)

/-- The masked scores of query row `r` of a tile, the tile standing `g` tiles behind the first. -/
def blkScore (g : ℕ) (Q : Vec Ideal S1x1x1024x128 .bf16) (P : Vec Ideal S1x1x128x128 .bf16) (C : Vec Ideal S1x1x1024x128 .bf16)
    (r : Fin 1024) (c : Fin 128) (j : Fin 256) : EReal :=
  if (r.val % 128 ≤ j.val ∧ j.val ≤ r.val % 128 + 128) ∧ 128 ≤ g * 1024 + r.val / 128 * 128 + j.val then
    ∑ x : Fin 64, (show EReal from Q (ix4 0 0 r ⟨c.val / 64 * 64 + x.val, by omega⟩)) * blkKey P C r j ⟨c.val / 64 * 64 + x.val, by omega⟩
  else ⊥

theorem tile_blk (g : ℕ) (Q : Vec Ideal S1x1x1024x128 .bf16) (P : Vec Ideal S1x1x128x128 .bf16) (C : Vec Ideal S1x1x1024x128 .bf16)
    (r : Fin 1024) (i : Fin 128) (o : ℕ) (hr : r.val = o * 128 + i.val)
    (q : FVec Ideal S128x128 .bf16) (a : IVec S128x256 1) (k : FVec Ideal S256x128 .bf16)
    (hq : ∀ c : Fin 128, q (ix2 i c) = Q (ix4 0 0 r c))
    (ha : ∀ j : Fin 256, a (ix2 i j) = if (i.val ≤ j.val ∧ j.val ≤ i.val + 128) ∧ 128 ≤ g * 1024 + o * 128 + j.val then 1#1 else 0#1)
    (hk : ∀ (j : Fin 256) (c : Fin 128), k (ix2 j c) = blkKey P C r j c) (c : Fin 128) :
    tileScore q a k i c = blkScore g Q P C r c := by
  funext j
  have e1 : r.val % 128 = i.val := by omega
  have e2 : r.val / 128 = o := by omega
  unfold tileScore blkScore
  rw [ha, e1, e2]
  by_cases h : (i.val ≤ j.val ∧ j.val ≤ i.val + 128) ∧ 128 ≤ g * 1024 + o * 128 + j.val
  · rw [if_pos h, if_pos h, if_pos rfl]
    exact Finset.sum_congr rfl fun x _ => by rw [hq, hk]
  · rw [if_neg h, if_neg h, if_neg (by decide)]

theorem band_later (g o : ℕ) (ho : 0 < o) (i : Fin 128) (j : Fin 256) :
    k0_pay2 (ix2 i j) = if (i.val ≤ j.val ∧ j.val ≤ i.val + 128) ∧ 128 ≤ g * 1024 + o * 128 + j.val then 1#1 else 0#1 := by
  rw [band_eq]
  exact if_congr ⟨fun h => ⟨h, by omega⟩, fun h => h.1⟩ rfl rfl

theorem late : ∀ j : Fin 256, IntOp.cmpi CmpIPredicate.sge (BitVec.ofNat 32 j.val) 128#32 = if 128 ≤ j.val then 1#1 else 0#1 := by decide +kernel
theorem later : ∀ g : Fin 4, Scalar.cmpi CmpIPredicate.sgt (BitVec.ofNat 32 g.val) 0#32 = if 0 < g.val then 1#1 else 0#1 := by decide +kernel

theorem band_first (g : Fin 4) (i : Fin 128) (j : Fin 256) :
    k0_pay5 (BitVec.ofNat 32 g.val) (iota .tc S128x256 32 [1] iota_S128x256_d1_w32) k0_pay2 (ix2 i j)
      = if (i.val ≤ j.val ∧ j.val ≤ i.val + 128) ∧ 128 ≤ g.val * 1024 + 0 * 128 + j.val then 1#1 else 0#1 := by
  pointwise [k0_pay5]
  rw [band_eq, late, later]
  by_cases h1 : i.val ≤ j.val ∧ j.val ≤ i.val + 128
  · rw [if_pos h1]
    by_cases h2 : 128 ≤ j.val
    · rw [if_pos h2, if_pos (show (i.val ≤ j.val ∧ j.val ≤ i.val + 128) ∧ 128 ≤ g.val * 1024 + j.val from ⟨h1, by omega⟩)]
      by_cases h3 : 0 < g.val
      · rw [if_pos h3]; rfl
      · rw [if_neg h3]; rfl
    · rw [if_neg h2]
      by_cases h3 : 0 < g.val
      · rw [if_pos h3, if_pos (show (i.val ≤ j.val ∧ j.val ≤ i.val + 128) ∧ 128 ≤ g.val * 1024 + j.val from ⟨h1, by omega⟩)]; rfl
      · rw [if_neg h3, if_neg (show ¬((i.val ≤ j.val ∧ j.val ≤ i.val + 128) ∧ 128 ≤ g.val * 1024 + j.val) from fun h => by omega)]; rfl
  · rw [if_neg h1, if_neg (show ¬((i.val ≤ j.val ∧ j.val ≤ i.val + 128) ∧ 128 ≤ g.val * 1024 + j.val) from fun h => h1 h.1)]
    exact BitVec.zero_and

theorem row_eq {n : ℕ} (X : Vec Ideal ⟨4, ![1, 1, n, 128]⟩ .bf16) {a b : Fin n} (h : a.val = b.val) (c : Fin 128) :
    X (ix4 0 0 a c) = X (ix4 0 0 b c) := by
  rw [Fin.ext h]

/-- A read of two stacked sub-blocks of a tile. -/
theorem stack_blk (P : Vec Ideal S1x1x128x128 .bf16) (C : Vec Ideal S1x1x1024x128 .bf16) (r : Fin 1024) (i : Fin 128) (o : ℕ)
    (hr : r.val = o * 128 + i.val) (k : FVec Ideal S256x128 .bf16)
    (h0 : ∀ (j c : Fin 128), k (ix2 ⟨j.val, by omega⟩ c) = if h : o = 0 then P (ix4 0 0 j c) else C (ix4 0 0 ⟨o * 128 + j.val - 128, by omega⟩ c))
    (h1 : ∀ (j c : Fin 128), k (ix2 ⟨128 + j.val, by omega⟩ c) = C (ix4 0 0 ⟨o * 128 + j.val, by omega⟩ c))
    (j : Fin 256) (c : Fin 128) : k (ix2 j c) = blkKey P C r j c := by
  have e2 : r.val / 128 = o := by omega
  unfold blkKey
  by_cases hj : j.val < 128
  · refine (h0 ⟨j.val, hj⟩ c).trans ?_
    by_cases ho : o = 0
    · rw [dif_pos ho, dif_pos (by omega)]
    · rw [dif_neg ho, dif_neg (by omega)]
      simp only [e2]
  · have := h1 ⟨j.val - 128, by omega⟩ c
    rw [dif_neg (by omega)]
    have ej : (⟨128 + (j.val - 128), by omega⟩ : Fin 256) = j := Fin.ext (by show 128 + (j.val - 128) = j.val; omega)
    simp only [ej] at this
    refine this.trans (row_eq C ?_ c)
    show o * 128 + (j.val - 128) = r.val / 128 * 128 + j.val - 128
    omega

theorem out5_at (i : grid0.Coords) (X0 : Vec Ideal S1x1x1024x128 .bf16) (X1 : Vec Ideal S1x1x128x128 .bf16)
    (X2 : Vec Ideal S1x1x1024x128 .bf16) (X3 : Vec Ideal S1x1x128x128 .bf16) (X4 : Vec Ideal S1x1x1024x128 .bf16) (u w : Fin 1) (r : Fin 1024) (c : Fin 128) :
    out0_5 i X0 X1 X2 X3 X4 (ix4 u w r c) = Softmax.mean (blkScore (i 2).val X0 X1 X2 r c) (fun j => blkKey X3 X4 r j c) := by
  rw [out5]
  canon_tiles x h
  case piece0 =>
    idx_vars x
    obtain rfl : c = x3 := Fin.ext h3
    rw [tileO_at]
    refine congrArg₂ Softmax.mean (tile_blk _ _ _ _ r x2 7 h2 _ _ _ (fun c => ?_) (fun j => band_later _ 7 (by decide) _ j) (stack_blk _ _ r x2 7 h2 _ (fun j c => ?_) (fun j c => ?_)) _)
      (funext fun j => stack_blk _ _ r x2 7 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece1 =>
    idx_vars x
    obtain rfl : c = x3 := Fin.ext h3
    rw [tileO_at]
    refine congrArg₂ Softmax.mean (tile_blk _ _ _ _ r x2 6 h2 _ _ _ (fun c => ?_) (fun j => band_later _ 6 (by decide) _ j) (stack_blk _ _ r x2 6 h2 _ (fun j c => ?_) (fun j c => ?_)) _)
      (funext fun j => stack_blk _ _ r x2 6 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece2 =>
    idx_vars x
    obtain rfl : c = x3 := Fin.ext h3
    rw [tileO_at]
    refine congrArg₂ Softmax.mean (tile_blk _ _ _ _ r x2 5 h2 _ _ _ (fun c => ?_) (fun j => band_later _ 5 (by decide) _ j) (stack_blk _ _ r x2 5 h2 _ (fun j c => ?_) (fun j c => ?_)) _)
      (funext fun j => stack_blk _ _ r x2 5 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece3 =>
    idx_vars x
    obtain rfl : c = x3 := Fin.ext h3
    rw [tileO_at]
    refine congrArg₂ Softmax.mean (tile_blk _ _ _ _ r x2 4 h2 _ _ _ (fun c => ?_) (fun j => band_later _ 4 (by decide) _ j) (stack_blk _ _ r x2 4 h2 _ (fun j c => ?_) (fun j c => ?_)) _)
      (funext fun j => stack_blk _ _ r x2 4 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece4 =>
    idx_vars x
    obtain rfl : c = x3 := Fin.ext h3
    rw [tileO_at]
    refine congrArg₂ Softmax.mean (tile_blk _ _ _ _ r x2 3 h2 _ _ _ (fun c => ?_) (fun j => band_later _ 3 (by decide) _ j) (stack_blk _ _ r x2 3 h2 _ (fun j c => ?_) (fun j c => ?_)) _)
      (funext fun j => stack_blk _ _ r x2 3 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece5 =>
    idx_vars x
    obtain rfl : c = x3 := Fin.ext h3
    rw [tileO_at]
    refine congrArg₂ Softmax.mean (tile_blk _ _ _ _ r x2 2 h2 _ _ _ (fun c => ?_) (fun j => band_later _ 2 (by decide) _ j) (stack_blk _ _ r x2 2 h2 _ (fun j c => ?_) (fun j c => ?_)) _)
      (funext fun j => stack_blk _ _ r x2 2 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece6 =>
    idx_vars x
    obtain rfl : c = x3 := Fin.ext h3
    rw [tileO_at]
    refine congrArg₂ Softmax.mean (tile_blk _ _ _ _ r x2 1 h2 _ _ _ (fun c => ?_) (fun j => band_later _ 1 (by decide) _ j) (stack_blk _ _ r x2 1 h2 _ (fun j c => ?_) (fun j c => ?_)) _)
      (funext fun j => stack_blk _ _ r x2 1 h2 _ (fun j c => ?_) (fun j c => ?_) j c)
    · pointwise [k0_pay4]; exact row_eq X0 (by simp only []; omega) c
    · pointwise [k0_pay6] <;> exact row_eq X2 (by simp only []; omega) c
    · pointwise [k0_pay6]
    · pointwise [k0_pay6] <;> exact row_eq X4 (by simp only []; omega) c
    · pointwise [k0_pay6]
  case piece7 =>
    idx_vars x
    obtain rfl : c = x3 := Fin.ext h3
    rw [tileO_at]
    refine congrArg₂ Softmax.mean (tile_blk _ _ _ _ r x2 0 (by omega) _ _ _ (fun c => ?_) (fun j => band_first (i 2) _ j) (stack_blk _ _ r x2 0 (by omega) _ (fun j c => ?_) (fun j c => ?_)) _)
      (funext fun j => stack_blk _ _ r x2 0 (by omega) _ (fun j c => ?_) (fun j c => ?_) j c)
    · pointwise [k0_pay4]; exact row_eq X0 (by simp only []; omega) c
    · pointwise [k0_pay6]
    · pointwise [k0_pay6]
    · pointwise [k0_pay6]
    · pointwise [k0_pay6]

theorem out6_at (i : grid0.Coords) (X0 : Vec Ideal S1x1x1024x128 .bf16) (X1 : Vec Ideal S1x1x128x128 .bf16)
    (X2 : Vec Ideal S1x1x1024x128 .bf16) (X3 : Vec Ideal S1x1x128x128 .bf16) (X4 : Vec Ideal S1x1x1024x128 .bf16) (u w : Fin 1) (r : Fin 1024) (c : Fin 128) :
    out0_6 i X0 X1 X2 X3 X4 (ix4 u w r c) = Softmax.lse (blkScore (i 2).val X0 X1 X2 r c) := by
  rw [out6]
  canon_tiles x h
  case piece0 =>
    idx_vars x
    obtain rfl : c = x3 := Fin.ext h3
    rw [tileL_at]
    refine congrArg Softmax.lse (tile_blk _ _ _ _ r x2 7 h2 _ _ _ (fun c => ?_) (fun j => band_later _ 7 (by decide) _ j) (stack_blk _ _ r x2 7 h2 _ (fun j c => ?_) (fun j c => ?_)) _)
    · pointwise [k0_pay4]; exact row_eq X0 (by simp only []; omega) c
    · pointwise [k0_pay6] <;> exact row_eq X2 (by simp only []; omega) c
    · pointwise [k0_pay6]
  case piece1 =>
    idx_vars x
    obtain rfl : c = x3 := Fin.ext h3
    rw [tileL_at]
    refine congrArg Softmax.lse (tile_blk _ _ _ _ r x2 6 h2 _ _ _ (fun c => ?_) (fun j => band_later _ 6 (by decide) _ j) (stack_blk _ _ r x2 6 h2 _ (fun j c => ?_) (fun j c => ?_)) _)
    · pointwise [k0_pay4]; exact row_eq X0 (by simp only []; omega) c
    · pointwise [k0_pay6] <;> exact row_eq X2 (by simp only []; omega) c
    · pointwise [k0_pay6]
  case piece2 =>
    idx_vars x
    obtain rfl : c = x3 := Fin.ext h3
    rw [tileL_at]
    refine congrArg Softmax.lse (tile_blk _ _ _ _ r x2 5 h2 _ _ _ (fun c => ?_) (fun j => band_later _ 5 (by decide) _ j) (stack_blk _ _ r x2 5 h2 _ (fun j c => ?_) (fun j c => ?_)) _)
    · pointwise [k0_pay4]; exact row_eq X0 (by simp only []; omega) c
    · pointwise [k0_pay6] <;> exact row_eq X2 (by simp only []; omega) c
    · pointwise [k0_pay6]
  case piece3 =>
    idx_vars x
    obtain rfl : c = x3 := Fin.ext h3
    rw [tileL_at]
    refine congrArg Softmax.lse (tile_blk _ _ _ _ r x2 4 h2 _ _ _ (fun c => ?_) (fun j => band_later _ 4 (by decide) _ j) (stack_blk _ _ r x2 4 h2 _ (fun j c => ?_) (fun j c => ?_)) _)
    · pointwise [k0_pay4]; exact row_eq X0 (by simp only []; omega) c
    · pointwise [k0_pay6] <;> exact row_eq X2 (by simp only []; omega) c
    · pointwise [k0_pay6]
  case piece4 =>
    idx_vars x
    obtain rfl : c = x3 := Fin.ext h3
    rw [tileL_at]
    refine congrArg Softmax.lse (tile_blk _ _ _ _ r x2 3 h2 _ _ _ (fun c => ?_) (fun j => band_later _ 3 (by decide) _ j) (stack_blk _ _ r x2 3 h2 _ (fun j c => ?_) (fun j c => ?_)) _)
    · pointwise [k0_pay4]; exact row_eq X0 (by simp only []; omega) c
    · pointwise [k0_pay6] <;> exact row_eq X2 (by simp only []; omega) c
    · pointwise [k0_pay6]
  case piece5 =>
    idx_vars x
    obtain rfl : c = x3 := Fin.ext h3
    rw [tileL_at]
    refine congrArg Softmax.lse (tile_blk _ _ _ _ r x2 2 h2 _ _ _ (fun c => ?_) (fun j => band_later _ 2 (by decide) _ j) (stack_blk _ _ r x2 2 h2 _ (fun j c => ?_) (fun j c => ?_)) _)
    · pointwise [k0_pay4]; exact row_eq X0 (by simp only []; omega) c
    · pointwise [k0_pay6] <;> exact row_eq X2 (by simp only []; omega) c
    · pointwise [k0_pay6]
  case piece6 =>
    idx_vars x
    obtain rfl : c = x3 := Fin.ext h3
    rw [tileL_at]
    refine congrArg Softmax.lse (tile_blk _ _ _ _ r x2 1 h2 _ _ _ (fun c => ?_) (fun j => band_later _ 1 (by decide) _ j) (stack_blk _ _ r x2 1 h2 _ (fun j c => ?_) (fun j c => ?_)) _)
    · pointwise [k0_pay4]; exact row_eq X0 (by simp only []; omega) c
    · pointwise [k0_pay6] <;> exact row_eq X2 (by simp only []; omega) c
    · pointwise [k0_pay6]
  case piece7 =>
    idx_vars x
    obtain rfl : c = x3 := Fin.ext h3
    rw [tileL_at]
    refine congrArg Softmax.lse (tile_blk _ _ _ _ r x2 0 (by omega) _ _ _ (fun c => ?_) (fun j => band_first (i 2) _ j) (stack_blk _ _ r x2 0 (by omega) _ (fun j c => ?_) (fun j c => ?_)) _)
    · pointwise [k0_pay4]; exact row_eq X0 (by simp only []; omega) c
    · pointwise [k0_pay6]
    · pointwise [k0_pay6]

end Cert.Dil1Ideal.Tile
end
-- ==== Proof.Dil1Final.lean ====
module

public import proofs.«01_k».proof.Proof.Dil1Block
public import proofs.«01_k».proof.Proof.Attend
public import proofs.«01_k».proof.Proof.Gen.Dil1Ideal.Value

@[expose] public section

set_option maxRecDepth 16384

noncomputable section

namespace Cert.Dil1Ideal.Final

open Cert.Dil1Ideal Cert.Dil1Ideal.Gen Cert.Dil1Ideal.Tile Idealize.ShloMosaic Idealize.ShloMosaic.TcCoe Idealize.SL.Sem

variable (m : (ℓ : Loc nD τ sig) → Buf (Elt Ideal) ℓ) (e : Dev nD)

/-- The queries, keys and values as launched. -/
abbrev argQ : Attend.Heads := m ((e.tc : Thread nD τ).loc main_arg0)
abbrev argK : Attend.Heads := m ((e.tc : Thread nD τ).loc main_arg1)
abbrev argV : Attend.Heads := m ((e.tc : Thread nD τ).loc main_arg2)

theorem q_at (b : Fin 8) (r : Fin 1) (l : Fin 4096) (c : Fin 128) :
    V m e main_v4 (ix4 b r l c) = argQ m e (ix4 b l ⟨c.val / 64, by omega⟩ ⟨c.val % 64, by omega⟩) * Attend.scale := by
  entry_read
  pointwise []
  rfl
theorem k_at (b : Fin 8) (r : Fin 1) (l : Fin 4096) (c : Fin 128) :
    V m e main_v7 (ix4 b r l c) = argK m e (ix4 b l ⟨c.val / 64, by omega⟩ ⟨c.val % 64, by omega⟩) := by
  entry_read
  pointwise []
theorem v_at (b : Fin 8) (r : Fin 1) (l : Fin 4096) (c : Fin 128) :
    V m e main_v10 (ix4 b r l c) = argV m e (ix4 b l ⟨c.val / 64, by omega⟩ ⟨c.val % 64, by omega⟩) := by
  entry_read
  pointwise []

/-- Where the blocks of grid point `t` lie. -/
theorem idx : ∀ t : Fin cfg0.N, win0_0.index t = ![t.val / 4, 0, t.val % 4, 0] ∧ win0_1.index t = ![t.val / 4, 0, t.val % 4 * 8 - 1, 0] ∧ win0_2.index t = ![t.val / 4, 0, t.val % 4, 0] ∧ win0_3.index t = ![t.val / 4, 0, t.val % 4 * 8 - 1, 0] ∧ win0_4.index t = ![t.val / 4, 0, t.val % 4, 0] ∧ win0_5.index t = ![t.val / 4, 0, t.val % 4, 0] ∧ win0_6.index t = ![t.val / 4, 0, t.val % 4, 0] ∧ (grid0.coords t 2).val = t.val % 4 :=
  (by decide +kernel : ∀ t : Fin grid0.N, _)

theorem blk0 (t : Fin cfg0.N) (b : Fin 8) (hb : b.val = t.val / 4) (r : Fin 1024) (l : Fin 4096) (hl : l.val = t.val % 4 * 1024 + r.val) (c : Fin 128) :
    iblk m e 0 t (ix4 0 0 r c) = V m e main_v4 (ix4 b 0 l c) := by
  obtain ⟨h0, h1, h2, h3, h4, h5, h6, h7⟩ := idx t
  blk_point [iblk, V, h0, hb, hl]
theorem blk1 (t : Fin cfg0.N) (b : Fin 8) (hb : b.val = t.val / 4) (r : Fin 128) (l : Fin 4096) (hl : l.val = (t.val % 4 * 8 - 1) * 128 + r.val) (c : Fin 128) :
    iblk m e 1 t (ix4 0 0 r c) = V m e main_v7 (ix4 b 0 l c) := by
  obtain ⟨h0, h1, h2, h3, h4, h5, h6, h7⟩ := idx t
  blk_point [iblk, V, h1, hb, hl]
theorem blk2 (t : Fin cfg0.N) (b : Fin 8) (hb : b.val = t.val / 4) (r : Fin 1024) (l : Fin 4096) (hl : l.val = t.val % 4 * 1024 + r.val) (c : Fin 128) :
    iblk m e 2 t (ix4 0 0 r c) = V m e main_v7 (ix4 b 0 l c) := by
  obtain ⟨h0, h1, h2, h3, h4, h5, h6, h7⟩ := idx t
  blk_point [iblk, V, h2, hb, hl]
theorem blk3 (t : Fin cfg0.N) (b : Fin 8) (hb : b.val = t.val / 4) (r : Fin 128) (l : Fin 4096) (hl : l.val = (t.val % 4 * 8 - 1) * 128 + r.val) (c : Fin 128) :
    iblk m e 3 t (ix4 0 0 r c) = V m e main_v10 (ix4 b 0 l c) := by
  obtain ⟨h0, h1, h2, h3, h4, h5, h6, h7⟩ := idx t
  blk_point [iblk, V, h3, hb, hl]
theorem blk4 (t : Fin cfg0.N) (b : Fin 8) (hb : b.val = t.val / 4) (r : Fin 1024) (l : Fin 4096) (hl : l.val = t.val % 4 * 1024 + r.val) (c : Fin 128) :
    iblk m e 4 t (ix4 0 0 r c) = V m e main_v10 (ix4 b 0 l c) := by
  obtain ⟨h0, h1, h2, h3, h4, h5, h6, h7⟩ := idx t
  blk_point [iblk, V, h4, hb, hl]

/-- A key a query sees, read from the tile's blocks. -/
theorem key_at (t : Fin cfg0.N) (b : Fin 8) (hb : b.val = t.val / 4) (r : Fin 1024) (j : Fin 256) (c : Fin 128)
    (hs : Attend.Sees (t.val % 4 * 1024 + r.val) j.val) :
    blkKey (iblk m e 1 t) (iblk m e 2 t) r j c
      = Attend.rd (argK m e) b (Attend.keyPos 1 0 (t.val % 4 * 1024 + r.val) j.val) ⟨c.val / 64, by omega⟩ ⟨c.val % 64, by omega⟩ := by
  have h2 := hs.2
  have h1 := hs.1
  unfold blkKey
  by_cases h : r.val / 128 * 128 + j.val < 128
  · rw [dif_pos h, blk1 m e t b hb _ ⟨(t.val % 4 * 8 - 1) * 128 + j.val, by omega⟩ rfl, k_at]
    refine Attend.rd_of _ b _ _ _ ?_
    show (t.val % 4 * 8 - 1) * 128 + j.val = ((t.val % 4 * 1024 + r.val) / 128 * 128 + j.val - 128) * 1 + 0
    omega
  · rw [dif_neg h, blk2 m e t b hb _ ⟨t.val % 4 * 1024 + (r.val / 128 * 128 + j.val - 128), by omega⟩ rfl, k_at]
    refine Attend.rd_of _ b _ _ _ ?_
    show t.val % 4 * 1024 + (r.val / 128 * 128 + j.val - 128) = ((t.val % 4 * 1024 + r.val) / 128 * 128 + j.val - 128) * 1 + 0
    omega

/-- A value a query sees, read from the tile's blocks. -/
theorem val_at (t : Fin cfg0.N) (b : Fin 8) (hb : b.val = t.val / 4) (r : Fin 1024) (j : Fin 256) (c : Fin 128)
    (hs : Attend.Sees (t.val % 4 * 1024 + r.val) j.val) :
    blkKey (iblk m e 3 t) (iblk m e 4 t) r j c
      = Attend.vals 1 (argV m e) b 0 (t.val % 4 * 1024 + r.val) ⟨c.val / 64, by omega⟩ ⟨c.val % 64, by omega⟩ j := by
  have h2 := hs.2
  have h1 := hs.1
  unfold blkKey
  by_cases h : r.val / 128 * 128 + j.val < 128
  · rw [dif_pos h, blk3 m e t b hb _ ⟨(t.val % 4 * 8 - 1) * 128 + j.val, by omega⟩ rfl, v_at]
    refine Attend.rd_of _ b _ _ _ ?_
    show (t.val % 4 * 8 - 1) * 128 + j.val = ((t.val % 4 * 1024 + r.val) / 128 * 128 + j.val - 128) * 1 + 0
    omega
  · rw [dif_neg h, blk4 m e t b hb _ ⟨t.val % 4 * 1024 + (r.val / 128 * 128 + j.val - 128), by omega⟩ rfl, v_at]
    refine Attend.rd_of _ b _ _ _ ?_
    show t.val % 4 * 1024 + (r.val / 128 * 128 + j.val - 128) = ((t.val % 4 * 1024 + r.val) / 128 * 128 + j.val - 128) * 1 + 0
    omega

theorem score_at (t : Fin cfg0.N) (b : Fin 8) (hb : b.val = t.val / 4) (r : Fin 1024) (c : Fin 128) :
    blkScore (t.val % 4) (iblk m e 0 t) (iblk m e 1 t) (iblk m e 2 t) r c
      = Attend.scaledFirst 1 (argQ m e) (argK m e) b 0 (t.val % 4 * 1024 + r.val) ⟨c.val / 64, by omega⟩ := by
  funext j
  unfold blkScore Attend.scaledFirst
  by_cases hs : Attend.Sees (t.val % 4 * 1024 + r.val) j.val
  · have h2 := hs.2
    have h1 := hs.1
    have hp : (r.val % 128 ≤ j.val ∧ j.val ≤ r.val % 128 + 128) ∧ 128 ≤ t.val % 4 * 1024 + r.val / 128 * 128 + j.val := ⟨by omega, by omega⟩
    rw [if_pos hs, if_pos hp]
    refine Finset.sum_congr rfl fun x _ => ?_
    rw [key_at m e t b hb r j _ hs, blk0 m e t b hb r ⟨t.val % 4 * 1024 + r.val, by omega⟩ rfl, q_at]
    have ex : (⟨(c.val / 64 * 64 + x.val) / 64, by omega⟩ : Fin 2) = ⟨c.val / 64, by omega⟩ := Fin.ext (by show (c.val / 64 * 64 + x.val) / 64 = c.val / 64; omega)
    have ey : (⟨(c.val / 64 * 64 + x.val) % 64, by omega⟩ : Fin 64) = x := Fin.ext (by show (c.val / 64 * 64 + x.val) % 64 = x.val; omega)
    simp only [ex, ey]
    refine congrArg (· * _) (congrArg (· * _) (Attend.rd_of (argQ m e) b _ _ x ?_))
    show t.val % 4 * 1024 + r.val = (t.val % 4 * 1024 + r.val) * 1 + 0
    omega
  · rw [if_neg hs, if_neg]
    intro h
    exact hs ⟨by omega, by omega⟩

/-- The output array after the run. -/
def outO : (⟨4, ![8, 1, 4096, 128]⟩ : Shape).Idx → EReal := fun y =>
  Softmax.mean (Attend.scaledFirst 1 (argQ m e) (argK m e) (y 0) 0 (y 2).val ⟨(y 3).val / 64, Nat.div_lt_of_lt_mul (y 3).isLt⟩)
    (Attend.vals 1 (argV m e) (y 0) 0 (y 2).val ⟨(y 3).val / 64, Nat.div_lt_of_lt_mul (y 3).isLt⟩ ⟨(y 3).val % 64, Nat.mod_lt _ (by decide)⟩)

/-- The logarithms of the denominators after the run. -/
def outL : (⟨4, ![8, 1, 4096, 128]⟩ : Shape).Idx → EReal := fun y =>
  Softmax.lse (Attend.scaledFirst 1 (argQ m e) (argK m e) (y 0) 0 (y 2).val ⟨(y 3).val / 64, Nat.div_lt_of_lt_mul (y 3).isLt⟩)

theorem final5 : (dats m 0 e).arrAt 5 cfg0.N = outO m e := by
  refine (dats m 0 e).arrAt_eq_of_covers 5 _ (by decide +kernel) fun t _ y => ?_
  blk_simp
  rw [after0_5]
  obtain ⟨h0, h1, h2, h3, h4, h5, h6, h7⟩ := idx t
  idx_vars y
  have hy : ((View.whole main_v11_0).slice (win0_5.rect t)).emb (ix4 y0 y1 y2 y3)
      = ix4 ⟨t.val / 4, Nat.div_lt_of_lt_mul t.isLt⟩ 0 ⟨t.val % 4 * 1024 + y2.val, by omega⟩ y3 := by
    blk_ext [h5]
  rw [hy, out5_at, h7, score_at m e t ⟨t.val / 4, Nat.div_lt_of_lt_mul t.isLt⟩ rfl]
  refine Attend.mean_congr fun j hj => val_at m e t ⟨t.val / 4, Nat.div_lt_of_lt_mul t.isLt⟩ rfl y2 j y3 ?_
  by_contra hs
  exact hj (if_neg hs)

theorem final6 : (dats m 0 e).arrAt 6 cfg0.N = outL m e := by
  refine (dats m 0 e).arrAt_eq_of_covers 6 _ (by decide +kernel) fun t _ y => ?_
  blk_simp
  rw [after0_6]
  obtain ⟨h0, h1, h2, h3, h4, h5, h6, h7⟩ := idx t
  idx_vars y
  have hy : ((View.whole main_v11_1).slice (win0_6.rect t)).emb (ix4 y0 y1 y2 y3)
      = ix4 ⟨t.val / 4, Nat.div_lt_of_lt_mul t.isLt⟩ 0 ⟨t.val % 4 * 1024 + y2.val, by omega⟩ y3 := by
    blk_ext [h6]
  rw [hy, out6_at, h7, score_at m e t ⟨t.val / 4, Nat.div_lt_of_lt_mul t.isLt⟩ rfl]
  rfl

end Cert.Dil1Ideal.Final
end
-- ==== Proof.HostSum.lean ====
/- The host's sum over the last of six axes, read at a result index. -/
module

public import Idealize.ShloMosaic.Lib.Pipeline.ValueKit
@[expose] public section
noncomputable section
namespace Cert.Softmax
open Idealize.ShloMosaic
variable {n0 n1 n2 n3 n4 n5 : ℕ}

theorem last_filter (h : (⟨6, ![n0, n1, n2, n3, n4, n5]⟩ : Shape).ReducesTo [5] ⟨5, ![n0, n1, n2, n3, n4]⟩)
    (a : Fin n0) (b : Fin n1) (c : Fin n2) (d : Fin n3) (e : Fin n4) :
    (Finset.univ.filter fun i => h.drop i = ix5 a b c d e)
      = Finset.univ.map ⟨fun k : Fin n5 => (ix6 a b c d e k : (⟨6, ![n0, n1, n2, n3, n4, n5]⟩ : Shape).Idx), fun k l e => congrFun e 5⟩ := by
  have keep : ∀ i, h.drop i = ix5 (⟨(i 0).val, (i 0).isLt⟩ : Fin n0) ⟨(i 1).val, (i 1).isLt⟩ ⟨(i 2).val, (i 2).isLt⟩ ⟨(i 3).val, (i 3).isLt⟩ ⟨(i 4).val, (i 4).isLt⟩ := by
    intro i
    funext b
    apply Fin.ext
    match b with
    | ⟨0, _⟩ => exact Shape.ReducesTo.drop_apply_val_of_eq h i 0 0 (Nat.lt_of_lt_of_eq (by decide : 0 < 5) rfl) rfl
    | ⟨1, _⟩ => exact Shape.ReducesTo.drop_apply_val_of_eq h i 1 1 (Nat.lt_of_lt_of_eq (by decide : 1 < 5) rfl) rfl
    | ⟨2, _⟩ => exact Shape.ReducesTo.drop_apply_val_of_eq h i 2 2 (Nat.lt_of_lt_of_eq (by decide : 2 < 5) rfl) rfl
    | ⟨3, _⟩ => exact Shape.ReducesTo.drop_apply_val_of_eq h i 3 3 (Nat.lt_of_lt_of_eq (by decide : 3 < 5) rfl) rfl
    | ⟨4, _⟩ => exact Shape.ReducesTo.drop_apply_val_of_eq h i 4 4 (Nat.lt_of_lt_of_eq (by decide : 4 < 5) rfl) rfl
  ext i
  simp only [Finset.mem_filter, Finset.mem_univ, true_and, Finset.mem_map, Function.Embedding.coeFn_mk]
  constructor
  · intro hi
    refine ⟨i 5, ?_⟩
    rw [keep] at hi
    funext x
    match x with
    | ⟨0, _⟩ => exact (congrFun hi 0).symm
    | ⟨1, _⟩ => exact (congrFun hi 1).symm
    | ⟨2, _⟩ => exact (congrFun hi 2).symm
    | ⟨3, _⟩ => exact (congrFun hi 3).symm
    | ⟨4, _⟩ => exact (congrFun hi 4).symm
    | ⟨5, _⟩ => rfl
  · rintro ⟨k, rfl⟩
    exact keep _

/-- The host's sum over the last of six axes. -/
theorem sum_last (h : (⟨6, ![n0, n1, n2, n3, n4, n5]⟩ : Shape).ReducesTo [5] ⟨5, ![n0, n1, n2, n3, n4]⟩)
    (x : (⟨6, ![n0, n1, n2, n3, n4, n5]⟩ : Shape).Idx → EReal) (z : EReal)
    (a : Fin n0) (b : Fin n1) (c : Fin n2) (d : Fin n3) (e : Fin n4) :
    Ideal.hostReduceAdd h x z (ix5 a b c d e) = z + ∑ k : Fin n5, x (ix6 a b c d e k) := by
  rw [Ideal.hostReduceAdd, last_filter, Finset.sum_map]
  rfl
end Cert.Softmax
end
-- ==== Proof.Ref1Rows.lean ====
module

public import proofs.«01_k».proof.Proof.Gen.Ref1Ideal.Run
public import proofs.«01_k».proof.Proof.HostSum
public import proofs.«01_k».proof.Proof.Attend
public import proofs.«01_k».proof.Proof.Band
public import Idealize.ShloMosaic.Lib.Pipeline.ValueKit

@[expose] public section

set_option maxRecDepth 16384

noncomputable section

namespace Cert.Ref1Ideal.Rows

open Idealize.ShloMosaic Idealize.ShloMosaic.TcCoe Idealize.SL.Sem
open Cert.Ref1Ideal Cert.Ref1Ideal.Gen

section stages
variable {F : FTy → Type} [FloatOps F]

/-- Blocks of 128 steps of every residue and head. -/
def blocks (x : FVec F S8x4096x2x64 .f32) : FVec F S8x1x2x32x128x64 .f32 :=
  shapeCast S8x1x2x32x128x64 (transpose S8x1x2x4096x64 [0, 2, 3, 1, 4] (shapeCast S8x4096x1x2x64 x shapeCasts_S8x4096x2x64_S8x4096x1x2x64) transposes_S8x4096x1x2x64_S8x1x2x4096x64_0_2_3_1_4) shapeCasts_S8x1x2x4096x64_S8x1x2x32x128x64

/-- Every block behind the one before it; zeros stand before the first. -/
def pairs (x : FVec F S8x4096x2x64 .f32) : FVec F S8x1x2x32x256x64 .f32 :=
  concatenate S8x1x2x32x256x64 4 [⟨S8x1x2x32x128x64, extractStridedSlice S8x1x2x32x128x64 ![0, 0, 0, 0, 0, 0] (pad S8x1x2x33x128x64 ![0, 0, 0, 1, 0, 0] ![0, 0, 0, 0, 0, 0] ![0, 0, 0, 0, 0, 0] (blocks x) (sitofp .f32 (constantI S_ 32 0#32)) pads_S8x1x2x32x128x64_S8x1x2x33x128x64_000_000_000_100_000_000 h_S_) slices_S8x1x2x33x128x64_S8x1x2x32x128x64_0_0_0_0_0_0⟩, ⟨S8x1x2x32x128x64, blocks x⟩] concatenates_S8x1x2x32x128x64_S8x1x2x32x128x64_S8x1x2x32x256x64_d4

/-- The distance from a query of a block to a key of the pair of blocks. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The keys a query may attend. -/
def allowed : IVec S32x128x256 1 :=
  andi
    (broadcastInDim S32x128x256 ![0, 1, 2] bcast_S1x128x256_S32x128x256_0_1_2 (broadcastInDim S1x128x256 ![1, 2] bcast_S128x256_S1x128x256_1_2
      (andi (cmpi .sge dist (broadcastInDim S128x256 ![] bcast_S_S128x256 (constantI S_ 32 0#32))) (cmpi .sle dist (broadcastInDim S128x256 ![] bcast_S_S128x256 (constantI S_ 32 128#32))))))
    (broadcastInDim S32x128x256 ![0, 1, 2] bcast_S32x1x256_S32x128x256_0_1_2
      (cmpi .sge
        (subi
          (addi
            (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32))))
            (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0)))))
          (broadcastInDim S32x1x256 ![] bcast_S_S32x1x256 (constantI S_ 32 128#32)))
        (broadcastInDim S32x1x256 ![] bcast_S_S32x1x256 (constantI S_ 32 0#32))))

/-- The masked scores. -/
def scores (q k : FVec F S8x4096x2x64 .f32) : FVec F S8x1x2x32x128x256 .f32 :=
  select (broadcastInDim S8x1x2x32x128x256 ![3, 4, 5] bcast_S32x128x256_S8x1x2x32x128x256_3_4_5 allowed)
    (mulf (Host.dotGeneral dot_S8x1x2x32x128x64_S8x1x2x32x256x64_S8x1x2x32x128x256_5_5_4_4_0123_0123 none (blocks q) (pairs k)) (broadcastInDim S8x1x2x32x128x256 ![] bcast_S_S8x1x2x32x128x256 (constant S_ .f32 0x3E000000#32)))
    (broadcastInDim S8x1x2x32x128x256 ![] bcast_S_S8x1x2x32x128x256 (constant S_ .f32 0xFF800000#32))

/-- A number per row, repeated along the row. -/
def along (x : FVec F S8x1x2x32x128 .f32) : FVec F S8x1x2x32x128x256 .f32 :=
  broadcastInDim S8x1x2x32x128x256 ![0, 1, 2, 3, 4, 5] bcast_S8x1x2x32x128x1_S8x1x2x32x128x256_0_1_2_3_4_5 (broadcastInDim S8x1x2x32x128x1 ![0, 1, 2, 3, 4] bcast_S8x1x2x32x128_S8x1x2x32x128x1_0_1_2_3_4 x)

/-- The logarithm of the sum of a row's exponentials. -/
def rowLse (s : FVec F S8x1x2x32x128x256 .f32) : FVec F S8x1x2x32x128 .f32 :=
  Host.log (Host.reduceAdd (Host.exp s) (constant S_ .f32 0x00000000#32) reducesTo_S8x1x2x32x128x256_S8x1x2x32x128_d5 h_S_)

/-- The weighted values. -/
def rowOut (s : FVec F S8x1x2x32x128x256 .f32) (v : FVec F S8x1x2x32x256x64 .f32) : FVec F S8x1x2x32x128x64 .f32 :=
  Host.dotGeneral dot_S8x1x2x32x128x256_S8x1x2x32x256x64_S8x1x2x32x128x64_5_4_4_5_0123_0123 none (Host.exp (subf s (along (rowLse s)))) v

/-- The output, residue by residue, the heads side by side. -/
def refO (q k v : FVec F S8x4096x2x64 .f32) : FVec F S8x1x4096x128 .bf16 :=
  truncf .bf16 (shapeCast S8x1x4096x128 (transpose S8x1x4096x2x64 [0, 1, 3, 2, 4] (shapeCast S8x1x2x4096x64 (rowOut (scores q k) (pairs v)) shapeCasts_S8x1x2x32x128x64_S8x1x2x4096x64) transposes_S8x1x2x4096x64_S8x1x4096x2x64_0_1_3_2_4) shapeCasts_S8x1x4096x2x64_S8x1x4096x128) bitsLt_bf16_f32

/-- The log-denominators in the same layout. -/
def refL (q k : FVec F S8x4096x2x64 .f32) : FVec F S8x1x4096x128 .f32 :=
  shapeCast S8x1x4096x128 (broadcastInDim S8x1x4096x2x64 ![0, 1, 2, 3, 4] bcast_S8x1x4096x2x1_S8x1x4096x2x64_0_1_2_3_4 (broadcastInDim S8x1x4096x2x1 ![0, 1, 2, 3] bcast_S8x1x4096x2_S8x1x4096x2x1_0_1_2_3 (transpose S8x1x4096x2 [0, 1, 3, 2] (shapeCast S8x1x2x4096 (rowLse (scores q k)) shapeCasts_S8x1x2x32x128_S8x1x2x4096) transposes_S8x1x2x4096_S8x1x4096x2_0_1_3_2))) shapeCasts_S8x1x4096x2x64_S8x1x4096x128

theorem out0_eq (m : (ℓ : Loc nD τ sig) → Buf (Elt F) ℓ) (c : Dev nD) :
    Value.res_out0 m c = refO (m ((c.tc : Thread nD τ).loc main_arg0)) (m ((c.tc : Thread nD τ).loc main_arg1)) (m ((c.tc : Thread nD τ).loc main_arg2)) := rfl

end stages

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = refO (F := Ideal) (m ((c.tc : Thread nD τ).loc main_arg0)) (m ((c.tc : Thread nD τ).loc main_arg1)) (m ((c.tc : Thread nD τ).loc main_arg2))
      ∧ r.2.mem ((c.tc : Thread nD τ).loc main_v64) = refL (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem blocks_at (q : FVec Ideal S8x4096x2x64 .f32) (b : Fin 8) (r : Fin 1) (h : Fin 2) (n : Fin 32) (i : Fin 128) (c : Fin 64) :
    blocks q (ix6 b r h n i c) = q (ix4 b ⟨n.val * 128 + i.val, by omega⟩ h c) := by
  pointwise [blocks]

theorem neg_inf : Ideal.ofBits .f32 0xFF800000#32 = (⊥ : EReal) := by simp [Ideal.ofBits, Ideal.ieee]

/-- A block and the one before it, read where a query sees the key. -/
theorem pairs_at (q : FVec Ideal S8x4096x2x64 .f32) (b : Fin 8) (r : Fin 1) (h : Fin 2) (n : Fin 32) (j : Fin 256) (c : Fin 64)
    (hs : 128 ≤ n.val * 128 + j.val) :
    pairs q (ix6 b r h n j c) = q (ix4 b ⟨n.val * 128 + j.val - 128, by omega⟩ h c) := by
  pointwise [pairs, blocks]
  by_cases h1 : j.val < 128
  · rw [dif_pos h1, dif_pos (by omega)]
    congr 2
    exact Fin.ext (by show (n.val - 1) * 128 + j.val = n.val * 128 + j.val - 128; omega)
  · rw [dif_neg h1]
    congr 2
    exact Fin.ext (by show n.val * 128 + (j.val - 128) = n.val * 128 + j.val - 128; omega)

theorem started : ∀ (n : Fin 32) (j : Fin 256), IntOp.cmpi CmpIPredicate.sge
        (IntOp.subi (IntOp.addi (IntOp.muli (BitVec.ofNat 32 n.val) 128#32) (BitVec.ofNat 32 j.val)) 128#32) 0#32
      = if 128 ≤ n.val * 128 + j.val then 1#1 else 0#1 := by decide +kernel

theorem allowed_at (n : Fin 32) (i : Fin 128) (j : Fin 256) :
    allowed (ix3 n i j) = if (i.val ≤ j.val ∧ j.val ≤ i.val + 128) ∧ 128 ≤ n.val * 128 + j.val then 1#1 else 0#1 := by
  pointwise [allowed, dist]
  rw [Attend.near, started]
  by_cases h1 : i.val ≤ j.val ∧ j.val ≤ i.val + 128 <;> by_cases h2 : 128 ≤ n.val * 128 + j.val
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

theorem scores_at (q k : FVec Ideal S8x4096x2x64 .f32) (b : Fin 8) (h : Fin 2) (l : Fin 4096) (j : Fin 256) :
    scores q k (ix6 b 0 h ⟨l.val / 128, by omega⟩ ⟨l.val % 128, by omega⟩ j) = Attend.scaledLast 1 q k b 0 l.val h j := by
  pointwise [scores]
  rw [allowed_at, neg_inf]
  unfold Attend.scaledLast Attend.scale
  by_cases hs : Attend.Sees l.val j.val
  · rw [if_pos hs, if_pos (show (l.val % 128 ≤ j.val ∧ j.val ≤ l.val % 128 + 128) ∧ 128 ≤ l.val / 128 * 128 + j.val from hs)]
    refine congrArg (· * _) (Finset.sum_congr rfl fun x _ => ?_)
    rw [blocks_at, pairs_at k b 0 h ⟨l.val / 128, by omega⟩ j x hs.2]
    refine congrArg₂ (· * ·) (Attend.rd_of q b _ h x ?_) (Attend.rd_of k b _ h x ?_)
    · show l.val / 128 * 128 + l.val % 128 = l.val * 1 + 0
      omega
    · show l.val / 128 * 128 + j.val - 128 = (l.val / 128 * 128 + j.val - 128) * 1 + 0
      omega
  · rw [if_neg hs, if_neg (show ¬ ((l.val % 128 ≤ j.val ∧ j.val ≤ l.val % 128 + 128) ∧ 128 ≤ l.val / 128 * 128 + j.val) from hs)]; rfl

theorem lse_at (s : FVec Ideal S8x1x2x32x128x256 .f32) (b : Fin 8) (h : Fin 2) (n : Fin 32) (i : Fin 128) :
    rowLse s (ix5 b 0 h n i) = Ideal.log (∑ j : Fin 256, Ideal.exp (s (ix6 b 0 h n i j))) := by
  unfold rowLse
  pointwise []
  rw [Softmax.sum_last]
  pointwise []

theorem out_at (s : FVec Ideal S8x1x2x32x128x256 .f32) (w : FVec Ideal S8x1x2x32x256x64 .f32) (b : Fin 8) (h : Fin 2) (n : Fin 32) (i : Fin 128) (c : Fin 64) :
    rowOut s w (ix6 b 0 h n i c) = ∑ j : Fin 256, Ideal.exp (s (ix6 b 0 h n i j) - rowLse s (ix5 b 0 h n i)) * w (ix6 b 0 h n j c) := by
  pointwise [rowOut, along]

theorem vals_at (v : FVec Ideal S8x4096x2x64 .f32) (b : Fin 8) (h : Fin 2) (l : Fin 4096) (j : Fin 256) (c : Fin 64) (hs : Attend.Sees l.val j.val) :
    pairs v (ix6 b 0 h ⟨l.val / 128, by omega⟩ j c) = Attend.vals 1 v b 0 l.val h c j := by
  have h2 := hs.2
  have h1 := hs.1
  rw [pairs_at v b 0 h ⟨l.val / 128, by omega⟩ j c h2]
  refine Attend.rd_of v b _ h c ?_
  show l.val / 128 * 128 + j.val - 128 = (l.val / 128 * 128 + j.val - 128) * 1 + 0
  omega

variable {q k v : FVec Ideal S8x4096x2x64 .f32} (hq : Attend.Real q) (hk : Attend.Real k)
include hq hk

theorem refL_at (b : Fin 8) (r : Fin 1) (l : Fin 4096) (c : Fin 128) :
    refL q k (ix4 b r l c) = Softmax.lse (Attend.scaledLast 1 q k b 0 l.val ⟨c.val / 64, by omega⟩) := by
  obtain rfl : r = 0 := Subsingleton.elim _ _
  pointwise [refL]
  rw [lse_at]
  exact (congrArg (fun s : Fin 256 → EReal => Ideal.log (∑ j, Ideal.exp (s j))) (funext fun j => scores_at q k b _ l j)).trans
    (Softmax.lse_eq (Attend.row 1 hq hk b 0 l.val _))

theorem refO_at (b : Fin 8) (r : Fin 1) (l : Fin 4096) (c : Fin 128) :
    refO q k v (ix4 b r l c) = Softmax.mean (Attend.scaledLast 1 q k b 0 l.val ⟨c.val / 64, by omega⟩) (Attend.vals 1 v b 0 l.val ⟨c.val / 64, by omega⟩ ⟨c.val % 64, by omega⟩) := by
  obtain rfl : r = 0 := Subsingleton.elim _ _
  pointwise [refO]
  rw [out_at, lse_at]
  have row := Attend.row 1 hq hk b 0 l.val ⟨c.val / 64, by omega⟩
  refine (congrArg (fun s : Fin 256 → EReal => ∑ j, Ideal.exp (s j - Ideal.log (∑ j, Ideal.exp (s j))) * pairs v (ix6 b 0 ⟨c.val / 64, by omega⟩ ⟨l.val / 128, by omega⟩ j ⟨c.val % 64, by omega⟩))
    (funext fun j => scores_at q k b _ l j)).trans ?_
  rw [Softmax.lse_eq row]
  refine (Softmax.mean_eq row _).symm.trans (Attend.mean_congr fun j hj => ?_)
  refine vals_at v b _ l j _ ?_
  by_contra hs
  exact hj (if_neg hs)

end Cert.Ref1Ideal.Rows
end
-- ==== Proof.Finite.lean ====
module

public import proofs.«01_k».proof.Defs
public import proofs.«01_k».proof.Proof.Gen.Pre_finite
public import proofs.«01_k».proof.Proof.Attend
public import Idealize.ShloMosaic.Lib.ReduceAll

@[expose] public section

noncomputable section

/-! The precondition: every query and key is a real number. -/
namespace Cert.Attend

open Idealize.ShloMosaic Idealize.SL.Sem

theorem inf : Ideal.ofBits .f32 0x7F800000#32 = (⊤ : EReal) := by simp [Ideal.ofBits, Ideal.ieee]

theorem real_of_abs (x : EReal) (h : Ideal.cmp .olt (max x (-x)) ⊤ = 1#1) : ∃ r : ℝ, x = r := by
  induction x with
  | bot => simp [Ideal.cmp] at h
  | top => simp [Ideal.cmp] at h
  | coe r => exact ⟨r, rfl⟩

theorem real_of_all [hf : Cert.Pre_finite.Facts] (X : FVec Ideal ⟨4, ![8, 4096, 2, 64]⟩ .f32) (i0 : Cert.Pre_finite.S_.Idx)
    (h : Host.reduce IntOp.andi (cmpf .olt (Host.absf X) (broadcastInDim Cert.Pre_finite.S8x4096x2x64 ![] Cert.Pre_finite.Facts.bcast_S_S8x4096x2x64 (constant Cert.Pre_finite.S_ .f32 0x7F800000#32)))
      (constantI Cert.Pre_finite.S_ 1 1#1) Cert.Pre_finite.Facts.reducesTo_S8x4096x2x64_S_d0_1_2_3 Cert.Pre_finite.Facts.h_S_ i0 = 1#1) : Real X := by
  intro i
  have : Subsingleton Cert.Pre_finite.S_.Idx := ⟨fun a b => funext fun k => k.elim0⟩
  have e := Host.reduce_andi_all _ _ _ _ _ h i
  refine real_of_abs (X i) ?_
  rw [← inf]
  exact e

theorem and1 {a b : BitVec 1} (h : IntOp.andi a b = 1#1) : a = 1#1 ∧ b = 1#1 := by
  revert a b; decide

theorem real_args [hf : Cert.Pre_finite.Facts] (Q K V : FVec Ideal ⟨4, ![8, 4096, 2, 64]⟩ .f32)
    (h : Cert.Pre_finite.fn (F := Ideal) Q K V = fun _ => 1#1) : Real Q ∧ Real K := by
  have h0 := congrFun h (Shape.Idx.first Cert.Pre_finite.Facts.h_S_)
  obtain ⟨hQ, hK⟩ := and1 h0
  exact ⟨real_of_all Q _ hQ, real_of_all K _ hK⟩

end Cert.Attend
end
-- ==== Proof.Dil1Claims.lean ====
module

public import proofs.«01_k».proof.Proof.Dil1Final
public import proofs.«01_k».proof.Proof.Ref1Rows
public import proofs.«01_k».proof.Proof.Finite
public import proofs.«01_k».proof.Proof.Gen.Dil1.Frame
public import Idealize.ShloMosaic.Lib.Claim
public import Idealize.ShloMosaic.Lib.Quiescent

@[expose] public section

noncomputable section

/-! The claims about the dilated attention of dilation one. -/
namespace Cert.Dil1Claims

open Idealize.ShloMosaic Idealize.SL.Sem

theorem frame_p : Cert.quiescent_Dil1 := fun m g _ => Cert.Dil1.Gen.frame m g
theorem frame_pi : Cert.quiescent_Dil1Ideal := fun m g _ => Cert.Dil1Ideal.Gen.frame m g
theorem frame_pi_pre : Cert.quiescent_Dil1Ideal_pre_finite := fun m g _ => Cert.Dil1Ideal.Gen.frame m g
theorem frame_r : Cert.quiescent_Ref1Ideal := fun m g _ =>
  (θ_run Cert.Ref1Ideal.defs _ _).mono (fun r h => ⟨fun c => (h c).2.2, sem_eq_zero_of_no_sems (by decide) r.2⟩)
    (Cert.Ref1Ideal.Rows.run_named m g)
theorem frame_r_pre : Cert.quiescent_Ref1Ideal_pre_finite := fun m g _ => frame_r m g trivial

theorem preserves : Cert.preserves_Dil1_Dil1Ideal :=
  IdealRules.named_const.statement Cert.Dil1Ideal.κ "mask" .f32 0xF149F2CA#32 ⊥ rfl

theorem algebraic : Cert.algebraic_Dil1Ideal_Ref1Ideal_pre_finite := by
  intro m ρ m' ρ' hpre hagree
  refine ⟨_, _, Cert.Dil1Ideal.Value.run_blocks (F := Ideal) m ρ, ?_⟩
  refine (θ_run Cert.Ref1Ideal.defs _ _).mono (fun _ h c => ?_) (Cert.Ref1Ideal.Rows.run_named m' ρ')
  obtain ⟨hq, hk⟩ := Attend.real_args _ _ _ (hpre c)
  obtain ⟨hO, hL, hr⟩ := h c
  refine ⟨hO.trans ?_, hL.trans ?_, hr⟩
  · rw [(hagree c).1, (hagree c).2.1, (hagree c).2.2, Cert.Dil1Ideal.Final.final5]
    refine funext fun y => ?_
    rw [← ix4_eta y]
    exact (Cert.Ref1Ideal.Rows.refO_at hq hk (y 0) (y 1) (y 2) (y 3)).trans
      (congrArg (fun s => Softmax.mean s _) (Attend.scaled_eq 1 hq hk (y 0) 0 (y 2).val _).symm)
  · rw [(hagree c).1, (hagree c).2.1, Cert.Dil1Ideal.Final.final6]
    refine funext fun y => ?_
    rw [← ix4_eta y]
    exact (Cert.Ref1Ideal.Rows.refL_at hq hk (y 0) (y 1) (y 2) (y 3)).trans
      (congrArg Softmax.lse (Attend.scaled_eq 1 hq hk (y 0) 0 (y 2).val _).symm)

end Cert.Dil1Claims
end
-- ==== Proof.Combine.lean ====
module

public import Idealize.ShloMosaic.Lib.Pipeline.ValueKit

@[expose] public section

set_option maxRecDepth 16384

noncomputable section

/-! The last step of the layer for one token: the routed experts weighted and summed, the shared expert, the residual and
the layer norm. What the kernel and the reference both compute, lane by lane. -/
namespace Cert.Combine

open Idealize.ShloMosaic

/-- The mean of a token's 1024 lanes. -/
def mean (f : Fin 1024 → EReal) : EReal := Ideal.div (∑ k, f k) (Ideal.ofBits .f32 0x44800000#32)

/-- A lane less the mean. -/
def centred (f : Fin 1024 → EReal) (c : Fin 1024) : EReal := f c - mean f

/-- The layer norm before gain and offset. -/
def normed (f : Fin 1024 → EReal) (c : Fin 1024) : EReal :=
  centred f c * Ideal.rsqrt (mean (fun k => centred f k * centred f k) + Ideal.ofBits .f32 0x3727C5AC#32)

/-- Lane `c` of a row of 512 words of two halves: the low halves are the first 512 lanes, the high ones the rest. -/
def lane (w : Fin 512 → BitVec 32) (c : Fin 1024) : EReal :=
  if h : c.val < 512 then Ideal.ofBits .bf16 ((w ⟨c.val, h⟩).extractLsb' 0 16)
  else Ideal.ofBits .bf16 ((w ⟨c.val - 512, by omega⟩).extractLsb' 16 16)

/-- The routed experts' sum. -/
def routed (g : Fin 8 → EReal) (w : Fin 8 → Fin 512 → BitVec 32) (c : Fin 1024) : EReal := ∑ k, g k * lane (w k) c

/-- A hidden lane of the shared expert: the gate times its logistic, times the upward product. -/
def hidden (x : Fin 1024 → EReal) (wg wu : Fin 1024 → EReal) : EReal :=
  (∑ k, x k * wg k) * Ideal.logistic (∑ k, x k * wg k) * ∑ k, x k * wu k

/-- The shared expert. -/
def shared (x : Fin 1024 → EReal) (wg wu : Fin 1024 → Fin 256 → EReal) (wd : Fin 256 → Fin 1024 → EReal) (c : Fin 1024) : EReal :=
  ∑ j, hidden x (fun k => wg k j) (fun k => wu k j) * wd j c

/-- What the norm takes: the residual, scaled, and both experts' sums. -/
def summed (x : Fin 1024 → EReal) (g : Fin 8 → EReal) (w : Fin 8 → Fin 512 → BitVec 32)
    (wg wu : Fin 1024 → Fin 256 → EReal) (wd : Fin 256 → Fin 1024 → EReal) (c : Fin 1024) : EReal :=
  Ideal.ofBits .f32 0x3F9837F0#32 * x c + (routed g w c + shared x wg wu wd c)

/-- The layer's result. -/
def result (x : Fin 1024 → EReal) (g : Fin 8 → EReal) (w : Fin 8 → Fin 512 → BitVec 32)
    (wg wu : Fin 1024 → Fin 256 → EReal) (wd : Fin 256 → Fin 1024 → EReal) (gain off : Fin 1024 → EReal) (c : Fin 1024) : EReal :=
  normed (summed x g w wg wu wd) c * gain c + off c

theorem ones : ∀ i : Fin 16, (65535#16)[i.val] = true := by decide
theorem low_half (w : BitVec 32) : (w &&& 65535#32).setWidth 16 = w.extractLsb' 0 16 := by
  ext i hi
  have h := ones ⟨i, hi⟩
  simp [BitVec.getElem_setWidth, BitVec.getElem_extractLsb']
  exact fun _ => h
theorem high_half (w : BitVec 32) : (w >>> 16).setWidth 16 = w.extractLsb' 16 16 := by
  ext i hi
  simp [BitVec.getElem_setWidth, BitVec.getElem_extractLsb']
end Cert.Combine
end
-- ==== Proof.CombTile.lean ====
module

public import proofs.«01_k».proof.Proof.Combine
public import proofs.«01_k».proof.Proof.Gen.CombIdeal.Frame

@[expose] public section

set_option maxRecDepth 16384

noncomputable section

/-! The body's output block, read at a token and a lane. -/
namespace Cert.CombIdeal.Tile

open Idealize.ShloMosaic Idealize.ShloMosaic.TcCoe Idealize.SL.Sem
open Cert.CombIdeal Cert.CombIdeal.Gen

section stages
variable {F : FTy → Type} [FloatOps F]

/-- What the norm takes: the last two experts added to the sums of the first six, the shared expert and the residual. -/
def total (v0 v14 : FVec F S512x1024 .f32) (v15 : FVec F S512x8 .f32) (v79 v83 : FVec F S512x512 .f32) (v84 v95 : Vec F S1x512x512 .i32) : FVec F S512x1024 .f32 :=
  have v85 : IVec S512x512 32 := shapeCast S512x512 v84 shapeCasts_S1x512x512_S512x512
  have v86 : FVec F S512x1 .f32 := extractStridedSlice S512x1 ![0, 6] v15 slices_S512x8_o0_6_S512x1
  have v87 : FVec F S512x512 .f32 := unpackElementwise 0 v85
  have v88 : FVec F S512x512 .f32 := broadcastTo S512x512 v86 broadcasts_S512x1_S512x512
  have v89 : FVec F S512x512 .f32 := mulf v88 v87
  have v90 : FVec F S512x512 .f32 := addf v79 v89
  have v91 : FVec F S512x512 .f32 := unpackElementwise 1 v85
  have v92 : FVec F S512x512 .f32 := broadcastTo S512x512 v86 broadcasts_S512x1_S512x512
  have v93 : FVec F S512x512 .f32 := mulf v92 v91
  have v94 : FVec F S512x512 .f32 := addf v83 v93
  have v96 : IVec S512x512 32 := shapeCast S512x512 v95 shapeCasts_S1x512x512_S512x512
  have v97 : FVec F S512x1 .f32 := extractStridedSlice S512x1 ![0, 7] v15 slices_S512x8_o0_7_S512x1
  have v98 : FVec F S512x512 .f32 := unpackElementwise 0 v96
  have v99 : FVec F S512x512 .f32 := broadcastTo S512x512 v97 broadcasts_S512x1_S512x512
  have v100 : FVec F S512x512 .f32 := mulf v99 v98
  have v101 : FVec F S512x512 .f32 := addf v90 v100
  have v102 : FVec F S512x512 .f32 := unpackElementwise 1 v96
  have v103 : FVec F S512x512 .f32 := broadcastTo S512x512 v97 broadcasts_S512x1_S512x512
  have v104 : FVec F S512x512 .f32 := mulf v103 v102
  have v105 : FVec F S512x512 .f32 := addf v94 v104
  have v106 : FVec F S512x1024 .f32 := concatenate S512x1024 1 [⟨S512x512, v101⟩, ⟨S512x512, v105⟩] concatenates_S512x512_S512x512_S512x1024_d1
  have cst_30 : F .f32 := Scalar.ofBits .f32 0x3F9837F0#32
  have v107 : FVec F S512x1024 .f32 := broadcast S512x1024 cst_30
  have v108 : FVec F S512x1024 .f32 := mulf v107 v0
  have v109 : FVec F S512x1024 .f32 := addf v106 v14
  have v110 : FVec F S512x1024 .f32 := addf v108 v109
  v110

/-- Every lane less its token's mean. -/
def cen (v : FVec F S512x1024 .f32) : FVec F S512x1024 .f32 :=
  subf v (broadcastTo S512x1024 (divf (shapeCast S512x1 (multiReduction .add [1] S512 v 0x00000000#32 reduces_S512x1024_S512 (.inl rfl) rfl) shapeCasts_S512_S512x1) (broadcast S512x1 (Scalar.ofBits .f32 0x44800000#32))) broadcasts_S512x1_S512x1024)

/-- The reciprocal root of a token's mean square, along its lanes. -/
def rstd (v : FVec F S512x1024 .f32) : FVec F S512x1024 .f32 :=
  broadcastTo S512x1024 (rsqrt (addf (divf (shapeCast S512x1 (multiReduction .add [1] S512 (mulf v v) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024

theorem pay23 (v0 v14 : FVec F S512x1024 .f32) (v15 : FVec F S512x8 .f32) (v79 v83 : FVec F S512x512 .f32) (v84 v95 : Vec F S1x512x512 .i32) :
    k0_pay23 v0 v14 v15 v79 v83 v84 v95 = cen (total v0 v14 v15 v79 v83 v84 v95) := rfl
theorem pay24 (v0 v14 : FVec F S512x1024 .f32) (v15 : FVec F S512x8 .f32) (v79 v83 : FVec F S512x512 .f32) (v84 v95 : Vec F S1x512x512 .i32) :
    k0_pay24 v0 v14 v15 v79 v83 v84 v95 = rstd (cen (total v0 v14 v15 v79 v83 v84 v95)) := rfl

/-- The block the norm takes, from the input blocks. -/
def blockTotal (x0 : Vec F S512x1024 .f32) (x1 : Vec F S512x8 .f32) (x2 : Vec F S8x512x512 .i32) (x3 x4 : Vec F S1024x256 .bf16) (x5 : Vec F S256x1024 .bf16) : FVec F S512x1024 .f32 :=
  total (View.ld x0 r0_0) (k0_pay2 (View.ld x0 r0_0) (View.ld x3 r0_1) (View.ld x4 r0_1) (View.ld x5 r0_2)) (View.ld x1 r0_3)
    (k0_pay19 (View.ld x1 r0_3) (k0_pay8 (View.ld x1 r0_3) (View.ld x2 r0_4) (View.ld x2 r0_5)) (View.ld x2 r0_6) (View.ld x2 r0_7) (View.ld x2 r0_8) (View.ld x2 r0_9))
    (k0_pay20 (View.ld x1 r0_3) (k0_pay5 (View.ld x1 r0_3) (View.ld x2 r0_4)) (k0_pay9 (View.ld x2 r0_5)) (k0_pay10 (View.ld x1 r0_3)) (View.ld x2 r0_6) (View.ld x2 r0_7) (View.ld x2 r0_8) (View.ld x2 r0_9))
    (View.ld x2 r0_10) (View.ld x2 r0_11)

theorem out8 (x0 : Vec F S512x1024 .f32) (x1 : Vec F S512x8 .f32) (x2 : Vec F S8x512x512 .i32) (x3 x4 : Vec F S1024x256 .bf16) (x5 : Vec F S256x1024 .bf16) (x6 x7 : Vec F S1x1024 .f32) :
    out0_8 x0 x1 x2 x3 x4 x5 x6 x7 = View.canon [⟨r0_0, k0_pay1 (k0_pay21 (View.ld x6 r0_12)) (k0_pay22 (View.ld x7 r0_12)) (cen (blockTotal x0 x1 x2 x3 x4 x5)) (rstd (cen (blockTotal x0 x1 x2 x3 x4 x5)))⟩] := rfl

end stages

theorem shared_at (x : FVec Ideal S512x1024 .f32) (wg wu : FVec Ideal S1024x256 .bf16) (wd : FVec Ideal S256x1024 .bf16) (r : Fin 512) (c : Fin 1024) :
    k0_pay2 (F := Ideal) x wg wu wd (ix2 r c)
      = Combine.shared (fun k => x (ix2 r k)) (fun k j => wg (ix2 k j)) (fun k j => wu (ix2 k j)) (fun j c => wd (ix2 j c)) c := by
  pointwise [k0_pay2]
  rfl

theorem cen_at (v : FVec Ideal S512x1024 .f32) (r : Fin 512) (c : Fin 1024) :
    cen (F := Ideal) v (ix2 r c) = Combine.centred (fun k => v (ix2 r k)) c := by
  pointwise [cen]
  rfl

theorem rstd_at (v : FVec Ideal S512x1024 .f32) (r : Fin 512) (c : Fin 1024) :
    rstd (F := Ideal) v (ix2 r c) = Ideal.rsqrt (Combine.mean (fun k => v (ix2 r k) * v (ix2 r k)) + Ideal.ofBits .f32 0x3727C5AC#32) := by
  pointwise [rstd]
  rfl

theorem blockTotal_at (x0 : Vec Ideal S512x1024 .f32) (x1 : Vec Ideal S512x8 .f32) (x2 : Vec Ideal S8x512x512 .i32) (x3 x4 : Vec Ideal S1024x256 .bf16) (x5 : Vec Ideal S256x1024 .bf16)
    (r : Fin 512) (c : Fin 1024) :
    blockTotal (F := Ideal) x0 x1 x2 x3 x4 x5 (ix2 r c)
      = Combine.summed (fun k => x0 (ix2 r k)) (fun k => x1 (ix2 r k)) (fun k c => x2 (ix3 k r c)) (fun k j => x3 (ix2 k j)) (fun k j => x4 (ix2 k j)) (fun j c => x5 (ix2 j c)) c := by
  unfold blockTotal total
  pointwise [shared_at, k0_pay19, k0_pay20, k0_pay8, k0_pay5, k0_pay9, k0_pay10, k0_pay3, k0_pay4, k0_pay6, k0_pay7, k0_pay11, k0_pay12, k0_pay13, k0_pay14, k0_pay15, k0_pay16, k0_pay17, k0_pay18]
  unfold Combine.summed Combine.routed Combine.lane
  rw [Fin.sum_univ_eight]
  by_cases h : c.val < 512
  · simp only [dif_pos h]
  · simp only [dif_neg h]

theorem out8_at (x0 : Vec Ideal S512x1024 .f32) (x1 : Vec Ideal S512x8 .f32) (x2 : Vec Ideal S8x512x512 .i32) (x3 x4 : Vec Ideal S1024x256 .bf16) (x5 : Vec Ideal S256x1024 .bf16)
    (x6 x7 : Vec Ideal S1x1024 .f32) (r : Fin 512) (c : Fin 1024) :
    out0_8 (F := Ideal) x0 x1 x2 x3 x4 x5 x6 x7 (ix2 r c)
      = Combine.result (fun k => x0 (ix2 r k)) (fun k => x1 (ix2 r k)) (fun k c => x2 (ix3 k r c)) (fun k j => x3 (ix2 k j)) (fun k j => x4 (ix2 k j)) (fun j c => x5 (ix2 j c))
          (fun k => x6 (ix2 0 k)) (fun k => x7 (ix2 0 k)) c := by
  rw [out8]
  have hT : (fun k => blockTotal (F := Ideal) x0 x1 x2 x3 x4 x5 (ix2 r k)) = Combine.summed (fun k => x0 (ix2 r k)) (fun k => x1 (ix2 r k)) (fun k c => x2 (ix3 k r c)) (fun k j => x3 (ix2 k j)) (fun k j => x4 (ix2 k j)) (fun j c => x5 (ix2 j c)) :=
    funext fun k => blockTotal_at x0 x1 x2 x3 x4 x5 r k
  canon_tiles x h
  have hx : x = ix2 r c := by
    rw [← ix2_eta x]
    exact congrArg₂ ix2 (Fin.ext h0.symm) (Fin.ext h1.symm)
  rw [hx]
  pointwise [k0_pay1, k0_pay21, k0_pay22, cen_at, rstd_at]
  rw [hT]
  rfl
end Cert.CombIdeal.Tile
end
-- ==== Proof.CombFinal.lean ====
module

public import proofs.«01_k».proof.Proof.CombTile

@[expose] public section

set_option maxRecDepth 16384

noncomputable section

/-! The array the combining call leaves, read at every token and lane. -/
namespace Cert.CombIdeal.Final

open Cert.CombIdeal Cert.CombIdeal.Gen Cert.CombIdeal.Tile Idealize.ShloMosaic Idealize.ShloMosaic.TcCoe Idealize.SL.Sem

variable (m : (ℓ : Loc nD τ sig) → Buf (Elt Ideal) ℓ) (e : Dev nD)

/-- The layer's result at token `n` and lane `c`, from the arguments as launched. -/
def outAt (n : Fin 32768) (c : Fin 1024) : EReal :=
  Combine.result (fun k => m ((e.tc : Thread nD τ).loc main_arg0) (ix2 n k)) (fun k => m ((e.tc : Thread nD τ).loc main_arg1) (ix2 n k))
    (fun k c => m ((e.tc : Thread nD τ).loc main_arg2) (ix3 k n c)) (fun k j => m ((e.tc : Thread nD τ).loc main_arg3) (ix2 k j))
    (fun k j => m ((e.tc : Thread nD τ).loc main_arg4) (ix2 k j)) (fun j c => m ((e.tc : Thread nD τ).loc main_arg5) (ix2 j c))
    (fun k => m ((e.tc : Thread nD τ).loc main_arg6) (ix1 k)) (fun k => m ((e.tc : Thread nD τ).loc main_arg7) (ix1 k)) c

def out : FVec Ideal S32768x1024 .f32 := fun y => outAt m e (y 0) (y 1)

theorem gate_at (k : Fin 1024) (j : Fin 256) : V m e main_v0 (ix2 k j) = m ((e.tc : Thread nD τ).loc main_arg3) (ix2 k j) := by
  entry_read
  pointwise []
theorem up_at (k : Fin 1024) (j : Fin 256) : V m e main_v1 (ix2 k j) = m ((e.tc : Thread nD τ).loc main_arg4) (ix2 k j) := by
  entry_read
  pointwise []
theorem down_at (j : Fin 256) (k : Fin 1024) : V m e main_v2 (ix2 j k) = m ((e.tc : Thread nD τ).loc main_arg5) (ix2 j k) := by
  entry_read
  pointwise []
theorem gain_at (k : Fin 1024) : V m e main_v3 (ix2 0 k) = m ((e.tc : Thread nD τ).loc main_arg6) (ix1 k) := by
  entry_read
  pointwise []
theorem off_at (k : Fin 1024) : V m e main_v4 (ix2 0 k) = m ((e.tc : Thread nD τ).loc main_arg7) (ix1 k) := by
  entry_read
  pointwise []

/-- Where the blocks of grid point `t` lie. -/
theorem idx : ∀ t : Fin cfg0.N, win0_0.index t = ![t.val, 0] ∧ win0_1.index t = ![t.val, 0] ∧ win0_2.index t = ![0, t.val, 0] ∧ win0_3.index t = ![0, 0] ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

theorem blk0 (t : Fin cfg0.N) (r : Fin 512) (n : Fin 32768) (hn : n.val = t.val * 512 + r.val) (c : Fin 1024) :
    iblk m e 0 t (ix2 r c) = m ((e.tc : Thread nD τ).loc main_arg0) (ix2 n c) := by
  obtain ⟨h0, h1, h2, h3, h4, h5, h6, h7, h8⟩ := idx t
  rw [← V_main_arg0 m e]
  blk_point [iblk, V, h0, hn]
theorem blk1 (t : Fin cfg0.N) (r : Fin 512) (n : Fin 32768) (hn : n.val = t.val * 512 + r.val) (c : Fin 8) :
    iblk m e 1 t (ix2 r c) = m ((e.tc : Thread nD τ).loc main_arg1) (ix2 n c) := by
  obtain ⟨h0, h1, h2, h3, h4, h5, h6, h7, h8⟩ := idx t
  rw [← V_main_arg1 m e]
  blk_point [iblk, V, h1, hn]
theorem blk2 (t : Fin cfg0.N) (r : Fin 512) (n : Fin 32768) (hn : n.val = t.val * 512 + r.val) (k : Fin 8) (c : Fin 512) :
    iblk m e 2 t (ix3 k r c) = m ((e.tc : Thread nD τ).loc main_arg2) (ix3 k n c) := by
  obtain ⟨h0, h1, h2, h3, h4, h5, h6, h7, h8⟩ := idx t
  rw [← V_main_arg2 m e]
  blk_point [iblk, V, h2, hn]
theorem blk3 (t : Fin cfg0.N) (k : Fin 1024) (j : Fin 256) : iblk m e 3 t (ix2 k j) = m ((e.tc : Thread nD τ).loc main_arg3) (ix2 k j) := by
  obtain ⟨h0, h1, h2, h3, h4, h5, h6, h7, h8⟩ := idx t
  rw [← gate_at m e]
  blk_point [iblk, V, h3]
theorem blk4 (t : Fin cfg0.N) (k : Fin 1024) (j : Fin 256) : iblk m e 4 t (ix2 k j) = m ((e.tc : Thread nD τ).loc main_arg4) (ix2 k j) := by
  obtain ⟨h0, h1, h2, h3, h4, h5, h6, h7, h8⟩ := idx t
  rw [← up_at m e]
  blk_point [iblk, V, h4]
theorem blk5 (t : Fin cfg0.N) (j : Fin 256) (k : Fin 1024) : iblk m e 5 t (ix2 j k) = m ((e.tc : Thread nD τ).loc main_arg5) (ix2 j k) := by
  obtain ⟨h0, h1, h2, h3, h4, h5, h6, h7, h8⟩ := idx t
  rw [← down_at m e]
  blk_point [iblk, V, h5]
theorem blk6 (t : Fin cfg0.N) (k : Fin 1024) : iblk m e 6 t (ix2 0 k) = m ((e.tc : Thread nD τ).loc main_arg6) (ix1 k) := by
  obtain ⟨h0, h1, h2, h3, h4, h5, h6, h7, h8⟩ := idx t
  rw [← gain_at m e]
  blk_point [iblk, V, h6]
theorem blk7 (t : Fin cfg0.N) (k : Fin 1024) : iblk m e 7 t (ix2 0 k) = m ((e.tc : Thread nD τ).loc main_arg7) (ix1 k) := by
  obtain ⟨h0, h1, h2, h3, h4, h5, h6, h7, h8⟩ := idx t
  rw [← off_at m e]
  blk_point [iblk, V, h7]

theorem final8 : (dats m 0 e).arrAt 8 cfg0.N = out m e := by
  refine (dats m 0 e).arrAt_eq_of_covers 8 _ (by decide +kernel) fun t _ y => ?_
  blk_simp
  rw [after0_8]
  obtain ⟨h0, h1, h2, h3, h4, h5, h6, h7, h8⟩ := idx t
  idx_vars y
  have ht : t.val < 64 := t.isLt
  have hy : ((View.whole main_v5).slice (win0_8.rect t)).emb (ix2 y0 y1) = ix2 (⟨t.val * 512 + y0.val, by omega⟩ : Fin 32768) y1 := by
    blk_ext [h8]
  rw [hy, out8_at]
  simp only [blk0 m e t y0 ⟨t.val * 512 + y0.val, by omega⟩ rfl, blk1 m e t y0 ⟨t.val * 512 + y0.val, by omega⟩ rfl, blk2 m e t y0 ⟨t.val * 512 + y0.val, by omega⟩ rfl,
    blk3 m e t, blk4 m e t, blk5 m e t, blk6 m e t, blk7 m e t]
  rfl

end Cert.CombIdeal.Final
end
-- ==== Proof.RefCombRows.lean ====
module

public import proofs.«01_k».proof.Proof.Combine
public import proofs.«01_k».proof.Proof.Gen.RefCombIdeal.Run

@[expose] public section

set_option maxRecDepth 16384

noncomputable section

/-! The reference's result, read at every token and lane. -/
namespace Cert.RefCombIdeal.Rows

open Idealize.ShloMosaic Idealize.ShloMosaic.TcCoe Idealize.SL.Sem
open Cert.RefCombIdeal Cert.RefCombIdeal.Gen

section stages
variable {F : FTy → Type} [FloatOps F]

/-- A product with one of the shared expert's first two matrices. -/
def proj (x : FVec F S32768x1024 .f32) (w : FVec F S1024x256 .f32) : FVec F S32768x256 .f32 :=
  Host.dotGeneral dot_S32768x1024_S1024x256_S32768x256_1_0_0_1_n_n none x w

/-- The hidden lanes of the shared expert. -/
def hid (a u : FVec F S32768x256 .f32) : FVec F S32768x256 .f32 :=
  mulf (mulf a (Host.divf (broadcastInDim S32768x256 ![] bcast_S_S32768x256 (constant S_ .f32 0x3F800000#32)) (addf (broadcastInDim S32768x256 ![] bcast_S_S32768x256 (constant S_ .f32 0x3F800000#32)) (Host.exp (Host.negf a))))) u

/-- The experts' rows, unpacked. -/
def rows (w : IVec S8x32768x512 32) : FVec F S8x32768x1024 .f32 :=
  extf .f32 (concatenate S8x32768x1024 2 [⟨S8x32768x512, (bitcastToFloat (F := F) .bf16 (trunci 16 (andi w (broadcastInDim S8x32768x512 ![] bcast_S_S8x32768x512 (constantI S_ 32 65535#32))) natLt_16_32))⟩, ⟨S8x32768x512, (bitcastToFloat (F := F) .bf16 (trunci 16 (Host.shrui w (broadcastInDim S8x32768x512 ![] bcast_S_S8x32768x512 (constantI S_ 32 16#32))) natLt_16_32))⟩] concatenates_S8x32768x512_S8x32768x512_S8x32768x1024_d2) bitsLt_bf16_f32

/-- What the norm takes. -/
def total (x : FVec F S32768x1024 .f32) (g : FVec F S32768x8 .f32) (w : IVec S8x32768x512 32) (wg wu : FVec F S1024x256 .f32) (wd : FVec F S256x1024 .f32) : FVec F S32768x1024 .f32 :=
  addf (mulf (broadcastInDim S32768x1024 ![] bcast_S_S32768x1024 (constant S_ .f32 0x3F9837F0#32)) x)
    (addf (Host.dotGeneral dot_S32768x8_S8x32768x1024_S32768x1024_1_0_n_2_0_1 none g (rows w)) (Host.dotGeneral dot_S32768x256_S256x1024_S32768x1024_1_0_0_1_n_n none (hid (proj x wg) (proj x wu)) wd))

/-- The mean of every token, one number per token. -/
def means (v : FVec F S32768x1024 .f32) : FVec F S32768x1 .f32 :=
  Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32))

/-- Every lane less its token's mean. -/
def cen (v : FVec F S32768x1024 .f32) : FVec F S32768x1024 .f32 :=
  subf v (broadcastInDim S32768x1024 ![0, 1] bcast_S32768x1_S32768x1024_0_1 (means v))

/-- The layer norm. -/
def norm (v : FVec F S32768x1024 .f32) (a b : FVec F S1024 .f32) : FVec F S32768x1024 .f32 :=
  addf (mulf (mulf (cen v) (broadcastInDim S32768x1024 ![0, 1] bcast_S32768x1_S32768x1024_0_1 (Host.rsqrt (addf (means (mulf (cen v) (cen v))) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 a))) (broadcastInDim S32768x1024 ![0, 1] bcast_S1x1024_S32768x1024_0_1 (broadcastInDim S1x1024 ![1] bcast_S1024_S1x1024_1 b))

theorem out0_eq (m : (ℓ : Loc nD τ sig) → Buf (Elt F) ℓ) (c : Dev nD) :
    Value.res_out0 m c = norm (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      (m ((c.tc : Thread nD τ).loc main_arg6)) (m ((c.tc : Thread nD τ).loc main_arg7)) := rfl

end stages

theorem means_at (v : FVec Ideal S32768x1024 .f32) (n : Fin 32768) (z : Fin 1) : means (F := Ideal) v (ix2 n z) = Combine.mean (fun k => v (ix2 n k)) := by
  pointwise [means]
  rfl

theorem cen_at (v : FVec Ideal S32768x1024 .f32) (n : Fin 32768) (c : Fin 1024) : cen (F := Ideal) v (ix2 n c) = Combine.centred (fun k => v (ix2 n k)) c := by
  pointwise [cen, means_at]
  rfl

theorem norm_at (v : FVec Ideal S32768x1024 .f32) (a b : FVec Ideal S1024 .f32) (n : Fin 32768) (c : Fin 1024) :
    norm (F := Ideal) v a b (ix2 n c) = Combine.normed (fun k => v (ix2 n k)) c * a (ix1 c) + b (ix1 c) := by
  pointwise [norm, means_at, cen_at]
  rfl

theorem hid_at (x : FVec Ideal S32768x1024 .f32) (wg wu : FVec Ideal S1024x256 .f32) (n : Fin 32768) (j : Fin 256) :
    hid (F := Ideal) (proj x wg) (proj x wu) (ix2 n j) = Combine.hidden (fun k => x (ix2 n k)) (fun k => wg (ix2 k j)) (fun k => wu (ix2 k j)) := by
  pointwise [hid, proj]
  rfl

theorem rows_at (w : IVec S8x32768x512 32) (k : Fin 8) (n : Fin 32768) (c : Fin 1024) :
    rows (F := Ideal) w (ix3 k n c) = Combine.lane (fun c => w (ix3 k n c)) c := by
  unfold Combine.lane
  by_cases h : c.val < 512
  · rw [dif_pos h, ← Combine.low_half]
    pointwise [rows]
    rw [dif_pos h]
    rfl
  · rw [dif_neg h, ← Combine.high_half]
    pointwise [rows]
    rw [dif_neg h]
    rfl

theorem total_at (x : FVec Ideal S32768x1024 .f32) (g : FVec Ideal S32768x8 .f32) (w : IVec S8x32768x512 32) (wg wu : FVec Ideal S1024x256 .f32) (wd : FVec Ideal S256x1024 .f32) (n : Fin 32768) (c : Fin 1024) :
    total (F := Ideal) x g w wg wu wd (ix2 n c)
      = Combine.summed (fun k => x (ix2 n k)) (fun k => g (ix2 n k)) (fun k c => w (ix3 k n c)) (fun k j => wg (ix2 k j)) (fun k j => wu (ix2 k j)) (fun j c => wd (ix2 j c)) c := by
  pointwise [total, hid_at, rows_at]
  rfl

theorem out0_at (m : (ℓ : Loc nD τ sig) → Buf (Elt Ideal) ℓ) (e : Dev nD) (n : Fin 32768) (c : Fin 1024) :
    Value.res_out0 m e (ix2 n c) = Combine.result (fun k => m ((e.tc : Thread nD τ).loc main_arg0) (ix2 n k)) (fun k => m ((e.tc : Thread nD τ).loc main_arg1) (ix2 n k))
      (fun k c => m ((e.tc : Thread nD τ).loc main_arg2) (ix3 k n c)) (fun k j => m ((e.tc : Thread nD τ).loc main_arg3) (ix2 k j))
      (fun k j => m ((e.tc : Thread nD τ).loc main_arg4) (ix2 k j)) (fun j c => m ((e.tc : Thread nD τ).loc main_arg5) (ix2 j c))
      (fun k => m ((e.tc : Thread nD τ).loc main_arg6) (ix1 k)) (fun k => m ((e.tc : Thread nD τ).loc main_arg7) (ix1 k)) c := by
  rw [out0_eq, norm_at]
  refine congrArg (fun f => Combine.normed f c * _ + _) (funext fun k => ?_)
  exact total_at _ _ _ _ _ _ n k

end Cert.RefCombIdeal.Rows
end
-- ==== Proof.CombClaims.lean ====
module

public import proofs.«01_k».proof.Proof.CombFinal
public import proofs.«01_k».proof.Proof.RefCombRows
public import proofs.«01_k».proof.Proof.Gen.Comb.Frame
public import proofs.«01_k».proof.Defs
public import Idealize.ShloMosaic.Lib.Claim
public import Idealize.ShloMosaic.Lib.Quiescent

@[expose] public section

noncomputable section

/-! The claims about the call that combines the experts and norms: the layer's result. -/
namespace Cert.CombClaims

open Idealize.ShloMosaic Idealize.ShloMosaic.TcCoe Idealize.SL.Sem

theorem frame_p : Cert.quiescent_Comb := fun m g _ => Cert.Comb.Gen.frame m g
theorem frame_pi : Cert.quiescent_CombIdeal := fun m g _ => Cert.CombIdeal.Gen.frame m g
theorem frame_r : Cert.quiescent_RefCombIdeal := fun m g _ =>
  (θ_run Cert.RefCombIdeal.defs _ _).mono (fun r h => ⟨fun c => (h c).2, sem_eq_zero_of_no_sems (by decide) r.2⟩)
    (Cert.RefCombIdeal.Value.run m g)

theorem preserves : Cert.preserves_Comb_CombIdeal := trivial

section run
open Cert.CombIdeal Cert.CombIdeal.Gen
/-- The run with the result array named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (dats m 0 c).arrAt 8 cfg0.N :=
  (θ_run defs _ _).mono (fun r h c => (h c).1 8) (run_main m ρ)
end run

theorem algebraic : Cert.algebraic_CombIdeal_RefCombIdeal := by
  intro m ρ m' ρ' hpre hagree
  refine ⟨fun c => Cert.CombIdeal.Final.out m c, ?_, ?_⟩
  · refine (θ_run Cert.CombIdeal.defs _ _).mono (fun r h c => ⟨((h.1 c).trans (Cert.CombIdeal.Final.final8 m c)), h.2 c⟩)
      (θ_run_and (run_out m ρ) (Cert.CombIdeal.Gen.unchanged m ρ))
  · refine (θ_run Cert.RefCombIdeal.defs _ _).mono (fun _ h c => ?_) (Cert.RefCombIdeal.Value.run m' ρ')
    refine ⟨(h c).1.trans ?_, (h c).2⟩
    obtain ⟨h0, h1, h2, h3, h4, h5, h6, h7⟩ := hagree c
    refine funext fun y => ?_
    rw [← ix2_eta y]
    refine (Cert.RefCombIdeal.Rows.out0_at m' c (y 0) (y 1)).trans ?_
    rw [h0, h1, h2, h3, h4, h5, h6, h7]
    rfl

end Cert.CombClaims
end
-- ==== Proof.Mix.lean ====
module

public import proofs.«01_k».proof.Proof.Combine

@[expose] public section

set_option maxRecDepth 16384

noncomputable section

/-! The token mixer for one token: the three dilated groups weighed by their denominators, the three branches gated and
projected, the residual and the layer norm. What the kernel and the reference both compute, lane by lane. -/
namespace Cert.Mix

open Idealize.ShloMosaic

/-- The largest of a head's three log denominators. -/
def top (l : Fin 3 → EReal) : EReal := max (max (l 0) (l 1)) (l 2)

/-- A group's weight before the division. -/
def raw (l : Fin 3 → EReal) (k : Fin 3) : EReal := Ideal.exp (l k - top l)

/-- The sum of the three weights. -/
def whole (l : Fin 3 → EReal) : EReal := raw l 0 + raw l 1 + raw l 2

/-- The groups' weighted sum, divided once. -/
def weighed (l o : Fin 3 → EReal) : EReal := Ideal.div (raw l 0 * o 0 + raw l 1 * o 1 + raw l 2 * o 2) (whole l)

/-- A lane of a gate. -/
def gate (x w : Fin 1024 → EReal) (b : EReal) : EReal := Ideal.logistic (∑ k, x k * w k + b)

/-- A lane of the three branches, each projected and gated, added. -/
def merged (x : Fin 1024 → EReal) (yd : Fin 128 → EReal) (ym : Fin 384 → EReal) (yx : Fin 256 → EReal)
    (wg : Fin 1024 → Fin 3072 → EReal) (bg : Fin 3072 → EReal)
    (wd : Fin 128 → Fin 1024 → EReal) (wm : Fin 384 → Fin 1024 → EReal) (wx : Fin 256 → Fin 1024 → EReal) (c : Fin 1024) : EReal :=
  gate x (fun k => wg k ⟨c.val, by omega⟩) (bg ⟨c.val, by omega⟩) * ∑ k, yd k * wd k c
    + gate x (fun k => wg k ⟨1024 + c.val, by omega⟩) (bg ⟨1024 + c.val, by omega⟩) * ∑ k, ym k * wm k c
    + gate x (fun k => wg k ⟨2048 + c.val, by omega⟩) (bg ⟨2048 + c.val, by omega⟩) * ∑ k, yx k * wx k c

/-- What the norm takes: the residual, scaled, and the projected branches. -/
def summed (x y : Fin 1024 → EReal) (wo : Fin 1024 → Fin 1024 → EReal) (c : Fin 1024) : EReal :=
  Ideal.ofBits .f32 0x3F9837F0#32 * x c + ∑ k, y k * wo k c

/-- The token after the mixer. -/
def result (x y : Fin 1024 → EReal) (wo : Fin 1024 → Fin 1024 → EReal) (gain off : Fin 1024 → EReal) (c : Fin 1024) : EReal :=
  Combine.normed (summed x y wo) c * gain c + off c

/-- A lane of the dilated branch of a token: its head's three groups, weighed. -/
def groups (l1 l2 l3 : Fin 2 → EReal) (o1 o2 o3 : Fin 2 → Fin 64 → EReal) (k : Fin 128) : EReal :=
  weighed ![l1 ⟨k.val / 64, by omega⟩, l2 ⟨k.val / 64, by omega⟩, l3 ⟨k.val / 64, by omega⟩]
    ![o1 ⟨k.val / 64, by omega⟩ ⟨k.val % 64, by omega⟩, o2 ⟨k.val / 64, by omega⟩ ⟨k.val % 64, by omega⟩, o3 ⟨k.val / 64, by omega⟩ ⟨k.val % 64, by omega⟩]

theorem le_top (l : Fin 3 → EReal) (k : Fin 3) : l k ≤ top l := by
  fin_cases k
  · exact (le_max_left _ _).trans (le_max_left _ _)
  · exact (le_max_right _ _).trans (le_max_left _ _)
  · exact le_max_right _ _

theorem top_mem (l : Fin 3 → EReal) : ∃ k, l k = top l := by
  unfold top
  rcases max_choice (max (l 0) (l 1)) (l 2) with h | h
  · rcases max_choice (l 0) (l 1) with h' | h'
    · exact ⟨0, by rw [h, h']⟩
    · exact ⟨1, by rw [h, h']⟩
  · exact ⟨2, h.symm⟩

/-- Under a finite largest denominator every weight is a real number, not negative, and one of them is one. -/
theorem raw_real (l : Fin 3 → EReal) (t : ℝ) (h : top l = t) (k : Fin 3) : ∃ w : ℝ, 0 ≤ w ∧ raw l k = w ∧ (l k = top l → w = 1) := by
  have hk := le_top l k
  unfold raw
  rw [h] at hk ⊢
  induction hl : l k with
  | bot => exact ⟨0, le_rfl, by rw [EReal.bot_sub]; rfl, fun e => absurd e.symm (EReal.coe_ne_bot t)⟩
  | top => rw [hl] at hk; exact absurd (top_le_iff.1 hk) (EReal.coe_ne_top t)
  | coe r =>
    refine ⟨Real.exp (r - t), (Real.exp_pos _).le, by rw [← EReal.coe_sub]; rfl, fun e => ?_⟩
    rw [EReal.coe_eq_coe_iff.1 e, sub_self, Real.exp_zero]

/-- Dividing the weights first gives the same mean. -/
theorem weighed_eq (l o : Fin 3 → EReal) (t : ℝ) (h : top l = t) :
    Ideal.div (raw l 0) (whole l) * o 0 + Ideal.div (raw l 1) (whole l) * o 1 + Ideal.div (raw l 2) (whole l) * o 2 = weighed l o := by
  obtain ⟨a, ha, ea, ia⟩ := raw_real l t h 0
  obtain ⟨b, hb, eb, ib⟩ := raw_real l t h 1
  obtain ⟨c, hc, ec, ic⟩ := raw_real l t h 2
  have hp : 0 < a + b + c := by
    obtain ⟨k, hk⟩ := top_mem l
    fin_cases k
    · have := ia hk; linarith
    · have := ib hk; linarith
    · have := ic hk; linarith
  have hw : whole l = ((a + b + c : ℝ) : EReal) := by rw [whole, ea, eb, ec, ← EReal.coe_add, ← EReal.coe_add]
  have h0 : ((a + b + c : ℝ) : EReal) ≠ 0 := fun e => hp.ne' (EReal.coe_eq_zero.1 e)
  have hd : ∀ x : EReal, Ideal.div x ((a + b + c : ℝ) : EReal) = x * (((a + b + c)⁻¹ : ℝ) : EReal) := by
    intro x
    unfold Ideal.div
    rw [if_neg h0, ← EReal.coe_inv]
  have hi : (0 : EReal) ≤ (((a + b + c)⁻¹ : ℝ) : EReal) := EReal.coe_nonneg.2 (inv_nonneg.2 hp.le)
  have ht := EReal.coe_ne_top (a + b + c)⁻¹
  unfold weighed
  rw [hw, hd, hd, hd, hd, EReal.right_distrib_of_nonneg_of_ne_top hi ht, EReal.right_distrib_of_nonneg_of_ne_top hi ht]
  congr 1
  · congr 1
    · rw [mul_right_comm]
    · rw [mul_right_comm]
  · rw [mul_right_comm]
end Cert.Mix
end
-- ==== Proof.MergeTile.lean ====
module

public import proofs.«01_k».proof.Proof.Mix
public import proofs.«01_k».proof.Proof.Gen.MergeIdeal.Skeleton

@[expose] public section

set_option maxRecDepth 16384

noncomputable section

/-! The arithmetic of one tile of the mixer, read at a token and a lane. -/
namespace Cert.MergeIdeal.Tile

open Idealize.ShloMosaic Idealize.ShloMosaic.TcCoe Idealize.SL.Sem
open Cert.MergeIdeal Cert.MergeIdeal.Gen

section stages
variable {F : FTy → Type} [FloatOps F]

/-- The dilated groups of a tile, weighed: the first group and its denominators from their blocks, the other two in the
order of the tokens. -/
def dilated (o1 : Vec F S1x1x512x128 .bf16) (o2 o3 : Vec F S1x512x128 .f32) (l1 : Vec F S1x1x512x128 .f32) (l2 l3 : Vec F S1x512x128 .f32) : FVec F S512x128 .f32 :=
  k0_pay214 (k0_pay164 o1) (k0_pay169 o2) (k0_pay188 o3) (k0_pay189 l1) (k0_pay194 l2) l3

/-- The three branches of a tile, projected, gated and added. -/
def mixed (x : Vec F S512x1024 .f32) (y : FVec F S512x128 .f32) (ym : Vec F S512x384 .bf16) (yx : Vec F S512x256 .bf16)
    (g0 g1 g2 : Vec F S1024x1024 .bf16) (b0 b1 b2 : Vec F S1x1024 .f32)
    (wd : Vec F S128x1024 .bf16) (wm : Vec F S384x1024 .bf16) (wx : Vec F S256x1024 .bf16) : FVec F S512x1024 .f32 :=
  k0_pay508 (k0_pay163 x) (k0_pay250 yx wx)
    (k0_pay470 (k0_pay163 x) (k0_pay249 ym wm) (k0_pay287 (k0_pay248 y wd) k0_pay251 (k0_pay285 (k0_pay163 x) g0) (k0_pay286 b0)) g1 b1) g2 b2

/-- What the norm takes. -/
def total (x : Vec F S512x1024 .f32) (y : FVec F S512x1024 .f32) (wo : Vec F S1024x1024 .bf16) : FVec F S512x1024 .f32 :=
  k0_pay577 (k0_pay162 x) (k0_pay542 y wo)

/-- Every lane less its token's mean. -/
def cen (v : FVec F S512x1024 .f32) : FVec F S512x1024 .f32 :=
  subf v (broadcastTo S512x1024 (divf (shapeCast S512x1 (multiReduction .add [1] S512 v 0x00000000#32 reduces_S512x1024_S512 (.inl rfl) rfl) shapeCasts_S512_S512x1) (broadcast S512x1 (Scalar.ofBits .f32 0x44800000#32))) broadcasts_S512x1_S512x1024)

/-- The reciprocal root of a token's mean square, along its lanes. -/
def rstd (v : FVec F S512x1024 .f32) : FVec F S512x1024 .f32 :=
  broadcastTo S512x1024 (rsqrt (addf (divf (shapeCast S512x1 (multiReduction .add [1] S512 (mulf v v) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024

/-- The norm with its gain and offset. -/
def norm (v : FVec F S512x1024 .f32) (g b : Vec F S1x1024 .f32) : FVec F S512x1024 .f32 :=
  addf (mulf (mulf (cen v) (rstd (cen v))) (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

theorem pay578 (v : FVec F S512x1024 .f32) (g b : Vec F S1x1024 .f32) : k0_pay578 v g b = norm v g b := rfl

end stages

theorem dilated_at (o1 : Vec Ideal S1x1x512x128 .bf16) (o2 o3 : Vec Ideal S1x512x128 .f32) (l1 : Vec Ideal S1x1x512x128 .f32) (l2 l3 : Vec Ideal S1x512x128 .f32) (r : Fin 512) (c : Fin 128) :
    dilated (F := Ideal) o1 o2 o3 l1 l2 l3 (ix2 r c)
      = Mix.weighed ![l1 (ix4 0 0 r c), l2 (ix3 0 r c), l3 (ix3 0 r c)] ![o1 (ix4 0 0 r c), o2 (ix3 0 r c), o3 (ix3 0 r c)] := by
  pointwise [dilated, k0_pay214, k0_pay164, k0_pay169, k0_pay188, k0_pay189, k0_pay194]
  rfl

theorem mixed_at (x : Vec Ideal S512x1024 .f32) (y : FVec Ideal S512x128 .f32) (ym : Vec Ideal S512x384 .bf16) (yx : Vec Ideal S512x256 .bf16)
    (g0 g1 g2 : Vec Ideal S1024x1024 .bf16) (b0 b1 b2 : Vec Ideal S1x1024 .f32)
    (wd : Vec Ideal S128x1024 .bf16) (wm : Vec Ideal S384x1024 .bf16) (wx : Vec Ideal S256x1024 .bf16) (r : Fin 512) (c : Fin 1024) :
    mixed (F := Ideal) x y ym yx g0 g1 g2 b0 b1 b2 wd wm wx (ix2 r c)
      = Mix.gate (fun k => x (ix2 r k)) (fun k => g0 (ix2 k c)) (b0 (ix2 0 c)) * ∑ k, y (ix2 r k) * wd (ix2 k c)
        + Mix.gate (fun k => x (ix2 r k)) (fun k => g1 (ix2 k c)) (b1 (ix2 0 c)) * ∑ k, ym (ix2 r k) * wm (ix2 k c)
        + Mix.gate (fun k => x (ix2 r k)) (fun k => g2 (ix2 k c)) (b2 (ix2 0 c)) * ∑ k, yx (ix2 r k) * wx (ix2 k c) := by
  pointwise [mixed, k0_pay508, k0_pay470, k0_pay287, k0_pay248, k0_pay249, k0_pay250, k0_pay251, k0_pay285, k0_pay286, k0_pay163, k0_pay162]
  rfl

theorem total_at (x : Vec Ideal S512x1024 .f32) (y : FVec Ideal S512x1024 .f32) (wo : Vec Ideal S1024x1024 .bf16) (r : Fin 512) (c : Fin 1024) :
    total (F := Ideal) x y wo (ix2 r c) = Mix.summed (fun k => x (ix2 r k)) (fun k => y (ix2 r k)) (fun k c => wo (ix2 k c)) c := by
  pointwise [total, k0_pay577, k0_pay542, k0_pay162]
  rfl

theorem cen_at (v : FVec Ideal S512x1024 .f32) (r : Fin 512) (c : Fin 1024) :
    cen (F := Ideal) v (ix2 r c) = Combine.centred (fun k => v (ix2 r k)) c := by
  pointwise [cen]
  rfl

theorem rstd_at (v : FVec Ideal S512x1024 .f32) (r : Fin 512) (c : Fin 1024) :
    rstd (F := Ideal) v (ix2 r c) = Ideal.rsqrt (Combine.mean (fun k => v (ix2 r k) * v (ix2 r k)) + Ideal.ofBits .f32 0x3727C5AC#32) := by
  pointwise [rstd]
  rfl

theorem norm_at (v : FVec Ideal S512x1024 .f32) (g b : Vec Ideal S1x1024 .f32) (r : Fin 512) (c : Fin 1024) :
    norm (F := Ideal) v g b (ix2 r c) = Combine.normed (fun k => v (ix2 r k)) c * g (ix2 0 c) + b (ix2 0 c) := by
  pointwise [norm, cen_at, rstd_at]
  rfl
end Cert.MergeIdeal.Tile
end
-- ==== Proof.MergeIdealWhole.lean ====
module

public import proofs.«01_k».proof.Proof.Gen.MergeIdeal.Frame.RunB
public import Idealize.ShloMosaic.Lib.Claim

@[expose] public section

set_option maxRecDepth 16384

noncomputable section

/-! The mixing call as a whole (idealized): what every buffer holds after every grid point, and the run of the whole grid. The two
runs of the body (the first point, which starts the counts; the later ones) are taken at the buffers and blocks of a point. -/
namespace Cert.MergeIdeal.Whole

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point that starts the counts. -/
def first (c : Dev nD) (t : Fin cfg0.N) (h : t.val % 65 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The body's run at a later point, over the running counts and the tile the point before kept. -/
def later (c : Dev nD) (t : Fin cfg0.N) (h : ¬t.val % 65 = 0) (s1 : Vec F S256x128 .f32) (s2 : Vec F S512x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) s1 s2

theorem first_cover0 (c : Dev nD) (t : Fin cfg0.N) (h : t.val % 65 = 0) (y : S512x1024.Idx) :
    ∃ pc ∈ (first m c t h).1, y ∈ pc.1.set :=
  View.cover_of_tiledL (first m c t h).1 S512x1024.size (by sl_kernel_rfl) y
theorem first_cover1 (c : Dev nD) (t : Fin cfg0.N) (h : t.val % 65 = 0) (y : S512x2x512.Idx) :
    ∃ pc ∈ (first m c t h).2.1, y ∈ pc.1.set :=
  View.cover_of_tiledL (first m c t h).2.1 S512x2x512.size (by sl_kernel_rfl) y
theorem first_cover2 (c : Dev nD) (t : Fin cfg0.N) (h : t.val % 65 = 0) (y : S8x512.Idx) :
    ∃ pc ∈ (first m c t h).2.2.1, y ∈ pc.1.set :=
  View.cover_of_tiledL (first m c t h).2.2.1 S8x256.size (by sl_kernel_rfl) y
theorem first_cover3 (c : Dev nD) (t : Fin cfg0.N) (h : t.val % 65 = 0) (y : S8x512.Idx) :
    ∃ pc ∈ (first m c t h).2.2.2.1, y ∈ pc.1.set :=
  View.cover_of_tiledL (first m c t h).2.2.2.1 S8x256.size (by sl_kernel_rfl) y
theorem first_cover4 (c : Dev nD) (t : Fin cfg0.N) (h : t.val % 65 = 0) (y : S8x512.Idx) :
    ∃ pc ∈ (first m c t h).2.2.2.2.1, y ∈ pc.1.set :=
  View.cover_of_tiledL (first m c t h).2.2.2.2.1 S8x256.size (by sl_kernel_rfl) y
theorem first_cover5 (c : Dev nD) (t : Fin cfg0.N) (h : t.val % 65 = 0) (y : S256x128.Idx) :
    ∃ pc ∈ (first m c t h).2.2.2.2.2.1, y ∈ pc.1.set :=
  View.cover_of_tiledL (first m c t h).2.2.2.2.2.1 S256x128.size (by sl_kernel_rfl) y
theorem first_cover6 (c : Dev nD) (t : Fin cfg0.N) (h : t.val % 65 = 0) (y : S256x128.Idx) :
    ∃ pc ∈ (first m c t h).2.2.2.2.2.2.1, y ∈ pc.1.set :=
  View.cover_of_tiledL (first m c t h).2.2.2.2.2.2.1 S256x128.size (by sl_kernel_rfl) y
theorem first_cover7 (c : Dev nD) (t : Fin cfg0.N) (h : t.val % 65 = 0) (y : S512x1024.Idx) :
    ∃ pc ∈ (first m c t h).2.2.2.2.2.2.2.1, y ∈ pc.1.set :=
  View.cover_of_tiledL (first m c t h).2.2.2.2.2.2.2.1 S512x1024.size (by sl_kernel_rfl) y

theorem later_cover0 (c : Dev nD) (t : Fin cfg0.N) (h : ¬t.val % 65 = 0) (s1 : Vec F S256x128 .f32) (s2 : Vec F S512x1024 .f32) (y : S512x1024.Idx) :
    ∃ pc ∈ (later m c t h s1 s2).1, y ∈ pc.1.set :=
  View.cover_of_tiledL (later m c t h s1 s2).1 S512x1024.size (by sl_kernel_rfl) y
theorem later_cover1 (c : Dev nD) (t : Fin cfg0.N) (h : ¬t.val % 65 = 0) (s1 : Vec F S256x128 .f32) (s2 : Vec F S512x1024 .f32) (y : S512x2x512.Idx) :
    ∃ pc ∈ (later m c t h s1 s2).2.1, y ∈ pc.1.set :=
  View.cover_of_tiledL (later m c t h s1 s2).2.1 S512x2x512.size (by sl_kernel_rfl) y
theorem later_cover2 (c : Dev nD) (t : Fin cfg0.N) (h : ¬t.val % 65 = 0) (s1 : Vec F S256x128 .f32) (s2 : Vec F S512x1024 .f32) (y : S8x512.Idx) :
    ∃ pc ∈ (later m c t h s1 s2).2.2.1, y ∈ pc.1.set :=
  View.cover_of_tiledL (later m c t h s1 s2).2.2.1 S8x256.size (by sl_kernel_rfl) y
theorem later_cover3 (c : Dev nD) (t : Fin cfg0.N) (h : ¬t.val % 65 = 0) (s1 : Vec F S256x128 .f32) (s2 : Vec F S512x1024 .f32) (y : S8x512.Idx) :
    ∃ pc ∈ (later m c t h s1 s2).2.2.2.1, y ∈ pc.1.set :=
  View.cover_of_tiledL (later m c t h s1 s2).2.2.2.1 S8x256.size (by sl_kernel_rfl) y
theorem later_cover4 (c : Dev nD) (t : Fin cfg0.N) (h : ¬t.val % 65 = 0) (s1 : Vec F S256x128 .f32) (s2 : Vec F S512x1024 .f32) (y : S8x512.Idx) :
    ∃ pc ∈ (later m c t h s1 s2).2.2.2.2.1, y ∈ pc.1.set :=
  View.cover_of_tiledL (later m c t h s1 s2).2.2.2.2.1 S8x256.size (by sl_kernel_rfl) y
theorem later_cover5 (c : Dev nD) (t : Fin cfg0.N) (h : ¬t.val % 65 = 0) (s1 : Vec F S256x128 .f32) (s2 : Vec F S512x1024 .f32) (y : S256x128.Idx) :
    ∃ pc ∈ (later m c t h s1 s2).2.2.2.2.2.1, y ∈ pc.1.set :=
  View.cover_of_tiledL (later m c t h s1 s2).2.2.2.2.2.1 S256x128.size (by sl_kernel_rfl) y
theorem later_cover6 (c : Dev nD) (t : Fin cfg0.N) (h : ¬t.val % 65 = 0) (s1 : Vec F S256x128 .f32) (s2 : Vec F S512x1024 .f32) (y : S256x128.Idx) :
    ∃ pc ∈ (later m c t h s1 s2).2.2.2.2.2.2.1, y ∈ pc.1.set :=
  View.cover_of_tiledL (later m c t h s1 s2).2.2.2.2.2.2.1 S256x128.size (by sl_kernel_rfl) y
theorem later_cover7 (c : Dev nD) (t : Fin cfg0.N) (h : ¬t.val % 65 = 0) (s1 : Vec F S256x128 .f32) (s2 : Vec F S512x1024 .f32) (y : S512x1024.Idx) :
    ∃ pc ∈ (later m c t h s1 s2).2.2.2.2.2.2.2.1, y ∈ pc.1.set :=
  View.cover_of_tiledL (later m c t h s1 s2).2.2.2.2.2.2.2.1 S512x1024.size (by sl_kernel_rfl) y

/-- What a point leaves: the six outputs' buffers, the running counts, the kept tile. -/
abbrev Held (F : FTy → Type) [FloatOps F] : Type := Vec F S512x1024 .f32 × Vec F S512x2x512 .bf16 × Vec F S8x512 .i32 × Vec F S8x512 .f32 × Vec F S8x512 .i32 × Vec F S256x128 .i32 × Vec F S256x128 .f32 × Vec F S512x1024 .f32

def firstHeld (c : Dev nD) (t : Fin cfg0.N) (h : t.val % 65 = 0) : Held F :=
  (VO0_20.read (Elt F) (VO0_20.writes (Elt F) VO0_20.junk (first m c t h).1),
    VO0_21.read (Elt F) (VO0_21.writes (Elt F) VO0_21.junk (first m c t h).2.1),
    VO0_22.read (Elt F) (VO0_22.writes (Elt F) VO0_22.junk (first m c t h).2.2.1),
    VO0_23.read (Elt F) (VO0_23.writes (Elt F) VO0_23.junk (first m c t h).2.2.2.1),
    VO0_24.read (Elt F) (VO0_24.writes (Elt F) VO0_24.junk (first m c t h).2.2.2.2.1),
    VO0_25.read (Elt F) (VO0_25.writes (Elt F) VO0_25.junk (first m c t h).2.2.2.2.2.1),
    VS0_1.read (Elt F) (VS0_1.writes (Elt F) VS0_1.junk (first m c t h).2.2.2.2.2.2.1),
    VS0_2.read (Elt F) (VS0_2.writes (Elt F) VS0_2.junk (first m c t h).2.2.2.2.2.2.2.1))

def laterHeld (c : Dev nD) (t : Fin cfg0.N) (h : ¬t.val % 65 = 0) (s1 : Vec F S256x128 .f32) (s2 : Vec F S512x1024 .f32) : Held F :=
  (VO0_20.read (Elt F) (VO0_20.writes (Elt F) VO0_20.junk (later m c t h s1 s2).1),
    VO0_21.read (Elt F) (VO0_21.writes (Elt F) VO0_21.junk (later m c t h s1 s2).2.1),
    VO0_22.read (Elt F) (VO0_22.writes (Elt F) VO0_22.junk (later m c t h s1 s2).2.2.1),
    VO0_23.read (Elt F) (VO0_23.writes (Elt F) VO0_23.junk (later m c t h s1 s2).2.2.2.1),
    VO0_24.read (Elt F) (VO0_24.writes (Elt F) VO0_24.junk (later m c t h s1 s2).2.2.2.2.1),
    VO0_25.read (Elt F) (VO0_25.writes (Elt F) VO0_25.junk (later m c t h s1 s2).2.2.2.2.2.1),
    VS0_1.read (Elt F) (VS0_1.writes (Elt F) VS0_1.junk (later m c t h s1 s2).2.2.2.2.2.2.1),
    VS0_2.read (Elt F) (VS0_2.writes (Elt F) VS0_2.junk (later m c t h s1 s2).2.2.2.2.2.2.2.1))

theorem not_first (n : ℕ) (hn : n + 1 < cfg0.N) : ¬(n + 1) % 65 = 0 := by
  have : cfg0.N = 65 := N_0
  omega

/-- What the buffers hold after each point. -/
def held (c : Dev nD) : (n : ℕ) → n < cfg0.N → Held F
  | 0, hn => firstHeld m c ⟨0, hn⟩ (Nat.zero_mod _)
  | n + 1, hn => laterHeld m c ⟨n + 1, hn⟩ (not_first n hn) (held c n (Nat.lt_of_succ_lt hn)).2.2.2.2.2.2.1 (held c n (Nat.lt_of_succ_lt hn)).2.2.2.2.2.2.2

theorem held_first (c : Dev nD) (t : Fin cfg0.N) (h : t.val % 65 = 0) : held m c t.val t.isLt = firstHeld m c t h := by
  obtain ⟨n, hn⟩ := t
  cases n with
  | zero => rfl
  | succ n => exact absurd h (not_first n hn)

theorem held_later (c : Dev nD) (t : Fin cfg0.N) (h : ¬t.val % 65 = 0) :
    held m c t.val t.isLt = laterHeld m c t h (held m c (t.val - 1) (Nat.lt_of_le_of_lt (Nat.sub_le _ _) t.isLt)).2.2.2.2.2.2.1
      (held m c (t.val - 1) (Nat.lt_of_le_of_lt (Nat.sub_le _ _) t.isLt)).2.2.2.2.2.2.2 := by
  obtain ⟨n, hn⟩ := t
  cases n with
  | zero => exact absurd (Nat.zero_mod _) h
  | succ n => rfl

/-- What stands between points: before the first the scratch at anything, afterwards the counts and the kept tile as left. -/
def between (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((held m c n hn).2.2.2.2.2.2.1) ∗ owns (c : Thread nD τ) scM0_2 fullShare ((held m c n hn).2.2.2.2.2.2.2)) ∗ (∃ r, prngReg c r))

theorem between_first (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop(iprop((∃ d, owns (c : Thread nD τ) scM0_0 fullShare d) ∗ owns (c : Thread nD τ) scM0_1 fullShare ((held m c n hn).2.2.2.2.2.2.1) ∗ owns (c : Thread nD τ) scM0_2 fullShare ((held m c n hn).2.2.2.2.2.2.2)) ∗ (∃ r, prngReg c r)) := rfl

theorem between_later (c : Dev nD) (n : ℕ) (h : n ≤ cfg0.N) (hz : n ≠ 0) :
    between m c n h = iprop(iprop((∃ d, owns (c : Thread nD τ) scM0_0 fullShare d) ∗ owns (c : Thread nD τ) scM0_1 fullShare ((held m c (n - 1) (by omega)).2.2.2.2.2.2.1) ∗ owns (c : Thread nD τ) scM0_2 fullShare ((held m c (n - 1) (by omega)).2.2.2.2.2.2.2)) ∗ (∃ r, prngReg c r)) := by
  cases n with
  | zero => exact absurd rfl hz
  | succ n => rfl

/-- The pipeline's data: the inputs at their blocks, the outputs at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (held m c t.val t.isLt).1
    | ⟨21, _⟩ => (held m c t.val t.isLt).2.1
    | ⟨22, _⟩ => (held m c t.val t.isLt).2.2.1
    | ⟨23, _⟩ => (held m c t.val t.isLt).2.2.2.1
    | ⟨24, _⟩ => (held m c t.val t.isLt).2.2.2.2.1
    | ⟨25, _⟩ => (held m c t.val t.isLt).2.2.2.2.2.1
    | ⟨_ + 26, h⟩ => absurd h (Nat.not_lt.2 (Nat.le_add_left _ _))
  Φ t := between m c t.val (Nat.le_of_lt_succ t.isLt)
  q _ := fullShare
  owed _ := 0

theorem arrays (c : Dev nD) (w : Fin cfg0.W) : (dats m 0 c).A w = V m c (Pipeline.arrRef spec0 w) := by
  dsimp only [dats]

theorem between_at (c : Dev nD) (t : Fin cfg0.N) : (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = (held m c t.val t.isLt).1 := by dsimp only [dats]
theorem after21 (c : Dev nD) (t : Fin cfg0.N) : (dats m 0 c).after 21 t = (held m c t.val t.isLt).2.1 := by dsimp only [dats]
theorem after22 (c : Dev nD) (t : Fin cfg0.N) : (dats m 0 c).after 22 t = (held m c t.val t.isLt).2.2.1 := by dsimp only [dats]
theorem after23 (c : Dev nD) (t : Fin cfg0.N) : (dats m 0 c).after 23 t = (held m c t.val t.isLt).2.2.2.1 := by dsimp only [dats]
theorem after24 (c : Dev nD) (t : Fin cfg0.N) : (dats m 0 c).after 24 t = (held m c t.val t.isLt).2.2.2.2.1 := by dsimp only [dats]
theorem after25 (c : Dev nD) (t : Fin cfg0.N) : (dats m 0 c).after 25 t = (held m c t.val t.isLt).2.2.2.2.2.1 := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d
theorem before6 (c : Dev nD) (t : Fin cfg0.N) (d) : (dats m 0 c).before 6 t d = iblk m c 6 t :=
  before0_6_of m (dats m 0 c) (arrays m c 6) (after6 m c) t d
theorem before7 (c : Dev nD) (t : Fin cfg0.N) (d) : (dats m 0 c).before 7 t d = iblk m c 7 t :=
  before0_7_of m (dats m 0 c) (arrays m c 7) (after7 m c) t d
theorem before8 (c : Dev nD) (t : Fin cfg0.N) (d) : (dats m 0 c).before 8 t d = iblk m c 8 t :=
  before0_8_of m (dats m 0 c) (arrays m c 8) (after8 m c) t d
theorem before9 (c : Dev nD) (t : Fin cfg0.N) (d) : (dats m 0 c).before 9 t d = iblk m c 9 t :=
  before0_9_of m (dats m 0 c) (arrays m c 9) (after9 m c) t d
theorem before10 (c : Dev nD) (t : Fin cfg0.N) (d) : (dats m 0 c).before 10 t d = iblk m c 10 t :=
  before0_10_of m (dats m 0 c) (arrays m c 10) (after10 m c) t d
theorem before11 (c : Dev nD) (t : Fin cfg0.N) (d) : (dats m 0 c).before 11 t d = iblk m c 11 t :=
  before0_11_of m (dats m 0 c) (arrays m c 11) (after11 m c) t d
theorem before12 (c : Dev nD) (t : Fin cfg0.N) (d) : (dats m 0 c).before 12 t d = iblk m c 12 t :=
  before0_12_of m (dats m 0 c) (arrays m c 12) (after12 m c) t d
theorem before13 (c : Dev nD) (t : Fin cfg0.N) (d) : (dats m 0 c).before 13 t d = iblk m c 13 t :=
  before0_13_of m (dats m 0 c) (arrays m c 13) (after13 m c) t d
theorem before14 (c : Dev nD) (t : Fin cfg0.N) (d) : (dats m 0 c).before 14 t d = iblk m c 14 t :=
  before0_14_of m (dats m 0 c) (arrays m c 14) (after14 m c) t d
theorem before15 (c : Dev nD) (t : Fin cfg0.N) (d) : (dats m 0 c).before 15 t d = iblk m c 15 t :=
  before0_15_of m (dats m 0 c) (arrays m c 15) (after15 m c) t d
theorem before16 (c : Dev nD) (t : Fin cfg0.N) (d) : (dats m 0 c).before 16 t d = iblk m c 16 t :=
  before0_16_of m (dats m 0 c) (arrays m c 16) (after16 m c) t d
theorem before17 (c : Dev nD) (t : Fin cfg0.N) (d) : (dats m 0 c).before 17 t d = iblk m c 17 t :=
  before0_17_of m (dats m 0 c) (arrays m c 17) (after17 m c) t d
theorem before18 (c : Dev nD) (t : Fin cfg0.N) (d) : (dats m 0 c).before 18 t d = iblk m c 18 t :=
  before0_18_of m (dats m 0 c) (arrays m c 18) (after18 m c) t d
theorem before19 (c : Dev nD) (t : Fin cfg0.N) (d) : (dats m 0 c).before 19 t d = iblk m c 19 t :=
  before0_19_of m (dats m 0 c) (arrays m c 19) (after19 m c) t d

/-- What the body is called with at a point. -/
def before (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What it returns. -/
def after (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 16000000 in
/-- The body at a point. -/
theorem sound_body (c : Dev nD) (t : Fin cfg0.N) :
    before m c t ⊢ wp frame (wpE (defs₀ (F := F)) Variants.none c none) Set.univ (bodyAt0 t) (fun _ => after m c t) := by
  unfold before after bodyAt0
  simp only [before0, before1, before2, before3, before4, before5, before6, before7, before8, before9, before10, before11, before12, before13, before14, before15, before16, before17, before18, before19]
  rw [show (dats m 0 c).owesAt () t.succ = (dats m 0 c).owesAt () t.castSucc from rfl,
    after0, after1, after2, after3, after4, after5, after6, after7, after8, after9, after10, after11, after12, after13, after14, after15, after16, after17, after18, after19, after20, after21, after22, after23, after24, after25]
  rw [show (dats m 0 c).Φ t.succ = between m c (t.val + 1) t.isLt from rfl, between_succ]
  have hN : t.val < 65 := lt_of_lt_of_eq t.isLt (show cfg0.N = 65 from N_0)
  by_cases h : t.val % 65 = 0
  · rw [between_at m c t, between_first m c _ _ (by omega), PhiA0_eq, held_first m c t h]
    unfold firstHeld
    dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((first m c t h).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, HS0, ⟨%es1, HS1⟩, ⟨%es2, HS2⟩⟩
    isplitl [HS0 HS1 HS2 Hg]
    · isplitl [HS0 HS1 HS2]
      · isplitl [HS0]; · iexact HS0
        isplitl [HS1]
        · unfold owns; iexists _; isplitr
          swap; · iexact HS1
          ipureintro; exact View.read_writes_of_cover _ _ _ _ _ (first_cover6 m c t h)
        unfold owns; iexists _; isplitr
        swap; · iexact HS2
        ipureintro; exact View.read_writes_of_cover _ _ _ _ _ (first_cover7 m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (first_cover0 m c t h)
    isplitl [H21]
    · unfold owns; iexists _; isplitr
      swap; · iexact H21
      ipureintro; exact View.read_writes_of_cover _ _ _ _ _ (first_cover1 m c t h)
    isplitl [H22]
    · unfold owns; iexists _; isplitr
      swap; · iexact H22
      ipureintro; exact View.read_writes_of_cover _ _ _ _ _ (first_cover2 m c t h)
    isplitl [H23]
    · unfold owns; iexists _; isplitr
      swap; · iexact H23
      ipureintro; exact View.read_writes_of_cover _ _ _ _ _ (first_cover3 m c t h)
    isplitl [H24]
    · unfold owns; iexists _; isplitr
      swap; · iexact H24
      ipureintro; exact View.read_writes_of_cover _ _ _ _ _ (first_cover4 m c t h)
    unfold owns; iexists _; isplitr
    swap; · iexact H25
    ipureintro; exact View.read_writes_of_cover _ _ _ _ _ (first_cover5 m c t h)
  · rw [between_at m c t, between_later m c _ _ (fun hz => h (by rw [hz])), held_later m c t h]
    unfold laterHeld
    dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((later m c t h _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, HS0, ⟨%es1, HS1⟩, ⟨%es2, HS2⟩⟩
    isplitl [HS0 HS1 HS2 Hg]
    · isplitl [HS0 HS1 HS2]
      · isplitl [HS0]; · iexact HS0
        isplitl [HS1]
        · unfold owns; iexists _; isplitr
          swap; · iexact HS1
          ipureintro; exact View.read_writes_of_cover _ _ _ _ _ (later_cover6 m c t h _ _)
        unfold owns; iexists _; isplitr
        swap; · iexact HS2
        ipureintro; exact View.read_writes_of_cover _ _ _ _ _ (later_cover7 m c t h _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (later_cover0 m c t h _ _)
    isplitl [H21]
    · unfold owns; iexists _; isplitr
      swap; · iexact H21
      ipureintro; exact View.read_writes_of_cover _ _ _ _ _ (later_cover1 m c t h _ _)
    isplitl [H22]
    · unfold owns; iexists _; isplitr
      swap; · iexact H22
      ipureintro; exact View.read_writes_of_cover _ _ _ _ _ (later_cover2 m c t h _ _)
    isplitl [H23]
    · unfold owns; iexists _; isplitr
      swap; · iexact H23
      ipureintro; exact View.read_writes_of_cover _ _ _ _ _ (later_cover3 m c t h _ _)
    isplitl [H24]
    · unfold owns; iexists _; isplitr
      swap; · iexact H24
      ipureintro; exact View.read_writes_of_cover _ _ _ _ _ (later_cover4 m c t h _ _)
    unfold owns; iexists _; isplitr
    swap; · iexact H25
    ipureintro; exact View.read_writes_of_cover _ _ _ _ _ (later_cover5 m c t h _ _)

theorem body_row (t : Fin cfg0.N) : defs₀ (F := F) .tc cfg0.body (cfg0.bodyArgs t (cfg0.slots t)) = bodyAt0 t := by
  unfold defs₀; rw [Defs.onTc_tc]

set_option maxHeartbeats 2000000 in
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = between m c 0 (Nat.zero_le _) from rfl, between_first m c 0 _ rfl]

/-- After any point what stands gives the scratch back at anything. -/
theorem leave_at (c : Dev nD) (t : Fin (cfg0.N + 1)) (ht : t.val ≠ 0) : (dats m 0 c).Φ t ⊢ Pipeline.ΦA spec0 c := by
  rw [show (dats m 0 c).Φ t = between m c t.val (Nat.le_of_lt_succ t.isLt) from rfl, between_later m c _ _ ht, PhiA0_eq]
  iintro ⟨⟨HS0, HS1, HS2⟩, Hg⟩
  isplitl [HS0 HS1 HS2]
  · isplitl [HS0]; · iexact HS0
    isplitl [HS1]; · iexists _; iexact HS1
    iexists _; iexact HS2
  iexact Hg

theorem leave (c : Dev nD) : (dats m 0 c).Φ (Fin.last cfg0.N) ⊢ Pipeline.ΦA spec0 c :=
  leave_at m c _ (by rw [Fin.val_last]; have : cfg0.N = 65 := N_0; omega)

set_option backward.isDefEq.respectTransparency.types false in
/-- The whole call ends with every array at what the points leave, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hin := enter m) (hout := leave m)

theorem run_arrays : θ_run defs (onTc (τ := τ) (main (F := F))) (s₀ m ρ) (Pipeline.FramePost cfgs (dats m) 0 (V m)) :=
  (θ_run defs _ _).mono (fun _ h => h.1) (run_all m ρ)

end Cert.MergeIdeal.Whole
end
-- ==== Proof.MergeSlots.lean ====
module

public import proofs.«01_k».proof.Proof.MergeTile
public import proofs.«01_k».proof.Proof.MergeIdealWhole

@[expose] public section

set_option maxRecDepth 16384

noncomputable section

/-! The scratch that puts the residues of the two dilated groups back in the order of the tokens: what it holds when it
is read. -/
namespace Cert.MergeIdeal.Slots

open Idealize.ShloMosaic Idealize.ShloMosaic.TcCoe Idealize.SL.Sem
open Cert.MergeIdeal Cert.MergeIdeal.Gen

theorem inb4 (s : Fin 6) (r : Fin 4) : ∀ a, S1x128x128.size a = 0 ∨ (![s.val, r.val, 0] : Fin 3 → Nat) a + (![1, 4, 1] : Fin 3 → Nat) a * (S1x128x128.size a - 1) < S6x512x128.size a := by
  revert s r; decide

theorem inb16 (s : Fin 6) (r : Fin 16) : ∀ a, S1x32x128.size a = 0 ∨ (![s.val, r.val, 0] : Fin 3 → Nat) a + (![1, 16, 1] : Fin 3 → Nat) a * (S1x32x128.size a - 1) < S6x512x128.size a := by
  revert s r; decide

theorem pos4 : ∀ a, 0 < (![1, 4, 1] : Fin 3 → Nat) a := by decide
theorem pos16 : ∀ a, 0 < (![1, 16, 1] : Fin 3 → Nat) a := by decide

theorem res4 (r : Fin 4) : ∀ a, (![0, r.val, 0, 0] : Fin 4 → Nat) a + S1x1x128x128.size a ≤ S1x4x128x128.size a := by
  revert r; decide

theorem res16 (r : Fin 16) : ∀ a, (![0, r.val, 0, 0] : Fin 4 → Nat) a + S1x1x32x128.size a ≤ S1x16x32x128.size a := by
  revert r; decide

/-- The rows of slot `s` four apart from row `r` on. -/
def rect4 (s : Fin 6) (r : Fin 4) : Rect S6x512x128 :=
  ⟨⟨![s.val, r.val, 0], S1x128x128.size, ![1, 4, 1], inb4 s r⟩, pos4⟩

/-- The rows of slot `s` sixteen apart from row `r` on. -/
def rect16 (s : Fin 6) (r : Fin 16) : Rect S6x512x128 :=
  ⟨⟨![s.val, r.val, 0], S1x32x128.size, ![1, 16, 1], inb16 s r⟩, pos16⟩

section pieces
variable {F : FTy → Type} [FloatOps F]

def out4 {sp : Space} {κ : Kind} (g : Memref sig κ sp S1x4x128x128 .bf16) (h : g.IsWhole) (X : S1x4x128x128.Idx → Elt F .bf16) (s : Fin 6) (r : Fin 4) : View.Piece (Elt F) S6x512x128 .f32 :=
  ⟨rect4 s r, k0_pay165 (View.readAt (Elt F) g.view (Rect.unit (s := S1x4x128x128) ![0, r.val, 0, 0] S1x1x128x128.size (res4 r)).toLoadRect (h.unread X))⟩

def lse4 {sp : Space} {κ : Kind} (g : Memref sig κ sp S1x4x128x128 .f32) (h : g.IsWhole) (X : S1x4x128x128.Idx → Elt F .f32) (s : Fin 6) (r : Fin 4) : View.Piece (Elt F) S6x512x128 .f32 :=
  ⟨rect4 s r, k0_pay190 (View.readAt (Elt F) g.view (Rect.unit (s := S1x4x128x128) ![0, r.val, 0, 0] S1x1x128x128.size (res4 r)).toLoadRect (h.unread X))⟩

def out16 {sp : Space} {κ : Kind} (g : Memref sig κ sp S1x16x32x128 .bf16) (h : g.IsWhole) (X : S1x16x32x128.Idx → Elt F .bf16) (s : Fin 6) (r : Fin 16) : View.Piece (Elt F) S6x512x128 .f32 :=
  ⟨rect16 s r, k0_pay170 (View.readAt (Elt F) g.view (Rect.unit (s := S1x16x32x128) ![0, r.val, 0, 0] S1x1x32x128.size (res16 r)).toLoadRect (h.unread X))⟩

def lse16 {sp : Space} {κ : Kind} (g : Memref sig κ sp S1x16x32x128 .f32) (h : g.IsWhole) (X : S1x16x32x128.Idx → Elt F .f32) (s : Fin 6) (r : Fin 16) : View.Piece (Elt F) S6x512x128 .f32 :=
  ⟨rect16 s r, k0_pay213 (shapeCast S32x128 (View.readAt (Elt F) g.view (Rect.unit (s := S1x16x32x128) ![0, r.val, 0, 0] S1x1x32x128.size (res16 r)).toLoadRect (h.unread X)) shapeCasts_S1x1x32x128_S32x128)⟩

/-- Every residue, the last first. -/
def down4 : List (Fin 4) := [3, 2, 1, 0]
def down16 : List (Fin 16) := [15, 14, 13, 12, 11, 10, 9, 8, 7, 6, 5, 4, 3, 2, 1, 0]

theorem mem4 (r : Fin 4) : r ∈ down4 := by revert r; decide
theorem mem16 (r : Fin 16) : r ∈ down16 := by revert r; decide

variable {κ3 κ4 κ6 κ7 : Kind} {sp3 sp4 sp6 sp7 : Space}
  (g3 : Memref sig κ3 sp3 S1x4x128x128 .bf16) (h3 : g3.IsWhole) (X2 : S1x4x128x128.Idx → Elt F .bf16)
  (g4 : Memref sig κ4 sp4 S1x16x32x128 .bf16) (h4 : g4.IsWhole) (X3 : S1x16x32x128.Idx → Elt F .bf16)
  (g6 : Memref sig κ6 sp6 S1x4x128x128 .f32) (h6 : g6.IsWhole) (X5 : S1x4x128x128.Idx → Elt F .f32)
  (g7 : Memref sig κ7 sp7 S1x16x32x128 .f32) (h7 : g7.IsWhole) (X6 : S1x16x32x128.Idx → Elt F .f32)

def stores1 : List (View.Piece (Elt F) S6x512x128 .f32) := down4.map (out4 g3 h3 X2 1)
def stores2 : List (View.Piece (Elt F) S6x512x128 .f32) := down16.map (out16 g4 h4 X3 2) ++ stores1 g3 h3 X2
def stores4 : List (View.Piece (Elt F) S6x512x128 .f32) := down4.map (lse4 g6 h6 X5 4) ++ stores2 g3 h3 X2 g4 h4 X3
def stores5 : List (View.Piece (Elt F) S6x512x128 .f32) := down16.map (lse16 g7 h7 X6 5) ++ stores4 g3 h3 X2 g4 h4 X3 g6 h6 X5

end pieces

/-- What the scratch holds where it was stored. -/
def held (X2 : S1x4x128x128.Idx → EReal) (X3 : S1x16x32x128.Idx → EReal) (X5 : S1x4x128x128.Idx → EReal) (X6 : S1x16x32x128.Idx → EReal) (y : S6x512x128.Idx) : EReal :=
  if (y 0).val = 1 then X2 (ix4 (0 : Fin 1) (⟨(y 1).val % 4, Nat.mod_lt _ (by decide)⟩ : Fin 4) (⟨(y 1).val / 4, by have := (y 1).isLt; change (y 1).val < 512 at this; omega⟩ : Fin 128) (y 2 : Fin 128))
  else if (y 0).val = 2 then X3 (ix4 (0 : Fin 1) (⟨(y 1).val % 16, Nat.mod_lt _ (by decide)⟩ : Fin 16) (⟨(y 1).val / 16, by have := (y 1).isLt; change (y 1).val < 512 at this; omega⟩ : Fin 32) (y 2 : Fin 128))
  else if (y 0).val = 4 then X5 (ix4 (0 : Fin 1) (⟨(y 1).val % 4, Nat.mod_lt _ (by decide)⟩ : Fin 4) (⟨(y 1).val / 4, by have := (y 1).isLt; change (y 1).val < 512 at this; omega⟩ : Fin 128) (y 2 : Fin 128))
  else X6 (ix4 (0 : Fin 1) (⟨(y 1).val % 16, Nat.mod_lt _ (by decide)⟩ : Fin 16) (⟨(y 1).val / 16, by have := (y 1).isLt; change (y 1).val < 512 at this; omega⟩ : Fin 32) (y 2 : Fin 128))

theorem emb4 (s : Fin 6) (r : Fin 4) (q : Fin 128) (l : Fin 128) :
    (rect4 s r).emb (ix3 0 q l) = ix3 s (⟨r.val + 4 * q.val, by omega⟩ : Fin 512) l := by
  funext a
  match a with
  | ⟨0, _⟩ => exact Fin.ext (show s.val + 1 * 0 = s.val by omega)
  | ⟨1, _⟩ => exact Fin.ext (show r.val + 4 * q.val = r.val + 4 * q.val from rfl)
  | ⟨2, _⟩ => exact Fin.ext (show 0 + 1 * l.val = l.val by omega)

theorem emb16 (s : Fin 6) (r : Fin 16) (q : Fin 32) (l : Fin 128) :
    (rect16 s r).emb (ix3 0 q l) = ix3 s (⟨r.val + 16 * q.val, by omega⟩ : Fin 512) l := by
  funext a
  match a with
  | ⟨0, _⟩ => exact Fin.ext (show s.val + 1 * 0 = s.val by omega)
  | ⟨1, _⟩ => exact Fin.ext (show r.val + 16 * q.val = r.val + 16 * q.val from rfl)
  | ⟨2, _⟩ => exact Fin.ext (show 0 + 1 * l.val = l.val by omega)

theorem place4 (r : Fin 4) (q l : Fin 128) :
    (Rect.unit (s := S1x4x128x128) ![0, r.val, 0, 0] S1x1x128x128.size (res4 r)).toLoadRect.idx (ix4 0 0 q l) = ix4 0 r q l := by
  funext a
  match a with
  | ⟨0, _⟩ => rfl
  | ⟨1, _⟩ => exact Fin.ext (show r.val + 1 * 0 = r.val by omega)
  | ⟨2, _⟩ => exact Fin.ext (show 0 + 1 * q.val = q.val by omega)
  | ⟨3, _⟩ => exact Fin.ext (show 0 + 1 * l.val = l.val by omega)

theorem place16 (r : Fin 16) (q : Fin 32) (l : Fin 128) :
    (Rect.unit (s := S1x16x32x128) ![0, r.val, 0, 0] S1x1x32x128.size (res16 r)).toLoadRect.idx (ix4 0 0 q l) = ix4 0 r q l := by
  funext a
  match a with
  | ⟨0, _⟩ => rfl
  | ⟨1, _⟩ => exact Fin.ext (show r.val + 1 * 0 = r.val by omega)
  | ⟨2, _⟩ => exact Fin.ext (show 0 + 1 * q.val = q.val by omega)
  | ⟨3, _⟩ => exact Fin.ext (show 0 + 1 * l.val = l.val by omega)

theorem pay165_at (v : Vec Ideal S1x1x128x128 .bf16) (q l : Fin 128) : k0_pay165 (F := Ideal) v (ix3 0 q l) = v (ix4 0 0 q l) := by
  pointwise [k0_pay165]
theorem pay170_at (v : Vec Ideal S1x1x32x128 .bf16) (q : Fin 32) (l : Fin 128) : k0_pay170 (F := Ideal) v (ix3 0 q l) = v (ix4 0 0 q l) := by
  pointwise [k0_pay170]
theorem pay190_at (v : Vec Ideal S1x1x128x128 .f32) (q l : Fin 128) : k0_pay190 (F := Ideal) v (ix3 0 q l) = v (ix4 0 0 q l) := by
  pointwise [k0_pay190]
theorem pay213_at (v : Vec Ideal S1x1x32x128 .f32) (q : Fin 32) (l : Fin 128) :
    k0_pay213 (F := Ideal) (shapeCast S32x128 v shapeCasts_S1x1x32x128_S32x128) (ix3 0 q l) = v (ix4 0 0 q l) := by
  pointwise [k0_pay213]

/-- An index of one row of a slot, by its coordinates. -/
theorem split3 {n : ℕ} (x : (⟨3, ![1, n, 128]⟩ : Shape).Idx) : ∃ (q : Fin n) (l : Fin 128), x = ix3 0 q l := by
  refine ⟨x 1, x 2, ?_⟩
  funext a
  match a with
  | ⟨0, _⟩ => exact Fin.ext (by have := (x 0).isLt; change (x 0).val < 1 at this; show (x 0).val = 0; omega)
  | ⟨1, _⟩ => rfl
  | ⟨2, _⟩ => rfl

theorem out4_at {κ : Kind} {sp : Space} (g : Memref sig κ sp S1x4x128x128 .bf16) (h : g.IsWhole) (X : S1x4x128x128.Idx → Elt Ideal .bf16) (s : Fin 6) (r : Fin 4) (q : Fin 128) (l : Fin 128) :
    (out4 (F := Ideal) g h X s r).2 (ix3 0 q l) = X (ix4 0 r q l) := by
  dsimp only [out4]
  refine (pay165_at _ q l).trans ?_
  rw [View.readAt_apply, h.read_unread, place4]

theorem lse4_at {κ : Kind} {sp : Space} (g : Memref sig κ sp S1x4x128x128 .f32) (h : g.IsWhole) (X : S1x4x128x128.Idx → Elt Ideal .f32) (s : Fin 6) (r : Fin 4) (q : Fin 128) (l : Fin 128) :
    (lse4 (F := Ideal) g h X s r).2 (ix3 0 q l) = X (ix4 0 r q l) := by
  dsimp only [lse4]
  refine (pay190_at _ q l).trans ?_
  rw [View.readAt_apply, h.read_unread, place4]

theorem out16_at {κ : Kind} {sp : Space} (g : Memref sig κ sp S1x16x32x128 .bf16) (h : g.IsWhole) (X : S1x16x32x128.Idx → Elt Ideal .bf16) (s : Fin 6) (r : Fin 16) (q : Fin 32) (l : Fin 128) :
    (out16 (F := Ideal) g h X s r).2 (ix3 0 q l) = X (ix4 0 r q l) := by
  dsimp only [out16]
  refine (pay170_at _ q l).trans ?_
  rw [View.readAt_apply, h.read_unread, place16]

theorem lse16_at {κ : Kind} {sp : Space} (g : Memref sig κ sp S1x16x32x128 .f32) (h : g.IsWhole) (X : S1x16x32x128.Idx → Elt Ideal .f32) (s : Fin 6) (r : Fin 16) (q : Fin 32) (l : Fin 128) :
    (lse16 (F := Ideal) g h X s r).2 (ix3 0 q l) = X (ix4 0 r q l) := by
  dsimp only [lse16]
  refine (pay213_at _ q l).trans ?_
  rw [View.readAt_apply, h.read_unread, place16]

theorem good_of4 (L : List (Fin 4)) (f : Fin 4 → View.Piece (Elt Ideal) S6x512x128 .f32) (s : Fin 6) (G : S6x512x128.Idx → EReal)
    (w : Fin 4 → S1x128x128.Idx → EReal) (hw : ∀ r, f r = ⟨rect4 s r, w r⟩)
    (hG : ∀ r q l, w r (ix3 0 q l) = G (ix3 s (⟨r.val + 4 * q.val, by omega⟩ : Fin 512) l)) : ∀ p ∈ L.map f, ∀ x, p.2 x = G (p.1.emb x) := by
  intro p hp
  obtain ⟨r, _, rfl⟩ := List.mem_map.mp hp
  rw [hw r]
  intro x
  obtain ⟨q, l, rfl⟩ := split3 (n := 128) x
  exact (hG r q l).trans (congrArg G (emb4 s r q l)).symm

theorem good_of16 (L : List (Fin 16)) (f : Fin 16 → View.Piece (Elt Ideal) S6x512x128 .f32) (s : Fin 6) (G : S6x512x128.Idx → EReal)
    (w : Fin 16 → S1x32x128.Idx → EReal) (hw : ∀ r, f r = ⟨rect16 s r, w r⟩)
    (hG : ∀ r q l, w r (ix3 0 q l) = G (ix3 s (⟨r.val + 16 * q.val, by omega⟩ : Fin 512) l)) : ∀ p ∈ L.map f, ∀ x, p.2 x = G (p.1.emb x) := by
  intro p hp
  obtain ⟨r, _, rfl⟩ := List.mem_map.mp hp
  rw [hw r]
  intro x
  obtain ⟨q, l, rfl⟩ := split3 (n := 32) x
  exact (hG r q l).trans (congrArg G (emb16 s r q l)).symm

section goods
variable {κ3 κ4 κ6 κ7 : Kind} {sp3 sp4 sp6 sp7 : Space}
  (g3 : Memref sig κ3 sp3 S1x4x128x128 .bf16) (h3 : g3.IsWhole) (X2 : S1x4x128x128.Idx → Elt Ideal .bf16)
  (g4 : Memref sig κ4 sp4 S1x16x32x128 .bf16) (h4 : g4.IsWhole) (X3 : S1x16x32x128.Idx → Elt Ideal .bf16)
  (g6 : Memref sig κ6 sp6 S1x4x128x128 .f32) (h6 : g6.IsWhole) (X5 : S1x4x128x128.Idx → Elt Ideal .f32)
  (g7 : Memref sig κ7 sp7 S1x16x32x128 .f32) (h7 : g7.IsWhole) (X6 : S1x16x32x128.Idx → Elt Ideal .f32)

theorem held1 (n : Fin 512) (l : Fin 128) (r : Fin 4) (q : Fin 128) (hn : n.val = r.val + 4 * q.val) : held X2 X3 X5 X6 (ix3 1 n l) = X2 (ix4 0 r q l) := by
  have h1 : (⟨n.val % 4, Nat.mod_lt _ (by decide)⟩ : Fin 4) = r := Fin.ext (by show n.val % 4 = r.val; omega)
  have h2 : (⟨n.val / 4, by omega⟩ : Fin 128) = q := Fin.ext (by show n.val / 4 = q.val; omega)
  exact (if_pos rfl).trans (congrArg₂ (fun a b => X2 (ix4 0 a b l)) h1 h2)
theorem held2 (n : Fin 512) (l : Fin 128) (r : Fin 16) (q : Fin 32) (hn : n.val = r.val + 16 * q.val) : held X2 X3 X5 X6 (ix3 2 n l) = X3 (ix4 0 r q l) := by
  have h1 : (⟨n.val % 16, Nat.mod_lt _ (by decide)⟩ : Fin 16) = r := Fin.ext (by show n.val % 16 = r.val; omega)
  have h2 : (⟨n.val / 16, by omega⟩ : Fin 32) = q := Fin.ext (by show n.val / 16 = q.val; omega)
  exact (if_neg (by decide : ¬(2 : ℕ) = 1)).trans ((if_pos rfl).trans (congrArg₂ (fun a b => X3 (ix4 0 a b l)) h1 h2))
theorem held4 (n : Fin 512) (l : Fin 128) (r : Fin 4) (q : Fin 128) (hn : n.val = r.val + 4 * q.val) : held X2 X3 X5 X6 (ix3 4 n l) = X5 (ix4 0 r q l) := by
  have h1 : (⟨n.val % 4, Nat.mod_lt _ (by decide)⟩ : Fin 4) = r := Fin.ext (by show n.val % 4 = r.val; omega)
  have h2 : (⟨n.val / 4, by omega⟩ : Fin 128) = q := Fin.ext (by show n.val / 4 = q.val; omega)
  exact (if_neg (by decide : ¬(4 : ℕ) = 1)).trans ((if_neg (by decide : ¬(4 : ℕ) = 2)).trans ((if_pos rfl).trans (congrArg₂ (fun a b => X5 (ix4 0 a b l)) h1 h2)))
theorem held5 (n : Fin 512) (l : Fin 128) (r : Fin 16) (q : Fin 32) (hn : n.val = r.val + 16 * q.val) : held X2 X3 X5 X6 (ix3 5 n l) = X6 (ix4 0 r q l) := by
  have h1 : (⟨n.val % 16, Nat.mod_lt _ (by decide)⟩ : Fin 16) = r := Fin.ext (by show n.val % 16 = r.val; omega)
  have h2 : (⟨n.val / 16, by omega⟩ : Fin 32) = q := Fin.ext (by show n.val / 16 = q.val; omega)
  exact (if_neg (by decide : ¬(5 : ℕ) = 1)).trans ((if_neg (by decide : ¬(5 : ℕ) = 2)).trans ((if_neg (by decide : ¬(5 : ℕ) = 4)).trans (congrArg₂ (fun a b => X6 (ix4 0 a b l)) h1 h2)))

theorem good1 : ∀ p ∈ stores1 (F := Ideal) g3 h3 X2, ∀ x, p.2 x = held X2 X3 X5 X6 (p.1.emb x) :=
  good_of4 down4 (out4 g3 h3 X2 1) 1 _ (fun r => (out4 g3 h3 X2 1 r).2) (fun r => rfl) (fun r q l => (out4_at g3 h3 X2 1 r q l).trans (held1 X2 X3 X5 X6 _ l r q rfl).symm)

theorem good2 : ∀ p ∈ stores2 (F := Ideal) g3 h3 X2 g4 h4 X3, ∀ x, p.2 x = held X2 X3 X5 X6 (p.1.emb x) := by
  intro p hp
  rcases List.mem_append.mp hp with hp | hp
  · exact good_of16 down16 (out16 g4 h4 X3 2) 2 _ (fun r => (out16 g4 h4 X3 2 r).2) (fun r => rfl) (fun r q l => (out16_at g4 h4 X3 2 r q l).trans (held2 X2 X3 X5 X6 _ l r q rfl).symm) p hp
  · exact good1 g3 h3 X2 X3 X5 X6 p hp

theorem good4 : ∀ p ∈ stores4 (F := Ideal) g3 h3 X2 g4 h4 X3 g6 h6 X5, ∀ x, p.2 x = held X2 X3 X5 X6 (p.1.emb x) := by
  intro p hp
  rcases List.mem_append.mp hp with hp | hp
  · exact good_of4 down4 (lse4 g6 h6 X5 4) 4 _ (fun r => (lse4 g6 h6 X5 4 r).2) (fun r => rfl) (fun r q l => (lse4_at g6 h6 X5 4 r q l).trans (held4 X2 X3 X5 X6 _ l r q rfl).symm) p hp
  · exact good2 g3 h3 X2 g4 h4 X3 X5 X6 p hp

theorem good5 : ∀ p ∈ stores5 (F := Ideal) g3 h3 X2 g4 h4 X3 g6 h6 X5 g7 h7 X6, ∀ x, p.2 x = held X2 X3 X5 X6 (p.1.emb x) := by
  intro p hp
  rcases List.mem_append.mp hp with hp | hp
  · exact good_of16 down16 (lse16 g7 h7 X6 5) 5 _ (fun r => (lse16 g7 h7 X6 5 r).2) (fun r => rfl) (fun r q l => (lse16_at g7 h7 X6 5 r q l).trans (held5 X2 X3 X5 X6 _ l r q rfl).symm) p hp
  · exact good4 g3 h3 X2 g4 h4 X3 g6 h6 X5 X6 p hp

theorem in4 (s : Fin 6) (n : Fin 512) (l : Fin 128) : ix3 s n l ∈ (rect4 s ⟨n.val % 4, Nat.mod_lt _ (by decide)⟩).set := by
  have h := LoadRect.idx_mem (rect4 s ⟨n.val % 4, Nat.mod_lt _ (by decide)⟩).toLoadRect (ix3 0 (⟨n.val / 4, by omega⟩ : Fin 128) l)
  have e : (rect4 s ⟨n.val % 4, Nat.mod_lt _ (by decide)⟩).toLoadRect.idx (ix3 0 (⟨n.val / 4, by omega⟩ : Fin 128) l) = ix3 s n l :=
    (emb4 s _ _ l).trans (congrArg (fun k => ix3 s k l) (Fin.ext (show n.val % 4 + 4 * (n.val / 4) = n.val by omega)))
  rw [e] at h
  exact h

theorem in16 (s : Fin 6) (n : Fin 512) (l : Fin 128) : ix3 s n l ∈ (rect16 s ⟨n.val % 16, Nat.mod_lt _ (by decide)⟩).set := by
  have h := LoadRect.idx_mem (rect16 s ⟨n.val % 16, Nat.mod_lt _ (by decide)⟩).toLoadRect (ix3 0 (⟨n.val / 16, by omega⟩ : Fin 32) l)
  have e : (rect16 s ⟨n.val % 16, Nat.mod_lt _ (by decide)⟩).toLoadRect.idx (ix3 0 (⟨n.val / 16, by omega⟩ : Fin 32) l) = ix3 s n l :=
    (emb16 s _ _ l).trans (congrArg (fun k => ix3 s k l) (Fin.ext (show n.val % 16 + 16 * (n.val / 16) = n.val by omega)))
  rw [e] at h
  exact h

theorem slot_idx (s : Fin 6) (inb : ∀ a, (![s.val, 0, 0] : Fin 3 → Nat) a + S1x512x128.size a ≤ S6x512x128.size a) (n : Fin 512) (l : Fin 128) :
    (Rect.unit (s := S6x512x128) ![s.val, 0, 0] S1x512x128.size inb).toLoadRect.idx (ix3 0 n l) = ix3 s n l := by
  funext a
  match a with
  | ⟨0, _⟩ => exact Fin.ext (show s.val + 1 * 0 = s.val by omega)
  | ⟨1, _⟩ => exact Fin.ext (show 0 + 1 * n.val = n.val by omega)
  | ⟨2, _⟩ => exact Fin.ext (show 0 + 1 * l.val = l.val by omega)

variable {κ : Kind} {sp : Space} (v : View sig κ sp S6x512x128 .f32)

/-- A read of a slot after its stores. -/
theorem slot_at (L : List (View.Piece (Elt Ideal) S6x512x128 .f32)) (hL : ∀ p ∈ L, ∀ x, p.2 x = held X2 X3 X5 X6 (p.1.emb x)) (s : Fin 6)
    (inb : ∀ a, (![s.val, 0, 0] : Fin 3 → Nat) a + S1x512x128.size a ≤ S6x512x128.size a) (n : Fin 512) (l : Fin 128)
    (hc : ∃ p ∈ L, ix3 s n l ∈ p.1.set) :
    v.readCov L (Rect.unit (s := S6x512x128) ![s.val, 0, 0] S1x512x128.size inb).toLoadRect (ix3 0 n l) = held X2 X3 X5 X6 (ix3 s n l) := by
  rw [View.readCov_eq_canon']
  show View.canon L ((Rect.unit (s := S6x512x128) ![s.val, 0, 0] S1x512x128.size inb).toLoadRect.idx (ix3 0 n l)) = _
  rw [slot_idx]
  exact View.canon_apply_of_pieces (held X2 X3 X5 X6) L hL _ hc

theorem slot1 (inb) (n : Fin 512) (l : Fin 128) :
    v.readCov (stores1 (F := Ideal) g3 h3 X2) (Rect.unit (s := S6x512x128) ![1, 0, 0] S1x512x128.size inb).toLoadRect (ix3 0 n l)
      = X2 (ix4 0 (⟨n.val % 4, Nat.mod_lt _ (by decide)⟩ : Fin 4) (⟨n.val / 4, by omega⟩ : Fin 128) l) :=
  (slot_at X2 (fun _ => 0) X2 (fun _ => 0) v _ (good1 g3 h3 X2 _ _ _) 1 inb n l
    ⟨_, List.mem_map.mpr ⟨⟨n.val % 4, Nat.mod_lt _ (by decide)⟩, mem4 _, rfl⟩, in4 1 n l⟩).trans
    (held1 X2 _ _ _ n l _ _ (show n.val = n.val % 4 + 4 * (n.val / 4) by omega))

theorem slot2 (inb) (n : Fin 512) (l : Fin 128) :
    v.readCov (stores2 (F := Ideal) g3 h3 X2 g4 h4 X3) (Rect.unit (s := S6x512x128) ![2, 0, 0] S1x512x128.size inb).toLoadRect (ix3 0 n l)
      = X3 (ix4 0 (⟨n.val % 16, Nat.mod_lt _ (by decide)⟩ : Fin 16) (⟨n.val / 16, by omega⟩ : Fin 32) l) :=
  (slot_at X2 X3 X2 (fun _ => 0) v _ (good2 g3 h3 X2 g4 h4 X3 _ _) 2 inb n l
    ⟨_, List.mem_append_left _ (List.mem_map.mpr ⟨⟨n.val % 16, Nat.mod_lt _ (by decide)⟩, mem16 _, rfl⟩), in16 2 n l⟩).trans
    (held2 X2 X3 _ _ n l _ _ (show n.val = n.val % 16 + 16 * (n.val / 16) by omega))

theorem slot4 (inb) (n : Fin 512) (l : Fin 128) :
    v.readCov (stores4 (F := Ideal) g3 h3 X2 g4 h4 X3 g6 h6 X5) (Rect.unit (s := S6x512x128) ![4, 0, 0] S1x512x128.size inb).toLoadRect (ix3 0 n l)
      = X5 (ix4 0 (⟨n.val % 4, Nat.mod_lt _ (by decide)⟩ : Fin 4) (⟨n.val / 4, by omega⟩ : Fin 128) l) :=
  (slot_at X2 X3 X5 (fun _ => 0) v _ (good4 g3 h3 X2 g4 h4 X3 g6 h6 X5 _) 4 inb n l
    ⟨_, List.mem_append_left _ (List.mem_map.mpr ⟨⟨n.val % 4, Nat.mod_lt _ (by decide)⟩, mem4 _, rfl⟩), in4 4 n l⟩).trans
    (held4 X2 X3 X5 _ n l _ _ (show n.val = n.val % 4 + 4 * (n.val / 4) by omega))

theorem slot5 (inb) (n : Fin 512) (l : Fin 128) :
    v.readCov (stores5 (F := Ideal) g3 h3 X2 g4 h4 X3 g6 h6 X5 g7 h7 X6) (Rect.unit (s := S6x512x128) ![5, 0, 0] S1x512x128.size inb).toLoadRect (ix3 0 n l)
      = X6 (ix4 0 (⟨n.val % 16, Nat.mod_lt _ (by decide)⟩ : Fin 16) (⟨n.val / 16, by omega⟩ : Fin 32) l) :=
  (slot_at X2 X3 X5 X6 v _ (good5 g3 h3 X2 g4 h4 X3 g6 h6 X5 g7 h7 X6) 5 inb n l
    ⟨_, List.mem_append_left _ (List.mem_map.mpr ⟨⟨n.val % 16, Nat.mod_lt _ (by decide)⟩, mem16 _, rfl⟩), in16 5 n l⟩).trans
    (held5 X2 X3 X5 X6 n l _ _ (show n.val = n.val % 16 + 16 * (n.val / 16) by omega))

end goods

end Cert.MergeIdeal.Slots
end
-- ==== Proof.MergeRun.lean ====
module

public import proofs.«01_k».proof.Proof.MergeSlots

@[expose] public section

set_option maxRecDepth 65536

noncomputable section

/-! What one run of the mixing body leaves as the tokens of its tile. -/
namespace Cert.MergeIdeal.Run

open Idealize.ShloMosaic Idealize.ShloMosaic.TcCoe Idealize.SL.Sem
open Cert.MergeIdeal Cert.MergeIdeal.Gen Cert.MergeIdeal.Tile

section tile
variable {F : FTy → Type} [FloatOps F]
variable (m : (ℓ : Loc nD τ sig) → Buf (Elt F) ℓ) (c : Dev nD) (t : Fin cfg0.N)

def x : Vec F S512x1024 .f32 := View.readAt (Elt F) (ms0_0 t).view (Rect.unit (s := S512x1024) ![0, 0] S512x1024.size inb_S512x1024_S512x1024_0_0).toLoadRect ((hs0_0 t).unread (iblk m c 0 t))
def o1 : Vec F S1x1x512x128 .bf16 := View.readAt (Elt F) (ms0_1 t).view (Rect.unit (s := S1x1x512x128) ![0, 0, 0, 0] S1x1x512x128.size inb_S1x1x512x128_S1x1x512x128_0_0_0_0).toLoadRect ((hs0_1 t).unread (iblk m c 1 t))
def l1 : Vec F S1x1x512x128 .f32 := View.readAt (Elt F) (ms0_4 t).view (Rect.unit (s := S1x1x512x128) ![0, 0, 0, 0] S1x1x512x128.size inb_S1x1x512x128_S1x1x512x128_0_0_0_0).toLoadRect ((hs0_4 t).unread (iblk m c 4 t))
def ym : Vec F S512x384 .bf16 := View.readAt (Elt F) (ms0_7 t).view (Rect.unit (s := S512x384) ![0, 0] S512x384.size inb_S512x384_S512x384_0_0).toLoadRect ((hs0_7 t).unread (iblk m c 7 t))
def yx : Vec F S512x256 .bf16 := View.readAt (Elt F) (ms0_8 t).view (Rect.unit (s := S512x256) ![0, 0] S512x256.size inb_S512x256_S512x256_0_0).toLoadRect ((hs0_8 t).unread (iblk m c 8 t))
def g0 : Vec F S1024x1024 .bf16 := View.readAt (Elt F) (ms0_9 t).view (Rect.unit (s := S1024x3072) ![0, 0] S1024x1024.size inb_S1024x3072_S1024x1024_0_0).toLoadRect ((hs0_9 t).unread (iblk m c 9 t))
def g1 : Vec F S1024x1024 .bf16 := View.readAt (Elt F) (ms0_9 t).view (Rect.unit (s := S1024x3072) ![0, 1024] S1024x1024.size inb_S1024x3072_S1024x1024_0_1024).toLoadRect ((hs0_9 t).unread (iblk m c 9 t))
def g2 : Vec F S1024x1024 .bf16 := View.readAt (Elt F) (ms0_9 t).view (Rect.unit (s := S1024x3072) ![0, 2048] S1024x1024.size inb_S1024x3072_S1024x1024_0_2048).toLoadRect ((hs0_9 t).unread (iblk m c 9 t))
def b0 : Vec F S1x1024 .f32 := View.readAt (Elt F) (ms0_10 t).view (Rect.unit (s := S1x3072) ![0, 0] S1x1024.size inb_S1x3072_S1x1024_0_0).toLoadRect ((hs0_10 t).unread (iblk m c 10 t))
def b1 : Vec F S1x1024 .f32 := View.readAt (Elt F) (ms0_10 t).view (Rect.unit (s := S1x3072) ![0, 1024] S1x1024.size inb_S1x3072_S1x1024_0_1024).toLoadRect ((hs0_10 t).unread (iblk m c 10 t))
def b2 : Vec F S1x1024 .f32 := View.readAt (Elt F) (ms0_10 t).view (Rect.unit (s := S1x3072) ![0, 2048] S1x1024.size inb_S1x3072_S1x1024_0_2048).toLoadRect ((hs0_10 t).unread (iblk m c 10 t))
def wd : Vec F S128x1024 .bf16 := View.readAt (Elt F) (ms0_11 t).view (Rect.unit (s := S128x1024) ![0, 0] S128x1024.size inb_S128x1024_S128x1024_0_0).toLoadRect ((hs0_11 t).unread (iblk m c 11 t))
def wm : Vec F S384x1024 .bf16 := View.readAt (Elt F) (ms0_12 t).view (Rect.unit (s := S384x1024) ![0, 0] S384x1024.size inb_S384x1024_S384x1024_0_0).toLoadRect ((hs0_12 t).unread (iblk m c 12 t))
def wx : Vec F S256x1024 .bf16 := View.readAt (Elt F) (ms0_13 t).view (Rect.unit (s := S256x1024) ![0, 0] S256x1024.size inb_S256x1024_S256x1024_0_0).toLoadRect ((hs0_13 t).unread (iblk m c 13 t))
def wo : Vec F S1024x1024 .bf16 := View.readAt (Elt F) (ms0_14 t).view (Rect.unit (s := S1024x1024) ![0, 0] S1024x1024.size inb_S1024x1024_S1024x1024_0_0).toLoadRect ((hs0_14 t).unread (iblk m c 14 t))
def gain : Vec F S1x1024 .f32 := View.readAt (Elt F) (ms0_15 t).view (Rect.unit (s := S1x1024) ![0, 0] S1x1024.size inb_S1x1024_S1x1024_0_0).toLoadRect ((hs0_15 t).unread (iblk m c 15 t))
def off : Vec F S1x1024 .f32 := View.readAt (Elt F) (ms0_16 t).view (Rect.unit (s := S1x1024) ![0, 0] S1x1024.size inb_S1x1024_S1x1024_0_0).toLoadRect ((hs0_16 t).unread (iblk m c 16 t))

/-- The second group of the tile, in the order of the tokens. -/
def o2 : Vec F S1x512x128 .f32 := scM0_0.view.readCov (Slots.stores1 (ms0_2 t) (hs0_2 t) (iblk m c 2 t)) (Rect.unit (s := S6x512x128) ![1, 0, 0] S1x512x128.size inb_S6x512x128_S1x512x128_1_0_0).toLoadRect
def o3 : Vec F S1x512x128 .f32 := scM0_0.view.readCov (Slots.stores2 (ms0_2 t) (hs0_2 t) (iblk m c 2 t) (ms0_3 t) (hs0_3 t) (iblk m c 3 t)) (Rect.unit (s := S6x512x128) ![2, 0, 0] S1x512x128.size inb_S6x512x128_S1x512x128_2_0_0).toLoadRect
def l2 : Vec F S1x512x128 .f32 := scM0_0.view.readCov (Slots.stores4 (ms0_2 t) (hs0_2 t) (iblk m c 2 t) (ms0_3 t) (hs0_3 t) (iblk m c 3 t) (ms0_5 t) (hs0_5 t) (iblk m c 5 t)) (Rect.unit (s := S6x512x128) ![4, 0, 0] S1x512x128.size inb_S6x512x128_S1x512x128_4_0_0).toLoadRect
def l3 : Vec F S1x512x128 .f32 := scM0_0.view.readCov (Slots.stores5 (ms0_2 t) (hs0_2 t) (iblk m c 2 t) (ms0_3 t) (hs0_3 t) (iblk m c 3 t) (ms0_5 t) (hs0_5 t) (iblk m c 5 t) (ms0_6 t) (hs0_6 t) (iblk m c 6 t)) (Rect.unit (s := S6x512x128) ![5, 0, 0] S1x512x128.size inb_S6x512x128_S1x512x128_5_0_0).toLoadRect

/-- The dilated branch of the tile. -/
def branch : FVec F S512x128 .f32 := dilated (o1 m c t) (o2 m c t) (o3 m c t) (l1 m c t) (l2 m c t) (l3 m c t)

/-- The gated branches of the tile. -/
def gated : FVec F S512x1024 .f32 :=
  mixed (x m c t) (branch m c t) (ym m c t) (yx m c t) (g0 m c t) (g1 m c t) (g2 m c t) (b0 m c t) (b1 m c t) (b2 m c t) (wd m c t) (wm m c t) (wx m c t)

/-- The tokens of the tile after the mixer. -/
def tokens : FVec F S512x1024 .f32 := norm (total (x m c t) (gated m c t) (wo m c t)) (gain m c t) (off m c t)

theorem first_out (h : t.val % 65 = 0) : (Whole.first m c t h).1 = [(⟨Rect.unit (s := S512x1024) ![0, 0] S512x1024.size inb_S512x1024_S512x1024_0_0, tokens m c t⟩ : View.Piece (Elt F) S512x1024 .f32)] := rfl

theorem later_out (h : ¬t.val % 65 = 0) (s1 : Vec F S256x128 .f32) (s2 : Vec F S512x1024 .f32) : (Whole.later m c t h s1 s2).1 = [(⟨Rect.unit (s := S512x1024) ![0, 0] S512x1024.size inb_S512x1024_S512x1024_0_0, tokens m c t⟩ : View.Piece (Elt F) S512x1024 .f32)] := rfl

theorem zeros : (![0, 0] : Fin 2 → Nat) = fun _ => 0 := by decide

theorem first_tokens (h : t.val % 65 = 0) : (Whole.firstHeld m c t h).1 = tokens m c t := by
  dsimp only [Whole.firstHeld]
  rw [View.read_writes_junk_eq_canon, first_out]
  exact View.canon_unit_zero zeros _ _

theorem later_tokens (h : ¬t.val % 65 = 0) (s1 : Vec F S256x128 .f32) (s2 : Vec F S512x1024 .f32) : (Whole.laterHeld m c t h s1 s2).1 = tokens m c t := by
  dsimp only [Whole.laterHeld]
  rw [View.read_writes_junk_eq_canon, later_out]
  exact View.canon_unit_zero zeros _ _

/-- The tokens of a tile are those the body left, at whichever point. -/
theorem held_tokens : (Whole.held m c t.val t.isLt).1 = tokens m c t := by
  by_cases h : t.val % 65 = 0
  · rw [Whole.held_first m c t h, first_tokens]
  · rw [Whole.held_later m c t h, later_tokens]

end tile

end Cert.MergeIdeal.Run
end
-- ==== Proof.MergeEntry.lean ====
module

public import proofs.«01_k».proof.Proof.Mix
public import proofs.«01_k».proof.Proof.Gen.MergeIdeal.Frame.Runs

@[expose] public section

set_option maxRecDepth 16384

noncomputable section

/-! The blocks the mixing call reads, entry by entry, in terms of the arguments as launched. -/
namespace Cert.MergeIdeal.Entry

open Cert.MergeIdeal Cert.MergeIdeal.Gen Idealize.ShloMosaic Idealize.ShloMosaic.TcCoe Idealize.SL.Sem

variable (m : (ℓ : Loc nD τ sig) → Buf (Elt Ideal) ℓ) (e : Dev nD)

theorem x_at (n : Fin 32768) (c : Fin 1024) :
    V m e main_v7 (ix2 n c) = m ((e.tc : Thread nD τ).loc main_arg0) (ix3 ⟨n.val / 4096, by omega⟩ ⟨n.val % 4096, by omega⟩ c) := by
  entry_read
  pointwise []
theorem moba_at (n : Fin 32768) (c : Fin 384) :
    V m e main_v30 (ix2 n c) = m ((e.tc : Thread nD τ).loc main_arg7) (ix3 ⟨n.val / 4096, by omega⟩ ⟨n.val % 4096, by omega⟩ c) := by
  entry_read
  pointwise []
theorem mem_at (n : Fin 32768) (c : Fin 256) :
    V m e main_v32 (ix2 n c) = m ((e.tc : Thread nD τ).loc main_arg8) (ix3 ⟨n.val / 4096, by omega⟩ ⟨n.val % 4096, by omega⟩ c) := by
  entry_read
  pointwise []
theorem o1_at (b : Fin 8) (r : Fin 1) (l : Fin 4096) (c : Fin 128) :
    V m e main_v10 (ix4 b r l c) = m ((e.tc : Thread nD τ).loc main_arg1) (ix4 b l ⟨c.val / 64, by omega⟩ ⟨c.val % 64, by omega⟩) := by
  entry_read
  pointwise []
theorem l1_at (b : Fin 8) (r : Fin 1) (l : Fin 4096) (c : Fin 128) :
    V m e main_v20 (ix4 b r l c) = m ((e.tc : Thread nD τ).loc main_arg4) (ix3 b l ⟨c.val / 64, by omega⟩) := by
  entry_read
  pointwise []
theorem o2_at (b : Fin 8) (r : Fin 4) (l : Fin 1024) (c : Fin 128) :
    V m e main_v13 (ix4 b r l c) = m ((e.tc : Thread nD τ).loc main_arg2) (ix4 b ⟨l.val * 4 + r.val, by omega⟩ ⟨c.val / 64, by omega⟩ ⟨c.val % 64, by omega⟩) := by
  entry_read
  pointwise []
theorem l2_at (b : Fin 8) (r : Fin 4) (l : Fin 1024) (c : Fin 128) :
    V m e main_v24 (ix4 b r l c) = m ((e.tc : Thread nD τ).loc main_arg5) (ix3 b ⟨l.val * 4 + r.val, by omega⟩ ⟨c.val / 64, by omega⟩) := by
  entry_read
  pointwise []
theorem o3_at (b : Fin 8) (r : Fin 16) (l : Fin 256) (c : Fin 128) :
    V m e main_v16 (ix4 b r l c) = m ((e.tc : Thread nD τ).loc main_arg3) (ix4 b ⟨l.val * 16 + r.val, by omega⟩ ⟨c.val / 64, by omega⟩ ⟨c.val % 64, by omega⟩) := by
  entry_read
  pointwise []
theorem l3_at (b : Fin 8) (r : Fin 16) (l : Fin 256) (c : Fin 128) :
    V m e main_v28 (ix4 b r l c) = m ((e.tc : Thread nD τ).loc main_arg6) (ix3 b ⟨l.val * 16 + r.val, by omega⟩ ⟨c.val / 64, by omega⟩) := by
  entry_read
  pointwise []
theorem wg_at (k : Fin 1024) (c : Fin 3072) :
    V m e main_v33 (ix2 k c) = m ((e.tc : Thread nD τ).loc main_arg9) (ix2 k c) := by
  entry_read
  pointwise []
theorem wd_at (k : Fin 128) (c : Fin 1024) :
    V m e main_v35 (ix2 k c) = m ((e.tc : Thread nD τ).loc main_arg11) (ix2 k c) := by
  entry_read
  pointwise []
theorem wm_at (k : Fin 384) (c : Fin 1024) :
    V m e main_v36 (ix2 k c) = m ((e.tc : Thread nD τ).loc main_arg12) (ix2 k c) := by
  entry_read
  pointwise []
theorem wx_at (k : Fin 256) (c : Fin 1024) :
    V m e main_v37 (ix2 k c) = m ((e.tc : Thread nD τ).loc main_arg13) (ix2 k c) := by
  entry_read
  pointwise []
theorem wo_at (k : Fin 1024) (c : Fin 1024) :
    V m e main_v38 (ix2 k c) = m ((e.tc : Thread nD τ).loc main_arg14) (ix2 k c) := by
  entry_read
  pointwise []
theorem bg_at (c : Fin 3072) :
    V m e main_v34 (ix2 0 c) = m ((e.tc : Thread nD τ).loc main_arg10) (ix1 c) := by
  entry_read
  pointwise []
theorem gain_at (c : Fin 1024) :
    V m e main_v39 (ix2 0 c) = m ((e.tc : Thread nD τ).loc main_arg15) (ix1 c) := by
  entry_read
  pointwise []
theorem off_at (c : Fin 1024) :
    V m e main_v40 (ix2 0 c) = m ((e.tc : Thread nD τ).loc main_arg16) (ix1 c) := by
  entry_read
  pointwise []

/-- Where the blocks of grid point `t` lie. -/
theorem idx : ∀ t : Fin cfg0.N, win0_0.index t = ![min t.val 63, 0] ∧ win0_1.index t = ![min t.val 63 / 8, 0, min t.val 63 % 8, 0] ∧ win0_2.index t = ![min t.val 63 / 8, 0, min t.val 63 % 8, 0] ∧ win0_3.index t = ![min t.val 63 / 8, 0, min t.val 63 % 8, 0] ∧ win0_4.index t = ![min t.val 63 / 8, 0, min t.val 63 % 8, 0] ∧ win0_5.index t = ![min t.val 63 / 8, 0, min t.val 63 % 8, 0] ∧ win0_6.index t = ![min t.val 63 / 8, 0, min t.val 63 % 8, 0] ∧ win0_7.index t = ![min t.val 63, 0] ∧ win0_8.index t = ![min t.val 63, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_20.index t = ![min t.val 63, 0] :=
  (by decide +kernel : ∀ t : Fin grid0.N, _)

theorem blk0 (t : Fin cfg0.N) (r : Fin 512) (n : Fin 32768) (hn : n.val = min t.val 63 * 512 + r.val) (c : Fin 1024) :
    iblk m e 0 t (ix2 r c) = m ((e.tc : Thread nD τ).loc main_arg0) (ix3 ⟨n.val / 4096, by omega⟩ ⟨n.val % 4096, by omega⟩ c) := by
  obtain ⟨h0, h1, h2, h3, h4, h5, h6, h7, h8, h9, h10, h11, h12, h13, h14, h15, h16, h20⟩ := idx t
  rw [← x_at m e n c]
  blk_point [iblk, V, h0, hn]
theorem blk7 (t : Fin cfg0.N) (r : Fin 512) (n : Fin 32768) (hn : n.val = min t.val 63 * 512 + r.val) (c : Fin 384) :
    iblk m e 7 t (ix2 r c) = m ((e.tc : Thread nD τ).loc main_arg7) (ix3 ⟨n.val / 4096, by omega⟩ ⟨n.val % 4096, by omega⟩ c) := by
  obtain ⟨h0, h1, h2, h3, h4, h5, h6, h7, h8, h9, h10, h11, h12, h13, h14, h15, h16, h20⟩ := idx t
  rw [← moba_at m e n c]
  blk_point [iblk, V, h7, hn]
theorem blk8 (t : Fin cfg0.N) (r : Fin 512) (n : Fin 32768) (hn : n.val = min t.val 63 * 512 + r.val) (c : Fin 256) :
    iblk m e 8 t (ix2 r c) = m ((e.tc : Thread nD τ).loc main_arg8) (ix3 ⟨n.val / 4096, by omega⟩ ⟨n.val % 4096, by omega⟩ c) := by
  obtain ⟨h0, h1, h2, h3, h4, h5, h6, h7, h8, h9, h10, h11, h12, h13, h14, h15, h16, h20⟩ := idx t
  rw [← mem_at m e n c]
  blk_point [iblk, V, h8, hn]
theorem blk1 (t : Fin cfg0.N) (b : Fin 8) (hb : b.val = min t.val 63 / 8) (r : Fin 1) (q : Fin 512) (l : Fin 4096) (hl : l.val = min t.val 63 % 8 * 512 + q.val) (c : Fin 128) :
    iblk m e 1 t (ix4 0 r q c) = m ((e.tc : Thread nD τ).loc main_arg1) (ix4 b l ⟨c.val / 64, by omega⟩ ⟨c.val % 64, by omega⟩) := by
  obtain ⟨h0, h1, h2, h3, h4, h5, h6, h7, h8, h9, h10, h11, h12, h13, h14, h15, h16, h20⟩ := idx t
  rw [← o1_at m e b r l c]
  blk_point [iblk, V, h1, hb, hl]
theorem blk4 (t : Fin cfg0.N) (b : Fin 8) (hb : b.val = min t.val 63 / 8) (r : Fin 1) (q : Fin 512) (l : Fin 4096) (hl : l.val = min t.val 63 % 8 * 512 + q.val) (c : Fin 128) :
    iblk m e 4 t (ix4 0 r q c) = m ((e.tc : Thread nD τ).loc main_arg4) (ix3 b l ⟨c.val / 64, by omega⟩) := by
  obtain ⟨h0, h1, h2, h3, h4, h5, h6, h7, h8, h9, h10, h11, h12, h13, h14, h15, h16, h20⟩ := idx t
  rw [← l1_at m e b r l c]
  blk_point [iblk, V, h4, hb, hl]
theorem blk2 (t : Fin cfg0.N) (b : Fin 8) (hb : b.val = min t.val 63 / 8) (r : Fin 4) (q : Fin 128) (l : Fin 1024) (hl : l.val = min t.val 63 % 8 * 128 + q.val) (c : Fin 128) :
    iblk m e 2 t (ix4 0 r q c) = m ((e.tc : Thread nD τ).loc main_arg2) (ix4 b ⟨l.val * 4 + r.val, by omega⟩ ⟨c.val / 64, by omega⟩ ⟨c.val % 64, by omega⟩) := by
  obtain ⟨h0, h1, h2, h3, h4, h5, h6, h7, h8, h9, h10, h11, h12, h13, h14, h15, h16, h20⟩ := idx t
  rw [← o2_at m e b r l c]
  blk_point [iblk, V, h2, hb, hl]
theorem blk5 (t : Fin cfg0.N) (b : Fin 8) (hb : b.val = min t.val 63 / 8) (r : Fin 4) (q : Fin 128) (l : Fin 1024) (hl : l.val = min t.val 63 % 8 * 128 + q.val) (c : Fin 128) :
    iblk m e 5 t (ix4 0 r q c) = m ((e.tc : Thread nD τ).loc main_arg5) (ix3 b ⟨l.val * 4 + r.val, by omega⟩ ⟨c.val / 64, by omega⟩) := by
  obtain ⟨h0, h1, h2, h3, h4, h5, h6, h7, h8, h9, h10, h11, h12, h13, h14, h15, h16, h20⟩ := idx t
  rw [← l2_at m e b r l c]
  blk_point [iblk, V, h5, hb, hl]
theorem blk3 (t : Fin cfg0.N) (b : Fin 8) (hb : b.val = min t.val 63 / 8) (r : Fin 16) (q : Fin 32) (l : Fin 256) (hl : l.val = min t.val 63 % 8 * 32 + q.val) (c : Fin 128) :
    iblk m e 3 t (ix4 0 r q c) = m ((e.tc : Thread nD τ).loc main_arg3) (ix4 b ⟨l.val * 16 + r.val, by omega⟩ ⟨c.val / 64, by omega⟩ ⟨c.val % 64, by omega⟩) := by
  obtain ⟨h0, h1, h2, h3, h4, h5, h6, h7, h8, h9, h10, h11, h12, h13, h14, h15, h16, h20⟩ := idx t
  rw [← o3_at m e b r l c]
  blk_point [iblk, V, h3, hb, hl]
theorem blk6 (t : Fin cfg0.N) (b : Fin 8) (hb : b.val = min t.val 63 / 8) (r : Fin 16) (q : Fin 32) (l : Fin 256) (hl : l.val = min t.val 63 % 8 * 32 + q.val) (c : Fin 128) :
    iblk m e 6 t (ix4 0 r q c) = m ((e.tc : Thread nD τ).loc main_arg6) (ix3 b ⟨l.val * 16 + r.val, by omega⟩ ⟨c.val / 64, by omega⟩) := by
  obtain ⟨h0, h1, h2, h3, h4, h5, h6, h7, h8, h9, h10, h11, h12, h13, h14, h15, h16, h20⟩ := idx t
  rw [← l3_at m e b r l c]
  blk_point [iblk, V, h6, hb, hl]
theorem blk9 (t : Fin cfg0.N) (k : Fin 1024) (c : Fin 3072) :
    iblk m e 9 t (ix2 k c) = m ((e.tc : Thread nD τ).loc main_arg9) (ix2 k c) := by
  obtain ⟨h0, h1, h2, h3, h4, h5, h6, h7, h8, h9, h10, h11, h12, h13, h14, h15, h16, h20⟩ := idx t
  rw [← wg_at m e k c]
  blk_point [iblk, V, h9]
theorem blk11 (t : Fin cfg0.N) (k : Fin 128) (c : Fin 1024) :
    iblk m e 11 t (ix2 k c) = m ((e.tc : Thread nD τ).loc main_arg11) (ix2 k c) := by
  obtain ⟨h0, h1, h2, h3, h4, h5, h6, h7, h8, h9, h10, h11, h12, h13, h14, h15, h16, h20⟩ := idx t
  rw [← wd_at m e k c]
  blk_point [iblk, V, h11]
theorem blk12 (t : Fin cfg0.N) (k : Fin 384) (c : Fin 1024) :
    iblk m e 12 t (ix2 k c) = m ((e.tc : Thread nD τ).loc main_arg12) (ix2 k c) := by
  obtain ⟨h0, h1, h2, h3, h4, h5, h6, h7, h8, h9, h10, h11, h12, h13, h14, h15, h16, h20⟩ := idx t
  rw [← wm_at m e k c]
  blk_point [iblk, V, h12]
theorem blk13 (t : Fin cfg0.N) (k : Fin 256) (c : Fin 1024) :
    iblk m e 13 t (ix2 k c) = m ((e.tc : Thread nD τ).loc main_arg13) (ix2 k c) := by
  obtain ⟨h0, h1, h2, h3, h4, h5, h6, h7, h8, h9, h10, h11, h12, h13, h14, h15, h16, h20⟩ := idx t
  rw [← wx_at m e k c]
  blk_point [iblk, V, h13]
theorem blk14 (t : Fin cfg0.N) (k : Fin 1024) (c : Fin 1024) :
    iblk m e 14 t (ix2 k c) = m ((e.tc : Thread nD τ).loc main_arg14) (ix2 k c) := by
  obtain ⟨h0, h1, h2, h3, h4, h5, h6, h7, h8, h9, h10, h11, h12, h13, h14, h15, h16, h20⟩ := idx t
  rw [← wo_at m e k c]
  blk_point [iblk, V, h14]
theorem blk10 (t : Fin cfg0.N) (c : Fin 3072) :
    iblk m e 10 t (ix2 0 c) = m ((e.tc : Thread nD τ).loc main_arg10) (ix1 c) := by
  obtain ⟨h0, h1, h2, h3, h4, h5, h6, h7, h8, h9, h10, h11, h12, h13, h14, h15, h16, h20⟩ := idx t
  rw [← bg_at m e c]
  blk_point [iblk, V, h10]
theorem blk15 (t : Fin cfg0.N) (c : Fin 1024) :
    iblk m e 15 t (ix2 0 c) = m ((e.tc : Thread nD τ).loc main_arg15) (ix1 c) := by
  obtain ⟨h0, h1, h2, h3, h4, h5, h6, h7, h8, h9, h10, h11, h12, h13, h14, h15, h16, h20⟩ := idx t
  rw [← gain_at m e c]
  blk_point [iblk, V, h15]
theorem blk16 (t : Fin cfg0.N) (c : Fin 1024) :
    iblk m e 16 t (ix2 0 c) = m ((e.tc : Thread nD τ).loc main_arg16) (ix1 c) := by
  obtain ⟨h0, h1, h2, h3, h4, h5, h6, h7, h8, h9, h10, h11, h12, h13, h14, h15, h16, h20⟩ := idx t
  rw [← off_at m e c]
  blk_point [iblk, V, h16]

end Cert.MergeIdeal.Entry
end
-- ==== Proof.MergeFinal.lean ====
module

public import proofs.«01_k».proof.Proof.MergeRun
public import proofs.«01_k».proof.Proof.MergeEntry

@[expose] public section

set_option maxRecDepth 16384

noncomputable section

/-! The array of tokens the mixing call leaves, read at every token and lane. -/
namespace Cert.MergeIdeal.Final

open Idealize.ShloMosaic Idealize.ShloMosaic.TcCoe Idealize.SL.Sem
open Cert.MergeIdeal Cert.MergeIdeal.Gen Cert.MergeIdeal.Tile Cert.MergeIdeal.Run

variable (m : (ℓ : Loc nD τ sig) → Buf (Elt Ideal) ℓ) (e : Dev nD)

/-- The token `s` of sequence `b` after the mixer, from the arguments as launched. -/
def outAt (b : Fin 8) (s : Fin 4096) (c : Fin 1024) : EReal :=
  Mix.result (fun k => m ((e.tc : Thread nD τ).loc main_arg0) (ix3 b s k))
    (Mix.merged (fun k => m ((e.tc : Thread nD τ).loc main_arg0) (ix3 b s k))
      (Mix.groups (fun h => m ((e.tc : Thread nD τ).loc main_arg4) (ix3 b s h)) (fun h => m ((e.tc : Thread nD τ).loc main_arg5) (ix3 b s h)) (fun h => m ((e.tc : Thread nD τ).loc main_arg6) (ix3 b s h))
        (fun h d => m ((e.tc : Thread nD τ).loc main_arg1) (ix4 b s h d)) (fun h d => m ((e.tc : Thread nD τ).loc main_arg2) (ix4 b s h d)) (fun h d => m ((e.tc : Thread nD τ).loc main_arg3) (ix4 b s h d)))
      (fun k => m ((e.tc : Thread nD τ).loc main_arg7) (ix3 b s k)) (fun k => m ((e.tc : Thread nD τ).loc main_arg8) (ix3 b s k)) (fun k c => m ((e.tc : Thread nD τ).loc main_arg9) (ix2 k c)) (fun c => m ((e.tc : Thread nD τ).loc main_arg10) (ix1 c))
      (fun k c => m ((e.tc : Thread nD τ).loc main_arg11) (ix2 k c)) (fun k c => m ((e.tc : Thread nD τ).loc main_arg12) (ix2 k c)) (fun k c => m ((e.tc : Thread nD τ).loc main_arg13) (ix2 k c)))
    (fun k c => m ((e.tc : Thread nD τ).loc main_arg14) (ix2 k c)) (fun c => m ((e.tc : Thread nD τ).loc main_arg15) (ix1 c)) (fun c => m ((e.tc : Thread nD τ).loc main_arg16) (ix1 c)) c

def out : FVec Ideal S32768x1024 .f32 := fun y => outAt m e ⟨(y 0).val / 4096, by have := (y 0).isLt; change (y 0).val < 32768 at this; omega⟩ ⟨(y 0).val % 4096, Nat.mod_lt _ (by decide)⟩ (y 1)

theorem x_at (t : Fin cfg0.N) (r : Fin 512) (k : Fin 1024) : x (F := Ideal) m e t (ix2 r k) = iblk m e 0 t (ix2 r k) := by
  unfold x
  rw [View.readAt_apply, (hs0_0 t).read_unread]
  refine congrArg (iblk m e 0 t) ?_
  funext a
  match a with
  | ⟨0, _⟩ => exact Fin.ext (show 0 + 1 * r.val = r.val by omega)
  | ⟨1, _⟩ => exact Fin.ext (show 0 + 1 * k.val = k.val by omega)
theorem o1_at (t : Fin cfg0.N) (r : Fin 512) (k : Fin 128) : o1 (F := Ideal) m e t (ix4 0 0 r k) = iblk m e 1 t (ix4 0 0 r k) := by
  unfold o1
  rw [View.readAt_apply, (hs0_1 t).read_unread]
  refine congrArg (iblk m e 1 t) ?_
  funext a
  match a with
  | ⟨0, _⟩ => rfl
  | ⟨1, _⟩ => rfl
  | ⟨2, _⟩ => exact Fin.ext (show 0 + 1 * r.val = r.val by omega)
  | ⟨3, _⟩ => exact Fin.ext (show 0 + 1 * k.val = k.val by omega)
theorem l1_at (t : Fin cfg0.N) (r : Fin 512) (k : Fin 128) : l1 (F := Ideal) m e t (ix4 0 0 r k) = iblk m e 4 t (ix4 0 0 r k) := by
  unfold l1
  rw [View.readAt_apply, (hs0_4 t).read_unread]
  refine congrArg (iblk m e 4 t) ?_
  funext a
  match a with
  | ⟨0, _⟩ => rfl
  | ⟨1, _⟩ => rfl
  | ⟨2, _⟩ => exact Fin.ext (show 0 + 1 * r.val = r.val by omega)
  | ⟨3, _⟩ => exact Fin.ext (show 0 + 1 * k.val = k.val by omega)
theorem ym_at (t : Fin cfg0.N) (r : Fin 512) (k : Fin 384) : ym (F := Ideal) m e t (ix2 r k) = iblk m e 7 t (ix2 r k) := by
  unfold ym
  rw [View.readAt_apply, (hs0_7 t).read_unread]
  refine congrArg (iblk m e 7 t) ?_
  funext a
  match a with
  | ⟨0, _⟩ => exact Fin.ext (show 0 + 1 * r.val = r.val by omega)
  | ⟨1, _⟩ => exact Fin.ext (show 0 + 1 * k.val = k.val by omega)
theorem yx_at (t : Fin cfg0.N) (r : Fin 512) (k : Fin 256) : yx (F := Ideal) m e t (ix2 r k) = iblk m e 8 t (ix2 r k) := by
  unfold yx
  rw [View.readAt_apply, (hs0_8 t).read_unread]
  refine congrArg (iblk m e 8 t) ?_
  funext a
  match a with
  | ⟨0, _⟩ => exact Fin.ext (show 0 + 1 * r.val = r.val by omega)
  | ⟨1, _⟩ => exact Fin.ext (show 0 + 1 * k.val = k.val by omega)
theorem g0_at (t : Fin cfg0.N) (r : Fin 1024) (k : Fin 1024) : g0 (F := Ideal) m e t (ix2 r k) = iblk m e 9 t (ix2 r (⟨0 + k.val, by omega⟩ : Fin 3072)) := by
  unfold g0
  rw [View.readAt_apply, (hs0_9 t).read_unread]
  refine congrArg (iblk m e 9 t) ?_
  funext a
  match a with
  | ⟨0, _⟩ => exact Fin.ext (show 0 + 1 * r.val = r.val by omega)
  | ⟨1, _⟩ => exact Fin.ext (show 0 + 1 * k.val = 0 + k.val by omega)
theorem g1_at (t : Fin cfg0.N) (r : Fin 1024) (k : Fin 1024) : g1 (F := Ideal) m e t (ix2 r k) = iblk m e 9 t (ix2 r (⟨1024 + k.val, by omega⟩ : Fin 3072)) := by
  unfold g1
  rw [View.readAt_apply, (hs0_9 t).read_unread]
  refine congrArg (iblk m e 9 t) ?_
  funext a
  match a with
  | ⟨0, _⟩ => exact Fin.ext (show 0 + 1 * r.val = r.val by omega)
  | ⟨1, _⟩ => exact Fin.ext (show 1024 + 1 * k.val = 1024 + k.val by omega)
theorem g2_at (t : Fin cfg0.N) (r : Fin 1024) (k : Fin 1024) : g2 (F := Ideal) m e t (ix2 r k) = iblk m e 9 t (ix2 r (⟨2048 + k.val, by omega⟩ : Fin 3072)) := by
  unfold g2
  rw [View.readAt_apply, (hs0_9 t).read_unread]
  refine congrArg (iblk m e 9 t) ?_
  funext a
  match a with
  | ⟨0, _⟩ => exact Fin.ext (show 0 + 1 * r.val = r.val by omega)
  | ⟨1, _⟩ => exact Fin.ext (show 2048 + 1 * k.val = 2048 + k.val by omega)
theorem b0_at (t : Fin cfg0.N) (k : Fin 1024) : b0 (F := Ideal) m e t (ix2 0 k) = iblk m e 10 t (ix2 0 (⟨0 + k.val, by omega⟩ : Fin 3072)) := by
  unfold b0
  rw [View.readAt_apply, (hs0_10 t).read_unread]
  refine congrArg (iblk m e 10 t) ?_
  funext a
  match a with
  | ⟨0, _⟩ => exact Fin.ext (show 0 + 1 * 0 = 0 by omega)
  | ⟨1, _⟩ => exact Fin.ext (show 0 + 1 * k.val = 0 + k.val by omega)
theorem b1_at (t : Fin cfg0.N) (k : Fin 1024) : b1 (F := Ideal) m e t (ix2 0 k) = iblk m e 10 t (ix2 0 (⟨1024 + k.val, by omega⟩ : Fin 3072)) := by
  unfold b1
  rw [View.readAt_apply, (hs0_10 t).read_unread]
  refine congrArg (iblk m e 10 t) ?_
  funext a
  match a with
  | ⟨0, _⟩ => exact Fin.ext (show 0 + 1 * 0 = 0 by omega)
  | ⟨1, _⟩ => exact Fin.ext (show 1024 + 1 * k.val = 1024 + k.val by omega)
theorem b2_at (t : Fin cfg0.N) (k : Fin 1024) : b2 (F := Ideal) m e t (ix2 0 k) = iblk m e 10 t (ix2 0 (⟨2048 + k.val, by omega⟩ : Fin 3072)) := by
  unfold b2
  rw [View.readAt_apply, (hs0_10 t).read_unread]
  refine congrArg (iblk m e 10 t) ?_
  funext a
  match a with
  | ⟨0, _⟩ => exact Fin.ext (show 0 + 1 * 0 = 0 by omega)
  | ⟨1, _⟩ => exact Fin.ext (show 2048 + 1 * k.val = 2048 + k.val by omega)
theorem wd_at (t : Fin cfg0.N) (r : Fin 128) (k : Fin 1024) : wd (F := Ideal) m e t (ix2 r k) = iblk m e 11 t (ix2 r k) := by
  unfold wd
  rw [View.readAt_apply, (hs0_11 t).read_unread]
  refine congrArg (iblk m e 11 t) ?_
  funext a
  match a with
  | ⟨0, _⟩ => exact Fin.ext (show 0 + 1 * r.val = r.val by omega)
  | ⟨1, _⟩ => exact Fin.ext (show 0 + 1 * k.val = k.val by omega)
theorem wm_at (t : Fin cfg0.N) (r : Fin 384) (k : Fin 1024) : wm (F := Ideal) m e t (ix2 r k) = iblk m e 12 t (ix2 r k) := by
  unfold wm
  rw [View.readAt_apply, (hs0_12 t).read_unread]
  refine congrArg (iblk m e 12 t) ?_
  funext a
  match a with
  | ⟨0, _⟩ => exact Fin.ext (show 0 + 1 * r.val = r.val by omega)
  | ⟨1, _⟩ => exact Fin.ext (show 0 + 1 * k.val = k.val by omega)
theorem wx_at (t : Fin cfg0.N) (r : Fin 256) (k : Fin 1024) : wx (F := Ideal) m e t (ix2 r k) = iblk m e 13 t (ix2 r k) := by
  unfold wx
  rw [View.readAt_apply, (hs0_13 t).read_unread]
  refine congrArg (iblk m e 13 t) ?_
  funext a
  match a with
  | ⟨0, _⟩ => exact Fin.ext (show 0 + 1 * r.val = r.val by omega)
  | ⟨1, _⟩ => exact Fin.ext (show 0 + 1 * k.val = k.val by omega)
theorem wo_at (t : Fin cfg0.N) (r : Fin 1024) (k : Fin 1024) : wo (F := Ideal) m e t (ix2 r k) = iblk m e 14 t (ix2 r k) := by
  unfold wo
  rw [View.readAt_apply, (hs0_14 t).read_unread]
  refine congrArg (iblk m e 14 t) ?_
  funext a
  match a with
  | ⟨0, _⟩ => exact Fin.ext (show 0 + 1 * r.val = r.val by omega)
  | ⟨1, _⟩ => exact Fin.ext (show 0 + 1 * k.val = k.val by omega)
theorem gain_at (t : Fin cfg0.N) (k : Fin 1024) : gain (F := Ideal) m e t (ix2 0 k) = iblk m e 15 t (ix2 0 k) := by
  unfold gain
  rw [View.readAt_apply, (hs0_15 t).read_unread]
  refine congrArg (iblk m e 15 t) ?_
  funext a
  match a with
  | ⟨0, _⟩ => exact Fin.ext (show 0 + 1 * 0 = 0 by omega)
  | ⟨1, _⟩ => exact Fin.ext (show 0 + 1 * k.val = k.val by omega)
theorem off_at (t : Fin cfg0.N) (k : Fin 1024) : off (F := Ideal) m e t (ix2 0 k) = iblk m e 16 t (ix2 0 k) := by
  unfold off
  rw [View.readAt_apply, (hs0_16 t).read_unread]
  refine congrArg (iblk m e 16 t) ?_
  funext a
  match a with
  | ⟨0, _⟩ => exact Fin.ext (show 0 + 1 * 0 = 0 by omega)
  | ⟨1, _⟩ => exact Fin.ext (show 0 + 1 * k.val = k.val by omega)
theorem o2_at (t : Fin cfg0.N) (r : Fin 512) (k : Fin 128) : o2 (F := Ideal) m e t (ix3 0 r k) = iblk m e 2 t (ix4 0 (⟨r.val % 4, Nat.mod_lt _ (by decide)⟩ : Fin 4) (⟨r.val / 4, by omega⟩ : Fin 128) k) := by
  unfold o2
  rw [Slots.slot1]
theorem o3_at (t : Fin cfg0.N) (r : Fin 512) (k : Fin 128) : o3 (F := Ideal) m e t (ix3 0 r k) = iblk m e 3 t (ix4 0 (⟨r.val % 16, Nat.mod_lt _ (by decide)⟩ : Fin 16) (⟨r.val / 16, by omega⟩ : Fin 32) k) := by
  unfold o3
  rw [Slots.slot2]
theorem l2_at (t : Fin cfg0.N) (r : Fin 512) (k : Fin 128) : l2 (F := Ideal) m e t (ix3 0 r k) = iblk m e 5 t (ix4 0 (⟨r.val % 4, Nat.mod_lt _ (by decide)⟩ : Fin 4) (⟨r.val / 4, by omega⟩ : Fin 128) k) := by
  unfold l2
  rw [Slots.slot4]
theorem l3_at (t : Fin cfg0.N) (r : Fin 512) (k : Fin 128) : l3 (F := Ideal) m e t (ix3 0 r k) = iblk m e 6 t (ix4 0 (⟨r.val % 16, Nat.mod_lt _ (by decide)⟩ : Fin 16) (⟨r.val / 16, by omega⟩ : Fin 32) k) := by
  unfold l3
  rw [Slots.slot5]

/-- The mixed lanes of a token, from what its tile's blocks hold. -/
theorem mixed_of (x : Vec Ideal S512x1024 .f32) (y : FVec Ideal S512x128 .f32) (ym : Vec Ideal S512x384 .bf16) (yx : Vec Ideal S512x256 .bf16)
    (g0 g1 g2 : Vec Ideal S1024x1024 .bf16) (b0 b1 b2 : Vec Ideal S1x1024 .f32)
    (wd : Vec Ideal S128x1024 .bf16) (wm : Vec Ideal S384x1024 .bf16) (wx : Vec Ideal S256x1024 .bf16) (r : Fin 512) (c : Fin 1024)
    (X : Fin 1024 → EReal) (Y : Fin 128 → EReal) (Ym : Fin 384 → EReal) (Yx : Fin 256 → EReal) (Wg : Fin 1024 → Fin 3072 → EReal) (Bg : Fin 3072 → EReal)
    (Wd : Fin 128 → Fin 1024 → EReal) (Wm : Fin 384 → Fin 1024 → EReal) (Wx : Fin 256 → Fin 1024 → EReal)
    (hx : ∀ k, x (ix2 r k) = X k) (hy : ∀ k, y (ix2 r k) = Y k) (hym : ∀ k, ym (ix2 r k) = Ym k) (hyx : ∀ k, yx (ix2 r k) = Yx k)
    (hg0 : ∀ k, g0 (ix2 k c) = Wg k ⟨c.val, by omega⟩) (hg1 : ∀ k, g1 (ix2 k c) = Wg k ⟨1024 + c.val, by omega⟩) (hg2 : ∀ k, g2 (ix2 k c) = Wg k ⟨2048 + c.val, by omega⟩)
    (hb0 : b0 (ix2 0 c) = Bg ⟨c.val, by omega⟩) (hb1 : b1 (ix2 0 c) = Bg ⟨1024 + c.val, by omega⟩) (hb2 : b2 (ix2 0 c) = Bg ⟨2048 + c.val, by omega⟩)
    (hwd : ∀ k, wd (ix2 k c) = Wd k c) (hwm : ∀ k, wm (ix2 k c) = Wm k c) (hwx : ∀ k, wx (ix2 k c) = Wx k c) :
    mixed (F := Ideal) x y ym yx g0 g1 g2 b0 b1 b2 wd wm wx (ix2 r c) = Mix.merged X Y Ym Yx Wg Bg Wd Wm Wx c := by
  rw [mixed_at]
  simp only [hx, hy, hym, hyx, hg0, hg1, hg2, hb0, hb1, hb2, hwd, hwm, hwx]
  rfl

/-- The normed lanes of a token, from what its tile's blocks hold. -/
theorem norm_of (x y : Vec Ideal S512x1024 .f32) (wo : Vec Ideal S1024x1024 .bf16) (g b : Vec Ideal S1x1024 .f32) (r : Fin 512) (c : Fin 1024)
    (X Y : Fin 1024 → EReal) (Wo : Fin 1024 → Fin 1024 → EReal) (G B : Fin 1024 → EReal)
    (hx : ∀ k, x (ix2 r k) = X k) (hy : ∀ k, y (ix2 r k) = Y k) (hw : ∀ k c, wo (ix2 k c) = Wo k c) (hg : g (ix2 0 c) = G c) (hb : b (ix2 0 c) = B c) :
    norm (F := Ideal) (total x y wo) g b (ix2 r c) = Mix.result X Y Wo G B c := by
  rw [norm_at, hg, hb]
  have h : (fun k => total (F := Ideal) x y wo (ix2 r k)) = Mix.summed X Y Wo := by
    funext k
    rw [total_at]
    simp only [hx, hy, hw]
  rw [h]
  rfl

section point
variable (t : Fin cfg0.N) (r : Fin 512) (b : Fin 8) (s : Fin 4096)

/-- Token `r` of point `t`'s tile is token `s` of sequence `b`. -/
def Names : Prop := b.val = min t.val 63 / 8 ∧ s.val = min t.val 63 % 8 * 512 + r.val

variable {t r b s} (h : Names t r b s)
include h

theorem number : ∃ n : Fin 32768, n.val = min t.val 63 * 512 + r.val ∧ (⟨n.val / 4096, by omega⟩ : Fin 8) = b ∧ (⟨n.val % 4096, by omega⟩ : Fin 4096) = s := by
  obtain ⟨hb, hs⟩ := h
  exact ⟨⟨min t.val 63 * 512 + r.val, by omega⟩, rfl, Fin.ext (by show (min t.val 63 * 512 + r.val) / 4096 = b.val; omega), Fin.ext (by show (min t.val 63 * 512 + r.val) % 4096 = s.val; omega)⟩

theorem x_eq (k : Fin 1024) : x (F := Ideal) m e t (ix2 r k) = m ((e.tc : Thread nD τ).loc main_arg0) (ix3 b s k) := by
  obtain ⟨n, hn, h1, h2⟩ := number h
  rw [x_at, Entry.blk0 m e t r n hn k, h1, h2]

theorem ym_eq (k : Fin 384) : ym (F := Ideal) m e t (ix2 r k) = m ((e.tc : Thread nD τ).loc main_arg7) (ix3 b s k) := by
  obtain ⟨n, hn, h1, h2⟩ := number h
  rw [ym_at, Entry.blk7 m e t r n hn k, h1, h2]

theorem yx_eq (k : Fin 256) : yx (F := Ideal) m e t (ix2 r k) = m ((e.tc : Thread nD τ).loc main_arg8) (ix3 b s k) := by
  obtain ⟨n, hn, h1, h2⟩ := number h
  rw [yx_at, Entry.blk8 m e t r n hn k, h1, h2]

theorem o1_eq (k : Fin 128) : o1 (F := Ideal) m e t (ix4 0 0 r k) = m ((e.tc : Thread nD τ).loc main_arg1) (ix4 b s ⟨k.val / 64, by omega⟩ ⟨k.val % 64, by omega⟩) := by
  rw [o1_at, Entry.blk1 m e t b h.1 0 r s h.2 k]

theorem l1_eq (k : Fin 128) : l1 (F := Ideal) m e t (ix4 0 0 r k) = m ((e.tc : Thread nD τ).loc main_arg4) (ix3 b s ⟨k.val / 64, by omega⟩) := by
  rw [l1_at, Entry.blk4 m e t b h.1 0 r s h.2 k]

theorem o2_eq (k : Fin 128) : o2 (F := Ideal) m e t (ix3 0 r k) = m ((e.tc : Thread nD τ).loc main_arg2) (ix4 b s ⟨k.val / 64, by omega⟩ ⟨k.val % 64, by omega⟩) := by
  obtain ⟨hb, hs⟩ := h
  rw [o2_at, Entry.blk2 m e t b hb _ _ (⟨min t.val 63 % 8 * 128 + r.val / 4, by omega⟩ : Fin 1024) rfl k]
  exact congrArg (fun i => m ((e.tc : Thread nD τ).loc main_arg2) (ix4 b i ⟨k.val / 64, by omega⟩ ⟨k.val % 64, by omega⟩)) (Fin.ext (by show (min t.val 63 % 8 * 128 + r.val / 4) * 4 + r.val % 4 = s.val; omega))

theorem o3_eq (k : Fin 128) : o3 (F := Ideal) m e t (ix3 0 r k) = m ((e.tc : Thread nD τ).loc main_arg3) (ix4 b s ⟨k.val / 64, by omega⟩ ⟨k.val % 64, by omega⟩) := by
  obtain ⟨hb, hs⟩ := h
  rw [o3_at, Entry.blk3 m e t b hb _ _ (⟨min t.val 63 % 8 * 32 + r.val / 16, by omega⟩ : Fin 256) rfl k]
  exact congrArg (fun i => m ((e.tc : Thread nD τ).loc main_arg3) (ix4 b i ⟨k.val / 64, by omega⟩ ⟨k.val % 64, by omega⟩)) (Fin.ext (by show (min t.val 63 % 8 * 32 + r.val / 16) * 16 + r.val % 16 = s.val; omega))

theorem l2_eq (k : Fin 128) : l2 (F := Ideal) m e t (ix3 0 r k) = m ((e.tc : Thread nD τ).loc main_arg5) (ix3 b s ⟨k.val / 64, by omega⟩) := by
  obtain ⟨hb, hs⟩ := h
  rw [l2_at, Entry.blk5 m e t b hb _ _ (⟨min t.val 63 % 8 * 128 + r.val / 4, by omega⟩ : Fin 1024) rfl k]
  exact congrArg (fun i => m ((e.tc : Thread nD τ).loc main_arg5) (ix3 b i ⟨k.val / 64, by omega⟩)) (Fin.ext (by show (min t.val 63 % 8 * 128 + r.val / 4) * 4 + r.val % 4 = s.val; omega))

theorem l3_eq (k : Fin 128) : l3 (F := Ideal) m e t (ix3 0 r k) = m ((e.tc : Thread nD τ).loc main_arg6) (ix3 b s ⟨k.val / 64, by omega⟩) := by
  obtain ⟨hb, hs⟩ := h
  rw [l3_at, Entry.blk6 m e t b hb _ _ (⟨min t.val 63 % 8 * 32 + r.val / 16, by omega⟩ : Fin 256) rfl k]
  exact congrArg (fun i => m ((e.tc : Thread nD τ).loc main_arg6) (ix3 b i ⟨k.val / 64, by omega⟩)) (Fin.ext (by show (min t.val 63 % 8 * 32 + r.val / 16) * 16 + r.val % 16 = s.val; omega))

theorem branch_eq (k : Fin 128) : branch (F := Ideal) m e t (ix2 r k)
    = Mix.groups (fun h => m ((e.tc : Thread nD τ).loc main_arg4) (ix3 b s h)) (fun h => m ((e.tc : Thread nD τ).loc main_arg5) (ix3 b s h)) (fun h => m ((e.tc : Thread nD τ).loc main_arg6) (ix3 b s h))
        (fun h d => m ((e.tc : Thread nD τ).loc main_arg1) (ix4 b s h d)) (fun h d => m ((e.tc : Thread nD τ).loc main_arg2) (ix4 b s h d)) (fun h d => m ((e.tc : Thread nD τ).loc main_arg3) (ix4 b s h d)) k := by
  unfold branch
  rw [dilated_at, o1_eq m e h, o2_eq m e h, o3_eq m e h, l1_eq m e h, l2_eq m e h, l3_eq m e h]
  rfl

theorem gated_eq (c : Fin 1024) : gated (F := Ideal) m e t (ix2 r c)
    = Mix.merged (fun k => m ((e.tc : Thread nD τ).loc main_arg0) (ix3 b s k))
      (Mix.groups (fun h => m ((e.tc : Thread nD τ).loc main_arg4) (ix3 b s h)) (fun h => m ((e.tc : Thread nD τ).loc main_arg5) (ix3 b s h)) (fun h => m ((e.tc : Thread nD τ).loc main_arg6) (ix3 b s h))
        (fun h d => m ((e.tc : Thread nD τ).loc main_arg1) (ix4 b s h d)) (fun h d => m ((e.tc : Thread nD τ).loc main_arg2) (ix4 b s h d)) (fun h d => m ((e.tc : Thread nD τ).loc main_arg3) (ix4 b s h d)))
      (fun k => m ((e.tc : Thread nD τ).loc main_arg7) (ix3 b s k)) (fun k => m ((e.tc : Thread nD τ).loc main_arg8) (ix3 b s k)) (fun k c => m ((e.tc : Thread nD τ).loc main_arg9) (ix2 k c)) (fun c => m ((e.tc : Thread nD τ).loc main_arg10) (ix1 c))
      (fun k c => m ((e.tc : Thread nD τ).loc main_arg11) (ix2 k c)) (fun k c => m ((e.tc : Thread nD τ).loc main_arg12) (ix2 k c)) (fun k c => m ((e.tc : Thread nD τ).loc main_arg13) (ix2 k c)) c := by
  unfold gated
  refine mixed_of _ _ _ _ _ _ _ _ _ _ _ _ _ r c _ _ _ _ _ _ _ _ _ (x_eq m e h) (branch_eq m e h) (ym_eq m e h) (yx_eq m e h) ?_ ?_ ?_ ?_ ?_ ?_ ?_ ?_ ?_
  · intro k
    rw [g0_at, Entry.blk9]
    exact congrArg (fun j => m ((e.tc : Thread nD τ).loc main_arg9) (ix2 k j)) (Fin.ext (Nat.zero_add _))
  · intro k
    rw [g1_at, Entry.blk9]
  · intro k
    rw [g2_at, Entry.blk9]
  · rw [b0_at, Entry.blk10]
    exact congrArg (fun j => m ((e.tc : Thread nD τ).loc main_arg10) (ix1 j)) (Fin.ext (Nat.zero_add _))
  · rw [b1_at, Entry.blk10]
  · rw [b2_at, Entry.blk10]
  · intro k
    rw [wd_at, Entry.blk11]
  · intro k
    rw [wm_at, Entry.blk12]
  · intro k
    rw [wx_at, Entry.blk13]

theorem tokens_eq (c : Fin 1024) : tokens (F := Ideal) m e t (ix2 r c) = outAt m e b s c := by
  unfold tokens
  refine norm_of _ _ _ _ _ r c _ _ _ (fun c => m ((e.tc : Thread nD τ).loc main_arg15) (ix1 c)) (fun c => m ((e.tc : Thread nD τ).loc main_arg16) (ix1 c)) (x_eq m e h) (gated_eq m e h) (fun k c => ?_) ?_ ?_
  · rw [wo_at, Entry.blk14]
  · rw [gain_at, Entry.blk15]
  · rw [off_at, Entry.blk16]

end point

/-- The mixing call leaves `out`. -/
theorem final : (Whole.dats m 0 e).arrAt 20 cfg0.N = out m e := by
  refine (Whole.dats m 0 e).arrAt_eq_of_covers 20 _ (by decide +kernel) fun t _ y => ?_
  blk_simp
  rw [Whole.after20, held_tokens]
  obtain ⟨h0, h1, h2, h3, h4, h5, h6, h7, h8, h9, h10, h11, h12, h13, h14, h15, h16, h20⟩ := Entry.idx t
  idx_vars y
  have hy : ((View.whole main_v41_0).slice (win0_20.rect t)).emb (ix2 y0 y1) = ix2 (⟨min t.val 63 * 512 + y0.val, by omega⟩ : Fin 32768) y1 := by blk_ext [h20]
  rw [hy]
  exact tokens_eq m e (t := t) (r := y0) ⟨by show (min t.val 63 * 512 + y0.val) / 4096 = min t.val 63 / 8; omega, by show (min t.val 63 * 512 + y0.val) % 4096 = min t.val 63 % 8 * 512 + y0.val; omega⟩ y1

end Cert.MergeIdeal.Final
end
-- ==== Proof.RefMergeHeads.lean ====
module

public import proofs.«01_k».proof.Proof.Mix
public import proofs.«01_k».proof.Proof.Finite
public import proofs.«01_k».proof.Proof.Gen.RefMergeIdeal.Run
public import Idealize.ShloMosaic.PureOps.Ideal.Laws

@[expose] public section

set_option maxRecDepth 16384

noncomputable section

/-! The reference's dilated branch, read at every token and lane. -/
namespace Cert.RefMergeIdeal.Heads

open Idealize.ShloMosaic Idealize.ShloMosaic.TcCoe Idealize.SL.Sem
open Cert.RefMergeIdeal Cert.RefMergeIdeal.Gen

section stages
variable {F : FTy → Type} [FloatOps F]

/-- The three groups' log denominators, side by side. -/
def lses (l1 l2 l3 : FVec F S8x4096x2 .f32) : FVec F S8x4096x3x2 .f32 :=
  concatenate S8x4096x3x2 2 [⟨S8x4096x1x2, broadcastInDim S8x4096x1x2 ![0, 1, 3] bcast_S8x4096x2_S8x4096x1x2_0_1_3 l1⟩, ⟨S8x4096x1x2, broadcastInDim S8x4096x1x2 ![0, 1, 3] bcast_S8x4096x2_S8x4096x1x2_0_1_3 l2⟩,
    ⟨S8x4096x1x2, broadcastInDim S8x4096x1x2 ![0, 1, 3] bcast_S8x4096x2_S8x4096x1x2_0_1_3 l3⟩] concatenates_S8x4096x1x2_S8x4096x1x2_S8x4096x1x2_S8x4096x3x2_d2

/-- The three groups' outputs, side by side. -/
def outs (o1 o2 o3 : FVec F S8x4096x2x64 .f32) : FVec F S8x4096x3x2x64 .f32 :=
  concatenate S8x4096x3x2x64 2 [⟨S8x4096x1x2x64, broadcastInDim S8x4096x1x2x64 ![0, 1, 3, 4] bcast_S8x4096x2x64_S8x4096x1x2x64_0_1_3_4 o1⟩, ⟨S8x4096x1x2x64, broadcastInDim S8x4096x1x2x64 ![0, 1, 3, 4] bcast_S8x4096x2x64_S8x4096x1x2x64_0_1_3_4 o2⟩,
    ⟨S8x4096x1x2x64, broadcastInDim S8x4096x1x2x64 ![0, 1, 3, 4] bcast_S8x4096x2x64_S8x4096x1x2x64_0_1_3_4 o3⟩] concatenates_S8x4096x1x2x64_S8x4096x1x2x64_S8x4096x1x2x64_S8x4096x3x2x64_d2

/-- A number for every head, repeated for its groups. -/
def each (v : FVec F S8x4096x2 .f32) : FVec F S8x4096x3x2 .f32 :=
  broadcastInDim S8x4096x3x2 ![0, 1, 2, 3] bcast_S8x4096x1x2_S8x4096x3x2_0_1_2_3 (broadcastInDim S8x4096x1x2 ![0, 1, 3] bcast_S8x4096x2_S8x4096x1x2_0_1_3 v)

def largest (v : FVec F S8x4096x3x2 .f32) : FVec F S8x4096x2 .f32 :=
  Host.reduce FloatOps.maximumf v (constant S_ .f32 0xFF800000#32) reducesTo_S8x4096x3x2_S8x4096x2_d2 h_S_

def raws (v : FVec F S8x4096x3x2 .f32) : FVec F S8x4096x3x2 .f32 :=
  Host.exp (subf v (each (maximumf (broadcastInDim S8x4096x2 ![] bcast_S_S8x4096x2 (constant S_ .f32 0xFF800000#32)) (largest v))))

def sums (w : FVec F S8x4096x3x2 .f32) : FVec F S8x4096x2 .f32 :=
  Host.reduceAdd w (constant S_ .f32 0x00000000#32) reducesTo_S8x4096x3x2_S8x4096x2_d2 h_S_

/-- The weights of the groups. -/
def shares (v : FVec F S8x4096x3x2 .f32) : FVec F S8x4096x3x2 .f32 :=
  Host.divf (raws v) (each (sums (raws v)))

/-- The outputs times the weights. -/
def scaled (w : FVec F S8x4096x3x2 .f32) (o : FVec F S8x4096x3x2x64 .f32) : FVec F S8x4096x3x2x64 .f32 :=
  mulf (broadcastInDim S8x4096x3x2x64 ![0, 1, 2, 3, 4] bcast_S8x4096x3x2x1_S8x4096x3x2x64_0_1_2_3_4 (broadcastInDim S8x4096x3x2x1 ![0, 1, 2, 3] bcast_S8x4096x3x2_S8x4096x3x2x1_0_1_2_3 w)) o

def folded (o : FVec F S8x4096x3x2x64 .f32) : FVec F S8x4096x2x64 .f32 :=
  Host.reduceAdd o (constant S_ .f32 0x00000000#32) reducesTo_S8x4096x3x2x64_S8x4096x2x64_d2 h_S_

/-- The dilated branch. -/
def branch (o1 o2 o3 : FVec F S8x4096x2x64 .f32) (l1 l2 l3 : FVec F S8x4096x2 .f32) : FVec F S8x4096x128 .f32 :=
  shapeCast _ (folded (scaled (shares (lses l1 l2 l3)) (outs o1 o2 o3))) shapeCasts_S8x4096x2x64_S8x4096x128

end stages

section mid
variable {n0 n1 n2 n3 n4 : ℕ}

theorem mid_filter4 (h : (⟨4, ![n0, n1, n2, n3]⟩ : Shape).ReducesTo [2] ⟨3, ![n0, n1, n3]⟩) (a : Fin n0) (b : Fin n1) (d : Fin n3) :
    (Finset.univ.filter fun i => h.drop i = ix3 a b d)
      = Finset.univ.map ⟨fun k : Fin n2 => (ix4 a b k d : (⟨4, ![n0, n1, n2, n3]⟩ : Shape).Idx), fun k l e => congrFun e 2⟩ := by
  have keep : ∀ i, h.drop i = ix3 (⟨(i 0).val, (i 0).isLt⟩ : Fin n0) ⟨(i 1).val, (i 1).isLt⟩ ⟨(i 3).val, (i 3).isLt⟩ := by
    intro i
    funext b
    apply Fin.ext
    match b with
    | ⟨0, _⟩ => exact Shape.ReducesTo.drop_apply_val_of_eq h i 0 0 (Nat.lt_of_lt_of_eq (by decide : 0 < 3) rfl) rfl
    | ⟨1, _⟩ => exact Shape.ReducesTo.drop_apply_val_of_eq h i 1 1 (Nat.lt_of_lt_of_eq (by decide : 1 < 3) rfl) rfl
    | ⟨2, _⟩ => exact Shape.ReducesTo.drop_apply_val_of_eq h i 2 3 (Nat.lt_of_lt_of_eq (by decide : 2 < 3) rfl) rfl
  ext i
  simp only [Finset.mem_filter, Finset.mem_univ, true_and, Finset.mem_map, Function.Embedding.coeFn_mk]
  constructor
  · intro hi
    refine ⟨i 2, ?_⟩
    rw [keep] at hi
    funext x
    match x with
    | ⟨0, _⟩ => exact (congrFun hi 0).symm
    | ⟨1, _⟩ => exact (congrFun hi 1).symm
    | ⟨2, _⟩ => rfl
    | ⟨3, _⟩ => exact (congrFun hi 2).symm
  · rintro ⟨k, rfl⟩
    exact keep _

theorem mid_filter5 (h : (⟨5, ![n0, n1, n2, n3, n4]⟩ : Shape).ReducesTo [2] ⟨4, ![n0, n1, n3, n4]⟩) (a : Fin n0) (b : Fin n1) (d : Fin n3) (e : Fin n4) :
    (Finset.univ.filter fun i => h.drop i = ix4 a b d e)
      = Finset.univ.map ⟨fun k : Fin n2 => (ix5 a b k d e : (⟨5, ![n0, n1, n2, n3, n4]⟩ : Shape).Idx), fun k l e => congrFun e 2⟩ := by
  have keep : ∀ i, h.drop i = ix4 (⟨(i 0).val, (i 0).isLt⟩ : Fin n0) ⟨(i 1).val, (i 1).isLt⟩ ⟨(i 3).val, (i 3).isLt⟩ ⟨(i 4).val, (i 4).isLt⟩ := by
    intro i
    funext b
    apply Fin.ext
    match b with
    | ⟨0, _⟩ => exact Shape.ReducesTo.drop_apply_val_of_eq h i 0 0 (Nat.lt_of_lt_of_eq (by decide : 0 < 4) rfl) rfl
    | ⟨1, _⟩ => exact Shape.ReducesTo.drop_apply_val_of_eq h i 1 1 (Nat.lt_of_lt_of_eq (by decide : 1 < 4) rfl) rfl
    | ⟨2, _⟩ => exact Shape.ReducesTo.drop_apply_val_of_eq h i 2 3 (Nat.lt_of_lt_of_eq (by decide : 2 < 4) rfl) rfl
    | ⟨3, _⟩ => exact Shape.ReducesTo.drop_apply_val_of_eq h i 3 4 (Nat.lt_of_lt_of_eq (by decide : 3 < 4) rfl) rfl
  ext i
  simp only [Finset.mem_filter, Finset.mem_univ, true_and, Finset.mem_map, Function.Embedding.coeFn_mk]
  constructor
  · intro hi
    refine ⟨i 2, ?_⟩
    rw [keep] at hi
    funext x
    match x with
    | ⟨0, _⟩ => exact (congrFun hi 0).symm
    | ⟨1, _⟩ => exact (congrFun hi 1).symm
    | ⟨2, _⟩ => rfl
    | ⟨3, _⟩ => exact (congrFun hi 2).symm
    | ⟨4, _⟩ => exact (congrFun hi 3).symm
  · rintro ⟨k, rfl⟩
    exact keep _

end mid

theorem lowest : Ideal.ofBits .f32 0xFF800000#32 = (⊥ : EReal) := by simp [Ideal.ofBits, Ideal.ieee]
theorem zero : Ideal.ofBits .f32 0x00000000#32 = (0 : EReal) := by simp [Ideal.ofBits, Ideal.ieee]

theorem lses_at (l1 l2 l3 : FVec Ideal S8x4096x2 .f32) (b : Fin 8) (s : Fin 4096) (k : Fin 3) (h : Fin 2) :
    lses (F := Ideal) l1 l2 l3 (ix4 b s k h) = (![l1 (ix3 b s h), l2 (ix3 b s h), l3 (ix3 b s h)] : Fin 3 → EReal) k := by
  match k with
  | ⟨0, _⟩ => pointwise [lses]
  | ⟨1, _⟩ => pointwise [lses]
  | ⟨2, _⟩ => pointwise [lses]

theorem outs_at (o1 o2 o3 : FVec Ideal S8x4096x2x64 .f32) (b : Fin 8) (s : Fin 4096) (k : Fin 3) (h : Fin 2) (d : Fin 64) :
    outs (F := Ideal) o1 o2 o3 (ix5 b s k h d) = (![o1 (ix4 b s h d), o2 (ix4 b s h d), o3 (ix4 b s h d)] : Fin 3 → EReal) k := by
  match k with
  | ⟨0, _⟩ => pointwise [outs]
  | ⟨1, _⟩ => pointwise [outs]
  | ⟨2, _⟩ => pointwise [outs]

theorem largest_at (v : FVec Ideal S8x4096x3x2 .f32) (b : Fin 8) (s : Fin 4096) (h : Fin 2) :
    largest (F := Ideal) v (ix3 b s h) = Mix.top (fun k => v (ix4 b s k h)) := by
  unfold largest
  rw [Host.reduce_eq_fold, mid_filter4, Finset.fold_map]
  show max (v (ix4 b s 0 h)) (max (v (ix4 b s 1 h)) (max (v (ix4 b s 2 h)) (Ideal.ofBits .f32 0xFF800000#32))) = _
  rw [lowest, max_eq_left bot_le, ← max_assoc]
  rfl

theorem each_at (v : FVec Ideal S8x4096x2 .f32) (b : Fin 8) (s : Fin 4096) (k : Fin 3) (h : Fin 2) :
    each (F := Ideal) v (ix4 b s k h) = v (ix3 b s h) := by
  pointwise [each]

theorem raws_at (v : FVec Ideal S8x4096x3x2 .f32) (b : Fin 8) (s : Fin 4096) (k : Fin 3) (h : Fin 2) :
    raws (F := Ideal) v (ix4 b s k h) = Mix.raw (fun k => v (ix4 b s k h)) k := by
  pointwise [raws, each_at, largest_at]
  rw [lowest]
  exact congrArg (fun t => Ideal.exp (v (ix4 b s k h) - t)) (max_eq_right bot_le)

theorem sums_at (w : FVec Ideal S8x4096x3x2 .f32) (b : Fin 8) (s : Fin 4096) (h : Fin 2) :
    sums (F := Ideal) w (ix3 b s h) = w (ix4 b s 0 h) + w (ix4 b s 1 h) + w (ix4 b s 2 h) := by
  show Ideal.hostReduceAdd reducesTo_S8x4096x3x2_S8x4096x2_d2 w (Ideal.ofBits .f32 0x00000000#32) (ix3 b s h) = _
  rw [Ideal.hostReduceAdd, mid_filter4, Finset.sum_map, zero, zero_add, Fin.sum_univ_three]
  rfl

theorem shares_at (v : FVec Ideal S8x4096x3x2 .f32) (b : Fin 8) (s : Fin 4096) (k : Fin 3) (h : Fin 2) :
    shares (F := Ideal) v (ix4 b s k h) = Ideal.div (Mix.raw (fun k => v (ix4 b s k h)) k) (Mix.whole (fun k => v (ix4 b s k h))) := by
  pointwise [shares, each_at, sums_at, raws_at]
  rfl

theorem scaled_at (w : FVec Ideal S8x4096x3x2 .f32) (o : FVec Ideal S8x4096x3x2x64 .f32) (b : Fin 8) (s : Fin 4096) (k : Fin 3) (h : Fin 2) (d : Fin 64) :
    scaled (F := Ideal) w o (ix5 b s k h d) = w (ix4 b s k h) * o (ix5 b s k h d) := by
  pointwise [scaled]

theorem folded_at (o : FVec Ideal S8x4096x3x2x64 .f32) (b : Fin 8) (s : Fin 4096) (h : Fin 2) (d : Fin 64) :
    folded (F := Ideal) o (ix4 b s h d) = o (ix5 b s 0 h d) + o (ix5 b s 1 h d) + o (ix5 b s 2 h d) := by
  show Ideal.hostReduceAdd reducesTo_S8x4096x3x2x64_S8x4096x2x64_d2 o (Ideal.ofBits .f32 0x00000000#32) (ix4 b s h d) = _
  rw [Ideal.hostReduceAdd, mid_filter5, Finset.sum_map, zero, zero_add, Fin.sum_univ_three]
  rfl

theorem branch_fold (o1 o2 o3 : FVec Ideal S8x4096x2x64 .f32) (l1 l2 l3 : FVec Ideal S8x4096x2 .f32) (b : Fin 8) (s : Fin 4096) (c : Fin 128) :
    branch (F := Ideal) o1 o2 o3 l1 l2 l3 (ix3 b s c) = folded (F := Ideal) (scaled (shares (lses l1 l2 l3)) (outs o1 o2 o3)) (ix4 b s ⟨c.val / 64, by omega⟩ ⟨c.val % 64, by omega⟩) := by
  pointwise [branch]

/-- A lane of the dilated branch, where the head's largest denominator is a real number. -/
theorem branch_at (o1 o2 o3 : FVec Ideal S8x4096x2x64 .f32) (l1 l2 l3 : FVec Ideal S8x4096x2 .f32) (b : Fin 8) (s : Fin 4096)
    (hl : ∀ h : Fin 2, ∃ t : ℝ, Mix.top ![l1 (ix3 b s h), l2 (ix3 b s h), l3 (ix3 b s h)] = t) (c : Fin 128) :
    branch (F := Ideal) o1 o2 o3 l1 l2 l3 (ix3 b s c)
      = Mix.groups (fun h => l1 (ix3 b s h)) (fun h => l2 (ix3 b s h)) (fun h => l3 (ix3 b s h)) (fun h d => o1 (ix4 b s h d)) (fun h d => o2 (ix4 b s h d)) (fun h d => o3 (ix4 b s h d)) c := by
  obtain ⟨t, ht⟩ := hl ⟨c.val / 64, by omega⟩
  rw [branch_fold, folded_at, scaled_at, scaled_at, scaled_at, shares_at, shares_at, shares_at, outs_at, outs_at, outs_at]
  have e : (fun k => lses (F := Ideal) l1 l2 l3 (ix4 b s k ⟨c.val / 64, by omega⟩)) = ![l1 (ix3 b s ⟨c.val / 64, by omega⟩), l2 (ix3 b s ⟨c.val / 64, by omega⟩), l3 (ix3 b s ⟨c.val / 64, by omega⟩)] :=
    funext fun k => lses_at l1 l2 l3 b s k _
  rw [e]
  exact Mix.weighed_eq _ _ t ht

end Cert.RefMergeIdeal.Heads
end
-- ==== Proof.RefMergeRows.lean ====
module

public import proofs.«01_k».proof.Proof.RefMergeHeads

@[expose] public section

set_option maxRecDepth 16384

noncomputable section

/-! The reference's tokens after the mixer, read at every token and lane. -/
namespace Cert.RefMergeIdeal.Rows

open Idealize.ShloMosaic Idealize.ShloMosaic.TcCoe Idealize.SL.Sem
open Cert.RefMergeIdeal Cert.RefMergeIdeal.Gen Cert.RefMergeIdeal.Heads

section stages
variable {F : FTy → Type} [FloatOps F]

/-- The gates of every token, before they are parted. -/
def opened (x : FVec F S8x4096x1024 .f32) (wg : FVec F S1024x3072 .f32) (bg : FVec F S3072 .f32) : FVec F S8x4096x3072 .f32 :=
  Host.divf (broadcastInDim S8x4096x3072 ![] bcast_S_S8x4096x3072 (constant S_ .f32 0x3F800000#32))
    (addf (broadcastInDim S8x4096x3072 ![] bcast_S_S8x4096x3072 (constant S_ .f32 0x3F800000#32))
      (Host.exp (Host.negf (addf (Host.dotGeneral dot_S8x4096x1024_S1024x3072_S8x4096x3072_2_0_01_1_n_n none x wg)
        (broadcastInDim S8x4096x3072 ![0, 1, 2] bcast_S1x1x3072_S8x4096x3072_0_1_2 (broadcastInDim S1x1x3072 ![2] bcast_S3072_S1x1x3072_2 bg))))))

def parted (g : FVec F S8x4096x3072 .f32) : FVec F S8x4096x3x1024 .f32 := shapeCast _ g shapeCasts_S8x4096x3072_S8x4096x3x1024

def gate0 (g : FVec F S8x4096x3072 .f32) : FVec F S8x4096x1024 .f32 :=
  shapeCast _ (extractStridedSlice S8x4096x1x1024 ![0, 0, 0, 0] (parted g) slices_S8x4096x3x1024_S8x4096x1x1024_0_0_0_0) shapeCasts_S8x4096x1x1024_S8x4096x1024
def gate1 (g : FVec F S8x4096x3072 .f32) : FVec F S8x4096x1024 .f32 :=
  shapeCast _ (extractStridedSlice S8x4096x1x1024 ![0, 0, 1, 0] (parted g) slices_S8x4096x3x1024_S8x4096x1x1024_0_0_1_0) shapeCasts_S8x4096x1x1024_S8x4096x1024
def gate2 (g : FVec F S8x4096x3072 .f32) : FVec F S8x4096x1024 .f32 :=
  shapeCast _ (extractStridedSlice S8x4096x1x1024 ![0, 0, 2, 0] (parted g) slices_S8x4096x3x1024_S8x4096x1x1024_0_0_2_0) shapeCasts_S8x4096x1x1024_S8x4096x1024

/-- The three branches, each projected and gated, added. -/
def merged (g : FVec F S8x4096x3072 .f32) (yd : FVec F S8x4096x128 .f32) (ym : FVec F S8x4096x384 .f32) (yx : FVec F S8x4096x256 .f32)
    (wd : FVec F S128x1024 .f32) (wm : FVec F S384x1024 .f32) (wx : FVec F S256x1024 .f32) : FVec F S8x4096x1024 .f32 :=
  addf (addf (mulf (gate0 g) (Host.dotGeneral dot_S8x4096x128_S128x1024_S8x4096x1024_2_0_01_1_n_n none yd wd))
    (mulf (gate1 g) (Host.dotGeneral dot_S8x4096x384_S384x1024_S8x4096x1024_2_0_01_1_n_n none ym wm)))
    (mulf (gate2 g) (Host.dotGeneral dot_S8x4096x256_S256x1024_S8x4096x1024_2_0_01_1_n_n none yx wx))

/-- What the norm takes. -/
def total (x y : FVec F S8x4096x1024 .f32) (wo : FVec F S1024x1024 .f32) : FVec F S8x4096x1024 .f32 :=
  addf (mulf (broadcastInDim S8x4096x1024 ![] bcast_S_S8x4096x1024 (constant S_ .f32 0x3F9837F0#32)) x)
    (Host.dotGeneral dot_S8x4096x1024_S1024x1024_S8x4096x1024_2_0_01_1_n_n none y wo)

/-- The mean of every token, one number per token. -/
def means (v : FVec F S8x4096x1024 .f32) : FVec F S8x4096x1 .f32 :=
  Host.divf (broadcastInDim S8x4096x1 ![0, 1] bcast_S8x4096_S8x4096x1_0_1 (Host.reduceAdd v (constant S_ .f32 0x00000000#32) reducesTo_S8x4096x1024_S8x4096_d2 h_S_)) (broadcastInDim S8x4096x1 ![] bcast_S_S8x4096x1 (constant S_ .f32 0x44800000#32))

/-- Every lane less its token's mean. -/
def cen (v : FVec F S8x4096x1024 .f32) : FVec F S8x4096x1024 .f32 :=
  subf v (broadcastInDim S8x4096x1024 ![0, 1, 2] bcast_S8x4096x1_S8x4096x1024_0_1_2 (means v))

/-- The layer norm. -/
def norm (v : FVec F S8x4096x1024 .f32) (a b : FVec F S1024 .f32) : FVec F S8x4096x1024 .f32 :=
  addf (mulf (mulf (cen v) (broadcastInDim S8x4096x1024 ![0, 1, 2] bcast_S8x4096x1_S8x4096x1024_0_1_2 (Host.rsqrt (addf (means (mulf (cen v) (cen v))) (broadcastInDim S8x4096x1 ![] bcast_S_S8x4096x1 (constant S_ .f32 0x3727C5AC#32))))))
    (broadcastInDim S8x4096x1024 ![0, 1, 2] bcast_S1x1x1024_S8x4096x1024_0_1_2 (broadcastInDim S1x1x1024 ![2] bcast_S1024_S1x1x1024_2 a)))
    (broadcastInDim S8x4096x1024 ![0, 1, 2] bcast_S1x1x1024_S8x4096x1024_0_1_2 (broadcastInDim S1x1x1024 ![2] bcast_S1024_S1x1x1024_2 b))

/-- The tokens in one row each. -/
def flat (v : FVec F S8x4096x1024 .f32) : FVec F S32768x1024 .f32 := shapeCast _ v shapeCasts_S8x4096x1024_S32768x1024

theorem out0_eq (m : (ℓ : Loc nD τ sig) → Buf (Elt F) ℓ) (c : Dev nD) :
    Value.res_out0 m c = flat (norm (total (m ((c.tc : Thread nD τ).loc main_arg0))
      (merged (opened (m ((c.tc : Thread nD τ).loc main_arg0)) (m ((c.tc : Thread nD τ).loc main_arg9)) (m ((c.tc : Thread nD τ).loc main_arg10)))
        (branch (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
        (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)))
      (m ((c.tc : Thread nD τ).loc main_arg14))) (m ((c.tc : Thread nD τ).loc main_arg15)) (m ((c.tc : Thread nD τ).loc main_arg16))) := rfl

end stages

theorem opened_at (x : FVec Ideal S8x4096x1024 .f32) (wg : FVec Ideal S1024x3072 .f32) (bg : FVec Ideal S3072 .f32) (b : Fin 8) (s : Fin 4096) (c : Fin 3072) :
    opened (F := Ideal) x wg bg (ix3 b s c) = Mix.gate (fun k => x (ix3 b s k)) (fun k => wg (ix2 k c)) (bg (ix1 c)) := by
  pointwise [opened]
  rfl

theorem gate0_at (g : FVec Ideal S8x4096x3072 .f32) (b : Fin 8) (s : Fin 4096) (c : Fin 1024) : gate0 (F := Ideal) g (ix3 b s c) = g (ix3 b s ⟨c.val, by omega⟩) := by
  pointwise [gate0, parted]
theorem gate1_at (g : FVec Ideal S8x4096x3072 .f32) (b : Fin 8) (s : Fin 4096) (c : Fin 1024) : gate1 (F := Ideal) g (ix3 b s c) = g (ix3 b s ⟨1024 + c.val, by omega⟩) := by
  pointwise [gate1, parted]
theorem gate2_at (g : FVec Ideal S8x4096x3072 .f32) (b : Fin 8) (s : Fin 4096) (c : Fin 1024) : gate2 (F := Ideal) g (ix3 b s c) = g (ix3 b s ⟨2048 + c.val, by omega⟩) := by
  pointwise [gate2, parted]

theorem merged_at (g : FVec Ideal S8x4096x3072 .f32) (yd : FVec Ideal S8x4096x128 .f32) (ym : FVec Ideal S8x4096x384 .f32) (yx : FVec Ideal S8x4096x256 .f32)
    (wd : FVec Ideal S128x1024 .f32) (wm : FVec Ideal S384x1024 .f32) (wx : FVec Ideal S256x1024 .f32) (b : Fin 8) (s : Fin 4096) (c : Fin 1024) :
    merged (F := Ideal) g yd ym yx wd wm wx (ix3 b s c)
      = g (ix3 b s ⟨c.val, by omega⟩) * ∑ k : Fin 128, yd (ix3 b s k) * wd (ix2 k c)
        + g (ix3 b s ⟨1024 + c.val, by omega⟩) * ∑ k : Fin 384, ym (ix3 b s k) * wm (ix2 k c)
        + g (ix3 b s ⟨2048 + c.val, by omega⟩) * ∑ k : Fin 256, yx (ix3 b s k) * wx (ix2 k c) := by
  pointwise [merged, gate0_at, gate1_at, gate2_at]

theorem total_at (x y : FVec Ideal S8x4096x1024 .f32) (wo : FVec Ideal S1024x1024 .f32) (b : Fin 8) (s : Fin 4096) (c : Fin 1024) :
    total (F := Ideal) x y wo (ix3 b s c) = Mix.summed (fun k => x (ix3 b s k)) (fun k => y (ix3 b s k)) (fun k c => wo (ix2 k c)) c := by
  pointwise [total]
  rfl

theorem means_at (v : FVec Ideal S8x4096x1024 .f32) (b : Fin 8) (s : Fin 4096) (z : Fin 1) : means (F := Ideal) v (ix3 b s z) = Combine.mean (fun k => v (ix3 b s k)) := by
  pointwise [means]
  rfl

theorem cen_at (v : FVec Ideal S8x4096x1024 .f32) (b : Fin 8) (s : Fin 4096) (c : Fin 1024) : cen (F := Ideal) v (ix3 b s c) = Combine.centred (fun k => v (ix3 b s k)) c := by
  pointwise [cen, means_at]
  rfl

theorem norm_at (v : FVec Ideal S8x4096x1024 .f32) (g o : FVec Ideal S1024 .f32) (b : Fin 8) (s : Fin 4096) (c : Fin 1024) :
    norm (F := Ideal) v g o (ix3 b s c) = Combine.normed (fun k => v (ix3 b s k)) c * g (ix1 c) + o (ix1 c) := by
  pointwise [norm, means_at, cen_at]
  rfl

theorem flat_at (v : FVec Ideal S8x4096x1024 .f32) (n : Fin 32768) (c : Fin 1024) :
    flat (F := Ideal) v (ix2 n c) = v (ix3 (⟨n.val / 4096, by omega⟩ : Fin 8) (⟨n.val % 4096, by omega⟩ : Fin 4096) c) := by
  pointwise [flat]

/-- The mixed lanes of a token. -/
theorem merged_of (x : FVec Ideal S8x4096x1024 .f32) (wg : FVec Ideal S1024x3072 .f32) (bg : FVec Ideal S3072 .f32) (yd : FVec Ideal S8x4096x128 .f32) (ym : FVec Ideal S8x4096x384 .f32) (yx : FVec Ideal S8x4096x256 .f32)
    (wd : FVec Ideal S128x1024 .f32) (wm : FVec Ideal S384x1024 .f32) (wx : FVec Ideal S256x1024 .f32) (b : Fin 8) (s : Fin 4096) (Y : Fin 128 → EReal) (hy : ∀ k, yd (ix3 b s k) = Y k) (c : Fin 1024) :
    merged (F := Ideal) (opened x wg bg) yd ym yx wd wm wx (ix3 b s c)
      = Mix.merged (fun k => x (ix3 b s k)) Y (fun k => ym (ix3 b s k)) (fun k => yx (ix3 b s k)) (fun k c => wg (ix2 k c)) (fun c => bg (ix1 c))
        (fun k c => wd (ix2 k c)) (fun k c => wm (ix2 k c)) (fun k c => wx (ix2 k c)) c := by
  rw [merged_at, opened_at, opened_at, opened_at]
  simp only [hy]
  rfl

/-- The reference's result, where every head's largest denominator is a real number. -/
theorem out0_at (m : (ℓ : Loc nD τ sig) → Buf (Elt Ideal) ℓ) (e : Dev nD)
    (hl : ∀ (b : Fin 8) (s : Fin 4096) (h : Fin 2), ∃ t : ℝ, Mix.top ![m ((e.tc : Thread nD τ).loc main_arg4) (ix3 b s h), m ((e.tc : Thread nD τ).loc main_arg5) (ix3 b s h), m ((e.tc : Thread nD τ).loc main_arg6) (ix3 b s h)] = t)
    (n : Fin 32768) (c : Fin 1024) (b : Fin 8) (s : Fin 4096) (hb : b.val = n.val / 4096) (hs : s.val = n.val % 4096) :
    Value.res_out0 m e (ix2 n c) =
  Mix.result (fun k => m ((e.tc : Thread nD τ).loc main_arg0) (ix3 b s k))
    (Mix.merged (fun k => m ((e.tc : Thread nD τ).loc main_arg0) (ix3 b s k))
      (Mix.groups (fun h => m ((e.tc : Thread nD τ).loc main_arg4) (ix3 b s h)) (fun h => m ((e.tc : Thread nD τ).loc main_arg5) (ix3 b s h)) (fun h => m ((e.tc : Thread nD τ).loc main_arg6) (ix3 b s h))
        (fun h d => m ((e.tc : Thread nD τ).loc main_arg1) (ix4 b s h d)) (fun h d => m ((e.tc : Thread nD τ).loc main_arg2) (ix4 b s h d)) (fun h d => m ((e.tc : Thread nD τ).loc main_arg3) (ix4 b s h d)))
      (fun k => m ((e.tc : Thread nD τ).loc main_arg7) (ix3 b s k)) (fun k => m ((e.tc : Thread nD τ).loc main_arg8) (ix3 b s k)) (fun k c => m ((e.tc : Thread nD τ).loc main_arg9) (ix2 k c)) (fun c => m ((e.tc : Thread nD τ).loc main_arg10) (ix1 c))
      (fun k c => m ((e.tc : Thread nD τ).loc main_arg11) (ix2 k c)) (fun k c => m ((e.tc : Thread nD τ).loc main_arg12) (ix2 k c)) (fun k c => m ((e.tc : Thread nD τ).loc main_arg13) (ix2 k c)))
    (fun k c => m ((e.tc : Thread nD τ).loc main_arg14) (ix2 k c)) (fun c => m ((e.tc : Thread nD τ).loc main_arg15) (ix1 c)) (fun c => m ((e.tc : Thread nD τ).loc main_arg16) (ix1 c)) c := by
  have hb' : (⟨n.val / 4096, by omega⟩ : Fin 8) = b := Fin.ext hb.symm
  have hs' : (⟨n.val % 4096, by omega⟩ : Fin 4096) = s := Fin.ext hs.symm
  rw [out0_eq, flat_at, hb', hs', norm_at]
  unfold Mix.result
  refine congrArg (fun f => Combine.normed f c * _ + _) (funext fun k => ?_)
  rw [total_at]
  refine congrArg (fun f => Mix.summed _ f _ k) (funext fun j => ?_)
  exact merged_of _ _ _ _ _ _ _ _ _ _ _ _ (branch_at _ _ _ _ _ _ _ _ (hl _ _)) j

end Cert.RefMergeIdeal.Rows
end
-- ==== Proof.MergePre.lean ====
module

public import proofs.«01_k».proof.Defs
public import proofs.«01_k».proof.Proof.Gen.Pre_heaviest_finite
public import proofs.«01_k».proof.Proof.Finite
public import proofs.«01_k».proof.Proof.Mix

@[expose] public section

set_option maxRecDepth 16384

noncomputable section

/-! The precondition of the merge: every head's largest log denominator is a real number. -/
namespace Cert.Mix

open Idealize.ShloMosaic Idealize.SL.Sem

theorem top_of_all [hf : Cert.Pre_heaviest_finite.Facts] (l1 l2 l3 : FVec Ideal ⟨3, ![8, 4096, 2]⟩ .f32) (i0 : Cert.Pre_heaviest_finite.S_.Idx)
    (h : Host.reduce IntOp.andi (cmpf .olt (Host.absf (maximumf (maximumf l1 l2) l3)) (broadcastInDim Cert.Pre_heaviest_finite.S8x4096x2 ![] Cert.Pre_heaviest_finite.Facts.bcast_S_S8x4096x2 (constant Cert.Pre_heaviest_finite.S_ .f32 0x7F800000#32)))
      (constantI Cert.Pre_heaviest_finite.S_ 1 1#1) Cert.Pre_heaviest_finite.Facts.reducesTo_S8x4096x2_S_d0_1_2 Cert.Pre_heaviest_finite.Facts.h_S_ i0 = 1#1)
    (i : Shape.Idx ⟨3, ![8, 4096, 2]⟩) : ∃ t : ℝ, top ![l1 i, l2 i, l3 i] = t := by
  have : Subsingleton Cert.Pre_heaviest_finite.S_.Idx := ⟨fun a b => funext fun k => k.elim0⟩
  have e := Host.reduce_andi_all _ _ _ _ _ h i
  refine Cert.Attend.real_of_abs (max (max (l1 i) (l2 i)) (l3 i)) ?_
  rw [← Cert.Attend.inf]
  exact e

theorem top_of_fn [hf : Cert.Pre_heaviest_finite.Facts] (x : FVec Ideal Cert.Pre_heaviest_finite.S8x4096x1024 .f32) (o1 : FVec Ideal Cert.Pre_heaviest_finite.S8x4096x2x64 .f32) (o2 : FVec Ideal Cert.Pre_heaviest_finite.S8x4096x2x64 .f32) (o3 : FVec Ideal Cert.Pre_heaviest_finite.S8x4096x2x64 .f32) (l1 : FVec Ideal Cert.Pre_heaviest_finite.S8x4096x2 .f32) (l2 : FVec Ideal Cert.Pre_heaviest_finite.S8x4096x2 .f32) (l3 : FVec Ideal Cert.Pre_heaviest_finite.S8x4096x2 .f32) (ym : FVec Ideal Cert.Pre_heaviest_finite.S8x4096x384 .f32) (yx : FVec Ideal Cert.Pre_heaviest_finite.S8x4096x256 .f32) (wg : FVec Ideal Cert.Pre_heaviest_finite.S1024x3072 .f32) (bg : FVec Ideal Cert.Pre_heaviest_finite.S3072 .f32) (wd : FVec Ideal Cert.Pre_heaviest_finite.S128x1024 .f32) (wm : FVec Ideal Cert.Pre_heaviest_finite.S384x1024 .f32) (wx : FVec Ideal Cert.Pre_heaviest_finite.S256x1024 .f32) (wo : FVec Ideal Cert.Pre_heaviest_finite.S1024x1024 .f32) (g : FVec Ideal Cert.Pre_heaviest_finite.S1024 .f32) (o : FVec Ideal Cert.Pre_heaviest_finite.S1024 .f32) (wr : FVec Ideal Cert.Pre_heaviest_finite.S1024x256 .f32) (br : FVec Ideal Cert.Pre_heaviest_finite.S256 .f32)
    (h : Cert.Pre_heaviest_finite.fn (F := Ideal) x o1 o2 o3 l1 l2 l3 ym yx wg bg wd wm wx wo g o wr br = fun _ => 1#1) (i : Cert.Pre_heaviest_finite.S8x4096x2.Idx) :
    ∃ t : ℝ, top ![l1 i, l2 i, l3 i] = t := by
  have h0 := congrFun h (Shape.Idx.first Cert.Pre_heaviest_finite.Facts.h_S_)
  unfold Cert.Pre_heaviest_finite.fn at h0
  exact top_of_all l1 l2 l3 _ h0 i

theorem top_real [hf : Cert.Pre_heaviest_finite.Facts] (m : (ℓ : Loc Cert.MergeIdeal.nD Cert.MergeIdeal.τ Cert.MergeIdeal.sig) → Buf (Elt Ideal) ℓ)
    (h : Cert.Pre_MergeIdeal_heaviest_finite m) (c : Dev Cert.MergeIdeal.nD) (b : Fin 8) (s : Fin 4096) (k : Fin 2) :
    ∃ t : ℝ, top ![m ((c.tc : Thread Cert.MergeIdeal.nD Cert.MergeIdeal.τ).loc Cert.MergeIdeal.main_arg4) (ix3 b s k), m ((c.tc : Thread Cert.MergeIdeal.nD Cert.MergeIdeal.τ).loc Cert.MergeIdeal.main_arg5) (ix3 b s k), m ((c.tc : Thread Cert.MergeIdeal.nD Cert.MergeIdeal.τ).loc Cert.MergeIdeal.main_arg6) (ix3 b s k)] = t := by
  exact top_of_fn _ _ _ _ _ _ _ _ _ _ _ _ _ _ _ _ _ _ _ (h c) (ix3 b s k)

end Cert.Mix
end
-- ==== Proof.MergeClaims.lean ====
module

public import proofs.«01_k».proof.Proof.MergeWhole
public import proofs.«01_k».proof.Proof.MergeFinal
public import proofs.«01_k».proof.Proof.RefMergeRows
public import proofs.«01_k».proof.Proof.MergePre
public import Idealize.ShloMosaic.Lib.Bf16PairInverse
public import Idealize.ShloMosaic.Lib.Claim
public import Idealize.ShloMosaic.Lib.Quiescent

@[expose] public section

noncomputable section

/-! The claims about the call that gates and merges the branches, projects them and norms the tokens. -/
namespace Cert.MergeClaims

open Idealize.ShloMosaic Idealize.ShloMosaic.TcCoe Idealize.SL.Sem

section run
open Cert.Merge Cert.Merge.Gen
theorem frame_p : Cert.quiescent_Merge := fun m g _ =>
  θ_run_and (frame_of m g (Cert.Merge.Whole.dats m) (Cert.Merge.Whole.arrays m) (Cert.Merge.Whole.run_arrays m g))
    ((θ_run defs _ _).mono (fun _ h => h.2) (Cert.Merge.Whole.run_all m g))
end run

section run
open Cert.MergeIdeal Cert.MergeIdeal.Gen
theorem frame_pi : Cert.quiescent_MergeIdeal := fun m g _ =>
  θ_run_and (frame_of m g (Cert.MergeIdeal.Whole.dats m) (Cert.MergeIdeal.Whole.arrays m) (Cert.MergeIdeal.Whole.run_arrays m g))
    ((θ_run defs _ _).mono (fun _ h => h.2) (Cert.MergeIdeal.Whole.run_all m g))

/-- The run with the tokens' array named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41_0) = (Cert.MergeIdeal.Whole.dats m 0 c).arrAt 20 cfg0.N :=
  (θ_run defs _ _).mono (fun r h c => (h c).1 20) (Cert.MergeIdeal.Whole.run_arrays m ρ)
end run

theorem frame_pi_pre : Cert.quiescent_MergeIdeal_pre_heaviest_finite := fun m g _ => frame_pi m g trivial
theorem frame_r : Cert.quiescent_RefMergeIdeal := fun m g _ =>
  (θ_run Cert.RefMergeIdeal.defs _ _).mono (fun r h => ⟨fun c => (h c).2, sem_eq_zero_of_no_sems (by decide) r.2⟩)
    (Cert.RefMergeIdeal.Value.run m g)
theorem frame_r_pre : Cert.quiescent_RefMergeIdeal_pre_heaviest_finite := fun m g _ => frame_r m g trivial

/-- The two buffers of packed words, and the packing and reading of their pairs. -/
theorem preserves : Cert.preserves_Merge_MergeIdeal :=
  ⟨IdealRules.bf16_pair.bufferStatement Cert.MergeIdeal.S32768x2x512 Cert.MergeIdeal.S32768x1x512,
    IdealRules.bf16_pair.bufferStatement Cert.MergeIdeal.S512x2x512 Cert.MergeIdeal.S512x1x512,
    IdealRules.bf16_pair.packStatement Cert.MergeIdeal.S512x512,
    IdealRules.bf16_pair.statement Cert.MergeIdeal.S512x2x512 Cert.MergeIdeal.S512x1x512⟩

theorem algebraic : Cert.algebraic_MergeIdeal_RefMergeIdeal_pre_heaviest_finite := by
  intro m ρ m' ρ' hpre hagree
  refine ⟨fun c => Cert.MergeIdeal.Final.out m c, ?_, ?_⟩
  · refine (θ_run Cert.MergeIdeal.defs _ _).mono (fun r h c => ⟨((h.1 c).trans (Cert.MergeIdeal.Final.final m c)), h.2 c⟩)
      (θ_run_and (run_out m ρ) (Cert.MergeIdeal.Gen.frame_of m ρ (Cert.MergeIdeal.Whole.dats m) (Cert.MergeIdeal.Whole.arrays m) (Cert.MergeIdeal.Whole.run_arrays m ρ)))
  · refine (θ_run Cert.RefMergeIdeal.defs _ _).mono (fun _ h c => ?_) (Cert.RefMergeIdeal.Value.run m' ρ')
    refine ⟨(h c).1.trans ?_, (h c).2⟩
    obtain ⟨h0, h1, h2, h3, h4, h5, h6, h7, h8, h9, h10, h11, h12, h13, h14, h15, h16, h17, h18⟩ := hagree c
    have hl := Cert.Mix.top_real m hpre c
    refine funext fun y => ?_
    have hy : (y 0).val < 32768 := (y 0).isLt
    rw [← ix2_eta y]
    refine (Cert.RefMergeIdeal.Rows.out0_at m' c ?_ (y 0) (y 1) ⟨(y 0).val / 4096, by omega⟩ ⟨(y 0).val % 4096, by omega⟩ rfl rfl).trans ?_
    · rw [h4, h5, h6]
      exact hl
    · rw [h0, h1, h2, h3, h4, h5, h6, h7, h8, h9, h10, h11, h12, h13, h14, h15, h16]
      rfl

end Cert.MergeClaims
end
-- ==== Proof.Rope.lean ====
module

public import proofs.«01_k».proof.Proof.Mix

@[expose] public section

noncomputable section

/-! Rotary positions on the first lanes of a head, as both sides compute them. -/
namespace Cert.Rope

open Idealize.ShloMosaic

/-- The frequency of the `j`-th rotary pair. -/
def freq (j : ℕ) : EReal :=
  Ideal.pow (Ideal.ofBits .f32 0x48F42400#32)
    (Ideal.div (-(FloatOps.sitofp .f32 (BitVec.ofNat 32 j) : Ideal .f32)) (Ideal.ofBits .f32 0x41000000#32))

/-- The angle of position `p` in the `j`-th rotary pair. -/
def angle (p : BitVec 32) (j : ℕ) : EReal := (FloatOps.sitofp .f32 p : Ideal .f32) * freq j

/-- Lane `u` of a head whose lanes are `t`, turned to position `p`. -/
def turn (p : BitVec 32) (t : ℕ → EReal) (u : ℕ) : EReal :=
  if u < 8 then t u * Ideal.cos (angle p u) - t (u + 8) * Ideal.sin (angle p u)
  else if u < 16 then t u * Ideal.cos (angle p (u - 8)) + t (u - 8) * Ideal.sin (angle p (u - 8))
  else t u

/-- The frequency of a lane of two heads side by side, zero outside the rotary lanes. -/
def laneFreq (l : ℕ) : EReal := if l % 64 < 16 then freq (l % 8) else 0

/-- The sign of the partner's part. -/
def laneSign (l : ℕ) : EReal := if l % 16 < 8 then -1 else 1

/-- The lane turned in place: the lane times the cosine and its partner times the signed sine. -/
def turned (p : BitVec 32) (t : ℕ → EReal) (l : ℕ) : EReal :=
  t l * Ideal.cos ((FloatOps.sitofp .f32 p : Ideal .f32) * laneFreq l)
    + t (if l % 16 < 8 then (l + 8) % 128 else (l + 120) % 128) * (Ideal.sin ((FloatOps.sitofp .f32 p : Ideal .f32) * laneFreq l) * laneSign l)

theorem cos_zero : Ideal.cos 0 = 1 := by
  show ((Real.cos 0 : ℝ) : EReal) = 1
  rw [Real.cos_zero]; rfl

theorem sin_zero : Ideal.sin 0 = 0 := by
  show ((Real.sin 0 : ℝ) : EReal) = 0
  rw [Real.sin_zero]; rfl

/-- Turning the lanes of two heads side by side turns each head. -/
theorem turned_eq (p : BitVec 32) (t : ℕ → EReal) (l : ℕ) (hl : l < 128) :
    turned p t l = turn p (fun u => t (l / 64 * 64 + u)) (l % 64) := by
  have hd : l / 64 * 64 + l % 64 = l := by omega
  unfold turned turn
  dsimp only
  by_cases h8 : l % 64 < 8
  · rw [if_pos h8]
    have a : l % 16 < 8 := by omega
    have b : (l + 8) % 128 = l / 64 * 64 + (l % 64 + 8) := by omega
    have c : laneFreq l = freq (l % 64) := by
      unfold laneFreq
      rw [if_pos (by omega)]
      congr 1
      omega
    have d : laneSign l = -1 := if_pos a
    rw [if_pos a, b, c, d, hd, mul_neg, mul_one, mul_neg, sub_eq_add_neg]
    rfl
  · rw [if_neg h8]
    by_cases h16 : l % 64 < 16
    · rw [if_pos h16]
      have a : ¬l % 16 < 8 := by omega
      have b : (l + 120) % 128 = l / 64 * 64 + (l % 64 - 8) := by omega
      have c : laneFreq l = freq (l % 64 - 8) := by
        unfold laneFreq
        rw [if_pos h16]
        congr 1
        omega
      have d : laneSign l = 1 := if_neg a
      rw [if_neg a, b, c, d, hd, mul_one]
      rfl
    · rw [if_neg h16]
      have c : laneFreq l = 0 := if_neg h16
      rw [c, mul_zero, cos_zero, sin_zero, mul_one, zero_mul, mul_zero, add_zero, hd]

end Cert.Rope
end
-- ==== Proof.Project.lean ====
module

public import proofs.«01_k».proof.Proof.Rope

@[expose] public section

noncomputable section

/-! The input projection of the tokens, a lane at a time, and how its results are laid out. -/
namespace Cert.Project

open Idealize.ShloMosaic

abbrev Tokens := (⟨3, ![8, 4096, 1024]⟩ : Shape).Idx → EReal
abbrev Positions := (⟨2, ![8, 4096]⟩ : Shape).Idx → BitVec 32
abbrev Weights := (⟨2, ![1024, 2560]⟩ : Shape).Idx → EReal

/-- What a result holds of a token, lane by lane. -/
abbrev Lanes := Fin 8 → Fin 4096 → ℕ → EReal

/-- The query scale, an eighth. -/
def scale : EReal := Ideal.ofBits .f32 0x3E000000#32

variable (X : Tokens) (P : Positions) (W : Weights)

/-- Lane `j` of the projection of token `s` of sequence `b`. -/
def lane (b : Fin 8) (s : Fin 4096) (j : ℕ) : EReal :=
  ∑ k : Fin 1024, X (ix3 b s k) * W (ix2 k ⟨j % 2560, Nat.mod_lt _ (by decide)⟩)

theorem lane_of (b : Fin 8) (s : Fin 4096) (j : ℕ) (c : Fin 2560) (h : c.val = j) :
    ∑ k : Fin 1024, X (ix3 b s k) * W (ix2 k c) = lane X W b s j := by
  subst h
  unfold lane
  have e : (⟨c.val % 2560, Nat.mod_lt _ (by decide)⟩ : Fin 2560) = c := Fin.ext (Nat.mod_eq_of_lt c.isLt)
  rw [e]

/-- The lanes from `o` on: as projected, turned to their positions, turned and scaled. -/
def plain (o : ℕ) : Lanes := fun b s c => lane X W b s (o + c)
def turned (o : ℕ) : Lanes := fun b s c => Rope.turn (P (ix2 b s)) (fun u => lane X W b s (o + c / 64 * 64 + u)) (c % 64)
def query (o : ℕ) : Lanes := fun b s c => turned X P W o b s c * scale

theorem plain_shift (o j : ℕ) (b : Fin 8) (s : Fin 4096) (c : ℕ) : plain X W (o + 128 * j) b s c = plain X W o b s (128 * j + c) := by
  unfold plain
  rw [Nat.add_assoc]

theorem turned_shift (o j : ℕ) (b : Fin 8) (s : Fin 4096) (c : ℕ) : turned X P W (o + 128 * j) b s c = turned X P W o b s (128 * j + c) := by
  unfold turned
  have e1 : (128 * j + c) % 64 = c % 64 := by omega
  have e2 : o + 128 * j + c / 64 * 64 = o + (128 * j + c) / 64 * 64 := by omega
  rw [e1, e2]

/-- Token `s` at residue `s % d`, step `s / d`. -/
def spread1 (g : Lanes) : (⟨4, ![8, 1, 4096, 128]⟩ : Shape).Idx → EReal := fun y => g (y 0) ⟨(y 2).val, (y 2).isLt⟩ (y 3).val
def spread4 (g : Lanes) : (⟨4, ![8, 4, 1024, 128]⟩ : Shape).Idx → EReal := fun y =>
  g (y 0) ⟨(y 2).val * 4 + (y 1).val, by have h1 : (y 1).val < 4 := (y 1).isLt; have h2 : (y 2).val < 1024 := (y 2).isLt; omega⟩ (y 3).val
def spread16 (g : Lanes) : (⟨4, ![8, 16, 256, 128]⟩ : Shape).Idx → EReal := fun y =>
  g (y 0) ⟨(y 2).val * 16 + (y 1).val, by have h1 : (y 1).val < 16 := (y 1).isLt; have h2 : (y 2).val < 256 := (y 2).isLt; omega⟩ (y 3).val

/-- The tokens of all sequences one below the other. -/
def rows (n : ℕ) (g : Lanes) : (⟨2, ![32768, n]⟩ : Shape).Idx → EReal := fun y =>
  g ⟨(y 0).val / 4096, by have h : (y 0).val < 32768 := (y 0).isLt; omega⟩ ⟨(y 0).val % 4096, Nat.mod_lt _ (by decide)⟩ (y 1).val

end Cert.Project
end
-- ==== Proof.InprojTile.lean ====
module

public import proofs.«01_k».proof.Proof.Rope
public import proofs.«01_k».proof.Proof.Gen.InprojIdeal.Frame

@[expose] public section

set_option maxRecDepth 16384

noncomputable section

/-! The stages of the projection's body, over the blocks it reads. -/
namespace Cert.InprojIdeal.Tile

open Idealize.ShloMosaic Idealize.ShloMosaic.TcCoe Idealize.SL.Sem
open Cert.InprojIdeal Cert.InprojIdeal.Gen

theorem slices_chunk (j : Fin 4) : S1024x512.Slices ![0, 128 * j.val] S1024x128 := by
  match j with
  | ⟨0, _⟩ => exact slices_S1024x512_o0_0_S1024x128
  | ⟨1, _⟩ => exact slices_S1024x512_o0_128_S1024x128
  | ⟨2, _⟩ => exact slices_S1024x512_o0_256_S1024x128
  | ⟨3, _⟩ => exact slices_S1024x512_o0_384_S1024x128

section stages
variable {F : FTy → Type} [FloatOps F]

/-- The tokens of the tile against 512 columns of the weights. -/
def proj (x : Vec F S1024x1024 .f32) (w : Vec F S1024x512 .bf16) : FVec F S1024x512 .f32 :=
  matmul dot_S1024x1024_S1024x512_S1024x512_1_0_0_1_n_n none
    (truncf .bf16 (shapeCast S1024x1024 x shapeCasts_S1024x1024_S1024x1024 : FVec F S1024x1024 .f32) bitsLt_bf16_f32)
    (shapeCast S1024x512 w shapeCasts_S1024x512_S1024x512) (constant S1024x512 .f32 0x00000000#32)

/-- 128 of those columns. -/
def chunk (x : Vec F S1024x1024 .f32) (w : Vec F S1024x512 .bf16) (j : Fin 4) : FVec F S1024x128 .f32 :=
  extractStridedSlice S1024x128 ![0, 128 * j.val] (proj x w) (slices_chunk j)

/-- Two heads turned to their positions. -/
def roped (c s : Vec F S1024x128 .f32) (v : FVec F S1024x128 .f32) : FVec F S1024x128 .f32 :=
  addf (mulf v (shapeCast S1024x128 c shapeCasts_S1024x128_S1024x128))
    (mulf (select k0_pay9 (dynamicRotate 1 120#32 none v rotates_S1024x128_d1) (dynamicRotate 1 8#32 none v rotates_S1024x128_d1))
      (shapeCast S1024x128 s shapeCasts_S1024x128_S1024x128))

/-- The queries' scale. -/
def scaled (v : FVec F S1024x128 .f32) : FVec F S1024x128 .f32 :=
  mulf v (broadcast S1024x128 (Scalar.ofBits .f32 0x3E000000#32))

/-- Two heads as stored. -/
def narrow (v : FVec F S1024x128 .f32) : FVec F S1024x128 .bf16 := truncf .bf16 v bitsLt_bf16_f32

def one (v : FVec F S1024x128 .f32) : FVec F S1x1x1024x128 .bf16 :=
  shapeCast S1x1x1024x128 (narrow v) shapeCasts_S1024x128_S1x1x1024x128

def four (v : Vec F S1x256x128 .f32) : FVec F S1x1x256x128 .bf16 :=
  shapeCast S1x1x256x128 (truncf .bf16 (shapeCast S256x128 v shapeCasts_S1x256x128_S256x128 : FVec F S256x128 .f32) bitsLt_bf16_f32) shapeCasts_S256x128_S1x1x256x128

def sixteen (v : Vec F S1x64x128 .f32) : FVec F S1x1x64x128 .bf16 :=
  shapeCast S1x1x64x128 (truncf .bf16 (shapeCast S64x128 v shapeCasts_S1x64x128_S64x128 : FVec F S64x128 .f32) bitsLt_bf16_f32) shapeCasts_S64x128_S1x1x64x128

end stages

theorem chunk_at (x : Vec Ideal S1024x1024 .f32) (w : Vec Ideal S1024x512 .bf16) (j : Fin 4) (r : Fin 1024) (l : Fin 128) :
    chunk (F := Ideal) x w j (ix2 r l) = ∑ k, x (ix2 r k) * w (ix2 k ⟨128 * j.val + l.val, by omega⟩) := by
  pointwise [chunk, proj]

theorem mask_at (r : Fin 1024) (l : Fin 128) : k0_pay9 (ix2 r l) = if l.val % 16 < 8 then 1#1 else 0#1 := by
  pointwise [k0_pay9]
  revert l
  decide

theorem roped_at (c s : Vec Ideal S1024x128 .f32) (v : FVec Ideal S1024x128 .f32) (r : Fin 1024) (l : Fin 128) :
    roped (F := Ideal) c s v (ix2 r l)
      = v (ix2 r l) * c (ix2 r l)
        + v (ix2 r (⟨if l.val % 16 < 8 then (l.val + 8) % 128 else (l.val + 120) % 128, by split <;> omega⟩ : Fin 128)) * s (ix2 r l) := by
  pointwise [roped, mask_at]
  by_cases h : l.val % 16 < 8
  · simp only [if_pos h]
    rfl
  · simp only [if_neg h]
    rfl

theorem scaled_at (v : FVec Ideal S1024x128 .f32) (r : Fin 1024) (l : Fin 128) :
    scaled (F := Ideal) v (ix2 r l) = v (ix2 r l) * Ideal.ofBits .f32 0x3E000000#32 := by
  pointwise [scaled]

theorem narrow_at (v : FVec Ideal S1024x128 .f32) (r : Fin 1024) (l : Fin 128) : narrow (F := Ideal) v (ix2 r l) = v (ix2 r l) := by
  pointwise [narrow]

theorem one_at (v : FVec Ideal S1024x128 .f32) (r : Fin 1024) (l : Fin 128) : one (F := Ideal) v (ix4 0 0 r l) = v (ix2 r l) := by
  pointwise [one, narrow]

theorem four_at (v : Vec Ideal S1x256x128 .f32) (r : Fin 256) (l : Fin 128) : four (F := Ideal) v (ix4 0 0 r l) = v (ix3 0 r l) := by
  pointwise [four]

theorem sixteen_at (v : Vec Ideal S1x64x128 .f32) (r : Fin 64) (l : Fin 128) : sixteen (F := Ideal) v (ix4 0 0 r l) = v (ix3 0 r l) := by
  pointwise [sixteen]

end Cert.InprojIdeal.Tile
end
-- ==== Proof.InprojRun.lean ====
module

public import proofs.«01_k».proof.Proof.InprojTile

@[expose] public section

set_option maxRecDepth 65536

noncomputable section

/-! What one run of the projection's body stores. -/
namespace Cert.InprojIdeal.Run

open Idealize.ShloMosaic Idealize.ShloMosaic.TcCoe Idealize.SL.Sem
open Cert.InprojIdeal Cert.InprojIdeal.Gen Cert.InprojIdeal.Tile

theorem inb_w (j : Fin 5) : ∀ a, (![0, 512 * j.val] : Fin 2 → Nat) a + S1024x512.size a ≤ S1024x2560.size a := by
  revert j; decide

theorem inb_slot (s : Fin 9) : ∀ a, (![s.val, 0, 0] : Fin 3 → Nat) a + S1x1024x128.size a ≤ S9x1024x128.size a := by
  revert s; decide

theorem inb_four (s : Fin 9) (r : Fin 4) : ∀ a, S1x256x128.size a = 0 ∨ (![s.val, r.val, 0] : Fin 3 → Nat) a + (![1, 4, 1] : Fin 3 → Nat) a * (S1x256x128.size a - 1) < S9x1024x128.size a := by
  revert s r; decide

theorem inb_sixteen (s : Fin 9) (r : Fin 16) : ∀ a, S1x64x128.size a = 0 ∨ (![s.val, r.val, 0] : Fin 3 → Nat) a + (![1, 16, 1] : Fin 3 → Nat) a * (S1x64x128.size a - 1) < S9x1024x128.size a := by
  revert s r; decide

theorem inb_res4 (r : Fin 4) : ∀ a, (![0, r.val, 0, 0] : Fin 4 → Nat) a + S1x1x256x128.size a ≤ S1x4x256x128.size a := by
  revert r; decide

theorem inb_res16 (r : Fin 16) : ∀ a, (![0, r.val, 0, 0] : Fin 4 → Nat) a + S1x1x64x128.size a ≤ S1x16x64x128.size a := by
  revert r; decide

theorem inb_col3 (j : Fin 3) : ∀ a, (![0, 128 * j.val] : Fin 2 → Nat) a + S1024x128.size a ≤ S1024x384.size a := by
  revert j; decide

theorem inb_col2 (j : Fin 2) : ∀ a, (![0, 128 * j.val] : Fin 2 → Nat) a + S1024x128.size a ≤ S1024x256.size a := by
  revert j; decide

section tile
variable {F : FTy → Type} [FloatOps F]
variable (m : (ℓ : Loc nD τ sig) → Buf (Elt F) ℓ) (c : Dev nD) (t : Fin cfg0.N)

def x : Vec F S1024x1024 .f32 := View.readAt (Elt F) (ms0_0 t).view (Rect.unit (s := S1024x1024) ![0, 0] S1024x1024.size inb_S1024x1024_S1024x1024_0_0).toLoadRect ((hs0_0 t).unread (iblk m c 0 t))
def w (j : Fin 5) : Vec F S1024x512 .bf16 := View.readAt (Elt F) (ms0_1 t).view (Rect.unit (s := S1024x2560) ![0, 512 * j.val] S1024x512.size (inb_w j)).toLoadRect ((hs0_1 t).unread (iblk m c 1 t))
def cosT : Vec F S1024x128 .f32 := View.readAt (Elt F) (ms0_2 t).view (Rect.unit (s := S1024x128) ![0, 0] S1024x128.size inb_S1024x128_S1024x128_0_0).toLoadRect ((hs0_2 t).unread (iblk m c 2 t))
def sinT : Vec F S1024x128 .f32 := View.readAt (Elt F) (ms0_3 t).view (Rect.unit (s := S1024x128) ![0, 0] S1024x128.size inb_S1024x128_S1024x128_0_0).toLoadRect ((hs0_3 t).unread (iblk m c 3 t))

/-- Two heads of the projection. -/
def pair (k : Fin 20) : FVec F S1024x128 .f32 := chunk (x m c t) (w m c t ⟨k.val / 4, by omega⟩) ⟨k.val % 4, Nat.mod_lt _ (by decide)⟩
/-- Keys and queries: turned to their positions. -/
def key (k : Fin 20) : FVec F S1024x128 .f32 := roped (cosT m c t) (sinT m c t) (pair m c t k)
def query (k : Fin 20) : FVec F S1024x128 .f32 := scaled (key m c t k)

/-- Two heads put into a slot of the scratch. -/
def put (s : Fin 9) (v : FVec F S1024x128 .f32) : View.Piece (Elt F) S9x1024x128 .f32 :=
  ⟨Rect.unit (s := S9x1024x128) ![s.val, 0, 0] S1x1024x128.size (inb_slot s), shapeCast S1x1024x128 v shapeCasts_S1024x128_S1x1024x128⟩

/-- The rows of a slot four apart. -/
def get4 (L : List (View.Piece (Elt F) S9x1024x128 .f32)) (s : Fin 9) (r : Fin 4) : Vec F S1x256x128 .f32 :=
  scM0_0.view.readCov L (⟨![s.val, r.val, 0], S1x256x128.size, ![1, 4, 1], inb_four s r⟩ : LoadRect S9x1024x128)
def get16 (L : List (View.Piece (Elt F) S9x1024x128 .f32)) (s : Fin 9) (r : Fin 16) : Vec F S1x64x128 .f32 :=
  scM0_0.view.readCov L (⟨![s.val, r.val, 0], S1x64x128.size, ![1, 16, 1], inb_sixteen s r⟩ : LoadRect S9x1024x128)

def whole (v : FVec F S1024x128 .f32) : List (View.Piece (Elt F) S1x1x1024x128 .bf16) :=
  [⟨Rect.unit (s := S1x1x1024x128) ![0, 0, 0, 0] S1x1x1024x128.size inb_S1x1x1024x128_S1x1x1024x128_0_0_0_0, one v⟩]
def down4 : List (Fin 4) := [3, 2, 1, 0]
def down16 : List (Fin 16) := [15, 14, 13, 12, 11, 10, 9, 8, 7, 6, 5, 4, 3, 2, 1, 0]
def fours (L : List (View.Piece (Elt F) S9x1024x128 .f32)) (s : Fin 9) : List (View.Piece (Elt F) S1x4x256x128 .bf16) :=
  down4.map fun r => ⟨Rect.unit (s := S1x4x256x128) ![0, r.val, 0, 0] S1x1x256x128.size (inb_res4 r), four (get4 L s r)⟩
def sixteens (L : List (View.Piece (Elt F) S9x1024x128 .f32)) (s : Fin 9) : List (View.Piece (Elt F) S1x16x64x128 .bf16) :=
  down16.map fun r => ⟨Rect.unit (s := S1x16x64x128) ![0, r.val, 0, 0] S1x1x64x128.size (inb_res16 r), sixteen (get16 L s r)⟩
def columns3 (v : Fin 3 → FVec F S1024x128 .f32) : List (View.Piece (Elt F) S1024x384 .bf16) :=
  ([2, 1, 0] : List (Fin 3)).map fun j => ⟨Rect.unit (s := S1024x384) ![0, 128 * j.val] S1024x128.size (inb_col3 j), narrow (v j)⟩
def columns2 (v : Fin 2 → FVec F S1024x128 .f32) : List (View.Piece (Elt F) S1024x256 .bf16) :=
  ([1, 0] : List (Fin 2)).map fun j => ⟨Rect.unit (s := S1024x256) ![0, 128 * j.val] S1024x128.size (inb_col2 j), narrow (v j)⟩

/-- The slots as stored, the latest first. -/
def slots1 : List (View.Piece (Elt F) S9x1024x128 .f32) := [put 1 (query m c t 1)]
def slots2 : List (View.Piece (Elt F) S9x1024x128 .f32) := put 2 (query m c t 2) :: slots1 m c t
def slots4 : List (View.Piece (Elt F) S9x1024x128 .f32) := put 4 (key m c t 4) :: slots2 m c t
def slots5 : List (View.Piece (Elt F) S9x1024x128 .f32) := put 5 (key m c t 5) :: slots4 m c t
def slots7 : List (View.Piece (Elt F) S9x1024x128 .f32) := put 7 (pair m c t 7) :: slots5 m c t
def slots8 : List (View.Piece (Elt F) S9x1024x128 .f32) := put 8 (pair m c t 8) :: slots7 m c t

theorem stored4 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).1 = whole (query m c t 0) := rfl

theorem stored5 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.1 = fours (slots1 m c t) 1 := rfl

theorem stored6 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.1 = sixteens (slots2 m c t) 2 := rfl

theorem stored7 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.1 = whole (key m c t 3) := rfl

theorem stored8 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.1 = fours (slots4 m c t) 4 := rfl

theorem stored9 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.1 = sixteens (slots5 m c t) 5 := rfl

theorem stored10 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.1 = whole (pair m c t 6) := rfl

theorem stored11 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.2.1 = fours (slots7 m c t) 7 := rfl

theorem stored12 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.2.2.1 = sixteens (slots8 m c t) 8 := rfl

theorem stored13 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.2.2.2.1 = columns3 fun j => query m c t ⟨9 + j.val, by omega⟩ := rfl

theorem stored14 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.2.2.2.2.1 = columns3 fun j => key m c t ⟨12 + j.val, by omega⟩ := rfl

theorem stored15 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.2.2.2.2.2.1 = columns3 fun j => pair m c t ⟨15 + j.val, by omega⟩ := rfl

theorem stored16 : (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t)).2.2.2.2.2.2.2.2.2.2.2.2.1 = columns2 fun j => scaled (pair m c t ⟨18 + j.val, by omega⟩) := rfl

end tile

end Cert.InprojIdeal.Run
end
-- ==== Proof.InprojRead.lean ====
module

public import proofs.«01_k».proof.Proof.Project
public import proofs.«01_k».proof.Proof.InprojRun

@[expose] public section

set_option maxRecDepth 16384

noncomputable section

/-! What the stores of the projection's body hold, read from the value of a tile. -/
namespace Cert.InprojIdeal.Read

open Idealize.ShloMosaic Idealize.ShloMosaic.TcCoe Idealize.SL.Sem
open Cert.InprojIdeal Cert.InprojIdeal.Gen Cert.InprojIdeal.Tile Cert.InprojIdeal.Run

/-- A tile holds lanes `g` of the tokens from the tile's first on. -/
def Holds (t : ℕ) (v : FVec Ideal S1024x128 .f32) (g : Project.Lanes) : Prop :=
  ∀ (r : Fin 1024) (l : Fin 128) (b : Fin 8) (s : Fin 4096), b.val = t / 4 → s.val = t % 4 * 1024 + r.val → v (ix2 r l) = g b s l.val

theorem put_at (s : Fin 9) (v : FVec Ideal S1024x128 .f32) (n : Fin 1024) (l : Fin 128) : (put (F := Ideal) s v).2 (ix3 0 n l) = v (ix2 n l) := by
  dsimp only [put]
  pointwise []

theorem slot_emb (s : Fin 9) (n : Fin 1024) (l : Fin 128) :
    (Rect.unit (s := S9x1024x128) ![s.val, 0, 0] S1x1024x128.size (inb_slot s)).emb (ix3 0 n l) = ix3 s n l := by
  funext a
  match a with
  | ⟨0, _⟩ => exact Fin.ext (show s.val + 1 * 0 = s.val by omega)
  | ⟨1, _⟩ => exact Fin.ext (show 0 + 1 * n.val = n.val by omega)
  | ⟨2, _⟩ => exact Fin.ext (show 0 + 1 * l.val = l.val by omega)

theorem canon_put (s : Fin 9) (v : FVec Ideal S1024x128 .f32) (L : List (View.Piece (Elt Ideal) S9x1024x128 .f32)) (n : Fin 1024) (l : Fin 128) :
    View.canon (put s v :: L) (ix3 s n l) = v (ix2 n l) := by
  rw [← slot_emb s n l]
  exact (View.canon_cons_emb _ (put (F := Ideal) s v).2 L (ix3 0 n l)).trans (put_at s v n l)

theorem get4_at (s : Fin 9) (v : FVec Ideal S1024x128 .f32) (L : List (View.Piece (Elt Ideal) S9x1024x128 .f32)) (r : Fin 4) (q : Fin 256) (l : Fin 128) :
    get4 (put s v :: L) s r (ix3 0 q l) = v (ix2 (⟨r.val + 4 * q.val, by omega⟩ : Fin 1024) l) := by
  unfold get4
  rw [View.readCov_eq_canon']
  refine Eq.trans (congrArg (View.canon (put s v :: L)) ?_) (canon_put s v L ⟨r.val + 4 * q.val, by omega⟩ l)
  funext a
  match a with
  | ⟨0, _⟩ => exact Fin.ext (show s.val + 1 * 0 = s.val by omega)
  | ⟨1, _⟩ => exact Fin.ext (show r.val + 4 * q.val = r.val + 4 * q.val from rfl)
  | ⟨2, _⟩ => exact Fin.ext (show 0 + 1 * l.val = l.val by omega)

theorem get16_at (s : Fin 9) (v : FVec Ideal S1024x128 .f32) (L : List (View.Piece (Elt Ideal) S9x1024x128 .f32)) (r : Fin 16) (q : Fin 64) (l : Fin 128) :
    get16 (put s v :: L) s r (ix3 0 q l) = v (ix2 (⟨r.val + 16 * q.val, by omega⟩ : Fin 1024) l) := by
  unfold get16
  rw [View.readCov_eq_canon']
  refine Eq.trans (congrArg (View.canon (put s v :: L)) ?_) (canon_put s v L ⟨r.val + 16 * q.val, by omega⟩ l)
  funext a
  match a with
  | ⟨0, _⟩ => exact Fin.ext (show s.val + 1 * 0 = s.val by omega)
  | ⟨1, _⟩ => exact Fin.ext (show r.val + 16 * q.val = r.val + 16 * q.val from rfl)
  | ⟨2, _⟩ => exact Fin.ext (show 0 + 1 * l.val = l.val by omega)

theorem split4 {n : ℕ} (x : (⟨4, ![1, 1, n, 128]⟩ : Shape).Idx) : ∃ (q : Fin n) (l : Fin 128), x = ix4 0 0 q l := by
  refine ⟨x 2, x 3, ?_⟩
  funext a
  match a with
  | ⟨0, _⟩ => exact Fin.ext (by have := (x 0).isLt; change (x 0).val < 1 at this; show (x 0).val = 0; omega)
  | ⟨1, _⟩ => exact Fin.ext (by have := (x 1).isLt; change (x 1).val < 1 at this; show (x 1).val = 0; omega)
  | ⟨2, _⟩ => rfl
  | ⟨3, _⟩ => rfl

theorem split2 {n k : ℕ} (x : (⟨2, ![n, k]⟩ : Shape).Idx) : ∃ (q : Fin n) (l : Fin k), x = ix2 q l :=
  ⟨x 0, x 1, (ix2_eta x).symm⟩

theorem mem4 (r : Fin 4) : r ∈ down4 := by revert r; decide
theorem mem16 (r : Fin 16) : r ∈ down16 := by revert r; decide

theorem zeros : ∀ a, (![0, 0, 0, 0] : Fin 4 → Nat) a = 0 := by decide

theorem whole_at (v : FVec Ideal S1024x128 .f32) (n : Fin 1024) (l : Fin 128) : View.canon (whole (F := Ideal) v) (ix4 0 0 n l) = v (ix2 n l) := by
  unfold whole
  rw [View.canon_unit_zero (funext zeros) _ _]
  exact one_at v n l

theorem emb4 (r : Fin 4) (q : Fin 256) (l : Fin 128) :
    (Rect.unit (s := S1x4x256x128) ![0, r.val, 0, 0] S1x1x256x128.size (inb_res4 r)).emb (ix4 0 0 q l) = ix4 0 r q l := by
  funext a
  match a with
  | ⟨0, _⟩ => rfl
  | ⟨1, _⟩ => exact Fin.ext (show r.val + 1 * 0 = r.val by omega)
  | ⟨2, _⟩ => exact Fin.ext (show 0 + 1 * q.val = q.val by omega)
  | ⟨3, _⟩ => exact Fin.ext (show 0 + 1 * l.val = l.val by omega)

theorem emb16 (r : Fin 16) (q : Fin 64) (l : Fin 128) :
    (Rect.unit (s := S1x16x64x128) ![0, r.val, 0, 0] S1x1x64x128.size (inb_res16 r)).emb (ix4 0 0 q l) = ix4 0 r q l := by
  funext a
  match a with
  | ⟨0, _⟩ => rfl
  | ⟨1, _⟩ => exact Fin.ext (show r.val + 1 * 0 = r.val by omega)
  | ⟨2, _⟩ => exact Fin.ext (show 0 + 1 * q.val = q.val by omega)
  | ⟨3, _⟩ => exact Fin.ext (show 0 + 1 * l.val = l.val by omega)

theorem col3_emb (j : Fin 3) (n : Fin 1024) (l : Fin 128) :
    (Rect.unit (s := S1024x384) ![0, 128 * j.val] S1024x128.size (inb_col3 j)).emb (ix2 n l) = ix2 n (⟨128 * j.val + l.val, by omega⟩ : Fin 384) := by
  funext a
  match a with
  | ⟨0, _⟩ => exact Fin.ext (show 0 + 1 * n.val = n.val by omega)
  | ⟨1, _⟩ => exact Fin.ext (show 128 * j.val + 1 * l.val = 128 * j.val + l.val by omega)

theorem col2_emb (j : Fin 2) (n : Fin 1024) (l : Fin 128) :
    (Rect.unit (s := S1024x256) ![0, 128 * j.val] S1024x128.size (inb_col2 j)).emb (ix2 n l) = ix2 n (⟨128 * j.val + l.val, by omega⟩ : Fin 256) := by
  funext a
  match a with
  | ⟨0, _⟩ => exact Fin.ext (show 0 + 1 * n.val = n.val by omega)
  | ⟨1, _⟩ => exact Fin.ext (show 128 * j.val + 1 * l.val = 128 * j.val + l.val by omega)

/-- Stores that agree with one array leave it where they reach. -/
theorem mapped {n : ℕ} {S : Shape} {e : EltTy} (D : List (Fin n)) (f : Fin n → View.Piece (Elt Ideal) S e) (G : S.Idx → Elt Ideal e)
    (hG : ∀ r x, (f r).2 x = G ((f r).1.emb x)) (r : Fin n) (hr : r ∈ D) (x : (f r).1.shape.Idx) (y : S.Idx) (hy : (f r).1.emb x = y) :
    View.canon (D.map f) y = G y := by
  refine View.canon_apply_of_pieces G _ (fun p hp => ?_) y ⟨f r, List.mem_map.mpr ⟨r, hr, rfl⟩, ?_⟩
  · obtain ⟨k, _, rfl⟩ := List.mem_map.mp hp
    exact hG k
  · rw [← hy]
    exact LoadRect.idx_mem _ x

/-- One residue's store, one chunk's store. -/
def part4 (L : List (View.Piece (Elt Ideal) S9x1024x128 .f32)) (s : Fin 9) (r : Fin 4) : View.Piece (Elt Ideal) S1x4x256x128 .bf16 :=
  ⟨Rect.unit (s := S1x4x256x128) ![0, r.val, 0, 0] S1x1x256x128.size (inb_res4 r), four (F := Ideal) (get4 L s r)⟩
def part16 (L : List (View.Piece (Elt Ideal) S9x1024x128 .f32)) (s : Fin 9) (r : Fin 16) : View.Piece (Elt Ideal) S1x16x64x128 .bf16 :=
  ⟨Rect.unit (s := S1x16x64x128) ![0, r.val, 0, 0] S1x1x64x128.size (inb_res16 r), sixteen (F := Ideal) (get16 L s r)⟩
def chunk3 (v : Fin 3 → FVec Ideal S1024x128 .f32) (j : Fin 3) : View.Piece (Elt Ideal) S1024x384 .bf16 :=
  ⟨Rect.unit (s := S1024x384) ![0, 128 * j.val] S1024x128.size (inb_col3 j), narrow (F := Ideal) (v j)⟩
def chunk2 (v : Fin 2 → FVec Ideal S1024x128 .f32) (j : Fin 2) : View.Piece (Elt Ideal) S1024x256 .bf16 :=
  ⟨Rect.unit (s := S1024x256) ![0, 128 * j.val] S1024x128.size (inb_col2 j), narrow (F := Ideal) (v j)⟩

/-- The slot spread by residues modulo 4. -/
def by4 (v : FVec Ideal S1024x128 .f32) : S1x4x256x128.Idx → EReal := fun y =>
  v (ix2 (⟨(y 1).val + 4 * (y 2).val, by have h1 : (y 1).val < 4 := (y 1).isLt; have h2 : (y 2).val < 256 := (y 2).isLt; omega⟩ : Fin 1024) (y 3))

theorem by4_at (v : FVec Ideal S1024x128 .f32) (r : Fin 4) (q : Fin 256) (l : Fin 128) :
    by4 v (ix4 0 r q l) = v (ix2 (⟨r.val + 4 * q.val, by omega⟩ : Fin 1024) l) := rfl

theorem part4_at (s : Fin 9) (v : FVec Ideal S1024x128 .f32) (L : List (View.Piece (Elt Ideal) S9x1024x128 .f32)) (r : Fin 4) (q : Fin 256) (l : Fin 128) :
    (part4 (put s v :: L) s r).2 (ix4 0 0 q l : S1x1x256x128.Idx) = by4 v (ix4 0 r q l) := by
  unfold part4
  dsimp only
  rw [four_at, get4_at, by4_at]

theorem part4_emb (s : Fin 9) (L : List (View.Piece (Elt Ideal) S9x1024x128 .f32)) (r : Fin 4) (q : Fin 256) (l : Fin 128) :
    (part4 L s r).1.emb (ix4 0 0 q l : S1x1x256x128.Idx) = ix4 0 r q l := emb4 r q l

theorem part4_good (s : Fin 9) (v : FVec Ideal S1024x128 .f32) (L : List (View.Piece (Elt Ideal) S9x1024x128 .f32)) (r : Fin 4) (x : S1x1x256x128.Idx) :
    (part4 (put s v :: L) s r).2 x = by4 v ((part4 (put s v :: L) s r).1.emb x) := by
  obtain ⟨q, l, rfl⟩ := split4 (n := 256) x
  exact (part4_at s v L r q l).trans (congrArg (by4 v) (part4_emb s (put s v :: L) r q l)).symm

theorem fours_eq (s : Fin 9) (L : List (View.Piece (Elt Ideal) S9x1024x128 .f32)) : fours L s = down4.map (part4 L s) := rfl

theorem fours_at (s : Fin 9) (v : FVec Ideal S1024x128 .f32) (L : List (View.Piece (Elt Ideal) S9x1024x128 .f32)) (r : Fin 4) (q : Fin 256) (l : Fin 128) :
    View.canon (fours (put s v :: L) s) (ix4 0 r q l) = v (ix2 (⟨r.val + 4 * q.val, by omega⟩ : Fin 1024) l) := by
  rw [fours_eq]
  exact (mapped down4 (part4 (put s v :: L) s) (by4 v) (part4_good s v L) r (mem4 r) (ix4 0 0 q l : S1x1x256x128.Idx) (ix4 0 r q l) (part4_emb s (put s v :: L) r q l)).trans (by4_at v r q l)

/-- The slot spread by residues modulo 16. -/
def by16 (v : FVec Ideal S1024x128 .f32) : S1x16x64x128.Idx → EReal := fun y =>
  v (ix2 (⟨(y 1).val + 16 * (y 2).val, by have h1 : (y 1).val < 16 := (y 1).isLt; have h2 : (y 2).val < 64 := (y 2).isLt; omega⟩ : Fin 1024) (y 3))

theorem by16_at (v : FVec Ideal S1024x128 .f32) (r : Fin 16) (q : Fin 64) (l : Fin 128) :
    by16 v (ix4 0 r q l) = v (ix2 (⟨r.val + 16 * q.val, by omega⟩ : Fin 1024) l) := rfl

theorem part16_at (s : Fin 9) (v : FVec Ideal S1024x128 .f32) (L : List (View.Piece (Elt Ideal) S9x1024x128 .f32)) (r : Fin 16) (q : Fin 64) (l : Fin 128) :
    (part16 (put s v :: L) s r).2 (ix4 0 0 q l : S1x1x64x128.Idx) = by16 v (ix4 0 r q l) := by
  unfold part16
  dsimp only
  rw [sixteen_at, get16_at, by16_at]

theorem part16_emb (s : Fin 9) (L : List (View.Piece (Elt Ideal) S9x1024x128 .f32)) (r : Fin 16) (q : Fin 64) (l : Fin 128) :
    (part16 L s r).1.emb (ix4 0 0 q l : S1x1x64x128.Idx) = ix4 0 r q l := emb16 r q l

theorem part16_good (s : Fin 9) (v : FVec Ideal S1024x128 .f32) (L : List (View.Piece (Elt Ideal) S9x1024x128 .f32)) (r : Fin 16) (x : S1x1x64x128.Idx) :
    (part16 (put s v :: L) s r).2 x = by16 v ((part16 (put s v :: L) s r).1.emb x) := by
  obtain ⟨q, l, rfl⟩ := split4 (n := 64) x
  exact (part16_at s v L r q l).trans (congrArg (by16 v) (part16_emb s (put s v :: L) r q l)).symm

theorem sixteens_eq (s : Fin 9) (L : List (View.Piece (Elt Ideal) S9x1024x128 .f32)) : sixteens L s = down16.map (part16 L s) := rfl

theorem sixteens_at (s : Fin 9) (v : FVec Ideal S1024x128 .f32) (L : List (View.Piece (Elt Ideal) S9x1024x128 .f32)) (r : Fin 16) (q : Fin 64) (l : Fin 128) :
    View.canon (sixteens (put s v :: L) s) (ix4 0 r q l) = v (ix2 (⟨r.val + 16 * q.val, by omega⟩ : Fin 1024) l) := by
  rw [sixteens_eq]
  exact (mapped down16 (part16 (put s v :: L) s) (by16 v) (part16_good s v L) r (mem16 r) (ix4 0 0 q l : S1x1x64x128.Idx) (ix4 0 r q l) (part16_emb s (put s v :: L) r q l)).trans (by16_at v r q l)

/-- The chunks side by side. -/
def side3 (v : Fin 3 → FVec Ideal S1024x128 .f32) : S1024x384.Idx → EReal := fun y =>
  v ⟨(y 1).val / 128, by have h1 : (y 1).val < 384 := (y 1).isLt; omega⟩ (ix2 (y 0) (⟨(y 1).val % 128, Nat.mod_lt _ (by decide)⟩ : Fin 128))

theorem side3_at (v : Fin 3 → FVec Ideal S1024x128 .f32) (n : Fin 1024) (k : Fin 3) (l : Fin 128) :
    side3 v (ix2 n (⟨128 * k.val + l.val, by omega⟩ : Fin 384)) = v k (ix2 n l) := by
  have hk : (⟨(128 * k.val + l.val) / 128, by omega⟩ : Fin 3) = k := Fin.ext (by show (128 * k.val + l.val) / 128 = k.val; omega)
  have hl : (⟨(128 * k.val + l.val) % 128, Nat.mod_lt _ (by decide)⟩ : Fin 128) = l := Fin.ext (by show (128 * k.val + l.val) % 128 = l.val; omega)
  show v (⟨(128 * k.val + l.val) / 128, _⟩ : Fin 3) (ix2 n (⟨(128 * k.val + l.val) % 128, _⟩ : Fin 128)) = _
  rw [hk, hl]

theorem columns3_at (v : Fin 3 → FVec Ideal S1024x128 .f32) (n : Fin 1024) (k : Fin 3) (l : Fin 128) :
    View.canon (columns3 v) (ix2 n (⟨128 * k.val + l.val, by omega⟩ : Fin 384)) = v k (ix2 n l) := by
  rw [← side3_at v n k l]
  show View.canon (([2, 1, 0] : List (Fin 3)).map (chunk3 v)) _ = _
  refine mapped _ (chunk3 v) (side3 v) (fun j x => ?_) k (by revert k; decide) (ix2 n l : S1024x128.Idx) _ (col3_emb k n l)
  obtain ⟨q', l', rfl⟩ := split2 (n := 1024) (k := 128) x
  refine Eq.trans ?_ (congrArg (side3 v) (col3_emb j q' l')).symm
  exact (narrow_at (v j) q' l').trans (side3_at v q' j l').symm

/-- The chunks side by side. -/
def side2 (v : Fin 2 → FVec Ideal S1024x128 .f32) : S1024x256.Idx → EReal := fun y =>
  v ⟨(y 1).val / 128, by have h1 : (y 1).val < 256 := (y 1).isLt; omega⟩ (ix2 (y 0) (⟨(y 1).val % 128, Nat.mod_lt _ (by decide)⟩ : Fin 128))

theorem side2_at (v : Fin 2 → FVec Ideal S1024x128 .f32) (n : Fin 1024) (k : Fin 2) (l : Fin 128) :
    side2 v (ix2 n (⟨128 * k.val + l.val, by omega⟩ : Fin 256)) = v k (ix2 n l) := by
  have hk : (⟨(128 * k.val + l.val) / 128, by omega⟩ : Fin 2) = k := Fin.ext (by show (128 * k.val + l.val) / 128 = k.val; omega)
  have hl : (⟨(128 * k.val + l.val) % 128, Nat.mod_lt _ (by decide)⟩ : Fin 128) = l := Fin.ext (by show (128 * k.val + l.val) % 128 = l.val; omega)
  show v (⟨(128 * k.val + l.val) / 128, _⟩ : Fin 2) (ix2 n (⟨(128 * k.val + l.val) % 128, _⟩ : Fin 128)) = _
  rw [hk, hl]

theorem columns2_at (v : Fin 2 → FVec Ideal S1024x128 .f32) (n : Fin 1024) (k : Fin 2) (l : Fin 128) :
    View.canon (columns2 v) (ix2 n (⟨128 * k.val + l.val, by omega⟩ : Fin 256)) = v k (ix2 n l) := by
  rw [← side2_at v n k l]
  show View.canon (([1, 0] : List (Fin 2)).map (chunk2 v)) _ = _
  refine mapped _ (chunk2 v) (side2 v) (fun j x => ?_) k (by revert k; decide) (ix2 n l : S1024x128.Idx) _ (col2_emb k n l)
  obtain ⟨q', l', rfl⟩ := split2 (n := 1024) (k := 128) x
  refine Eq.trans ?_ (congrArg (side2 v) (col2_emb j q' l')).symm
  exact (narrow_at (v j) q' l').trans (side2_at v q' j l').symm

end Cert.InprojIdeal.Read
end
-- ==== Proof.InprojEntry.lean ====
module

public import proofs.«01_k».proof.Proof.Rope
public import proofs.«01_k».proof.Proof.Gen.InprojIdeal.Frame.Runs

@[expose] public section

set_option maxRecDepth 16384

noncomputable section
namespace Cert.InprojIdeal.Entry

open Cert.InprojIdeal Cert.InprojIdeal.Gen Idealize.ShloMosaic Idealize.ShloMosaic.TcCoe Idealize.SL.Sem

/-- The lane's remainder by `k`, as the host computes it. -/
def laneMod (k : BitVec 32) : IVec S128 32 :=
  let d : IVec S_ 32 := select (cmpi .eq (constantI S_ 32 k) (constantI S_ 32 0#32)) (constantI S_ 32 1#32) (constantI S_ 32 k)
  let r : IVec S128 32 := Host.remsi (iotaInDim S128 32 0) (broadcastInDim S128 ![] bcast_S_S128 d)
  select
    (andi
      (cmpi .ne (cmpi .slt r (broadcastInDim S128 ![] bcast_S_S128 (constantI S_ 32 0#32)))
        (broadcastInDim S128 ![] bcast_S_S128 (cmpi .slt d (constantI S_ 32 0#32))))
      (cmpi .ne r (broadcastInDim S128 ![] bcast_S_S128 (constantI S_ 32 0#32))))
    (addi r (broadcastInDim S128 ![] bcast_S_S128 d)) r

theorem laneMod_at (k : BitVec 32) (hk : k = 64#32 ∨ k = 16#32 ∨ k = 8#32) (l : Fin 128) :
    laneMod k (ix1 l) = BitVec.ofNat 32 (l.val % k.toNat) := by
  rcases hk with rfl | rfl | rfl <;>
  · pointwise [laneMod, iotaInDim]
    revert l
    decide

section Stages
variable {F : FTy → Type} [FloatOps F]

/-- The frequencies by lane: zero outside a head's rotary lanes. -/
def freqs : FVec F S128 .f32 :=
  select (cmpi .slt (laneMod 64#32) (broadcastInDim S128 ![] bcast_S_S128 (constantI S_ 32 16#32)))
    (Host.powf (broadcastInDim S128 ![] bcast_S_S128 (constant S_ .f32 0x48F42400#32))
      (Host.divf (Host.negf (sitofp .f32 (laneMod 8#32))) (broadcastInDim S128 ![] bcast_S_S128 (constant S_ .f32 0x41000000#32))))
    (broadcastInDim S128 ![] bcast_S_S128 (constant S_ .f32 0x00000000#32))

/-- The angle of every row and lane. -/
def angles (p : IVec S8x4096 32) : FVec F S32768x128 .f32 :=
  mulf
    (broadcastInDim S32768x128 ![0, 1] bcast_S32768x1_S32768x128_0_1
      (broadcastInDim S32768x1 ![0] bcast_S32768_S32768x1_0 (sitofp .f32 (shapeCast S32768 p shapeCasts_S8x4096_S32768))))
    (broadcastInDim S32768x128 ![0, 1] bcast_S1x128_S32768x128_0_1 (broadcastInDim S1x128 ![1] bcast_S128_S1x128_1 freqs))

/-- The sign of the partner's part by lane. -/
def signs : FVec F S128 .f32 :=
  select (cmpi .slt (laneMod 16#32) (broadcastInDim S128 ![] bcast_S_S128 (constantI S_ 32 8#32)))
    (broadcastInDim S128 ![] bcast_S_S128 (constant S_ .f32 0xBF800000#32))
    (broadcastInDim S128 ![] bcast_S_S128 (constant S_ .f32 0x3F800000#32))

def signed (p : IVec S8x4096 32) : FVec F S32768x128 .f32 :=
  mulf (Host.sin (angles p))
    (broadcastInDim S32768x128 ![0, 1] bcast_S1x128_S32768x128_0_1 (broadcastInDim S1x128 ![1] bcast_S128_S1x128_1 signs))

end Stages

variable (m : (ℓ : Loc nD τ sig) → Buf (Elt Ideal) ℓ) (e : Dev nD)

theorem x_at (n : Fin 32768) (c : Fin 1024) :
    V m e main_v29 (ix2 n c) = m ((e.tc : Thread nD τ).loc main_arg0) (ix3 ⟨n.val / 4096, by omega⟩ ⟨n.val % 4096, by omega⟩ c) := by
  simp only [V, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  entry_read
  pointwise []

theorem w_at (k : Fin 1024) (c : Fin 2560) :
    V m e main_v30 (ix2 k c) = m ((e.tc : Thread nD τ).loc main_arg2) (ix2 k c) := by
  simp only [V, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  entry_read
  pointwise []

theorem cos_eq : V m e main_v23 = (Host.cos (angles (F := Ideal) (m ((e.tc : Thread nD τ).loc main_arg1))) : FVec Ideal S32768x128 .f32) := by
  simp only [V, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  entry_read
  simp only [StableHlo.TRef.ofBuf, StableHlo.TRef.toBuf, cast_cast, cast_eq]
  rfl

theorem sin_eq : V m e main_v28 = signed (F := Ideal) (m ((e.tc : Thread nD τ).loc main_arg1)) := by
  simp only [V, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  entry_read
  simp only [StableHlo.TRef.ofBuf, StableHlo.TRef.toBuf, cast_cast, cast_eq]
  rfl

theorem freqs_at (l : Fin 128) : freqs (F := Ideal) (ix1 l) = Rope.laneFreq l.val := by
  have h : IntOp.cmpi .slt (BitVec.ofNat 32 (l.val % 64)) 16#32 = if l.val % 64 < 16 then 1#1 else 0#1 := by
    revert l; decide
  pointwise [freqs, laneMod_at 64#32 (.inl rfl) l, laneMod_at 8#32 (.inr (.inr rfl)) l]
  show Scalar.select (IntOp.cmpi .slt (BitVec.ofNat 32 (l.val % 64)) 16#32) _ _ = _
  rw [h]
  unfold Rope.laneFreq
  by_cases hl : l.val % 64 < 16
  · rw [if_pos hl, if_pos hl]; rfl
  · rw [if_neg hl, if_neg hl]; rfl

theorem neg_one : Ideal.ofBits .f32 0xBF800000#32 = -1 := by
  simp [Ideal.ofBits, Ideal.ieee, -EReal.coe_mul]
  norm_num

theorem signs_at (l : Fin 128) : signs (F := Ideal) (ix1 l) = Rope.laneSign l.val := by
  have h : IntOp.cmpi .slt (BitVec.ofNat 32 (l.val % 16)) 8#32 = if l.val % 16 < 8 then 1#1 else 0#1 := by
    revert l; decide
  pointwise [signs, laneMod_at 16#32 (.inr (.inl rfl)) l]
  show Scalar.select (IntOp.cmpi .slt (BitVec.ofNat 32 (l.val % 16)) 8#32) _ _ = _
  rw [h, neg_one]
  unfold Rope.laneSign
  by_cases hl : l.val % 16 < 8
  · rw [if_pos hl, if_pos hl]; rfl
  · rw [if_neg hl, if_neg hl]; rfl

/-- The position of a row. -/
def pos (p : IVec S8x4096 32) (n : Fin 32768) : BitVec 32 := p (ix2 ⟨n.val / 4096, by omega⟩ ⟨n.val % 4096, by omega⟩)

theorem cos_at (n : Fin 32768) (c : Fin 128) :
    V m e main_v23 (ix2 n c) = Ideal.cos ((FloatOps.sitofp .f32 (pos (m ((e.tc : Thread nD τ).loc main_arg1)) n) : Ideal .f32) * Rope.laneFreq c.val) := by
  rw [cos_eq, ← freqs_at]
  pointwise [angles]
  rfl

theorem sin_at (n : Fin 32768) (c : Fin 128) :
    V m e main_v28 (ix2 n c) = Ideal.sin ((FloatOps.sitofp .f32 (pos (m ((e.tc : Thread nD τ).loc main_arg1)) n) : Ideal .f32) * Rope.laneFreq c.val) * Rope.laneSign c.val := by
  rw [sin_eq, ← freqs_at, ← signs_at]
  pointwise [signed, angles]
  rfl

end Cert.InprojIdeal.Entry
end
-- ==== Proof.InprojTokens.lean ====
module

public import proofs.«01_k».proof.Proof.InprojRead
public import proofs.«01_k».proof.Proof.InprojEntry
public import proofs.«01_k».proof.Proof.Gen.InprojIdeal.Value

@[expose] public section

set_option maxRecDepth 16384

noncomputable section

/-! The projection's results after the run. -/
namespace Cert.InprojIdeal.Final

open Cert.InprojIdeal Cert.InprojIdeal.Gen Cert.InprojIdeal.Tile Cert.InprojIdeal.Run Cert.InprojIdeal.Read
open Idealize.ShloMosaic Idealize.ShloMosaic.TcCoe Idealize.SL.Sem

variable (m : (ℓ : Loc nD τ sig) → Buf (Elt Ideal) ℓ) (e : Dev nD)

/-- The tokens, the positions and the weights as launched. -/
abbrev argX : Project.Tokens := m ((e.tc : Thread nD τ).loc main_arg0)
abbrev argP : Project.Positions := m ((e.tc : Thread nD τ).loc main_arg1)
abbrev argW : Project.Weights := m ((e.tc : Thread nD τ).loc main_arg2)

/-- Where the blocks of grid point `t` lie. -/
theorem idx : ∀ t : Fin cfg0.N, (win0_0.index t = ![t.val, 0] ∧ win0_1.index t = ![0, 0] ∧ win0_2.index t = ![t.val, 0] ∧ win0_3.index t = ![t.val, 0])
    ∧ (win0_4.index t = ![t.val / 4, 0, t.val % 4, 0] ∧ win0_5.index t = ![t.val / 4, 0, t.val % 4, 0] ∧ win0_6.index t = ![t.val / 4, 0, t.val % 4, 0])
    ∧ (win0_7.index t = ![t.val / 4, 0, t.val % 4, 0] ∧ win0_8.index t = ![t.val / 4, 0, t.val % 4, 0] ∧ win0_9.index t = ![t.val / 4, 0, t.val % 4, 0])
    ∧ (win0_10.index t = ![t.val / 4, 0, t.val % 4, 0] ∧ win0_11.index t = ![t.val / 4, 0, t.val % 4, 0] ∧ win0_12.index t = ![t.val / 4, 0, t.val % 4, 0])
    ∧ win0_13.index t = ![t.val, 0] ∧ win0_14.index t = ![t.val, 0] ∧ win0_15.index t = ![t.val, 0] ∧ win0_16.index t = ![t.val, 0] :=
  (by decide +kernel : ∀ t : Fin grid0.N, _)

theorem bound (t : Fin cfg0.N) : t.val < 32 := t.isLt

theorem blk0 (t : Fin cfg0.N) (r : Fin 1024) (n : Fin 32768) (hn : n.val = t.val * 1024 + r.val) (k : Fin 1024) :
    iblk m e 0 t (ix2 r k) = V m e main_v29 (ix2 n k) := by
  obtain ⟨⟨h0, h1, h2, h3⟩, _⟩ := idx t
  blk_point [iblk, h0, hn]
theorem blk2 (t : Fin cfg0.N) (r : Fin 1024) (n : Fin 32768) (hn : n.val = t.val * 1024 + r.val) (k : Fin 128) :
    iblk m e 2 t (ix2 r k) = V m e main_v23 (ix2 n k) := by
  obtain ⟨⟨h0, h1, h2, h3⟩, _⟩ := idx t
  blk_point [iblk, h2, hn]
theorem blk3 (t : Fin cfg0.N) (r : Fin 1024) (n : Fin 32768) (hn : n.val = t.val * 1024 + r.val) (k : Fin 128) :
    iblk m e 3 t (ix2 r k) = V m e main_v28 (ix2 n k) := by
  obtain ⟨⟨h0, h1, h2, h3⟩, _⟩ := idx t
  blk_point [iblk, h3, hn]
theorem blk1 (t : Fin cfg0.N) (k : Fin 1024) (j : Fin 2560) : iblk m e 1 t (ix2 k j) = V m e main_v30 (ix2 k j) := by
  obtain ⟨⟨h0, h1, h2, h3⟩, _⟩ := idx t
  blk_point [iblk, h1]

theorem x_blk (t : Fin cfg0.N) (r : Fin 1024) (k : Fin 1024) : x (F := Ideal) m e t (ix2 r k) = iblk m e 0 t (ix2 r k) := by
  unfold x
  rw [View.readAt_apply, (hs0_0 t).read_unread]
  refine congrArg (iblk m e 0 t) ?_
  funext a
  match a with
  | ⟨0, _⟩ => exact Fin.ext (show 0 + 1 * r.val = r.val by omega)
  | ⟨1, _⟩ => exact Fin.ext (show 0 + 1 * k.val = k.val by omega)

theorem cosT_blk (t : Fin cfg0.N) (r : Fin 1024) (k : Fin 128) : cosT (F := Ideal) m e t (ix2 r k) = iblk m e 2 t (ix2 r k) := by
  unfold cosT
  rw [View.readAt_apply, (hs0_2 t).read_unread]
  refine congrArg (iblk m e 2 t) ?_
  funext a
  match a with
  | ⟨0, _⟩ => exact Fin.ext (show 0 + 1 * r.val = r.val by omega)
  | ⟨1, _⟩ => exact Fin.ext (show 0 + 1 * k.val = k.val by omega)

theorem sinT_blk (t : Fin cfg0.N) (r : Fin 1024) (k : Fin 128) : sinT (F := Ideal) m e t (ix2 r k) = iblk m e 3 t (ix2 r k) := by
  unfold sinT
  rw [View.readAt_apply, (hs0_3 t).read_unread]
  refine congrArg (iblk m e 3 t) ?_
  funext a
  match a with
  | ⟨0, _⟩ => exact Fin.ext (show 0 + 1 * r.val = r.val by omega)
  | ⟨1, _⟩ => exact Fin.ext (show 0 + 1 * k.val = k.val by omega)

theorem w_blk (t : Fin cfg0.N) (j : Fin 5) (k : Fin 1024) (l : Fin 512) :
    w (F := Ideal) m e t j (ix2 k l) = iblk m e 1 t (ix2 k (⟨512 * j.val + l.val, by omega⟩ : Fin 2560)) := by
  unfold w
  rw [View.readAt_apply, (hs0_1 t).read_unread]
  refine congrArg (iblk m e 1 t) ?_
  funext a
  match a with
  | ⟨0, _⟩ => exact Fin.ext (show 0 + 1 * k.val = k.val by omega)
  | ⟨1, _⟩ => exact Fin.ext (show 512 * j.val + 1 * l.val = 512 * j.val + l.val by omega)

section values
variable (t : Fin cfg0.N) (r : Fin 1024) (b : Fin 8) (s : Fin 4096) (hb : b.val = t.val / 4) (hs : s.val = t.val % 4 * 1024 + r.val)
include hb hs

theorem row : ∃ n : Fin 32768, n.val = t.val * 1024 + r.val ∧ (⟨n.val / 4096, by omega⟩ : Fin 8) = b ∧ (⟨n.val % 4096, by omega⟩ : Fin 4096) = s := by
  have h := bound t
  refine ⟨⟨t.val * 1024 + r.val, by omega⟩, rfl, Fin.ext ?_, Fin.ext ?_⟩
  · show (t.val * 1024 + r.val) / 4096 = b.val
    omega
  · show (t.val * 1024 + r.val) % 4096 = s.val
    omega

theorem x_tile (k : Fin 1024) : x (F := Ideal) m e t (ix2 r k) = argX m e (ix3 b s k) := by
  obtain ⟨n, hn, eb, es⟩ := row t r b s hb hs
  rw [x_blk, blk0 m e t r n hn k, Entry.x_at, eb, es]

theorem cos_tile (l : Fin 128) : cosT (F := Ideal) m e t (ix2 r l) = Ideal.cos ((FloatOps.sitofp .f32 (argP m e (ix2 b s)) : Ideal .f32) * Rope.laneFreq l.val) := by
  obtain ⟨n, hn, eb, es⟩ := row t r b s hb hs
  rw [cosT_blk, blk2 m e t r n hn l, Entry.cos_at]
  unfold Entry.pos
  rw [eb, es]

theorem sin_tile (l : Fin 128) : sinT (F := Ideal) m e t (ix2 r l) = Ideal.sin ((FloatOps.sitofp .f32 (argP m e (ix2 b s)) : Ideal .f32) * Rope.laneFreq l.val) * Rope.laneSign l.val := by
  obtain ⟨n, hn, eb, es⟩ := row t r b s hb hs
  rw [sinT_blk, blk3 m e t r n hn l, Entry.sin_at]
  unfold Entry.pos
  rw [eb, es]

theorem pair_tile (k : Fin 20) (l : Fin 128) : pair (F := Ideal) m e t k (ix2 r l) = Project.lane (argX m e) (argW m e) b s (128 * k.val + l.val) := by
  unfold pair
  rw [chunk_at, ← Project.lane_of (argX m e) (argW m e) b s (128 * k.val + l.val) ⟨128 * k.val + l.val, by omega⟩ rfl]
  refine Finset.sum_congr rfl fun i _ => congrArg₂ (· * ·) (x_tile m e t r b s hb hs i) ?_
  rw [w_blk, blk1, Entry.w_at]
  refine congrArg (argW m e) (congrArg (ix2 i) (Fin.ext ?_))
  show 512 * (k.val / 4) + (128 * (k.val % 4) + l.val) = 128 * k.val + l.val
  omega

theorem key_tile (k : Fin 20) (l : Fin 128) : key (F := Ideal) m e t k (ix2 r l) = Project.turned (argX m e) (argP m e) (argW m e) (128 * k.val) b s l.val := by
  unfold key
  rw [roped_at, pair_tile m e t r b s hb hs, pair_tile m e t r b s hb hs, cos_tile m e t r b s hb hs, sin_tile m e t r b s hb hs]
  refine (Rope.turned_eq (argP m e (ix2 b s)) (fun u => Project.lane (argX m e) (argW m e) b s (128 * k.val + u)) l.val l.isLt).trans ?_
  unfold Project.turned
  simp only [Nat.add_assoc]

end values

theorem pair_holds (t : Fin cfg0.N) (k : Fin 20) : Holds t.val (pair (F := Ideal) m e t k) (Project.plain (argX m e) (argW m e) (128 * k.val)) :=
  fun r l b s hb hs => pair_tile m e t r b s hb hs k l
theorem key_holds (t : Fin cfg0.N) (k : Fin 20) : Holds t.val (key (F := Ideal) m e t k) (Project.turned (argX m e) (argP m e) (argW m e) (128 * k.val)) :=
  fun r l b s hb hs => key_tile m e t r b s hb hs k l
theorem query_holds (t : Fin cfg0.N) (k : Fin 20) : Holds t.val (query (F := Ideal) m e t k) (Project.query (argX m e) (argP m e) (argW m e) (128 * k.val)) :=
  fun r l b s hb hs => (scaled_at _ r l).trans (congrArg (· * Project.scale) (key_tile m e t r b s hb hs k l))
theorem scaled_holds (t : Fin cfg0.N) (k : Fin 20) : Holds t.val (scaled (F := Ideal) (pair (F := Ideal) m e t k)) (fun b s c => Project.plain (argX m e) (argW m e) (128 * k.val) b s c * Project.scale) :=
  fun r l b s hb hs => (scaled_at _ r l).trans (congrArg (· * Project.scale) (pair_tile m e t r b s hb hs k l))

end Cert.InprojIdeal.Final
end
-- ==== Proof.InprojFinal.lean ====
module

public import proofs.«01_k».proof.Proof.InprojTokens

@[expose] public section

set_option maxRecDepth 16384

noncomputable section

/-! The projection's results after the run, array by array. -/
namespace Cert.InprojIdeal.Final

open Cert.InprojIdeal Cert.InprojIdeal.Gen Cert.InprojIdeal.Tile Cert.InprojIdeal.Run Cert.InprojIdeal.Read
open Idealize.ShloMosaic Idealize.ShloMosaic.TcCoe Idealize.SL.Sem

section blocks
variable {t : ℕ} {v : FVec Ideal S1024x128 .f32} {g : Project.Lanes} (hv : Holds t v g)
include hv

theorem whole_spread (r : Fin 1) (n : Fin 1024) (l : Fin 128) (b : Fin 8) (i : Fin 4096) (hb : b.val = t / 4) (hi : i.val = t % 4 * 1024 + n.val) :
    View.canon (whole (F := Ideal) v) (ix4 0 r n l) = Project.spread1 g (ix4 b r i l) := by
  obtain rfl : r = 0 := Subsingleton.elim _ _
  exact (whole_at v n l).trans (hv n l b i hb hi)

theorem fours_spread (s : Fin 9) (L : List (View.Piece (Elt Ideal) S9x1024x128 .f32)) (r : Fin 4) (q : Fin 256) (l : Fin 128) (b : Fin 8) (i : Fin 1024)
    (hb : b.val = t / 4) (hi : i.val = t % 4 * 256 + q.val) :
    View.canon (fours (put s v :: L) s) (ix4 0 r q l) = Project.spread4 g (ix4 b r i l) := by
  refine (fours_at s v L r q l).trans (hv _ l b _ hb ?_)
  show i.val * 4 + r.val = t % 4 * 1024 + (r.val + 4 * q.val)
  omega

theorem sixteens_spread (s : Fin 9) (L : List (View.Piece (Elt Ideal) S9x1024x128 .f32)) (r : Fin 16) (q : Fin 64) (l : Fin 128) (b : Fin 8) (i : Fin 256)
    (hb : b.val = t / 4) (hi : i.val = t % 4 * 64 + q.val) :
    View.canon (sixteens (put s v :: L) s) (ix4 0 r q l) = Project.spread16 g (ix4 b r i l) := by
  refine (sixteens_at s v L r q l).trans (hv _ l b _ hb ?_)
  show i.val * 16 + r.val = t % 4 * 1024 + (r.val + 16 * q.val)
  omega

end blocks

theorem columns3_rows {t : ℕ} (ht : t < 32) (v : Fin 3 → FVec Ideal S1024x128 .f32) (g : Project.Lanes) (f : Fin 3 → Project.Lanes) (hv : ∀ j, Holds t (v j) (f j))
    (hf : ∀ j b s l, f j b s l = g b s (128 * j.val + l)) (r : Fin 1024) (c : Fin 384) (n : Fin 32768) (hn : n.val = t * 1024 + r.val) :
    View.canon (columns3 v) (ix2 r c) = Project.rows 384 g (ix2 n c) := by
  have hc : (⟨128 * (c.val / 128) + c.val % 128, by omega⟩ : Fin 384) = c := Fin.ext (by show 128 * (c.val / 128) + c.val % 128 = c.val; omega)
  have h := columns3_at v r ⟨c.val / 128, by omega⟩ ⟨c.val % 128, Nat.mod_lt _ (by decide)⟩
  dsimp only at h
  rw [hc] at h
  refine h.trans ((hv ⟨c.val / 128, by omega⟩ r ⟨c.val % 128, Nat.mod_lt _ (by decide)⟩ ⟨n.val / 4096, by omega⟩ ⟨n.val % 4096, by omega⟩ ?_ ?_).trans ((hf _ _ _ _).trans ?_))
  · show n.val / 4096 = t / 4
    omega
  · show n.val % 4096 = t % 4 * 1024 + r.val
    omega
  · show g _ _ (128 * (c.val / 128) + c.val % 128) = g _ _ c.val
    rw [show 128 * (c.val / 128) + c.val % 128 = c.val by omega]
    rfl

theorem columns2_rows {t : ℕ} (ht : t < 32) (v : Fin 2 → FVec Ideal S1024x128 .f32) (g : Project.Lanes) (f : Fin 2 → Project.Lanes) (hv : ∀ j, Holds t (v j) (f j))
    (hf : ∀ j b s l, f j b s l = g b s (128 * j.val + l)) (r : Fin 1024) (c : Fin 256) (n : Fin 32768) (hn : n.val = t * 1024 + r.val) :
    View.canon (columns2 v) (ix2 r c) = Project.rows 256 g (ix2 n c) := by
  have hc : (⟨128 * (c.val / 128) + c.val % 128, by omega⟩ : Fin 256) = c := Fin.ext (by show 128 * (c.val / 128) + c.val % 128 = c.val; omega)
  have h := columns2_at v r ⟨c.val / 128, by omega⟩ ⟨c.val % 128, Nat.mod_lt _ (by decide)⟩
  dsimp only at h
  rw [hc] at h
  refine h.trans ((hv ⟨c.val / 128, by omega⟩ r ⟨c.val % 128, Nat.mod_lt _ (by decide)⟩ ⟨n.val / 4096, by omega⟩ ⟨n.val % 4096, by omega⟩ ?_ ?_).trans ((hf _ _ _ _).trans ?_))
  · show n.val / 4096 = t / 4
    omega
  · show n.val % 4096 = t % 4 * 1024 + r.val
    omega
  · show g _ _ (128 * (c.val / 128) + c.val % 128) = g _ _ c.val
    rw [show 128 * (c.val / 128) + c.val % 128 = c.val by omega]
    rfl

variable (m : (ℓ : Loc nD τ sig) → Buf (Elt Ideal) ℓ) (e : Dev nD)

theorem held4 (t : Fin cfg0.N) : (outsAt0 (F := Ideal) m e t).1 = View.canon (whole (query m e t 0)) := by
  unfold outsAt0
  dsimp only
  unfold out0_A_4
  rw [View.read_writes_junk_eq_canon]
  exact congrArg View.canon (stored4 m e t)

theorem place4 (t : Fin cfg0.N) (y0 : Fin 1) (y1 : Fin 1) (y2 : Fin 1024) (y3 : Fin 128) :
    ((View.whole main_v31_0).slice (win0_4.rect t)).emb (ix4 y0 y1 y2 y3)
      = ix4 (⟨t.val / 4, by have := bound t; omega⟩ : Fin 8) y1 (⟨t.val % 4 * 1024 + y2.val, by omega⟩ : Fin 4096) y3 := by
  obtain ⟨_, ⟨h4, h5, h6⟩, ⟨h7, h8, h9⟩, ⟨h10, h11, h12⟩, h13, h14, h15, h16⟩ := idx t
  have ht := bound t
  blk_ext [h4]

theorem final4 : (dats m 0 e).arrAt 4 cfg0.N = Project.spread1 (Project.query (argX m e) (argP m e) (argW m e) 0) := by
  refine (dats m 0 e).arrAt_eq_of_covers 4 _ (by decide +kernel) fun t _ y => ?_
  blk_simp
  rw [after0_4, held4]
  have ht := bound t
  idx_vars y
  rw [place4 t y0 y1 y2 y3]
  obtain rfl : y0 = 0 := Subsingleton.elim _ _
  have hv : Holds t.val (query (F := Ideal) m e t 0) (Project.query (argX m e) (argP m e) (argW m e) 0) := query_holds m e t 0
  exact whole_spread hv y1 y2 y3 _ _ rfl rfl

theorem held5 (t : Fin cfg0.N) : (outsAt0 (F := Ideal) m e t).2.1 = View.canon (fours (slots1 m e t) 1) := by
  unfold outsAt0
  dsimp only
  unfold out0_A_5
  rw [View.read_writes_junk_eq_canon]
  exact congrArg View.canon (stored5 m e t)

theorem place5 (t : Fin cfg0.N) (y0 : Fin 1) (y1 : Fin 4) (y2 : Fin 256) (y3 : Fin 128) :
    ((View.whole main_v31_1).slice (win0_5.rect t)).emb (ix4 y0 y1 y2 y3)
      = ix4 (⟨t.val / 4, by have := bound t; omega⟩ : Fin 8) y1 (⟨t.val % 4 * 256 + y2.val, by omega⟩ : Fin 1024) y3 := by
  obtain ⟨_, ⟨h4, h5, h6⟩, ⟨h7, h8, h9⟩, ⟨h10, h11, h12⟩, h13, h14, h15, h16⟩ := idx t
  have ht := bound t
  blk_ext [h5]

theorem final5 : (dats m 0 e).arrAt 5 cfg0.N = Project.spread4 (Project.query (argX m e) (argP m e) (argW m e) 128) := by
  refine (dats m 0 e).arrAt_eq_of_covers 5 _ (by decide +kernel) fun t _ y => ?_
  blk_simp
  rw [after0_5, held5]
  have ht := bound t
  idx_vars y
  rw [place5 t y0 y1 y2 y3]
  obtain rfl : y0 = 0 := Subsingleton.elim _ _
  rw [show slots1 (F := Ideal) m e t = put 1 (query m e t 1) :: [] from rfl]
  have hv : Holds t.val (query (F := Ideal) m e t 1) (Project.query (argX m e) (argP m e) (argW m e) 128) := query_holds m e t 1
  exact fours_spread hv 1 [] y1 y2 y3 _ _ rfl rfl

theorem held6 (t : Fin cfg0.N) : (outsAt0 (F := Ideal) m e t).2.2.1 = View.canon (sixteens (slots2 m e t) 2) := by
  unfold outsAt0
  dsimp only
  unfold out0_A_6
  rw [View.read_writes_junk_eq_canon]
  exact congrArg View.canon (stored6 m e t)

theorem place6 (t : Fin cfg0.N) (y0 : Fin 1) (y1 : Fin 16) (y2 : Fin 64) (y3 : Fin 128) :
    ((View.whole main_v31_2).slice (win0_6.rect t)).emb (ix4 y0 y1 y2 y3)
      = ix4 (⟨t.val / 4, by have := bound t; omega⟩ : Fin 8) y1 (⟨t.val % 4 * 64 + y2.val, by omega⟩ : Fin 256) y3 := by
  obtain ⟨_, ⟨h4, h5, h6⟩, ⟨h7, h8, h9⟩, ⟨h10, h11, h12⟩, h13, h14, h15, h16⟩ := idx t
  have ht := bound t
  blk_ext [h6]

theorem final6 : (dats m 0 e).arrAt 6 cfg0.N = Project.spread16 (Project.query (argX m e) (argP m e) (argW m e) 256) := by
  refine (dats m 0 e).arrAt_eq_of_covers 6 _ (by decide +kernel) fun t _ y => ?_
  blk_simp
  rw [after0_6, held6]
  have ht := bound t
  idx_vars y
  rw [place6 t y0 y1 y2 y3]
  obtain rfl : y0 = 0 := Subsingleton.elim _ _
  rw [show slots2 (F := Ideal) m e t = put 2 (query m e t 2) :: (slots1 m e t) from rfl]
  have hv : Holds t.val (query (F := Ideal) m e t 2) (Project.query (argX m e) (argP m e) (argW m e) 256) := query_holds m e t 2
  exact sixteens_spread hv 2 (slots1 m e t) y1 y2 y3 _ _ rfl rfl

theorem held7 (t : Fin cfg0.N) : (outsAt0 (F := Ideal) m e t).2.2.2.1 = View.canon (whole (key m e t 3)) := by
  unfold outsAt0
  dsimp only
  unfold out0_A_7
  rw [View.read_writes_junk_eq_canon]
  exact congrArg View.canon (stored7 m e t)

theorem place7 (t : Fin cfg0.N) (y0 : Fin 1) (y1 : Fin 1) (y2 : Fin 1024) (y3 : Fin 128) :
    ((View.whole main_v31_3).slice (win0_7.rect t)).emb (ix4 y0 y1 y2 y3)
      = ix4 (⟨t.val / 4, by have := bound t; omega⟩ : Fin 8) y1 (⟨t.val % 4 * 1024 + y2.val, by omega⟩ : Fin 4096) y3 := by
  obtain ⟨_, ⟨h4, h5, h6⟩, ⟨h7, h8, h9⟩, ⟨h10, h11, h12⟩, h13, h14, h15, h16⟩ := idx t
  have ht := bound t
  blk_ext [h7]

theorem final7 : (dats m 0 e).arrAt 7 cfg0.N = Project.spread1 (Project.turned (argX m e) (argP m e) (argW m e) 384) := by
  refine (dats m 0 e).arrAt_eq_of_covers 7 _ (by decide +kernel) fun t _ y => ?_
  blk_simp
  rw [after0_7, held7]
  have ht := bound t
  idx_vars y
  rw [place7 t y0 y1 y2 y3]
  obtain rfl : y0 = 0 := Subsingleton.elim _ _
  have hv : Holds t.val (key (F := Ideal) m e t 3) (Project.turned (argX m e) (argP m e) (argW m e) 384) := key_holds m e t 3
  exact whole_spread hv y1 y2 y3 _ _ rfl rfl

theorem held8 (t : Fin cfg0.N) : (outsAt0 (F := Ideal) m e t).2.2.2.2.1 = View.canon (fours (slots4 m e t) 4) := by
  unfold outsAt0
  dsimp only
  unfold out0_A_8
  rw [View.read_writes_junk_eq_canon]
  exact congrArg View.canon (stored8 m e t)

theorem place8 (t : Fin cfg0.N) (y0 : Fin 1) (y1 : Fin 4) (y2 : Fin 256) (y3 : Fin 128) :
    ((View.whole main_v31_4).slice (win0_8.rect t)).emb (ix4 y0 y1 y2 y3)
      = ix4 (⟨t.val / 4, by have := bound t; omega⟩ : Fin 8) y1 (⟨t.val % 4 * 256 + y2.val, by omega⟩ : Fin 1024) y3 := by
  obtain ⟨_, ⟨h4, h5, h6⟩, ⟨h7, h8, h9⟩, ⟨h10, h11, h12⟩, h13, h14, h15, h16⟩ := idx t
  have ht := bound t
  blk_ext [h8]

theorem final8 : (dats m 0 e).arrAt 8 cfg0.N = Project.spread4 (Project.turned (argX m e) (argP m e) (argW m e) 512) := by
  refine (dats m 0 e).arrAt_eq_of_covers 8 _ (by decide +kernel) fun t _ y => ?_
  blk_simp
  rw [after0_8, held8]
  have ht := bound t
  idx_vars y
  rw [place8 t y0 y1 y2 y3]
  obtain rfl : y0 = 0 := Subsingleton.elim _ _
  rw [show slots4 (F := Ideal) m e t = put 4 (key m e t 4) :: (slots2 m e t) from rfl]
  have hv : Holds t.val (key (F := Ideal) m e t 4) (Project.turned (argX m e) (argP m e) (argW m e) 512) := key_holds m e t 4
  exact fours_spread hv 4 (slots2 m e t) y1 y2 y3 _ _ rfl rfl

theorem held9 (t : Fin cfg0.N) : (outsAt0 (F := Ideal) m e t).2.2.2.2.2.1 = View.canon (sixteens (slots5 m e t) 5) := by
  unfold outsAt0
  dsimp only
  unfold out0_A_9
  rw [View.read_writes_junk_eq_canon]
  exact congrArg View.canon (stored9 m e t)

theorem place9 (t : Fin cfg0.N) (y0 : Fin 1) (y1 : Fin 16) (y2 : Fin 64) (y3 : Fin 128) :
    ((View.whole main_v31_5).slice (win0_9.rect t)).emb (ix4 y0 y1 y2 y3)
      = ix4 (⟨t.val / 4, by have := bound t; omega⟩ : Fin 8) y1 (⟨t.val % 4 * 64 + y2.val, by omega⟩ : Fin 256) y3 := by
  obtain ⟨_, ⟨h4, h5, h6⟩, ⟨h7, h8, h9⟩, ⟨h10, h11, h12⟩, h13, h14, h15, h16⟩ := idx t
  have ht := bound t
  blk_ext [h9]

theorem final9 : (dats m 0 e).arrAt 9 cfg0.N = Project.spread16 (Project.turned (argX m e) (argP m e) (argW m e) 640) := by
  refine (dats m 0 e).arrAt_eq_of_covers 9 _ (by decide +kernel) fun t _ y => ?_
  blk_simp
  rw [after0_9, held9]
  have ht := bound t
  idx_vars y
  rw [place9 t y0 y1 y2 y3]
  obtain rfl : y0 = 0 := Subsingleton.elim _ _
  rw [show slots5 (F := Ideal) m e t = put 5 (key m e t 5) :: (slots4 m e t) from rfl]
  have hv : Holds t.val (key (F := Ideal) m e t 5) (Project.turned (argX m e) (argP m e) (argW m e) 640) := key_holds m e t 5
  exact sixteens_spread hv 5 (slots4 m e t) y1 y2 y3 _ _ rfl rfl

theorem held10 (t : Fin cfg0.N) : (outsAt0 (F := Ideal) m e t).2.2.2.2.2.2.1 = View.canon (whole (pair m e t 6)) := by
  unfold outsAt0
  dsimp only
  unfold out0_A_10
  rw [View.read_writes_junk_eq_canon]
  exact congrArg View.canon (stored10 m e t)

theorem place10 (t : Fin cfg0.N) (y0 : Fin 1) (y1 : Fin 1) (y2 : Fin 1024) (y3 : Fin 128) :
    ((View.whole main_v31_6).slice (win0_10.rect t)).emb (ix4 y0 y1 y2 y3)
      = ix4 (⟨t.val / 4, by have := bound t; omega⟩ : Fin 8) y1 (⟨t.val % 4 * 1024 + y2.val, by omega⟩ : Fin 4096) y3 := by
  obtain ⟨_, ⟨h4, h5, h6⟩, ⟨h7, h8, h9⟩, ⟨h10, h11, h12⟩, h13, h14, h15, h16⟩ := idx t
  have ht := bound t
  blk_ext [h10]

theorem final10 : (dats m 0 e).arrAt 10 cfg0.N = Project.spread1 (Project.plain (argX m e) (argW m e) 768) := by
  refine (dats m 0 e).arrAt_eq_of_covers 10 _ (by decide +kernel) fun t _ y => ?_
  blk_simp
  rw [after0_10, held10]
  have ht := bound t
  idx_vars y
  rw [place10 t y0 y1 y2 y3]
  obtain rfl : y0 = 0 := Subsingleton.elim _ _
  have hv : Holds t.val (pair (F := Ideal) m e t 6) (Project.plain (argX m e) (argW m e) 768) := pair_holds m e t 6
  exact whole_spread hv y1 y2 y3 _ _ rfl rfl

theorem held11 (t : Fin cfg0.N) : (outsAt0 (F := Ideal) m e t).2.2.2.2.2.2.2.1 = View.canon (fours (slots7 m e t) 7) := by
  unfold outsAt0
  dsimp only
  unfold out0_A_11
  rw [View.read_writes_junk_eq_canon]
  exact congrArg View.canon (stored11 m e t)

theorem place11 (t : Fin cfg0.N) (y0 : Fin 1) (y1 : Fin 4) (y2 : Fin 256) (y3 : Fin 128) :
    ((View.whole main_v31_7).slice (win0_11.rect t)).emb (ix4 y0 y1 y2 y3)
      = ix4 (⟨t.val / 4, by have := bound t; omega⟩ : Fin 8) y1 (⟨t.val % 4 * 256 + y2.val, by omega⟩ : Fin 1024) y3 := by
  obtain ⟨_, ⟨h4, h5, h6⟩, ⟨h7, h8, h9⟩, ⟨h10, h11, h12⟩, h13, h14, h15, h16⟩ := idx t
  have ht := bound t
  blk_ext [h11]

theorem final11 : (dats m 0 e).arrAt 11 cfg0.N = Project.spread4 (Project.plain (argX m e) (argW m e) 896) := by
  refine (dats m 0 e).arrAt_eq_of_covers 11 _ (by decide +kernel) fun t _ y => ?_
  blk_simp
  rw [after0_11, held11]
  have ht := bound t
  idx_vars y
  rw [place11 t y0 y1 y2 y3]
  obtain rfl : y0 = 0 := Subsingleton.elim _ _
  rw [show slots7 (F := Ideal) m e t = put 7 (pair m e t 7) :: (slots5 m e t) from rfl]
  have hv : Holds t.val (pair (F := Ideal) m e t 7) (Project.plain (argX m e) (argW m e) 896) := pair_holds m e t 7
  exact fours_spread hv 7 (slots5 m e t) y1 y2 y3 _ _ rfl rfl

theorem held12 (t : Fin cfg0.N) : (outsAt0 (F := Ideal) m e t).2.2.2.2.2.2.2.2.1 = View.canon (sixteens (slots8 m e t) 8) := by
  unfold outsAt0
  dsimp only
  unfold out0_A_12
  rw [View.read_writes_junk_eq_canon]
  exact congrArg View.canon (stored12 m e t)

theorem place12 (t : Fin cfg0.N) (y0 : Fin 1) (y1 : Fin 16) (y2 : Fin 64) (y3 : Fin 128) :
    ((View.whole main_v31_8).slice (win0_12.rect t)).emb (ix4 y0 y1 y2 y3)
      = ix4 (⟨t.val / 4, by have := bound t; omega⟩ : Fin 8) y1 (⟨t.val % 4 * 64 + y2.val, by omega⟩ : Fin 256) y3 := by
  obtain ⟨_, ⟨h4, h5, h6⟩, ⟨h7, h8, h9⟩, ⟨h10, h11, h12⟩, h13, h14, h15, h16⟩ := idx t
  have ht := bound t
  blk_ext [h12]

theorem final12 : (dats m 0 e).arrAt 12 cfg0.N = Project.spread16 (Project.plain (argX m e) (argW m e) 1024) := by
  refine (dats m 0 e).arrAt_eq_of_covers 12 _ (by decide +kernel) fun t _ y => ?_
  blk_simp
  rw [after0_12, held12]
  have ht := bound t
  idx_vars y
  rw [place12 t y0 y1 y2 y3]
  obtain rfl : y0 = 0 := Subsingleton.elim _ _
  rw [show slots8 (F := Ideal) m e t = put 8 (pair m e t 8) :: (slots7 m e t) from rfl]
  have hv : Holds t.val (pair (F := Ideal) m e t 8) (Project.plain (argX m e) (argW m e) 1024) := pair_holds m e t 8
  exact sixteens_spread hv 8 (slots7 m e t) y1 y2 y3 _ _ rfl rfl

theorem held13 (t : Fin cfg0.N) : (outsAt0 (F := Ideal) m e t).2.2.2.2.2.2.2.2.2.1 = View.canon (columns3 fun j => query m e t ⟨9 + j.val, by omega⟩) := by
  unfold outsAt0
  dsimp only
  unfold out0_A_13
  rw [View.read_writes_junk_eq_canon]
  exact congrArg View.canon (stored13 m e t)

theorem place13 (t : Fin cfg0.N) (y0 : Fin 1024) (y1 : Fin 384) :
    ((View.whole main_v31_9).slice (win0_13.rect t)).emb (ix2 y0 y1) = ix2 (⟨t.val * 1024 + y0.val, by have := bound t; omega⟩ : Fin 32768) y1 := by
  obtain ⟨_, ⟨h4, h5, h6⟩, ⟨h7, h8, h9⟩, ⟨h10, h11, h12⟩, h13, h14, h15, h16⟩ := idx t
  have ht := bound t
  blk_ext [h13]

theorem final13 : (dats m 0 e).arrAt 13 cfg0.N = Project.rows 384 (Project.query (argX m e) (argP m e) (argW m e) 1152) := by
  refine (dats m 0 e).arrAt_eq_of_covers 13 _ (by decide +kernel) fun t _ y => ?_
  blk_simp
  rw [after0_13, held13]
  have ht := bound t
  idx_vars y
  rw [place13 t y0 y1]
  refine columns3_rows ht _ _ _ (fun j => query_holds m e t ⟨9 + j.val, by omega⟩) (fun j b s l => congrArg (· * Project.scale) ?_) y0 y1 _ rfl
  rw [← Project.turned_shift (argX m e) (argP m e) (argW m e) 1152 j.val b s l]
  show Project.turned (argX m e) (argP m e) (argW m e) (128 * (9 + j.val)) b s l = _
  rw [show 128 * (9 + j.val) = 1152 + 128 * j.val by omega]

theorem held14 (t : Fin cfg0.N) : (outsAt0 (F := Ideal) m e t).2.2.2.2.2.2.2.2.2.2.1 = View.canon (columns3 fun j => key m e t ⟨12 + j.val, by omega⟩) := by
  unfold outsAt0
  dsimp only
  unfold out0_A_14
  rw [View.read_writes_junk_eq_canon]
  exact congrArg View.canon (stored14 m e t)

theorem place14 (t : Fin cfg0.N) (y0 : Fin 1024) (y1 : Fin 384) :
    ((View.whole main_v31_10).slice (win0_14.rect t)).emb (ix2 y0 y1) = ix2 (⟨t.val * 1024 + y0.val, by have := bound t; omega⟩ : Fin 32768) y1 := by
  obtain ⟨_, ⟨h4, h5, h6⟩, ⟨h7, h8, h9⟩, ⟨h10, h11, h12⟩, h13, h14, h15, h16⟩ := idx t
  have ht := bound t
  blk_ext [h14]

theorem final14 : (dats m 0 e).arrAt 14 cfg0.N = Project.rows 384 (Project.turned (argX m e) (argP m e) (argW m e) 1536) := by
  refine (dats m 0 e).arrAt_eq_of_covers 14 _ (by decide +kernel) fun t _ y => ?_
  blk_simp
  rw [after0_14, held14]
  have ht := bound t
  idx_vars y
  rw [place14 t y0 y1]
  refine columns3_rows ht _ _ _ (fun j => key_holds m e t ⟨12 + j.val, by omega⟩) (fun j b s l => ?_) y0 y1 _ rfl
  rw [← Project.turned_shift (argX m e) (argP m e) (argW m e) 1536 j.val b s l]
  show Project.turned (argX m e) (argP m e) (argW m e) (128 * (12 + j.val)) b s l = _
  rw [show 128 * (12 + j.val) = 1536 + 128 * j.val by omega]

theorem held15 (t : Fin cfg0.N) : (outsAt0 (F := Ideal) m e t).2.2.2.2.2.2.2.2.2.2.2.1 = View.canon (columns3 fun j => pair m e t ⟨15 + j.val, by omega⟩) := by
  unfold outsAt0
  dsimp only
  unfold out0_A_15
  rw [View.read_writes_junk_eq_canon]
  exact congrArg View.canon (stored15 m e t)

theorem place15 (t : Fin cfg0.N) (y0 : Fin 1024) (y1 : Fin 384) :
    ((View.whole main_v31_11).slice (win0_15.rect t)).emb (ix2 y0 y1) = ix2 (⟨t.val * 1024 + y0.val, by have := bound t; omega⟩ : Fin 32768) y1 := by
  obtain ⟨_, ⟨h4, h5, h6⟩, ⟨h7, h8, h9⟩, ⟨h10, h11, h12⟩, h13, h14, h15, h16⟩ := idx t
  have ht := bound t
  blk_ext [h15]

theorem final15 : (dats m 0 e).arrAt 15 cfg0.N = Project.rows 384 (Project.plain (argX m e) (argW m e) 1920) := by
  refine (dats m 0 e).arrAt_eq_of_covers 15 _ (by decide +kernel) fun t _ y => ?_
  blk_simp
  rw [after0_15, held15]
  have ht := bound t
  idx_vars y
  rw [place15 t y0 y1]
  refine columns3_rows ht _ _ _ (fun j => pair_holds m e t ⟨15 + j.val, by omega⟩) (fun j b s l => ?_) y0 y1 _ rfl
  rw [← Project.plain_shift (argX m e) (argW m e) 1920 j.val b s l]
  show Project.plain (argX m e) (argW m e) (128 * (15 + j.val)) b s l = _
  rw [show 128 * (15 + j.val) = 1920 + 128 * j.val by omega]

theorem held16 (t : Fin cfg0.N) : (outsAt0 (F := Ideal) m e t).2.2.2.2.2.2.2.2.2.2.2.2 = View.canon (columns2 fun j => scaled (pair m e t ⟨18 + j.val, by omega⟩)) := by
  unfold outsAt0
  dsimp only
  unfold out0_A_16
  rw [View.read_writes_junk_eq_canon]
  exact congrArg View.canon (stored16 m e t)

theorem place16 (t : Fin cfg0.N) (y0 : Fin 1024) (y1 : Fin 256) :
    ((View.whole main_v31_12).slice (win0_16.rect t)).emb (ix2 y0 y1) = ix2 (⟨t.val * 1024 + y0.val, by have := bound t; omega⟩ : Fin 32768) y1 := by
  obtain ⟨_, ⟨h4, h5, h6⟩, ⟨h7, h8, h9⟩, ⟨h10, h11, h12⟩, h13, h14, h15, h16⟩ := idx t
  have ht := bound t
  blk_ext [h16]

theorem final16 : (dats m 0 e).arrAt 16 cfg0.N = Project.rows 256 (fun b s c => Project.plain (argX m e) (argW m e) 2304 b s c * Project.scale) := by
  refine (dats m 0 e).arrAt_eq_of_covers 16 _ (by decide +kernel) fun t _ y => ?_
  blk_simp
  rw [after0_16, held16]
  have ht := bound t
  idx_vars y
  rw [place16 t y0 y1]
  refine columns2_rows ht _ _ _ (fun j => scaled_holds m e t ⟨18 + j.val, by omega⟩) (fun j b s l => congrArg (· * Project.scale) ?_) y0 y1 _ rfl
  rw [← Project.plain_shift (argX m e) (argW m e) 2304 j.val b s l]
  show Project.plain (argX m e) (argW m e) (128 * (18 + j.val)) b s l = _
  rw [show 128 * (18 + j.val) = 2304 + 128 * j.val by omega]

end Cert.InprojIdeal.Final
end
-- ==== Proof.InprojResults.lean ====
module

public import proofs.«01_k».proof.Proof.InprojFinal

@[expose] public section

set_option maxRecDepth 16384

noncomputable section

/-! The projection's run with every result named. -/
namespace Cert.InprojIdeal.Results

open Idealize.ShloMosaic Idealize.ShloMosaic.TcCoe Idealize.SL.Sem
open Cert.InprojIdeal Cert.InprojIdeal.Gen Cert.InprojIdeal.Final

set_option maxHeartbeats 2000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31_0) = Project.spread1 (Project.query (argX m c) (argP m c) (argW m c) 0)
      ∧ r.2.mem ((c.tc : Thread nD τ).loc main_v31_1) = Project.spread4 (Project.query (argX m c) (argP m c) (argW m c) 128)
      ∧ r.2.mem ((c.tc : Thread nD τ).loc main_v31_2) = Project.spread16 (Project.query (argX m c) (argP m c) (argW m c) 256)
      ∧ r.2.mem ((c.tc : Thread nD τ).loc main_v31_3) = Project.spread1 (Project.turned (argX m c) (argP m c) (argW m c) 384)
      ∧ r.2.mem ((c.tc : Thread nD τ).loc main_v31_4) = Project.spread4 (Project.turned (argX m c) (argP m c) (argW m c) 512)
      ∧ r.2.mem ((c.tc : Thread nD τ).loc main_v31_5) = Project.spread16 (Project.turned (argX m c) (argP m c) (argW m c) 640)
      ∧ r.2.mem ((c.tc : Thread nD τ).loc main_v31_6) = Project.spread1 (Project.plain (argX m c) (argW m c) 768)
      ∧ r.2.mem ((c.tc : Thread nD τ).loc main_v31_7) = Project.spread4 (Project.plain (argX m c) (argW m c) 896)
      ∧ r.2.mem ((c.tc : Thread nD τ).loc main_v31_8) = Project.spread16 (Project.plain (argX m c) (argW m c) 1024)
      ∧ r.2.mem ((c.tc : Thread nD τ).loc main_v31_9) = Project.rows 384 (Project.query (argX m c) (argP m c) (argW m c) 1152)
      ∧ r.2.mem ((c.tc : Thread nD τ).loc main_v31_10) = Project.rows 384 (Project.turned (argX m c) (argP m c) (argW m c) 1536)
      ∧ r.2.mem ((c.tc : Thread nD τ).loc main_v31_11) = Project.rows 384 (Project.plain (argX m c) (argW m c) 1920)
      ∧ r.2.mem ((c.tc : Thread nD τ).loc main_v31_12) = Project.rows 256 (fun b s j => Project.plain (argX m c) (argW m c) 2304 b s j * Project.scale)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨r0, r1, r2, r3, r4, r5, r6, r7, r8, r9, r10, r11, r12, ha⟩ := h c
    rw [final4 m c] at r0
    rw [final5 m c] at r1
    rw [final6 m c] at r2
    rw [final7 m c] at r3
    rw [final8 m c] at r4
    rw [final9 m c] at r5
    rw [final10 m c] at r6
    rw [final11 m c] at r7
    rw [final12 m c] at r8
    rw [final13 m c] at r9
    rw [final14 m c] at r10
    rw [final15 m c] at r11
    rw [final16 m c] at r12
    exact ⟨r0, r1, r2, r3, r4, r5, r6, r7, r8, r9, r10, r11, r12, ha⟩)
    (Value.run_blocks (F := Ideal) m ρ)

end Cert.InprojIdeal.Results
end
-- ==== Proof.RefInprojRows.lean ====
module

public import proofs.«01_k».proof.Proof.Project
public import proofs.«01_k».proof.Proof.Gen.RefInprojIdeal.Run

@[expose] public section

set_option maxRecDepth 16384

noncomputable section

/-! The reference's projections, read a token and a lane at a time. -/
namespace Cert.RefInprojIdeal.Rows

open Idealize.ShloMosaic Idealize.ShloMosaic.TcCoe Idealize.SL.Sem
open Cert.RefInprojIdeal Cert.RefInprojIdeal.Gen

section stages
variable {F : FTy → Type} [FloatOps F]

/-- Every lane of every token. -/
def lanes (x : FVec F S8x4096x1024 .f32) (w : FVec F S1024x2560 .f32) : FVec F S8x4096x2560 .f32 :=
  Host.dotGeneral dot_S8x4096x1024_S1024x2560_S8x4096x2560_2_0_01_1_n_n none x w

def angles (p : IVec S8x4096 32) : FVec F S8x4096x8 .f32 :=
  mulf (broadcastInDim S8x4096x8 ![0, 1, 2] bcast_S8x4096x1_S8x4096x8_0_1_2 (broadcastInDim S8x4096x1 ![0, 1] bcast_S8x4096_S8x4096x1_0_1 (sitofp .f32 p)))
    (broadcastInDim S8x4096x8 ![0, 1, 2] bcast_S1x1x8_S8x4096x8_0_1_2 (broadcastInDim S1x1x8 ![2] bcast_S8_S1x1x8_2
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

def cosines (p : IVec S8x4096 32) : FVec F S8x4096x6x8 .f32 :=
  broadcastInDim S8x4096x6x8 ![0, 1, 2, 3] bcast_S8x4096x1x8_S8x4096x6x8_0_1_2_3 (broadcastInDim S8x4096x1x8 ![0, 1, 3] bcast_S8x4096x8_S8x4096x1x8_0_1_3 (Host.cos (angles p)))
def sines (p : IVec S8x4096 32) : FVec F S8x4096x6x8 .f32 :=
  broadcastInDim S8x4096x6x8 ![0, 1, 2, 3] bcast_S8x4096x1x8_S8x4096x6x8_0_1_2_3 (broadcastInDim S8x4096x1x8 ![0, 1, 3] bcast_S8x4096x8_S8x4096x1x8_0_1_3 (Host.sin (angles p)))

def first (t : FVec F S8x4096x6x64 .f32) : FVec F S8x4096x6x8 .f32 := extractStridedSlice S8x4096x6x8 ![0, 0, 0, 0] t slices_S8x4096x6x64_S8x4096x6x8_0_0_0_0
def second (t : FVec F S8x4096x6x64 .f32) : FVec F S8x4096x6x8 .f32 := extractStridedSlice S8x4096x6x8 ![0, 0, 0, 8] t slices_S8x4096x6x64_S8x4096x6x8_0_0_0_8

def pairs (p : IVec S8x4096 32) (t : FVec F S8x4096x6x64 .f32) : FVec F S8x4096x6x16 .f32 :=
  concatenate S8x4096x6x16 3 [⟨S8x4096x6x8, subf (mulf (first t) (cosines p)) (mulf (second t) (sines p))⟩,
    ⟨S8x4096x6x8, addf (mulf (second t) (cosines p)) (mulf (first t) (sines p))⟩] concatenates_S8x4096x6x8_S8x4096x6x8_S8x4096x6x16_d3

/-- Six heads turned to their positions. -/
def turned (p : IVec S8x4096 32) (t : FVec F S8x4096x6x64 .f32) : FVec F S8x4096x6x64 .f32 :=
  concatenate S8x4096x6x64 3 [⟨S8x4096x6x16, pairs p t⟩,
    ⟨S8x4096x6x48, extractStridedSlice S8x4096x6x48 ![0, 0, 0, 16] t slices_S8x4096x6x64_S8x4096x6x48_0_0_0_16⟩] concatenates_S8x4096x6x16_S8x4096x6x48_S8x4096x6x64_d3

def scaled (t : FVec F S8x4096x6x64 .f32) : FVec F S8x4096x6x64 .f32 :=
  mulf t (broadcastInDim S8x4096x6x64 ![] bcast_S_S8x4096x6x64 (constant S_ .f32 0x3E000000#32))

/-- Two heads residue by residue. -/
def laid1 (t : FVec F S8x4096x6x64 .f32) : FVec F S8x1x4096x128 .bf16 :=
  truncf .bf16 (transpose S8x1x4096x128 [0, 2, 1, 3] (shapeCast _ (extractStridedSlice S8x4096x2x64 ![0, 0, 0, 0] t slices_S8x4096x6x64_S8x4096x2x64_0_0_0_0) shapeCasts_S8x4096x2x64_S8x4096x1x128) transposes_S8x4096x1x128_S8x1x4096x128_0_2_1_3) bitsLt_bf16_f32
def laid4 (t : FVec F S8x4096x6x64 .f32) : FVec F S8x4x1024x128 .bf16 :=
  truncf .bf16 (transpose S8x4x1024x128 [0, 2, 1, 3] (shapeCast _ (extractStridedSlice S8x4096x2x64 ![0, 0, 2, 0] t slices_S8x4096x6x64_S8x4096x2x64_0_0_2_0) shapeCasts_S8x4096x2x64_S8x1024x4x128) transposes_S8x1024x4x128_S8x4x1024x128_0_2_1_3) bitsLt_bf16_f32
def laid16 (t : FVec F S8x4096x6x64 .f32) : FVec F S8x16x256x128 .bf16 :=
  truncf .bf16 (transpose S8x16x256x128 [0, 2, 1, 3] (shapeCast _ (extractStridedSlice S8x4096x2x64 ![0, 0, 4, 0] t slices_S8x4096x6x64_S8x4096x2x64_0_0_4_0) shapeCasts_S8x4096x2x64_S8x256x16x128) transposes_S8x256x16x128_S8x16x256x128_0_2_1_3) bitsLt_bf16_f32
def flat (t : FVec F S8x4096x6x64 .f32) : FVec F S32768x384 .bf16 := truncf .bf16 (shapeCast _ t shapeCasts_S8x4096x6x64_S32768x384) bitsLt_bf16_f32

/-- The six sections of the lanes. -/
def sec0 (t : FVec F S8x4096x2560 .f32) : FVec F S8x4096x6x64 .f32 := shapeCast _ (extractStridedSlice S8x4096x384 ![0, 0, 0] t slices_S8x4096x2560_S8x4096x384_0_0_0) shapeCasts_S8x4096x384_S8x4096x6x64
def sec1 (t : FVec F S8x4096x2560 .f32) : FVec F S8x4096x6x64 .f32 := shapeCast _ (extractStridedSlice S8x4096x384 ![0, 0, 384] t slices_S8x4096x2560_S8x4096x384_0_0_384) shapeCasts_S8x4096x384_S8x4096x6x64
def sec2 (t : FVec F S8x4096x2560 .f32) : FVec F S8x4096x6x64 .f32 := shapeCast _ (extractStridedSlice S8x4096x384 ![0, 0, 768] t slices_S8x4096x2560_S8x4096x384_0_0_768) shapeCasts_S8x4096x384_S8x4096x6x64
def sec3 (t : FVec F S8x4096x2560 .f32) : FVec F S8x4096x6x64 .f32 := shapeCast _ (extractStridedSlice S8x4096x384 ![0, 0, 1152] t slices_S8x4096x2560_S8x4096x384_0_0_1152) shapeCasts_S8x4096x384_S8x4096x6x64
def sec4 (t : FVec F S8x4096x2560 .f32) : FVec F S8x4096x6x64 .f32 := shapeCast _ (extractStridedSlice S8x4096x384 ![0, 0, 1536] t slices_S8x4096x2560_S8x4096x384_0_0_1536) shapeCasts_S8x4096x384_S8x4096x6x64
def sec5 (t : FVec F S8x4096x2560 .f32) : FVec F S8x4096x6x64 .f32 := shapeCast _ (extractStridedSlice S8x4096x384 ![0, 0, 1920] t slices_S8x4096x2560_S8x4096x384_0_0_1920) shapeCasts_S8x4096x384_S8x4096x6x64
def last (t : FVec F S8x4096x2560 .f32) : FVec F S32768x256 .bf16 :=
  truncf .bf16 (shapeCast _ (mulf (shapeCast _ (extractStridedSlice S8x4096x256 ![0, 0, 2304] t slices_S8x4096x2560_S8x4096x256_0_0_2304) shapeCasts_S8x4096x256_S8x4096x4x64)
    (broadcastInDim S8x4096x4x64 ![] bcast_S_S8x4096x4x64 (constant S_ .f32 0x3E000000#32))) shapeCasts_S8x4096x4x64_S32768x256) bitsLt_bf16_f32

/-- Every result from the lanes and the positions. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (let p : IVec S8x4096 32 := m ((c.tc : Thread nD τ).loc main_arg1)
       let t : FVec F S8x4096x2560 .f32 := lanes (m ((c.tc : Thread nD τ).loc main_arg0)) (m ((c.tc : Thread nD τ).loc main_arg2))
       r.2.mem ((c.tc : Thread nD τ).loc main_v146) = laid1 (scaled (turned p (sec0 t)))
      ∧ r.2.mem ((c.tc : Thread nD τ).loc main_v150) = laid4 (scaled (turned p (sec0 t)))
      ∧ r.2.mem ((c.tc : Thread nD τ).loc main_v154) = laid16 (scaled (turned p (sec0 t)))
      ∧ r.2.mem ((c.tc : Thread nD τ).loc main_v158) = laid1 (turned p (sec1 t))
      ∧ r.2.mem ((c.tc : Thread nD τ).loc main_v162) = laid4 (turned p (sec1 t))
      ∧ r.2.mem ((c.tc : Thread nD τ).loc main_v166) = laid16 (turned p (sec1 t))
      ∧ r.2.mem ((c.tc : Thread nD τ).loc main_v170) = laid1 (sec2 t)
      ∧ r.2.mem ((c.tc : Thread nD τ).loc main_v174) = laid4 (sec2 t)
      ∧ r.2.mem ((c.tc : Thread nD τ).loc main_v178) = laid16 (sec2 t)
      ∧ r.2.mem ((c.tc : Thread nD τ).loc main_v182) = flat (scaled (turned p (sec3 t)))
      ∧ r.2.mem ((c.tc : Thread nD τ).loc main_v184) = flat (turned p (sec4 t))
      ∧ r.2.mem ((c.tc : Thread nD τ).loc main_v186) = flat (sec5 t)
      ∧ r.2.mem ((c.tc : Thread nD τ).loc main_v188) = last t)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9, h10, h11, h12, ha⟩ := h c
    exact ⟨⟨h0.trans rfl, h1.trans rfl, h2.trans rfl, h3.trans rfl, h4.trans rfl, h5.trans rfl, h6.trans rfl, h7.trans rfl, h8.trans rfl, h9.trans rfl, h10.trans rfl, h11.trans rfl, h12.trans rfl⟩, ha⟩)
    (Value.run m ρ)

end stages

theorem lanes_at (x : FVec Ideal S8x4096x1024 .f32) (w : FVec Ideal S1024x2560 .f32) (b : Fin 8) (s : Fin 4096) (j : Fin 2560) :
    lanes (F := Ideal) x w (ix3 b s j) = Project.lane x w b s j.val := by
  rw [← Project.lane_of x w b s j.val j rfl]
  pointwise [lanes]

theorem angles_at (p : IVec S8x4096 32) (b : Fin 8) (s : Fin 4096) (j : Fin 8) :
    angles (F := Ideal) p (ix3 b s j) = Rope.angle (p (ix2 b s)) j.val := by
  pointwise [angles, iotaInDim]
  rfl

theorem cosines_at (p : IVec S8x4096 32) (b : Fin 8) (s : Fin 4096) (h : Fin 6) (j : Fin 8) :
    cosines (F := Ideal) p (ix4 b s h j) = Ideal.cos (Rope.angle (p (ix2 b s)) j.val) := by
  rw [← angles_at]
  pointwise [cosines]

theorem sines_at (p : IVec S8x4096 32) (b : Fin 8) (s : Fin 4096) (h : Fin 6) (j : Fin 8) :
    sines (F := Ideal) p (ix4 b s h j) = Ideal.sin (Rope.angle (p (ix2 b s)) j.val) := by
  rw [← angles_at]
  pointwise [sines]

section at_
variable (p : IVec S8x4096 32) (t : FVec Ideal S8x4096x6x64 .f32) (b : Fin 8) (s : Fin 4096) (h : Fin 6)

/-- The lanes of a head, by number. -/
def head (u : ℕ) : EReal := t (ix4 b s h (⟨u % 64, Nat.mod_lt _ (by decide)⟩ : Fin 64))

theorem head_of (u : Fin 64) : t (ix4 b s h u) = head t b s h u.val := by
  unfold head
  have e : (⟨u.val % 64, Nat.mod_lt _ (by decide)⟩ : Fin 64) = u := Fin.ext (Nat.mod_eq_of_lt u.isLt)
  rw [e]

theorem first_at (j : Fin 8) : first (F := Ideal) t (ix4 b s h j) = head t b s h j.val := by
  rw [← head_of t b s h ⟨j.val, by omega⟩]
  pointwise [first]

theorem second_at (j : Fin 8) : second (F := Ideal) t (ix4 b s h j) = head t b s h (j.val + 8) := by
  rw [← head_of t b s h ⟨j.val + 8, by omega⟩]
  pointwise [second]
  exact congrArg t (congrArg (ix4 b s h) (Fin.ext (Nat.add_comm 8 j.val)))

theorem pairs_low (u : Fin 16) (hu : u.val < 8) : pairs (F := Ideal) p t (ix4 b s h u)
    = head t b s h u.val * Ideal.cos (Rope.angle (p (ix2 b s)) u.val) - head t b s h (u.val + 8) * Ideal.sin (Rope.angle (p (ix2 b s)) u.val) := by
  have e1 := cosines_at p b s h ⟨u.val, hu⟩
  have e2 := sines_at p b s h ⟨u.val, hu⟩
  have e3 := first_at t b s h ⟨u.val, hu⟩
  have e4 := second_at t b s h ⟨u.val, hu⟩
  dsimp only at e1 e2 e3 e4
  rw [← e1, ← e2, ← e3, ← e4]
  pointwise [pairs, hu]

theorem pairs_high (u : Fin 16) (hu : ¬u.val < 8) : pairs (F := Ideal) p t (ix4 b s h u)
    = head t b s h u.val * Ideal.cos (Rope.angle (p (ix2 b s)) (u.val - 8)) + head t b s h (u.val - 8) * Ideal.sin (Rope.angle (p (ix2 b s)) (u.val - 8)) := by
  have e1 := cosines_at p b s h ⟨u.val - 8, by omega⟩
  have e2 := sines_at p b s h ⟨u.val - 8, by omega⟩
  have e3 := first_at t b s h ⟨u.val - 8, by omega⟩
  have e4 := second_at t b s h ⟨u.val - 8, by omega⟩
  have e : u.val - 8 + 8 = u.val := by omega
  dsimp only at e1 e2 e3 e4
  rw [e] at e4
  rw [← e1, ← e2, ← e3, ← e4]
  pointwise [pairs, hu]

theorem turned_at (u : Fin 64) : turned (F := Ideal) p t (ix4 b s h u) = Rope.turn (p (ix2 b s)) (head t b s h) u.val := by
  unfold Rope.turn
  by_cases h16 : u.val < 16
  · have e : turned (F := Ideal) p t (ix4 b s h u) = pairs (F := Ideal) p t (ix4 b s h (⟨u.val, h16⟩ : Fin 16)) := by pointwise [turned, h16]
    by_cases h8 : u.val < 8
    · rw [if_pos h8, e, pairs_low p t b s h ⟨u.val, h16⟩ h8]
    · rw [if_neg h8, if_pos h16, e, pairs_high p t b s h ⟨u.val, h16⟩ h8]
  · rw [if_neg (by omega), if_neg h16, ← head_of t b s h u]
    pointwise [turned, h16]
    refine congrArg t (congrArg (ix4 b s h) (Fin.ext ?_))
    show 16 + (u.val - 16) = u.val
    omega

theorem scaled_at (u : Fin 64) : scaled (F := Ideal) t (ix4 b s h u) = t (ix4 b s h u) * Project.scale := by
  pointwise [scaled]
  rfl

end at_

/-- Six heads that hold lanes `g` of every token. -/
def Is (t : FVec Ideal S8x4096x6x64 .f32) (g : Project.Lanes) : Prop :=
  ∀ (b : Fin 8) (s : Fin 4096) (h : Fin 6) (u : Fin 64), t (ix4 b s h u) = g b s (64 * h.val + u.val)

section sections
variable (x : FVec Ideal S8x4096x1024 .f32) (w : FVec Ideal S1024x2560 .f32)

theorem sec0_is : Is (sec0 (F := Ideal) (lanes (F := Ideal) x w)) (Project.plain x w 0) := fun b s h u => by
  have e : sec0 (F := Ideal) (lanes (F := Ideal) x w) (ix4 b s h u) = lanes (F := Ideal) x w (ix3 b s ⟨0 + (64 * h.val + u.val), by omega⟩) := by
    pointwise [sec0]
    refine congrArg (lanes (F := Ideal) x w) (congrArg (ix3 b s) (Fin.ext ?_))
    dsimp only
    omega
  exact e.trans (lanes_at x w b s _)

theorem sec1_is : Is (sec1 (F := Ideal) (lanes (F := Ideal) x w)) (Project.plain x w 384) := fun b s h u => by
  have e : sec1 (F := Ideal) (lanes (F := Ideal) x w) (ix4 b s h u) = lanes (F := Ideal) x w (ix3 b s ⟨384 + (64 * h.val + u.val), by omega⟩) := by
    pointwise [sec1]
    refine congrArg (lanes (F := Ideal) x w) (congrArg (ix3 b s) (Fin.ext ?_))
    dsimp only
    omega
  exact e.trans (lanes_at x w b s _)

theorem sec2_is : Is (sec2 (F := Ideal) (lanes (F := Ideal) x w)) (Project.plain x w 768) := fun b s h u => by
  have e : sec2 (F := Ideal) (lanes (F := Ideal) x w) (ix4 b s h u) = lanes (F := Ideal) x w (ix3 b s ⟨768 + (64 * h.val + u.val), by omega⟩) := by
    pointwise [sec2]
    refine congrArg (lanes (F := Ideal) x w) (congrArg (ix3 b s) (Fin.ext ?_))
    dsimp only
    omega
  exact e.trans (lanes_at x w b s _)

theorem sec3_is : Is (sec3 (F := Ideal) (lanes (F := Ideal) x w)) (Project.plain x w 1152) := fun b s h u => by
  have e : sec3 (F := Ideal) (lanes (F := Ideal) x w) (ix4 b s h u) = lanes (F := Ideal) x w (ix3 b s ⟨1152 + (64 * h.val + u.val), by omega⟩) := by
    pointwise [sec3]
    refine congrArg (lanes (F := Ideal) x w) (congrArg (ix3 b s) (Fin.ext ?_))
    dsimp only
    omega
  exact e.trans (lanes_at x w b s _)

theorem sec4_is : Is (sec4 (F := Ideal) (lanes (F := Ideal) x w)) (Project.plain x w 1536) := fun b s h u => by
  have e : sec4 (F := Ideal) (lanes (F := Ideal) x w) (ix4 b s h u) = lanes (F := Ideal) x w (ix3 b s ⟨1536 + (64 * h.val + u.val), by omega⟩) := by
    pointwise [sec4]
    refine congrArg (lanes (F := Ideal) x w) (congrArg (ix3 b s) (Fin.ext ?_))
    dsimp only
    omega
  exact e.trans (lanes_at x w b s _)

theorem sec5_is : Is (sec5 (F := Ideal) (lanes (F := Ideal) x w)) (Project.plain x w 1920) := fun b s h u => by
  have e : sec5 (F := Ideal) (lanes (F := Ideal) x w) (ix4 b s h u) = lanes (F := Ideal) x w (ix3 b s ⟨1920 + (64 * h.val + u.val), by omega⟩) := by
    pointwise [sec5]
    refine congrArg (lanes (F := Ideal) x w) (congrArg (ix3 b s) (Fin.ext ?_))
    dsimp only
    omega
  exact e.trans (lanes_at x w b s _)

end sections

theorem turn_congr (p : BitVec 32) (f g : ℕ → EReal) (h : ∀ u < 64, f u = g u) (u : ℕ) (hu : u < 64) : Rope.turn p f u = Rope.turn p g u := by
  unfold Rope.turn
  by_cases h8 : u < 8
  · rw [if_pos h8, if_pos h8, h u hu, h (u + 8) (by omega)]
  · rw [if_neg h8, if_neg h8]
    by_cases h16 : u < 16
    · rw [if_pos h16, if_pos h16, h u hu, h (u - 8) (by omega)]
    · rw [if_neg h16, if_neg h16, h u hu]

theorem turned_is (x : Project.Tokens) (p : IVec S8x4096 32) (w : Project.Weights) (o : ℕ) (t : FVec Ideal S8x4096x6x64 .f32) (ht : Is t (Project.plain x w o)) :
    Is (turned (F := Ideal) p t) (Project.turned x p w o) := fun b s h u => by
  rw [turned_at]
  unfold Project.turned
  have e1 : (64 * h.val + u.val) / 64 * 64 = 64 * h.val := by omega
  have e2 : (64 * h.val + u.val) % 64 = u.val := by omega
  rw [e1, e2]
  refine turn_congr _ _ _ (fun v hv => ?_) _ u.isLt
  refine (head_of t b s h ⟨v, hv⟩).symm.trans ((ht b s h ⟨v, hv⟩).trans ?_)
  show Project.lane x w b s (o + (64 * h.val + v)) = Project.lane x w b s (o + 64 * h.val + v)
  rw [Nat.add_assoc]

theorem scaled_is (g : Project.Lanes) (t : FVec Ideal S8x4096x6x64 .f32) (ht : Is t g) : Is (scaled (F := Ideal) t) (fun b s c => g b s c * Project.scale) :=
  fun b s h u => (scaled_at t b s h u).trans (congrArg (· * Project.scale) (ht b s h u))

section layouts
variable (g : Project.Lanes) (t : FVec Ideal S8x4096x6x64 .f32) (ht : Is t g)
include ht

theorem laid1_at (b : Fin 8) (r : Fin 1) (i : Fin 4096) (l : Fin 128) :
    laid1 (F := Ideal) t (ix4 b r i l) = Project.spread1 (fun b s c => g b s (0 + c)) (ix4 b r i l) := by
  have e : laid1 (F := Ideal) t (ix4 b r i l) = t (ix4 b (⟨i.val, i.isLt⟩ : Fin 4096) (⟨0 + l.val / 64, by omega⟩ : Fin 6) (⟨l.val % 64, Nat.mod_lt _ (by decide)⟩ : Fin 64)) := by
    pointwise [laid1]
  refine e.trans ((ht _ _ _ _).trans ?_)
  show g b (⟨i.val, i.isLt⟩ : Fin 4096) (64 * (0 + l.val / 64) + l.val % 64) = g b (⟨i.val, i.isLt⟩ : Fin 4096) (0 + l.val)
  rw [show 64 * (0 + l.val / 64) + l.val % 64 = 0 + l.val by omega]

theorem laid1_of : laid1 (F := Ideal) t = Project.spread1 (fun b s c => g b s (0 + c)) :=
  funext fun y => (congrArg _ (ix4_eta y).symm).trans ((laid1_at g t ht (y 0) (y 1) (y 2) (y 3)).trans (congrArg _ (ix4_eta y)))

theorem laid4_at (b : Fin 8) (r : Fin 4) (i : Fin 1024) (l : Fin 128) :
    laid4 (F := Ideal) t (ix4 b r i l) = Project.spread4 (fun b s c => g b s (128 + c)) (ix4 b r i l) := by
  have e : laid4 (F := Ideal) t (ix4 b r i l) = t (ix4 b (⟨i.val * 4 + r.val, by omega⟩ : Fin 4096) (⟨2 + l.val / 64, by omega⟩ : Fin 6) (⟨l.val % 64, Nat.mod_lt _ (by decide)⟩ : Fin 64)) := by
    pointwise [laid4]
  refine e.trans ((ht _ _ _ _).trans ?_)
  show g b (⟨i.val * 4 + r.val, by omega⟩ : Fin 4096) (64 * (2 + l.val / 64) + l.val % 64) = g b (⟨i.val * 4 + r.val, by omega⟩ : Fin 4096) (128 + l.val)
  rw [show 64 * (2 + l.val / 64) + l.val % 64 = 128 + l.val by omega]

theorem laid4_of : laid4 (F := Ideal) t = Project.spread4 (fun b s c => g b s (128 + c)) :=
  funext fun y => (congrArg _ (ix4_eta y).symm).trans ((laid4_at g t ht (y 0) (y 1) (y 2) (y 3)).trans (congrArg _ (ix4_eta y)))

theorem laid16_at (b : Fin 8) (r : Fin 16) (i : Fin 256) (l : Fin 128) :
    laid16 (F := Ideal) t (ix4 b r i l) = Project.spread16 (fun b s c => g b s (256 + c)) (ix4 b r i l) := by
  have e : laid16 (F := Ideal) t (ix4 b r i l) = t (ix4 b (⟨i.val * 16 + r.val, by omega⟩ : Fin 4096) (⟨4 + l.val / 64, by omega⟩ : Fin 6) (⟨l.val % 64, Nat.mod_lt _ (by decide)⟩ : Fin 64)) := by
    pointwise [laid16]
  refine e.trans ((ht _ _ _ _).trans ?_)
  show g b (⟨i.val * 16 + r.val, by omega⟩ : Fin 4096) (64 * (4 + l.val / 64) + l.val % 64) = g b (⟨i.val * 16 + r.val, by omega⟩ : Fin 4096) (256 + l.val)
  rw [show 64 * (4 + l.val / 64) + l.val % 64 = 256 + l.val by omega]

theorem laid16_of : laid16 (F := Ideal) t = Project.spread16 (fun b s c => g b s (256 + c)) :=
  funext fun y => (congrArg _ (ix4_eta y).symm).trans ((laid16_at g t ht (y 0) (y 1) (y 2) (y 3)).trans (congrArg _ (ix4_eta y)))

theorem flat_at (n : Fin 32768) (c : Fin 384) : flat (F := Ideal) t (ix2 n c) = Project.rows 384 g (ix2 n c) := by
  have e : flat (F := Ideal) t (ix2 n c) = t (ix4 (⟨n.val / 4096, by omega⟩ : Fin 8) (⟨n.val % 4096, by omega⟩ : Fin 4096) (⟨c.val / 64, by omega⟩ : Fin 6) (⟨c.val % 64, Nat.mod_lt _ (by decide)⟩ : Fin 64)) := by
    pointwise [flat]
  refine e.trans ((ht _ _ _ _).trans ?_)
  show g _ _ (64 * (c.val / 64) + c.val % 64) = g _ _ c.val
  rw [show 64 * (c.val / 64) + c.val % 64 = c.val by omega]
  rfl

theorem flat_of : flat (F := Ideal) t = Project.rows 384 g :=
  funext fun y => (congrArg _ (ix2_eta y).symm).trans ((flat_at g t ht (y 0) (y 1)).trans (congrArg _ (ix2_eta y)))

end layouts

theorem last_at (x : FVec Ideal S8x4096x1024 .f32) (w : FVec Ideal S1024x2560 .f32) (n : Fin 32768) (c : Fin 256) :
    last (F := Ideal) (lanes (F := Ideal) x w) (ix2 n c) = Project.rows 256 (fun b s c => Project.plain x w 2304 b s c * Project.scale) (ix2 n c) := by
  have e : last (F := Ideal) (lanes (F := Ideal) x w) (ix2 n c) = lanes (F := Ideal) x w (ix3 (⟨n.val / 4096, by omega⟩ : Fin 8) (⟨n.val % 4096, by omega⟩ : Fin 4096) (⟨2304 + c.val, by omega⟩ : Fin 2560)) * Project.scale := by
    pointwise [last]
    rfl
  rw [e, lanes_at]
  rfl

theorem last_of (x : FVec Ideal S8x4096x1024 .f32) (w : FVec Ideal S1024x2560 .f32) :
    last (F := Ideal) (lanes (F := Ideal) x w) = Project.rows 256 (fun b s c => Project.plain x w 2304 b s c * Project.scale) :=
  funext fun y => (congrArg _ (ix2_eta y).symm).trans ((last_at x w (y 0) (y 1)).trans (congrArg _ (ix2_eta y)))

end Cert.RefInprojIdeal.Rows
end
-- ==== Proof.RefInprojResults.lean ====
module

public import proofs.«01_k».proof.Proof.RefInprojRows

@[expose] public section

set_option maxRecDepth 16384

noncomputable section

/-! The reference's results as lanes of the projection. -/
namespace Cert.RefInprojIdeal.Results

open Idealize.ShloMosaic Idealize.ShloMosaic.TcCoe Idealize.SL.Sem
open Cert.RefInprojIdeal Cert.RefInprojIdeal.Gen Cert.RefInprojIdeal.Rows

variable (x : FVec Ideal S8x4096x1024 .f32) (p : IVec S8x4096 32) (w : FVec Ideal S1024x2560 .f32)

theorem plain_from (o j : ℕ) : (fun (b : Fin 8) (s : Fin 4096) c => Project.plain x w o b s (128 * j + c)) = Project.plain x w (o + 128 * j) := by
  funext b s c
  exact (Project.plain_shift x w o j b s c).symm
theorem turned_from (o j : ℕ) : (fun (b : Fin 8) (s : Fin 4096) c => Project.turned x p w o b s (128 * j + c)) = Project.turned x p w (o + 128 * j) := by
  funext b s c
  exact (Project.turned_shift x p w o j b s c).symm
theorem query_from (o j : ℕ) : (fun (b : Fin 8) (s : Fin 4096) c => Project.query x p w o b s (128 * j + c)) = Project.query x p w (o + 128 * j) := by
  funext b s c
  exact congrArg (· * Project.scale) (Project.turned_shift x p w o j b s c).symm

theorem result0 : laid1 (F := Ideal) (scaled (F := Ideal) (turned (F := Ideal) p (sec0 (F := Ideal) (lanes (F := Ideal) x w)))) = Project.spread1 (Project.query x p w 0) :=
  (laid1_of (Project.query x p w 0) _ (scaled_is _ _ (turned_is x p w 0 _ (sec0_is x w)))).trans (congrArg Project.spread1 (query_from x p w 0 0))
theorem result1 : laid4 (F := Ideal) (scaled (F := Ideal) (turned (F := Ideal) p (sec0 (F := Ideal) (lanes (F := Ideal) x w)))) = Project.spread4 (Project.query x p w 128) :=
  (laid4_of (Project.query x p w 0) _ (scaled_is _ _ (turned_is x p w 0 _ (sec0_is x w)))).trans (congrArg Project.spread4 (query_from x p w 0 1))
theorem result2 : laid16 (F := Ideal) (scaled (F := Ideal) (turned (F := Ideal) p (sec0 (F := Ideal) (lanes (F := Ideal) x w)))) = Project.spread16 (Project.query x p w 256) :=
  (laid16_of (Project.query x p w 0) _ (scaled_is _ _ (turned_is x p w 0 _ (sec0_is x w)))).trans (congrArg Project.spread16 (query_from x p w 0 2))
theorem result3 : laid1 (F := Ideal) (turned (F := Ideal) p (sec1 (F := Ideal) (lanes (F := Ideal) x w))) = Project.spread1 (Project.turned x p w 384) :=
  (laid1_of (Project.turned x p w 384) _ (turned_is x p w 384 _ (sec1_is x w))).trans (congrArg Project.spread1 (turned_from x p w 384 0))
theorem result4 : laid4 (F := Ideal) (turned (F := Ideal) p (sec1 (F := Ideal) (lanes (F := Ideal) x w))) = Project.spread4 (Project.turned x p w 512) :=
  (laid4_of (Project.turned x p w 384) _ (turned_is x p w 384 _ (sec1_is x w))).trans (congrArg Project.spread4 (turned_from x p w 384 1))
theorem result5 : laid16 (F := Ideal) (turned (F := Ideal) p (sec1 (F := Ideal) (lanes (F := Ideal) x w))) = Project.spread16 (Project.turned x p w 640) :=
  (laid16_of (Project.turned x p w 384) _ (turned_is x p w 384 _ (sec1_is x w))).trans (congrArg Project.spread16 (turned_from x p w 384 2))
theorem result6 : laid1 (F := Ideal) (sec2 (F := Ideal) (lanes (F := Ideal) x w)) = Project.spread1 (Project.plain x w 768) :=
  (laid1_of (Project.plain x w 768) _ (sec2_is x w)).trans (congrArg Project.spread1 (plain_from x w 768 0))
theorem result7 : laid4 (F := Ideal) (sec2 (F := Ideal) (lanes (F := Ideal) x w)) = Project.spread4 (Project.plain x w 896) :=
  (laid4_of (Project.plain x w 768) _ (sec2_is x w)).trans (congrArg Project.spread4 (plain_from x w 768 1))
theorem result8 : laid16 (F := Ideal) (sec2 (F := Ideal) (lanes (F := Ideal) x w)) = Project.spread16 (Project.plain x w 1024) :=
  (laid16_of (Project.plain x w 768) _ (sec2_is x w)).trans (congrArg Project.spread16 (plain_from x w 768 2))
theorem result9 : flat (F := Ideal) (scaled (F := Ideal) (turned (F := Ideal) p (sec3 (F := Ideal) (lanes (F := Ideal) x w)))) = Project.rows 384 (Project.query x p w 1152) :=
  flat_of (Project.query x p w 1152) _ (scaled_is _ _ (turned_is x p w 1152 _ (sec3_is x w)))
theorem result10 : flat (F := Ideal) (turned (F := Ideal) p (sec4 (F := Ideal) (lanes (F := Ideal) x w))) = Project.rows 384 (Project.turned x p w 1536) :=
  flat_of (Project.turned x p w 1536) _ (turned_is x p w 1536 _ (sec4_is x w))
theorem result11 : flat (F := Ideal) (sec5 (F := Ideal) (lanes (F := Ideal) x w)) = Project.rows 384 (Project.plain x w 1920) :=
  flat_of (Project.plain x w 1920) _ (sec5_is x w)

set_option maxHeartbeats 2000000 in
/-- The run with every result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146) = Project.spread1 (Project.query (m ((c.tc : Thread nD τ).loc main_arg0)) (m ((c.tc : Thread nD τ).loc main_arg1)) (m ((c.tc : Thread nD τ).loc main_arg2)) 0)
      ∧ r.2.mem ((c.tc : Thread nD τ).loc main_v150) = Project.spread4 (Project.query (m ((c.tc : Thread nD τ).loc main_arg0)) (m ((c.tc : Thread nD τ).loc main_arg1)) (m ((c.tc : Thread nD τ).loc main_arg2)) 128)
      ∧ r.2.mem ((c.tc : Thread nD τ).loc main_v154) = Project.spread16 (Project.query (m ((c.tc : Thread nD τ).loc main_arg0)) (m ((c.tc : Thread nD τ).loc main_arg1)) (m ((c.tc : Thread nD τ).loc main_arg2)) 256)
      ∧ r.2.mem ((c.tc : Thread nD τ).loc main_v158) = Project.spread1 (Project.turned (m ((c.tc : Thread nD τ).loc main_arg0)) (m ((c.tc : Thread nD τ).loc main_arg1)) (m ((c.tc : Thread nD τ).loc main_arg2)) 384)
      ∧ r.2.mem ((c.tc : Thread nD τ).loc main_v162) = Project.spread4 (Project.turned (m ((c.tc : Thread nD τ).loc main_arg0)) (m ((c.tc : Thread nD τ).loc main_arg1)) (m ((c.tc : Thread nD τ).loc main_arg2)) 512)
      ∧ r.2.mem ((c.tc : Thread nD τ).loc main_v166) = Project.spread16 (Project.turned (m ((c.tc : Thread nD τ).loc main_arg0)) (m ((c.tc : Thread nD τ).loc main_arg1)) (m ((c.tc : Thread nD τ).loc main_arg2)) 640)
      ∧ r.2.mem ((c.tc : Thread nD τ).loc main_v170) = Project.spread1 (Project.plain (m ((c.tc : Thread nD τ).loc main_arg0)) (m ((c.tc : Thread nD τ).loc main_arg2)) 768)
      ∧ r.2.mem ((c.tc : Thread nD τ).loc main_v174) = Project.spread4 (Project.plain (m ((c.tc : Thread nD τ).loc main_arg0)) (m ((c.tc : Thread nD τ).loc main_arg2)) 896)
      ∧ r.2.mem ((c.tc : Thread nD τ).loc main_v178) = Project.spread16 (Project.plain (m ((c.tc : Thread nD τ).loc main_arg0)) (m ((c.tc : Thread nD τ).loc main_arg2)) 1024)
      ∧ r.2.mem ((c.tc : Thread nD τ).loc main_v182) = Project.rows 384 (Project.query (m ((c.tc : Thread nD τ).loc main_arg0)) (m ((c.tc : Thread nD τ).loc main_arg1)) (m ((c.tc : Thread nD τ).loc main_arg2)) 1152)
      ∧ r.2.mem ((c.tc : Thread nD τ).loc main_v184) = Project.rows 384 (Project.turned (m ((c.tc : Thread nD τ).loc main_arg0)) (m ((c.tc : Thread nD τ).loc main_arg1)) (m ((c.tc : Thread nD τ).loc main_arg2)) 1536)
      ∧ r.2.mem ((c.tc : Thread nD τ).loc main_v186) = Project.rows 384 (Project.plain (m ((c.tc : Thread nD τ).loc main_arg0)) (m ((c.tc : Thread nD τ).loc main_arg2)) 1920)
      ∧ r.2.mem ((c.tc : Thread nD τ).loc main_v188) = Project.rows 256 (fun b s j => Project.plain (m ((c.tc : Thread nD τ).loc main_arg0)) (m ((c.tc : Thread nD τ).loc main_arg2)) 2304 b s j * Project.scale)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨⟨r0, r1, r2, r3, r4, r5, r6, r7, r8, r9, r10, r11, r12⟩, ha⟩ := h c
    exact ⟨r0.trans (result0 _ _ _), r1.trans (result1 _ _ _), r2.trans (result2 _ _ _), r3.trans (result3 _ _ _), r4.trans (result4 _ _ _), r5.trans (result5 _ _ _), r6.trans (result6 _ _), r7.trans (result7 _ _), r8.trans (result8 _ _), r9.trans (result9 _ _ _), r10.trans (result10 _ _ _), r11.trans (result11 _ _), r12.trans (last_of _ _), ha⟩)
    (Rows.run m ρ)

end Cert.RefInprojIdeal.Results
end
-- ==== Proof.InprojClaims.lean ====
module

public import proofs.«01_k».proof.Defs
public import proofs.«01_k».proof.Proof.InprojResults
public import proofs.«01_k».proof.Proof.RefInprojResults
public import proofs.«01_k».proof.Proof.Gen.Inproj.Frame
public import Idealize.ShloMosaic.Lib.Claim
public import Idealize.ShloMosaic.Lib.Quiescent

@[expose] public section

set_option maxRecDepth 16384

noncomputable section

/-! The claims about the call that projects the tokens to queries, keys and values and turns them to their positions. -/
namespace Cert.InprojClaims

open Idealize.ShloMosaic Idealize.ShloMosaic.TcCoe Idealize.SL.Sem

theorem frame_p : Cert.quiescent_Inproj := fun m g _ => Cert.Inproj.Gen.frame m g
theorem frame_pi : Cert.quiescent_InprojIdeal := fun m g _ => Cert.InprojIdeal.Gen.frame m g
theorem frame_r : Cert.quiescent_RefInprojIdeal := fun m g _ =>
  (θ_run Cert.RefInprojIdeal.defs _ _).mono (fun r h => ⟨fun c => (h c).2, sem_eq_zero_of_no_sems (by decide) r.2⟩)
    (Cert.RefInprojIdeal.Rows.run m g)

theorem preserves : Cert.preserves_Inproj_InprojIdeal := trivial

set_option maxHeartbeats 2000000 in
theorem algebraic : Cert.algebraic_InprojIdeal_RefInprojIdeal := by
  intro m ρ m' ρ' hpre hagree
  refine ⟨fun c => Project.spread1 (Project.query (Cert.InprojIdeal.Final.argX m c) (Cert.InprojIdeal.Final.argP m c) (Cert.InprojIdeal.Final.argW m c) 0),
    fun c => Project.spread4 (Project.query (Cert.InprojIdeal.Final.argX m c) (Cert.InprojIdeal.Final.argP m c) (Cert.InprojIdeal.Final.argW m c) 128),
    fun c => Project.spread16 (Project.query (Cert.InprojIdeal.Final.argX m c) (Cert.InprojIdeal.Final.argP m c) (Cert.InprojIdeal.Final.argW m c) 256),
    fun c => Project.spread1 (Project.turned (Cert.InprojIdeal.Final.argX m c) (Cert.InprojIdeal.Final.argP m c) (Cert.InprojIdeal.Final.argW m c) 384),
    fun c => Project.spread4 (Project.turned (Cert.InprojIdeal.Final.argX m c) (Cert.InprojIdeal.Final.argP m c) (Cert.InprojIdeal.Final.argW m c) 512),
    fun c => Project.spread16 (Project.turned (Cert.InprojIdeal.Final.argX m c) (Cert.InprojIdeal.Final.argP m c) (Cert.InprojIdeal.Final.argW m c) 640),
    fun c => Project.spread1 (Project.plain (Cert.InprojIdeal.Final.argX m c) (Cert.InprojIdeal.Final.argW m c) 768),
    fun c => Project.spread4 (Project.plain (Cert.InprojIdeal.Final.argX m c) (Cert.InprojIdeal.Final.argW m c) 896),
    fun c => Project.spread16 (Project.plain (Cert.InprojIdeal.Final.argX m c) (Cert.InprojIdeal.Final.argW m c) 1024),
    fun c => Project.rows 384 (Project.query (Cert.InprojIdeal.Final.argX m c) (Cert.InprojIdeal.Final.argP m c) (Cert.InprojIdeal.Final.argW m c) 1152),
    fun c => Project.rows 384 (Project.turned (Cert.InprojIdeal.Final.argX m c) (Cert.InprojIdeal.Final.argP m c) (Cert.InprojIdeal.Final.argW m c) 1536),
    fun c => Project.rows 384 (Project.plain (Cert.InprojIdeal.Final.argX m c) (Cert.InprojIdeal.Final.argW m c) 1920),
    fun c => Project.rows 256 (fun b s j => Project.plain (Cert.InprojIdeal.Final.argX m c) (Cert.InprojIdeal.Final.argW m c) 2304 b s j * Project.scale),
    Cert.InprojIdeal.Results.run m ρ, ?_⟩
  refine (θ_run Cert.RefInprojIdeal.defs _ _).mono (fun _ h c => ?_) (Cert.RefInprojIdeal.Results.run m' ρ')
  obtain ⟨r0, r1, r2, r3, r4, r5, r6, r7, r8, r9, r10, r11, r12, ha⟩ := h c
  obtain ⟨h0, h1, h2⟩ := hagree c
  rw [h0, h1, h2] at r0 r1 r2 r3 r4 r5 r9 r10
  rw [h0, h2] at r6 r7 r8 r11 r12
  exact ⟨r0, r1, r2, r3, r4, r5, r6, r7, r8, r9, r10, r11, r12, ha⟩

end Cert.InprojClaims
end
-- ==== Proof.Dil4Tile.lean ====
module

public import proofs.«01_k».proof.Proof.Gen.Dil4Ideal.Frame
public import proofs.«01_k».proof.Proof.Dil1Block

@[expose] public section

set_option maxRecDepth 16384

noncomputable section

/-! A tile of dilation four is one whole residue class of 1024 steps; the tile's work is that of the first tile of dilation one. -/
namespace Cert.Dil4Ideal.Tile

open Idealize.ShloMosaic Idealize.ShloMosaic.TcCoe Idealize.SL.Sem
open Cert.Dil4Ideal Cert.Dil4Ideal.Gen

section tile
variable {F : FTy → Type} [FloatOps F] [Named F]

theorem out5 (i : grid0.Coords) (g : Cert.Dil1Ideal.grid0.Coords) (hg : (g 2).val = (i 2).val)
    (x0 : Vec F S1x1x1024x128 .bf16) (x1 : Vec F S1x1x128x128 .bf16)
    (x2 : Vec F S1x1x1024x128 .bf16) (x3 : Vec F S1x1x128x128 .bf16) (x4 : Vec F S1x1x1024x128 .bf16) :
    out0_5 i x0 x1 x2 x3 x4 = Cert.Dil1Ideal.Gen.out0_5 g x0 x1 x2 x3 x4 := by
  rw [Cert.Dil1Ideal.Tile.out5, hg]
  rfl

theorem out6 (i : grid0.Coords) (g : Cert.Dil1Ideal.grid0.Coords) (hg : (g 2).val = (i 2).val)
    (x0 : Vec F S1x1x1024x128 .bf16) (x1 : Vec F S1x1x128x128 .bf16)
    (x2 : Vec F S1x1x1024x128 .bf16) (x3 : Vec F S1x1x128x128 .bf16) (x4 : Vec F S1x1x1024x128 .bf16) :
    out0_6 i x0 x1 x2 x3 x4 = Cert.Dil1Ideal.Gen.out0_6 g x0 x1 x2 x3 x4 := by
  rw [Cert.Dil1Ideal.Tile.out6, hg]
  rfl

end tile

end Cert.Dil4Ideal.Tile
end
-- ==== Proof.Dil4Final.lean ====
module

public import proofs.«01_k».proof.Proof.Dil4Tile
public import proofs.«01_k».proof.Proof.Attend
public import proofs.«01_k».proof.Proof.Gen.Dil4Ideal.Value

@[expose] public section

set_option maxRecDepth 16384

noncomputable section

namespace Cert.Dil4Ideal.Final

open Cert.Dil4Ideal Cert.Dil4Ideal.Gen Cert.Dil1Ideal.Tile Idealize.ShloMosaic Idealize.ShloMosaic.TcCoe Idealize.SL.Sem

variable (m : (ℓ : Loc nD τ sig) → Buf (Elt Ideal) ℓ) (e : Dev nD)

/-- The queries, keys and values as launched. -/
abbrev argQ : Attend.Heads := m ((e.tc : Thread nD τ).loc main_arg0)
abbrev argK : Attend.Heads := m ((e.tc : Thread nD τ).loc main_arg1)
abbrev argV : Attend.Heads := m ((e.tc : Thread nD τ).loc main_arg2)

theorem q_at (b : Fin 8) (r : Fin 4) (l : Fin 1024) (c : Fin 128) :
    V m e main_v4 (ix4 b r l c) = argQ m e (ix4 b ⟨l.val * 4 + r.val, by omega⟩ ⟨c.val / 64, by omega⟩ ⟨c.val % 64, by omega⟩) * Attend.scale := by
  entry_read
  pointwise []
  rfl
theorem k_at (b : Fin 8) (r : Fin 4) (l : Fin 1024) (c : Fin 128) :
    V m e main_v7 (ix4 b r l c) = argK m e (ix4 b ⟨l.val * 4 + r.val, by omega⟩ ⟨c.val / 64, by omega⟩ ⟨c.val % 64, by omega⟩) := by
  entry_read
  pointwise []
theorem v_at (b : Fin 8) (r : Fin 4) (l : Fin 1024) (c : Fin 128) :
    V m e main_v10 (ix4 b r l c) = argV m e (ix4 b ⟨l.val * 4 + r.val, by omega⟩ ⟨c.val / 64, by omega⟩ ⟨c.val % 64, by omega⟩) := by
  entry_read
  pointwise []

/-- Where the blocks of grid point `t` lie. -/
theorem idx : ∀ t : Fin cfg0.N, win0_0.index t = ![t.val / 4, t.val % 4, 0, 0] ∧ win0_1.index t = ![t.val / 4, t.val % 4, 0, 0] ∧ win0_2.index t = ![t.val / 4, t.val % 4, 0, 0] ∧ win0_3.index t = ![t.val / 4, t.val % 4, 0, 0] ∧ win0_4.index t = ![t.val / 4, t.val % 4, 0, 0] ∧ win0_5.index t = ![t.val / 4, t.val % 4, 0, 0] ∧ win0_6.index t = ![t.val / 4, t.val % 4, 0, 0] ∧ (grid0.coords t 2).val = 0 :=
  (by decide +kernel : ∀ t : Fin grid0.N, _)

/-- The first tile of a sequence at dilation one. -/
def first : Cert.Dil1Ideal.grid0.Coords := Cert.Dil1Ideal.grid0.coords ⟨0, by decide⟩

theorem first_at : (first 2).val = 0 := by decide +kernel

variable (t : Fin cfg0.N) (b : Fin 8) (hb : b.val = t.val / 4) (s : Fin 4) (hs : s.val = t.val % 4)
include hb hs

theorem blk0 (r : Fin 1024) (c : Fin 128) :
    iblk m e 0 t (ix4 0 0 r c) = V m e main_v4 (ix4 b s r c) := by
  obtain ⟨h0, h1, h2, h3, h4, h5, h6, h7⟩ := idx t
  blk_point [iblk, V, h0, hb, hs]
theorem blk2 (r : Fin 1024) (c : Fin 128) :
    iblk m e 2 t (ix4 0 0 r c) = V m e main_v7 (ix4 b s r c) := by
  obtain ⟨h0, h1, h2, h3, h4, h5, h6, h7⟩ := idx t
  blk_point [iblk, V, h2, hb, hs]
theorem blk4 (r : Fin 1024) (c : Fin 128) :
    iblk m e 4 t (ix4 0 0 r c) = V m e main_v10 (ix4 b s r c) := by
  obtain ⟨h0, h1, h2, h3, h4, h5, h6, h7⟩ := idx t
  blk_point [iblk, V, h4, hb, hs]

/-- A key a query sees, read from the tile's blocks. -/
theorem key_at (r : Fin 1024) (j : Fin 256) (c : Fin 128) (hj : Attend.Sees r.val j.val) :
    blkKey (iblk m e 1 t) (iblk m e 2 t) r j c
      = Attend.rd (argK m e) b (Attend.keyPos 4 s.val r.val j.val) ⟨c.val / 64, by omega⟩ ⟨c.val % 64, by omega⟩ := by
  have h2 := hj.2
  have h1 := hj.1
  unfold blkKey
  rw [dif_neg (by omega), blk2 m e t b hb s hs, k_at]
  refine Attend.rd_of _ b _ _ _ ?_
  rfl

/-- A value a query sees, read from the tile's blocks. -/
theorem val_at (r : Fin 1024) (j : Fin 256) (c : Fin 128) (hj : Attend.Sees r.val j.val) :
    blkKey (iblk m e 3 t) (iblk m e 4 t) r j c
      = Attend.vals 4 (argV m e) b s.val r.val ⟨c.val / 64, by omega⟩ ⟨c.val % 64, by omega⟩ j := by
  have h2 := hj.2
  have h1 := hj.1
  unfold blkKey
  rw [dif_neg (by omega), blk4 m e t b hb s hs, v_at]
  refine Attend.rd_of _ b _ _ _ ?_
  rfl

theorem score_at (r : Fin 1024) (c : Fin 128) :
    blkScore 0 (iblk m e 0 t) (iblk m e 1 t) (iblk m e 2 t) r c
      = Attend.scaledFirst 4 (argQ m e) (argK m e) b s.val r.val ⟨c.val / 64, by omega⟩ := by
  funext j
  unfold blkScore Attend.scaledFirst
  by_cases hj : Attend.Sees r.val j.val
  · have h2 := hj.2
    have h1 := hj.1
    have hp : (r.val % 128 ≤ j.val ∧ j.val ≤ r.val % 128 + 128) ∧ 128 ≤ 0 * 1024 + r.val / 128 * 128 + j.val :=
      ⟨hj.1, by rw [Nat.zero_mul, Nat.zero_add]; exact hj.2⟩
    rw [if_pos hj, if_pos hp]
    refine Finset.sum_congr rfl fun x _ => ?_
    rw [key_at m e t b hb s hs r j _ hj, blk0 m e t b hb s hs r, q_at]
    have ex : (⟨(c.val / 64 * 64 + x.val) / 64, by omega⟩ : Fin 2) = ⟨c.val / 64, by omega⟩ := Fin.ext (by show (c.val / 64 * 64 + x.val) / 64 = c.val / 64; omega)
    have ey : (⟨(c.val / 64 * 64 + x.val) % 64, by omega⟩ : Fin 64) = x := Fin.ext (by show (c.val / 64 * 64 + x.val) % 64 = x.val; omega)
    simp only [ex, ey]
    refine congrArg (· * _) (congrArg (· * _) (Attend.rd_of (argQ m e) b _ _ x ?_))
    rfl
  · rw [if_neg hj, if_neg]
    intro h
    exact hj ⟨h.1, by rw [Nat.zero_mul, Nat.zero_add] at h; exact h.2⟩

omit hb hs

/-- The output array after the run. -/
def outO : (⟨4, ![8, 4, 1024, 128]⟩ : Shape).Idx → EReal := fun y =>
  Softmax.mean (Attend.scaledFirst 4 (argQ m e) (argK m e) (y 0) (y 1).val (y 2).val ⟨(y 3).val / 64, Nat.div_lt_of_lt_mul (y 3).isLt⟩)
    (Attend.vals 4 (argV m e) (y 0) (y 1).val (y 2).val ⟨(y 3).val / 64, Nat.div_lt_of_lt_mul (y 3).isLt⟩ ⟨(y 3).val % 64, Nat.mod_lt _ (by decide)⟩)

/-- The logarithms of the denominators after the run. -/
def outL : (⟨4, ![8, 4, 1024, 128]⟩ : Shape).Idx → EReal := fun y =>
  Softmax.lse (Attend.scaledFirst 4 (argQ m e) (argK m e) (y 0) (y 1).val (y 2).val ⟨(y 3).val / 64, Nat.div_lt_of_lt_mul (y 3).isLt⟩)

theorem final5 : (dats m 0 e).arrAt 5 cfg0.N = outO m e := by
  refine (dats m 0 e).arrAt_eq_of_covers 5 _ (by decide +kernel) fun t _ y => ?_
  blk_simp
  rw [after0_5]
  obtain ⟨h0, h1, h2, h3, h4, h5, h6, h7⟩ := idx t
  idx_vars y
  have hy : ((View.whole main_v11_0).slice (win0_5.rect t)).emb (ix4 y0 y1 y2 y3)
      = ix4 ⟨t.val / 4, Nat.div_lt_of_lt_mul t.isLt⟩ ⟨t.val % 4, Nat.mod_lt _ (by decide)⟩ y2 y3 := by
    blk_ext [h5]
  rw [hy, Cert.Dil4Ideal.Tile.out5 _ first (first_at.trans h7.symm), out5_at, first_at, score_at m e t ⟨t.val / 4, Nat.div_lt_of_lt_mul t.isLt⟩ rfl ⟨t.val % 4, Nat.mod_lt _ (by decide)⟩ rfl]
  refine Attend.mean_congr fun j hj => val_at m e t ⟨t.val / 4, Nat.div_lt_of_lt_mul t.isLt⟩ rfl ⟨t.val % 4, Nat.mod_lt _ (by decide)⟩ rfl y2 j y3 ?_
  by_contra hs
  exact hj (if_neg hs)

theorem final6 : (dats m 0 e).arrAt 6 cfg0.N = outL m e := by
  refine (dats m 0 e).arrAt_eq_of_covers 6 _ (by decide +kernel) fun t _ y => ?_
  blk_simp
  rw [after0_6]
  obtain ⟨h0, h1, h2, h3, h4, h5, h6, h7⟩ := idx t
  idx_vars y
  have hy : ((View.whole main_v11_1).slice (win0_6.rect t)).emb (ix4 y0 y1 y2 y3)
      = ix4 ⟨t.val / 4, Nat.div_lt_of_lt_mul t.isLt⟩ ⟨t.val % 4, Nat.mod_lt _ (by decide)⟩ y2 y3 := by
    blk_ext [h6]
  rw [hy, Cert.Dil4Ideal.Tile.out6 _ first (first_at.trans h7.symm), out6_at, first_at, score_at m e t ⟨t.val / 4, Nat.div_lt_of_lt_mul t.isLt⟩ rfl ⟨t.val % 4, Nat.mod_lt _ (by decide)⟩ rfl]
  rfl

end Cert.Dil4Ideal.Final
end
-- ==== Proof.Ref4Rows.lean ====
module

public import proofs.«01_k».proof.Proof.Gen.Ref4Ideal.Run
public import proofs.«01_k».proof.Proof.HostSum
public import proofs.«01_k».proof.Proof.Attend
public import proofs.«01_k».proof.Proof.Band
public import Idealize.ShloMosaic.Lib.Pipeline.ValueKit

@[expose] public section

set_option maxRecDepth 16384

noncomputable section

namespace Cert.Ref4Ideal.Rows

open Idealize.ShloMosaic Idealize.ShloMosaic.TcCoe Idealize.SL.Sem
open Cert.Ref4Ideal Cert.Ref4Ideal.Gen

section stages
variable {F : FTy → Type} [FloatOps F]

/-- Blocks of 128 steps of every residue and head. -/
def blocks (x : FVec F S8x4096x2x64 .f32) : FVec F S8x4x2x8x128x64 .f32 :=
  shapeCast S8x4x2x8x128x64 (transpose S8x4x2x1024x64 [0, 2, 3, 1, 4] (shapeCast S8x1024x4x2x64 x shapeCasts_S8x4096x2x64_S8x1024x4x2x64) transposes_S8x1024x4x2x64_S8x4x2x1024x64_0_2_3_1_4) shapeCasts_S8x4x2x1024x64_S8x4x2x8x128x64

/-- Every block behind the one before it; zeros stand before the first. -/
def pairs (x : FVec F S8x4096x2x64 .f32) : FVec F S8x4x2x8x256x64 .f32 :=
  concatenate S8x4x2x8x256x64 4 [⟨S8x4x2x8x128x64, extractStridedSlice S8x4x2x8x128x64 ![0, 0, 0, 0, 0, 0] (pad S8x4x2x9x128x64 ![0, 0, 0, 1, 0, 0] ![0, 0, 0, 0, 0, 0] ![0, 0, 0, 0, 0, 0] (blocks x) (sitofp .f32 (constantI S_ 32 0#32)) pads_S8x4x2x8x128x64_S8x4x2x9x128x64_000_000_000_100_000_000 h_S_) slices_S8x4x2x9x128x64_S8x4x2x8x128x64_0_0_0_0_0_0⟩, ⟨S8x4x2x8x128x64, blocks x⟩] concatenates_S8x4x2x8x128x64_S8x4x2x8x128x64_S8x4x2x8x256x64_d4

/-- The distance from a query of a block to a key of the pair of blocks. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The keys a query may attend. -/
def allowed : IVec S8x128x256 1 :=
  andi
    (broadcastInDim S8x128x256 ![0, 1, 2] bcast_S1x128x256_S8x128x256_0_1_2 (broadcastInDim S1x128x256 ![1, 2] bcast_S128x256_S1x128x256_1_2
      (andi (cmpi .sge dist (broadcastInDim S128x256 ![] bcast_S_S128x256 (constantI S_ 32 0#32))) (cmpi .sle dist (broadcastInDim S128x256 ![] bcast_S_S128x256 (constantI S_ 32 128#32))))))
    (broadcastInDim S8x128x256 ![0, 1, 2] bcast_S8x1x256_S8x128x256_0_1_2
      (cmpi .sge
        (subi
          (addi
            (broadcastInDim S8x1x256 ![0, 1, 2] bcast_S8x1x1_S8x1x256_0_1_2 (muli (broadcastInDim S8x1x1 ![0] bcast_S8_S8x1x1_0 (iotaInDim S8 32 0)) (broadcastInDim S8x1x1 ![] bcast_S_S8x1x1 (constantI S_ 32 128#32))))
            (broadcastInDim S8x1x256 ![0, 1, 2] bcast_S1x1x256_S8x1x256_0_1_2 (broadcastInDim S1x1x256 ![1, 2] bcast_S1x256_S1x1x256_1_2 (broadcastInDim S1x256 ![1] bcast_S256_S1x256_1 (iotaInDim S256 32 0)))))
          (broadcastInDim S8x1x256 ![] bcast_S_S8x1x256 (constantI S_ 32 128#32)))
        (broadcastInDim S8x1x256 ![] bcast_S_S8x1x256 (constantI S_ 32 0#32))))

/-- The masked scores. -/
def scores (q k : FVec F S8x4096x2x64 .f32) : FVec F S8x4x2x8x128x256 .f32 :=
  select (broadcastInDim S8x4x2x8x128x256 ![3, 4, 5] bcast_S8x128x256_S8x4x2x8x128x256_3_4_5 allowed)
    (mulf (Host.dotGeneral dot_S8x4x2x8x128x64_S8x4x2x8x256x64_S8x4x2x8x128x256_5_5_4_4_0123_0123 none (blocks q) (pairs k)) (broadcastInDim S8x4x2x8x128x256 ![] bcast_S_S8x4x2x8x128x256 (constant S_ .f32 0x3E000000#32)))
    (broadcastInDim S8x4x2x8x128x256 ![] bcast_S_S8x4x2x8x128x256 (constant S_ .f32 0xFF800000#32))

/-- A number per row, repeated along the row. -/
def along (x : FVec F S8x4x2x8x128 .f32) : FVec F S8x4x2x8x128x256 .f32 :=
  broadcastInDim S8x4x2x8x128x256 ![0, 1, 2, 3, 4, 5] bcast_S8x4x2x8x128x1_S8x4x2x8x128x256_0_1_2_3_4_5 (broadcastInDim S8x4x2x8x128x1 ![0, 1, 2, 3, 4] bcast_S8x4x2x8x128_S8x4x2x8x128x1_0_1_2_3_4 x)

/-- The logarithm of the sum of a row's exponentials. -/
def rowLse (s : FVec F S8x4x2x8x128x256 .f32) : FVec F S8x4x2x8x128 .f32 :=
  Host.log (Host.reduceAdd (Host.exp s) (constant S_ .f32 0x00000000#32) reducesTo_S8x4x2x8x128x256_S8x4x2x8x128_d5 h_S_)

/-- The weighted values. -/
def rowOut (s : FVec F S8x4x2x8x128x256 .f32) (v : FVec F S8x4x2x8x256x64 .f32) : FVec F S8x4x2x8x128x64 .f32 :=
  Host.dotGeneral dot_S8x4x2x8x128x256_S8x4x2x8x256x64_S8x4x2x8x128x64_5_4_4_5_0123_0123 none (Host.exp (subf s (along (rowLse s)))) v

/-- The output, residue by residue, the heads side by side. -/
def refO (q k v : FVec F S8x4096x2x64 .f32) : FVec F S8x4x1024x128 .bf16 :=
  truncf .bf16 (shapeCast S8x4x1024x128 (transpose S8x4x1024x2x64 [0, 1, 3, 2, 4] (shapeCast S8x4x2x1024x64 (rowOut (scores q k) (pairs v)) shapeCasts_S8x4x2x8x128x64_S8x4x2x1024x64) transposes_S8x4x2x1024x64_S8x4x1024x2x64_0_1_3_2_4) shapeCasts_S8x4x1024x2x64_S8x4x1024x128) bitsLt_bf16_f32

/-- The log-denominators in the same layout. -/
def refL (q k : FVec F S8x4096x2x64 .f32) : FVec F S8x4x1024x128 .f32 :=
  shapeCast S8x4x1024x128 (broadcastInDim S8x4x1024x2x64 ![0, 1, 2, 3, 4] bcast_S8x4x1024x2x1_S8x4x1024x2x64_0_1_2_3_4 (broadcastInDim S8x4x1024x2x1 ![0, 1, 2, 3] bcast_S8x4x1024x2_S8x4x1024x2x1_0_1_2_3 (transpose S8x4x1024x2 [0, 1, 3, 2] (shapeCast S8x4x2x1024 (rowLse (scores q k)) shapeCasts_S8x4x2x8x128_S8x4x2x1024) transposes_S8x4x2x1024_S8x4x1024x2_0_1_3_2))) shapeCasts_S8x4x1024x2x64_S8x4x1024x128

theorem out0_eq (m : (ℓ : Loc nD τ sig) → Buf (Elt F) ℓ) (c : Dev nD) :
    Value.res_out0 m c = refO (m ((c.tc : Thread nD τ).loc main_arg0)) (m ((c.tc : Thread nD τ).loc main_arg1)) (m ((c.tc : Thread nD τ).loc main_arg2)) := rfl

end stages

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = refO (F := Ideal) (m ((c.tc : Thread nD τ).loc main_arg0)) (m ((c.tc : Thread nD τ).loc main_arg1)) (m ((c.tc : Thread nD τ).loc main_arg2))
      ∧ r.2.mem ((c.tc : Thread nD τ).loc main_v64) = refL (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem blocks_at (q : FVec Ideal S8x4096x2x64 .f32) (b : Fin 8) (r : Fin 4) (h : Fin 2) (n : Fin 8) (i : Fin 128) (c : Fin 64) :
    blocks q (ix6 b r h n i c) = q (ix4 b ⟨(n.val * 128 + i.val) * 4 + r.val, by omega⟩ h c) := by
  pointwise [blocks]

theorem neg_inf : Ideal.ofBits .f32 0xFF800000#32 = (⊥ : EReal) := by simp [Ideal.ofBits, Ideal.ieee]

/-- A block and the one before it, read where a query sees the key. -/
theorem pairs_at (q : FVec Ideal S8x4096x2x64 .f32) (b : Fin 8) (r : Fin 4) (h : Fin 2) (n : Fin 8) (j : Fin 256) (c : Fin 64)
    (hs : 128 ≤ n.val * 128 + j.val) :
    pairs q (ix6 b r h n j c) = q (ix4 b ⟨(n.val * 128 + j.val - 128) * 4 + r.val, by omega⟩ h c) := by
  pointwise [pairs, blocks]
  by_cases h1 : j.val < 128
  · rw [dif_pos h1, dif_pos (by omega)]
    congr 2
    exact Fin.ext (by show ((n.val - 1) * 128 + j.val) * 4 + r.val = (n.val * 128 + j.val - 128) * 4 + r.val; omega)
  · rw [dif_neg h1]
    congr 2
    exact Fin.ext (by show (n.val * 128 + (j.val - 128)) * 4 + r.val = (n.val * 128 + j.val - 128) * 4 + r.val; omega)

theorem started : ∀ (n : Fin 8) (j : Fin 256), IntOp.cmpi CmpIPredicate.sge
        (IntOp.subi (IntOp.addi (IntOp.muli (BitVec.ofNat 32 n.val) 128#32) (BitVec.ofNat 32 j.val)) 128#32) 0#32
      = if 128 ≤ n.val * 128 + j.val then 1#1 else 0#1 := by decide +kernel

theorem allowed_at (n : Fin 8) (i : Fin 128) (j : Fin 256) :
    allowed (ix3 n i j) = if (i.val ≤ j.val ∧ j.val ≤ i.val + 128) ∧ 128 ≤ n.val * 128 + j.val then 1#1 else 0#1 := by
  pointwise [allowed, dist]
  rw [Attend.near, started]
  by_cases h1 : i.val ≤ j.val ∧ j.val ≤ i.val + 128 <;> by_cases h2 : 128 ≤ n.val * 128 + j.val
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

theorem scores_at (q k : FVec Ideal S8x4096x2x64 .f32) (b : Fin 8) (r : Fin 4) (h : Fin 2) (l : Fin 1024) (j : Fin 256) :
    scores q k (ix6 b r h ⟨l.val / 128, by omega⟩ ⟨l.val % 128, by omega⟩ j) = Attend.scaledLast 4 q k b r.val l.val h j := by
  pointwise [scores]
  rw [allowed_at, neg_inf]
  unfold Attend.scaledLast Attend.scale
  by_cases hs : Attend.Sees l.val j.val
  · rw [if_pos hs, if_pos (show (l.val % 128 ≤ j.val ∧ j.val ≤ l.val % 128 + 128) ∧ 128 ≤ l.val / 128 * 128 + j.val from hs)]
    refine congrArg (· * _) (Finset.sum_congr rfl fun x _ => ?_)
    rw [blocks_at, pairs_at k b r h ⟨l.val / 128, by omega⟩ j x hs.2]
    refine congrArg₂ (· * ·) (Attend.rd_of q b _ h x ?_) (Attend.rd_of k b _ h x ?_)
    · show (l.val / 128 * 128 + l.val % 128) * 4 + r.val = l.val * 4 + r.val
      omega
    · show (l.val / 128 * 128 + j.val - 128) * 4 + r.val = (l.val / 128 * 128 + j.val - 128) * 4 + r.val
      rfl
  · rw [if_neg hs, if_neg (show ¬ ((l.val % 128 ≤ j.val ∧ j.val ≤ l.val % 128 + 128) ∧ 128 ≤ l.val / 128 * 128 + j.val) from hs)]; rfl

theorem lse_at (s : FVec Ideal S8x4x2x8x128x256 .f32) (b : Fin 8) (r : Fin 4) (h : Fin 2) (n : Fin 8) (i : Fin 128) :
    rowLse s (ix5 b r h n i) = Ideal.log (∑ j : Fin 256, Ideal.exp (s (ix6 b r h n i j))) := by
  unfold rowLse
  pointwise []
  rw [Softmax.sum_last]
  pointwise []

theorem out_at (s : FVec Ideal S8x4x2x8x128x256 .f32) (w : FVec Ideal S8x4x2x8x256x64 .f32) (b : Fin 8) (r : Fin 4) (h : Fin 2) (n : Fin 8) (i : Fin 128) (c : Fin 64) :
    rowOut s w (ix6 b r h n i c) = ∑ j : Fin 256, Ideal.exp (s (ix6 b r h n i j) - rowLse s (ix5 b r h n i)) * w (ix6 b r h n j c) := by
  pointwise [rowOut, along]

theorem vals_at (v : FVec Ideal S8x4096x2x64 .f32) (b : Fin 8) (r : Fin 4) (h : Fin 2) (l : Fin 1024) (j : Fin 256) (c : Fin 64) (hs : Attend.Sees l.val j.val) :
    pairs v (ix6 b r h ⟨l.val / 128, by omega⟩ j c) = Attend.vals 4 v b r.val l.val h c j := by
  have h2 := hs.2
  have h1 := hs.1
  rw [pairs_at v b r h ⟨l.val / 128, by omega⟩ j c h2]
  refine Attend.rd_of v b _ h c ?_
  show (l.val / 128 * 128 + j.val - 128) * 4 + r.val = (l.val / 128 * 128 + j.val - 128) * 4 + r.val
  rfl

variable {q k v : FVec Ideal S8x4096x2x64 .f32} (hq : Attend.Real q) (hk : Attend.Real k)
include hq hk

theorem refL_at (b : Fin 8) (r : Fin 4) (l : Fin 1024) (c : Fin 128) :
    refL q k (ix4 b r l c) = Softmax.lse (Attend.scaledLast 4 q k b r.val l.val ⟨c.val / 64, by omega⟩) := by
  pointwise [refL]
  rw [lse_at]
  exact (congrArg (fun s : Fin 256 → EReal => Ideal.log (∑ j, Ideal.exp (s j))) (funext fun j => scores_at q k b r _ l j)).trans
    (Softmax.lse_eq (Attend.row 4 hq hk b r.val l.val _))

theorem refO_at (b : Fin 8) (r : Fin 4) (l : Fin 1024) (c : Fin 128) :
    refO q k v (ix4 b r l c) = Softmax.mean (Attend.scaledLast 4 q k b r.val l.val ⟨c.val / 64, by omega⟩) (Attend.vals 4 v b r.val l.val ⟨c.val / 64, by omega⟩ ⟨c.val % 64, by omega⟩) := by
  pointwise [refO]
  rw [out_at, lse_at]
  have row := Attend.row 4 hq hk b r.val l.val ⟨c.val / 64, by omega⟩
  refine (congrArg (fun s : Fin 256 → EReal => ∑ j, Ideal.exp (s j - Ideal.log (∑ j, Ideal.exp (s j))) * pairs v (ix6 b r ⟨c.val / 64, by omega⟩ ⟨l.val / 128, by omega⟩ j ⟨c.val % 64, by omega⟩))
    (funext fun j => scores_at q k b r _ l j)).trans ?_
  rw [Softmax.lse_eq row]
  refine (Softmax.mean_eq row _).symm.trans (Attend.mean_congr fun j hj => ?_)
  refine vals_at v b r _ l j _ ?_
  by_contra hs
  exact hj (if_neg hs)

end Cert.Ref4Ideal.Rows
end
-- ==== Proof.Dil4Claims.lean ====
module

public import proofs.«01_k».proof.Proof.Dil4Final
public import proofs.«01_k».proof.Proof.Ref4Rows
public import proofs.«01_k».proof.Proof.Finite
public import proofs.«01_k».proof.Proof.Gen.Dil4.Frame
public import Idealize.ShloMosaic.Lib.Claim
public import Idealize.ShloMosaic.Lib.Quiescent

@[expose] public section

noncomputable section

/-! The claims about the dilated attention of dilation four. -/
namespace Cert.Dil4Claims

open Idealize.ShloMosaic Idealize.SL.Sem

theorem frame_p : Cert.quiescent_Dil4 := fun m g _ => Cert.Dil4.Gen.frame m g
theorem frame_pi : Cert.quiescent_Dil4Ideal := fun m g _ => Cert.Dil4Ideal.Gen.frame m g
theorem frame_pi_pre : Cert.quiescent_Dil4Ideal_pre_finite := fun m g _ => Cert.Dil4Ideal.Gen.frame m g
theorem frame_r : Cert.quiescent_Ref4Ideal := fun m g _ =>
  (θ_run Cert.Ref4Ideal.defs _ _).mono (fun r h => ⟨fun c => (h c).2.2, sem_eq_zero_of_no_sems (by decide) r.2⟩)
    (Cert.Ref4Ideal.Rows.run_named m g)
theorem frame_r_pre : Cert.quiescent_Ref4Ideal_pre_finite := fun m g _ => frame_r m g trivial

theorem preserves : Cert.preserves_Dil4_Dil4Ideal :=
  IdealRules.named_const.statement Cert.Dil4Ideal.κ "mask" .f32 0xF149F2CA#32 ⊥ rfl

theorem algebraic : Cert.algebraic_Dil4Ideal_Ref4Ideal_pre_finite := by
  intro m ρ m' ρ' hpre hagree
  refine ⟨_, _, Cert.Dil4Ideal.Value.run_blocks (F := Ideal) m ρ, ?_⟩
  refine (θ_run Cert.Ref4Ideal.defs _ _).mono (fun _ h c => ?_) (Cert.Ref4Ideal.Rows.run_named m' ρ')
  obtain ⟨hq, hk⟩ := Attend.real_args _ _ _ (hpre c)
  obtain ⟨hO, hL, hr⟩ := h c
  refine ⟨hO.trans ?_, hL.trans ?_, hr⟩
  · rw [(hagree c).1, (hagree c).2.1, (hagree c).2.2, Cert.Dil4Ideal.Final.final5]
    refine funext fun y => ?_
    rw [← ix4_eta y]
    exact (Cert.Ref4Ideal.Rows.refO_at hq hk (y 0) (y 1) (y 2) (y 3)).trans
      (congrArg (fun s => Softmax.mean s _) (Attend.scaled_eq 4 hq hk (y 0) (y 1).val (y 2).val _).symm)
  · rw [(hagree c).1, (hagree c).2.1, Cert.Dil4Ideal.Final.final6]
    refine funext fun y => ?_
    rw [← ix4_eta y]
    exact (Cert.Ref4Ideal.Rows.refL_at hq hk (y 0) (y 1) (y 2) (y 3)).trans
      (congrArg Softmax.lse (Attend.scaled_eq 4 hq hk (y 0) (y 1).val (y 2).val _).symm)

end Cert.Dil4Claims
end
-- ==== Proof.Dil16Tile.lean ====
module

public import proofs.«01_k».proof.Proof.Gen.Dil16Ideal.Frame
public import proofs.«01_k».proof.Proof.Dil1Block

@[expose] public section

set_option maxRecDepth 16384

noncomputable section

/-! A tile of dilation sixteen holds four residue classes of 256 steps, two sub-blocks each; the work on a sub-block is that of
dilation one. -/
namespace Cert.Dil16Ideal.Tile

open Idealize.ShloMosaic Idealize.ShloMosaic.TcCoe Idealize.SL.Sem
open Cert.Dil16Ideal Cert.Dil16Ideal.Gen
open Cert.Dil1Ideal.Tile (tileO tileL tileScore tileO_at tileL_at band_later band_first)
open Cert.Dil1Ideal.Gen (k0_pay2)

section tile
variable {F : FTy → Type} [FloatOps F] [Named F]

/-- The queries of a sub-block. -/
abbrev qry (q : FVec F S1x1x128x128 .bf16) : FVec F S128x128 .bf16 := Cert.Dil1Ideal.Gen.k0_pay4 q

/-- The keys or values of two sub-blocks, one behind the other. -/
abbrev stack (p q : FVec F S1x1x128x128 .bf16) : FVec F S256x128 .bf16 := Cert.Dil1Ideal.Gen.k0_pay6 p q

/-- The keys the first sub-block of tile `g` may see. -/
abbrev start (g : Fin 4) : IVec S128x256 1 :=
  Cert.Dil1Ideal.Gen.k0_pay5 (BitVec.ofNat 32 g.val) (iota .tc S128x256 32 [1] Cert.Dil1Ideal.Gen.iota_S128x256_d1_w32) k0_pay2

theorem out5 (i : grid0.Coords) (g : Fin 4) (hg : g.val = (i 2).val) (x0 : Vec F S1x4x256x128 .bf16) (x1 : Vec F S1x4x128x128 .bf16)
    (x2 : Vec F S1x4x256x128 .bf16) (x3 : Vec F S1x4x128x128 .bf16) (x4 : Vec F S1x4x256x128 .bf16) :
    out0_5 i x0 x1 x2 x3 x4 = View.canon [
      ⟨r0_11, tileO (qry (View.ld x0 r0_11)) k0_pay2 (stack (View.ld x2 r0_9) (View.ld x2 r0_11)) (stack (View.ld x4 r0_9) (View.ld x4 r0_11))⟩,
      ⟨r0_9, tileO (qry (View.ld x0 r0_9)) (start g) (stack (View.ld x1 r0_10) (View.ld x2 r0_9)) (stack (View.ld x3 r0_10) (View.ld x4 r0_9))⟩,
      ⟨r0_8, tileO (qry (View.ld x0 r0_8)) k0_pay2 (stack (View.ld x2 r0_6) (View.ld x2 r0_8)) (stack (View.ld x4 r0_6) (View.ld x4 r0_8))⟩,
      ⟨r0_6, tileO (qry (View.ld x0 r0_6)) (start g) (stack (View.ld x1 r0_7) (View.ld x2 r0_6)) (stack (View.ld x3 r0_7) (View.ld x4 r0_6))⟩,
      ⟨r0_5, tileO (qry (View.ld x0 r0_5)) k0_pay2 (stack (View.ld x2 r0_3) (View.ld x2 r0_5)) (stack (View.ld x4 r0_3) (View.ld x4 r0_5))⟩,
      ⟨r0_3, tileO (qry (View.ld x0 r0_3)) (start g) (stack (View.ld x1 r0_4) (View.ld x2 r0_3)) (stack (View.ld x3 r0_4) (View.ld x4 r0_3))⟩,
      ⟨r0_2, tileO (qry (View.ld x0 r0_2)) k0_pay2 (stack (View.ld x2 r0_0) (View.ld x2 r0_2)) (stack (View.ld x4 r0_0) (View.ld x4 r0_2))⟩,
      ⟨r0_0, tileO (qry (View.ld x0 r0_0)) (start g) (stack (View.ld x1 r0_1) (View.ld x2 r0_0)) (stack (View.ld x3 r0_1) (View.ld x4 r0_0))⟩] := by
  unfold start
  rw [hg]
  rfl

theorem out6 (i : grid0.Coords) (g : Fin 4) (hg : g.val = (i 2).val) (x0 : Vec F S1x4x256x128 .bf16) (x1 : Vec F S1x4x128x128 .bf16)
    (x2 : Vec F S1x4x256x128 .bf16) (x3 : Vec F S1x4x128x128 .bf16) (x4 : Vec F S1x4x256x128 .bf16) :
    out0_6 i x0 x1 x2 x3 x4 = View.canon [
      ⟨r0_11, tileL (qry (View.ld x0 r0_11)) k0_pay2 (stack (View.ld x2 r0_9) (View.ld x2 r0_11))⟩,
      ⟨r0_9, tileL (qry (View.ld x0 r0_9)) (start g) (stack (View.ld x1 r0_10) (View.ld x2 r0_9))⟩,
      ⟨r0_8, tileL (qry (View.ld x0 r0_8)) k0_pay2 (stack (View.ld x2 r0_6) (View.ld x2 r0_8))⟩,
      ⟨r0_6, tileL (qry (View.ld x0 r0_6)) (start g) (stack (View.ld x1 r0_7) (View.ld x2 r0_6))⟩,
      ⟨r0_5, tileL (qry (View.ld x0 r0_5)) k0_pay2 (stack (View.ld x2 r0_3) (View.ld x2 r0_5))⟩,
      ⟨r0_3, tileL (qry (View.ld x0 r0_3)) (start g) (stack (View.ld x1 r0_4) (View.ld x2 r0_3))⟩,
      ⟨r0_2, tileL (qry (View.ld x0 r0_2)) k0_pay2 (stack (View.ld x2 r0_0) (View.ld x2 r0_2))⟩,
      ⟨r0_0, tileL (qry (View.ld x0 r0_0)) (start g) (stack (View.ld x1 r0_1) (View.ld x2 r0_0))⟩] := by
  unfold start
  rw [hg]
  rfl

end tile

end Cert.Dil16Ideal.Tile
end
-- ==== Proof.Dil16Block.lean ====
module

public import proofs.«01_k».proof.Proof.Dil16Tile

@[expose] public section

set_option maxRecDepth 16384

noncomputable section

namespace Cert.Dil16Ideal.Tile

open Idealize.ShloMosaic Idealize.ShloMosaic.TcCoe Idealize.SL.Sem
open Cert.Dil16Ideal Cert.Dil16Ideal.Gen
open Cert.Dil1Ideal.Tile (tileO tileL tileScore tileO_at tileL_at band_later band_first)
open Cert.Dil1Ideal.Gen (k0_pay2)

/-- Key (or value) `j` of the pair of sub-blocks that query row `r` of residue `a` of a tile sees, at lane `c`. -/
def blkKey (P : Vec Ideal S1x4x128x128 .bf16) (C : Vec Ideal S1x4x256x128 .bf16) (a : Fin 4) (r j : Fin 256) (c : Fin 128) : EReal :=
  if h : r.val / 128 * 128 + j.val < 128 then P (ix4 0 a ⟨j.val, by omega⟩ c)
  else C (ix4 0 a ⟨r.val / 128 * 128 + j.val - 128, by omega⟩ c)

/-- The masked scores of query row `r` of residue `a` of a tile. -/
def blkScore (Q : Vec Ideal S1x4x256x128 .bf16) (P : Vec Ideal S1x4x128x128 .bf16) (C : Vec Ideal S1x4x256x128 .bf16)
    (a : Fin 4) (r : Fin 256) (c : Fin 128) (j : Fin 256) : EReal :=
  if Attend.Sees r.val j.val then
    ∑ x : Fin 64, (show EReal from Q (ix4 0 a r ⟨c.val / 64 * 64 + x.val, by omega⟩)) * blkKey P C a r j ⟨c.val / 64 * 64 + x.val, by omega⟩
  else ⊥

theorem tile_blk (Q : Vec Ideal S1x4x256x128 .bf16) (P : Vec Ideal S1x4x128x128 .bf16) (C : Vec Ideal S1x4x256x128 .bf16)
    (a : Fin 4) (r : Fin 256) (i : Fin 128) (o : ℕ) (hr : r.val = o * 128 + i.val)
    (q : FVec Ideal S128x128 .bf16) (m : IVec S128x256 1) (k : FVec Ideal S256x128 .bf16)
    (hq : ∀ c : Fin 128, q (ix2 i c) = Q (ix4 0 a r c))
    (hm : ∀ j : Fin 256, m (ix2 i j) = if (i.val ≤ j.val ∧ j.val ≤ i.val + 128) ∧ 128 ≤ 0 * 1024 + o * 128 + j.val then 1#1 else 0#1)
    (hk : ∀ (j : Fin 256) (c : Fin 128), k (ix2 j c) = blkKey P C a r j c) (c : Fin 128) :
    tileScore q m k i c = blkScore Q P C a r c := by
  funext j
  have e1 : r.val % 128 = i.val := by omega
  have e2 : r.val / 128 = o := by omega
  have same : ((i.val ≤ j.val ∧ j.val ≤ i.val + 128) ∧ 128 ≤ 0 * 1024 + o * 128 + j.val) ↔ Attend.Sees r.val j.val := by
    unfold Attend.Sees
    rw [e1, e2, Nat.zero_mul, Nat.zero_add]
  have hj := hm j
  unfold tileScore blkScore
  by_cases h : Attend.Sees r.val j.val
  · rw [if_pos (same.2 h)] at hj
    rw [hj, if_pos rfl, if_pos h]
    exact Finset.sum_congr rfl fun x _ => by rw [hq, hk]
  · rw [if_neg fun h' => h (same.1 h')] at hj
    rw [hj, if_neg (by decide), if_neg h]

theorem row_eq {n : ℕ} (X : Vec Ideal ⟨4, ![1, 4, n, 128]⟩ .bf16) (u w : Fin 1) {a b : Fin 4} (h : a.val = b.val) {x y : Fin n} (e : x.val = y.val)
    (c : Fin 128) : X (ix4 u a x c) = X (ix4 w b y c) := by
  rw [Fin.ext h, Fin.ext e, Subsingleton.elim u w]

/-- A read of two stacked sub-blocks of a residue of a tile. -/
theorem stack_blk (P : Vec Ideal S1x4x128x128 .bf16) (C : Vec Ideal S1x4x256x128 .bf16) (a : Fin 4) (r : Fin 256) (i : Fin 128) (o : ℕ)
    (hr : r.val = o * 128 + i.val) (k : FVec Ideal S256x128 .bf16)
    (h0 : ∀ (j c : Fin 128), k (ix2 ⟨j.val, by omega⟩ c) = if h : o = 0 then P (ix4 0 a j c) else C (ix4 0 a ⟨o * 128 + j.val - 128, by omega⟩ c))
    (h1 : ∀ (j c : Fin 128), k (ix2 ⟨128 + j.val, by omega⟩ c) = C (ix4 0 a ⟨o * 128 + j.val, by omega⟩ c))
    (j : Fin 256) (c : Fin 128) : k (ix2 j c) = blkKey P C a r j c := by
  have e2 : r.val / 128 = o := by omega
  unfold blkKey
  by_cases hj : j.val < 128
  · refine (h0 ⟨j.val, hj⟩ c).trans ?_
    by_cases ho : o = 0
    · rw [dif_pos ho, dif_pos (by omega)]
    · rw [dif_neg ho, dif_neg (by omega)]
      simp only [e2]
  · have := h1 ⟨j.val - 128, by omega⟩ c
    rw [dif_neg (by omega)]
    have ej : (⟨128 + (j.val - 128), by omega⟩ : Fin 256) = j := Fin.ext (by show 128 + (j.val - 128) = j.val; omega)
    simp only [ej] at this
    refine this.trans (row_eq C 0 0 rfl ?_ c)
    show o * 128 + (j.val - 128) = r.val / 128 * 128 + j.val - 128
    omega

theorem out5_at (i : grid0.Coords) (hi : (0 : Fin 4).val = (i 2).val) (X0 : Vec Ideal S1x4x256x128 .bf16) (X1 : Vec Ideal S1x4x128x128 .bf16)
    (X2 : Vec Ideal S1x4x256x128 .bf16) (X3 : Vec Ideal S1x4x128x128 .bf16) (X4 : Vec Ideal S1x4x256x128 .bf16)
    (u : Fin 1) (a : Fin 4) (r : Fin 256) (c : Fin 128) :
    out0_5 i X0 X1 X2 X3 X4 (ix4 u a r c) = Softmax.mean (blkScore X0 X1 X2 a r c) (fun j => blkKey X3 X4 a r j c) := by
  rw [out5 i 0 hi]
  canon_tiles x h
  case piece0 =>
    idx_vars x
    obtain rfl : c = x3 := Fin.ext h3
    obtain rfl : a = 3 := Fin.ext (by show a.val = 3; omega)
    have hr : r.val = 1 * 128 + x2.val := by omega
    rw [tileO_at]
    refine congrArg₂ Softmax.mean (tile_blk _ _ _ 3 r x2 1 hr _ _ _ (fun c => ?_) (fun j => band_later 0 1 (by decide) _ j) (stack_blk _ _ 3 r x2 1 hr _ (fun j c => ?_) (fun j c => ?_)) _)
      (funext fun j => stack_blk _ _ 3 r x2 1 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece1 =>
    idx_vars x
    obtain rfl : c = x3 := Fin.ext h3
    obtain rfl : a = 3 := Fin.ext (by show a.val = 3; omega)
    have hr : r.val = 0 * 128 + x2.val := by omega
    rw [tileO_at]
    refine congrArg₂ Softmax.mean (tile_blk _ _ _ 3 r x2 0 hr _ _ _ (fun c => ?_) (fun j => band_first 0 _ j) (stack_blk _ _ 3 r x2 0 hr _ (fun j c => ?_) (fun j c => ?_)) _)
      (funext fun j => stack_blk _ _ 3 r x2 0 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece2 =>
    idx_vars x
    obtain rfl : c = x3 := Fin.ext h3
    obtain rfl : a = 2 := Fin.ext (by show a.val = 2; omega)
    have hr : r.val = 1 * 128 + x2.val := by omega
    rw [tileO_at]
    refine congrArg₂ Softmax.mean (tile_blk _ _ _ 2 r x2 1 hr _ _ _ (fun c => ?_) (fun j => band_later 0 1 (by decide) _ j) (stack_blk _ _ 2 r x2 1 hr _ (fun j c => ?_) (fun j c => ?_)) _)
      (funext fun j => stack_blk _ _ 2 r x2 1 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece3 =>
    idx_vars x
    obtain rfl : c = x3 := Fin.ext h3
    obtain rfl : a = 2 := Fin.ext (by show a.val = 2; omega)
    have hr : r.val = 0 * 128 + x2.val := by omega
    rw [tileO_at]
    refine congrArg₂ Softmax.mean (tile_blk _ _ _ 2 r x2 0 hr _ _ _ (fun c => ?_) (fun j => band_first 0 _ j) (stack_blk _ _ 2 r x2 0 hr _ (fun j c => ?_) (fun j c => ?_)) _)
      (funext fun j => stack_blk _ _ 2 r x2 0 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece4 =>
    idx_vars x
    obtain rfl : c = x3 := Fin.ext h3
    obtain rfl : a = 1 := Fin.ext (by show a.val = 1; omega)
    have hr : r.val = 1 * 128 + x2.val := by omega
    rw [tileO_at]
    refine congrArg₂ Softmax.mean (tile_blk _ _ _ 1 r x2 1 hr _ _ _ (fun c => ?_) (fun j => band_later 0 1 (by decide) _ j) (stack_blk _ _ 1 r x2 1 hr _ (fun j c => ?_) (fun j c => ?_)) _)
      (funext fun j => stack_blk _ _ 1 r x2 1 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece5 =>
    idx_vars x
    obtain rfl : c = x3 := Fin.ext h3
    obtain rfl : a = 1 := Fin.ext (by show a.val = 1; omega)
    have hr : r.val = 0 * 128 + x2.val := by omega
    rw [tileO_at]
    refine congrArg₂ Softmax.mean (tile_blk _ _ _ 1 r x2 0 hr _ _ _ (fun c => ?_) (fun j => band_first 0 _ j) (stack_blk _ _ 1 r x2 0 hr _ (fun j c => ?_) (fun j c => ?_)) _)
      (funext fun j => stack_blk _ _ 1 r x2 0 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece6 =>
    idx_vars x
    obtain rfl : c = x3 := Fin.ext h3
    obtain rfl : a = 0 := Fin.ext (by show a.val = 0; omega)
    have hr : r.val = 1 * 128 + x2.val := by omega
    rw [tileO_at]
    refine congrArg₂ Softmax.mean (tile_blk _ _ _ 0 r x2 1 hr _ _ _ (fun c => ?_) (fun j => band_later 0 1 (by decide) _ j) (stack_blk _ _ 0 r x2 1 hr _ (fun j c => ?_) (fun j c => ?_)) _)
      (funext fun j => stack_blk _ _ 0 r x2 1 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]
  case piece7 =>
    idx_vars x
    obtain rfl : c = x3 := Fin.ext h3
    obtain rfl : a = 0 := Fin.ext (by show a.val = 0; omega)
    have hr : r.val = 0 * 128 + x2.val := by omega
    rw [tileO_at]
    refine congrArg₂ Softmax.mean (tile_blk _ _ _ 0 r x2 0 hr _ _ _ (fun c => ?_) (fun j => band_first 0 _ j) (stack_blk _ _ 0 r x2 0 hr _ (fun j c => ?_) (fun j c => ?_)) _)
      (funext fun j => stack_blk _ _ 0 r x2 0 hr _ (fun j c => ?_) (fun j c => ?_) j c)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
    · pointwise [Cert.Dil1Ideal.Gen.k0_pay6]
    · pointwise [Cert.Dil1Ideal.Gen.k0_pay6]

theorem out6_at (i : grid0.Coords) (hi : (0 : Fin 4).val = (i 2).val) (X0 : Vec Ideal S1x4x256x128 .bf16) (X1 : Vec Ideal S1x4x128x128 .bf16)
    (X2 : Vec Ideal S1x4x256x128 .bf16) (X3 : Vec Ideal S1x4x128x128 .bf16) (X4 : Vec Ideal S1x4x256x128 .bf16)
    (u : Fin 1) (a : Fin 4) (r : Fin 256) (c : Fin 128) :
    out0_6 i X0 X1 X2 X3 X4 (ix4 u a r c) = Softmax.lse (blkScore X0 X1 X2 a r c) := by
  rw [out6 i 0 hi]
  canon_tiles x h
  case piece0 =>
    idx_vars x
    obtain rfl : c = x3 := Fin.ext h3
    obtain rfl : a = 3 := Fin.ext (by show a.val = 3; omega)
    have hr : r.val = 1 * 128 + x2.val := by omega
    rw [tileL_at]
    refine congrArg Softmax.lse (tile_blk _ _ _ 3 r x2 1 hr _ _ _ (fun c => ?_) (fun j => band_later 0 1 (by decide) _ j) (stack_blk _ _ 3 r x2 1 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece1 =>
    idx_vars x
    obtain rfl : c = x3 := Fin.ext h3
    obtain rfl : a = 3 := Fin.ext (by show a.val = 3; omega)
    have hr : r.val = 0 * 128 + x2.val := by omega
    rw [tileL_at]
    refine congrArg Softmax.lse (tile_blk _ _ _ 3 r x2 0 hr _ _ _ (fun c => ?_) (fun j => band_first 0 _ j) (stack_blk _ _ 3 r x2 0 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece2 =>
    idx_vars x
    obtain rfl : c = x3 := Fin.ext h3
    obtain rfl : a = 2 := Fin.ext (by show a.val = 2; omega)
    have hr : r.val = 1 * 128 + x2.val := by omega
    rw [tileL_at]
    refine congrArg Softmax.lse (tile_blk _ _ _ 2 r x2 1 hr _ _ _ (fun c => ?_) (fun j => band_later 0 1 (by decide) _ j) (stack_blk _ _ 2 r x2 1 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece3 =>
    idx_vars x
    obtain rfl : c = x3 := Fin.ext h3
    obtain rfl : a = 2 := Fin.ext (by show a.val = 2; omega)
    have hr : r.val = 0 * 128 + x2.val := by omega
    rw [tileL_at]
    refine congrArg Softmax.lse (tile_blk _ _ _ 2 r x2 0 hr _ _ _ (fun c => ?_) (fun j => band_first 0 _ j) (stack_blk _ _ 2 r x2 0 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece4 =>
    idx_vars x
    obtain rfl : c = x3 := Fin.ext h3
    obtain rfl : a = 1 := Fin.ext (by show a.val = 1; omega)
    have hr : r.val = 1 * 128 + x2.val := by omega
    rw [tileL_at]
    refine congrArg Softmax.lse (tile_blk _ _ _ 1 r x2 1 hr _ _ _ (fun c => ?_) (fun j => band_later 0 1 (by decide) _ j) (stack_blk _ _ 1 r x2 1 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece5 =>
    idx_vars x
    obtain rfl : c = x3 := Fin.ext h3
    obtain rfl : a = 1 := Fin.ext (by show a.val = 1; omega)
    have hr : r.val = 0 * 128 + x2.val := by omega
    rw [tileL_at]
    refine congrArg Softmax.lse (tile_blk _ _ _ 1 r x2 0 hr _ _ _ (fun c => ?_) (fun j => band_first 0 _ j) (stack_blk _ _ 1 r x2 0 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece6 =>
    idx_vars x
    obtain rfl : c = x3 := Fin.ext h3
    obtain rfl : a = 0 := Fin.ext (by show a.val = 0; omega)
    have hr : r.val = 1 * 128 + x2.val := by omega
    rw [tileL_at]
    refine congrArg Softmax.lse (tile_blk _ _ _ 0 r x2 1 hr _ _ _ (fun c => ?_) (fun j => band_later 0 1 (by decide) _ j) (stack_blk _ _ 0 r x2 1 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]
  case piece7 =>
    idx_vars x
    obtain rfl : c = x3 := Fin.ext h3
    obtain rfl : a = 0 := Fin.ext (by show a.val = 0; omega)
    have hr : r.val = 0 * 128 + x2.val := by omega
    rw [tileL_at]
    refine congrArg Softmax.lse (tile_blk _ _ _ 0 r x2 0 hr _ _ _ (fun c => ?_) (fun j => band_first 0 _ j) (stack_blk _ _ 0 r x2 0 hr _ (fun j c => ?_) (fun j c => ?_)) _)
    · pointwise [Cert.Dil1Ideal.Gen.k0_pay4]
      exact row_eq X0 _ _ rfl (by simp only []; omega) c
    · pointwise [Cert.Dil1Ideal.Gen.k0_pay6]
    · pointwise [Cert.Dil1Ideal.Gen.k0_pay6]

end Cert.Dil16Ideal.Tile
end
-- ==== Proof.Dil16Final.lean ====
module

public import proofs.«01_k».proof.Proof.Dil16Block
public import proofs.«01_k».proof.Proof.Attend
public import proofs.«01_k».proof.Proof.Gen.Dil16Ideal.Value

@[expose] public section

set_option maxRecDepth 16384

noncomputable section

namespace Cert.Dil16Ideal.Final

open Cert.Dil16Ideal Cert.Dil16Ideal.Gen Cert.Dil16Ideal.Tile Idealize.ShloMosaic Idealize.ShloMosaic.TcCoe Idealize.SL.Sem

variable (m : (ℓ : Loc nD τ sig) → Buf (Elt Ideal) ℓ) (e : Dev nD)

/-- The queries, keys and values as launched. -/
abbrev argQ : Attend.Heads := m ((e.tc : Thread nD τ).loc main_arg0)
abbrev argK : Attend.Heads := m ((e.tc : Thread nD τ).loc main_arg1)
abbrev argV : Attend.Heads := m ((e.tc : Thread nD τ).loc main_arg2)

theorem q_at (b : Fin 8) (r : Fin 16) (l : Fin 256) (c : Fin 128) :
    V m e main_v4 (ix4 b r l c) = argQ m e (ix4 b ⟨l.val * 16 + r.val, by omega⟩ ⟨c.val / 64, by omega⟩ ⟨c.val % 64, by omega⟩) * Attend.scale := by
  entry_read
  pointwise []
  rfl
theorem k_at (b : Fin 8) (r : Fin 16) (l : Fin 256) (c : Fin 128) :
    V m e main_v7 (ix4 b r l c) = argK m e (ix4 b ⟨l.val * 16 + r.val, by omega⟩ ⟨c.val / 64, by omega⟩ ⟨c.val % 64, by omega⟩) := by
  entry_read
  pointwise []
theorem v_at (b : Fin 8) (r : Fin 16) (l : Fin 256) (c : Fin 128) :
    V m e main_v10 (ix4 b r l c) = argV m e (ix4 b ⟨l.val * 16 + r.val, by omega⟩ ⟨c.val / 64, by omega⟩ ⟨c.val % 64, by omega⟩) := by
  entry_read
  pointwise []

/-- Where the blocks of grid point `t` lie. -/
theorem idx : ∀ t : Fin cfg0.N, win0_0.index t = ![t.val / 4, t.val % 4, 0, 0] ∧ win0_1.index t = ![t.val / 4, t.val % 4, 0, 0] ∧ win0_2.index t = ![t.val / 4, t.val % 4, 0, 0] ∧ win0_3.index t = ![t.val / 4, t.val % 4, 0, 0] ∧ win0_4.index t = ![t.val / 4, t.val % 4, 0, 0] ∧ win0_5.index t = ![t.val / 4, t.val % 4, 0, 0] ∧ win0_6.index t = ![t.val / 4, t.val % 4, 0, 0] ∧ (grid0.coords t 2).val = 0 :=
  (by decide +kernel : ∀ t : Fin grid0.N, _)

variable (t : Fin cfg0.N) (b : Fin 8) (hb : b.val = t.val / 4) (a : Fin 4) (s : Fin 16) (hs : s.val = t.val % 4 * 4 + a.val)
include hb hs

theorem blk0 (r : Fin 256) (c : Fin 128) :
    iblk m e 0 t (ix4 0 a r c) = V m e main_v4 (ix4 b s r c) := by
  obtain ⟨h0, h1, h2, h3, h4, h5, h6, h7⟩ := idx t
  blk_point [iblk, V, h0, hb, hs]
theorem blk2 (r : Fin 256) (c : Fin 128) :
    iblk m e 2 t (ix4 0 a r c) = V m e main_v7 (ix4 b s r c) := by
  obtain ⟨h0, h1, h2, h3, h4, h5, h6, h7⟩ := idx t
  blk_point [iblk, V, h2, hb, hs]
theorem blk4 (r : Fin 256) (c : Fin 128) :
    iblk m e 4 t (ix4 0 a r c) = V m e main_v10 (ix4 b s r c) := by
  obtain ⟨h0, h1, h2, h3, h4, h5, h6, h7⟩ := idx t
  blk_point [iblk, V, h4, hb, hs]

/-- A key a query sees, read from the tile's blocks. -/
theorem key_at (r : Fin 256) (j : Fin 256) (c : Fin 128) (hj : Attend.Sees r.val j.val) :
    blkKey (iblk m e 1 t) (iblk m e 2 t) a r j c
      = Attend.rd (argK m e) b (Attend.keyPos 16 s.val r.val j.val) ⟨c.val / 64, by omega⟩ ⟨c.val % 64, by omega⟩ := by
  have h2 := hj.2
  have h1 := hj.1
  unfold blkKey
  rw [dif_neg (by omega), blk2 m e t b hb a s hs, k_at]
  refine Attend.rd_of _ b _ _ _ ?_
  rfl

/-- A value a query sees, read from the tile's blocks. -/
theorem val_at (r : Fin 256) (j : Fin 256) (c : Fin 128) (hj : Attend.Sees r.val j.val) :
    blkKey (iblk m e 3 t) (iblk m e 4 t) a r j c
      = Attend.vals 16 (argV m e) b s.val r.val ⟨c.val / 64, by omega⟩ ⟨c.val % 64, by omega⟩ j := by
  have h2 := hj.2
  have h1 := hj.1
  unfold blkKey
  rw [dif_neg (by omega), blk4 m e t b hb a s hs, v_at]
  refine Attend.rd_of _ b _ _ _ ?_
  rfl

theorem score_at (r : Fin 256) (c : Fin 128) :
    blkScore (iblk m e 0 t) (iblk m e 1 t) (iblk m e 2 t) a r c
      = Attend.scaledFirst 16 (argQ m e) (argK m e) b s.val r.val ⟨c.val / 64, by omega⟩ := by
  funext j
  unfold blkScore Attend.scaledFirst
  by_cases hj : Attend.Sees r.val j.val
  · have h2 := hj.2
    have h1 := hj.1
    rw [if_pos hj, if_pos hj]
    refine Finset.sum_congr rfl fun x _ => ?_
    rw [key_at m e t b hb a s hs r j _ hj, blk0 m e t b hb a s hs r, q_at]
    have ex : (⟨(c.val / 64 * 64 + x.val) / 64, by omega⟩ : Fin 2) = ⟨c.val / 64, by omega⟩ := Fin.ext (by show (c.val / 64 * 64 + x.val) / 64 = c.val / 64; omega)
    have ey : (⟨(c.val / 64 * 64 + x.val) % 64, by omega⟩ : Fin 64) = x := Fin.ext (by show (c.val / 64 * 64 + x.val) % 64 = x.val; omega)
    simp only [ex, ey]
    refine congrArg (· * _) (congrArg (· * _) (Attend.rd_of (argQ m e) b _ _ x ?_))
    rfl
  · rw [if_neg hj, if_neg hj]

omit hb hs

/-- The output array after the run. -/
def outO : (⟨4, ![8, 16, 256, 128]⟩ : Shape).Idx → EReal := fun y =>
  Softmax.mean (Attend.scaledFirst 16 (argQ m e) (argK m e) (y 0) (y 1).val (y 2).val ⟨(y 3).val / 64, Nat.div_lt_of_lt_mul (y 3).isLt⟩)
    (Attend.vals 16 (argV m e) (y 0) (y 1).val (y 2).val ⟨(y 3).val / 64, Nat.div_lt_of_lt_mul (y 3).isLt⟩ ⟨(y 3).val % 64, Nat.mod_lt _ (by decide)⟩)

/-- The logarithms of the denominators after the run. -/
def outL : (⟨4, ![8, 16, 256, 128]⟩ : Shape).Idx → EReal := fun y =>
  Softmax.lse (Attend.scaledFirst 16 (argQ m e) (argK m e) (y 0) (y 1).val (y 2).val ⟨(y 3).val / 64, Nat.div_lt_of_lt_mul (y 3).isLt⟩)

theorem final5 : (dats m 0 e).arrAt 5 cfg0.N = outO m e := by
  refine (dats m 0 e).arrAt_eq_of_covers 5 _ (by decide +kernel) fun t _ y => ?_
  blk_simp
  rw [after0_5]
  obtain ⟨h0, h1, h2, h3, h4, h5, h6, h7⟩ := idx t
  idx_vars y
  have hy : ((View.whole main_v11_0).slice (win0_5.rect t)).emb (ix4 y0 y1 y2 y3)
      = ix4 ⟨t.val / 4, Nat.div_lt_of_lt_mul t.isLt⟩ ⟨t.val % 4 * 4 + y1.val, by omega⟩ y2 y3 := by
    blk_ext [h5]
  rw [hy, out5_at _ h7.symm, score_at m e t ⟨t.val / 4, Nat.div_lt_of_lt_mul t.isLt⟩ rfl y1 ⟨t.val % 4 * 4 + y1.val, by omega⟩ rfl]
  refine Attend.mean_congr fun j hj => val_at m e t ⟨t.val / 4, Nat.div_lt_of_lt_mul t.isLt⟩ rfl y1 ⟨t.val % 4 * 4 + y1.val, by omega⟩ rfl y2 j y3 ?_
  by_contra hs
  exact hj (if_neg hs)

theorem final6 : (dats m 0 e).arrAt 6 cfg0.N = outL m e := by
  refine (dats m 0 e).arrAt_eq_of_covers 6 _ (by decide +kernel) fun t _ y => ?_
  blk_simp
  rw [after0_6]
  obtain ⟨h0, h1, h2, h3, h4, h5, h6, h7⟩ := idx t
  idx_vars y
  have hy : ((View.whole main_v11_1).slice (win0_6.rect t)).emb (ix4 y0 y1 y2 y3)
      = ix4 ⟨t.val / 4, Nat.div_lt_of_lt_mul t.isLt⟩ ⟨t.val % 4 * 4 + y1.val, by omega⟩ y2 y3 := by
    blk_ext [h6]
  rw [hy, out6_at _ h7.symm, score_at m e t ⟨t.val / 4, Nat.div_lt_of_lt_mul t.isLt⟩ rfl y1 ⟨t.val % 4 * 4 + y1.val, by omega⟩ rfl]
  rfl

end Cert.Dil16Ideal.Final
end
-- ==== Proof.Ref16Rows.lean ====
module

public import proofs.«01_k».proof.Proof.Gen.Ref16Ideal.Run
public import proofs.«01_k».proof.Proof.HostSum
public import proofs.«01_k».proof.Proof.Attend
public import proofs.«01_k».proof.Proof.Band
public import Idealize.ShloMosaic.Lib.Pipeline.ValueKit

@[expose] public section

set_option maxRecDepth 16384

noncomputable section

namespace Cert.Ref16Ideal.Rows

open Idealize.ShloMosaic Idealize.ShloMosaic.TcCoe Idealize.SL.Sem
open Cert.Ref16Ideal Cert.Ref16Ideal.Gen

section stages
variable {F : FTy → Type} [FloatOps F]

/-- Blocks of 128 steps of every residue and head. -/
def blocks (x : FVec F S8x4096x2x64 .f32) : FVec F S8x16x2x2x128x64 .f32 :=
  shapeCast S8x16x2x2x128x64 (transpose S8x16x2x256x64 [0, 2, 3, 1, 4] (shapeCast S8x256x16x2x64 x shapeCasts_S8x4096x2x64_S8x256x16x2x64) transposes_S8x256x16x2x64_S8x16x2x256x64_0_2_3_1_4) shapeCasts_S8x16x2x256x64_S8x16x2x2x128x64

/-- Every block behind the one before it; zeros stand before the first. -/
def pairs (x : FVec F S8x4096x2x64 .f32) : FVec F S8x16x2x2x256x64 .f32 :=
  concatenate S8x16x2x2x256x64 4 [⟨S8x16x2x2x128x64, extractStridedSlice S8x16x2x2x128x64 ![0, 0, 0, 0, 0, 0] (pad S8x16x2x3x128x64 ![0, 0, 0, 1, 0, 0] ![0, 0, 0, 0, 0, 0] ![0, 0, 0, 0, 0, 0] (blocks x) (sitofp .f32 (constantI S_ 32 0#32)) pads_S8x16x2x2x128x64_S8x16x2x3x128x64_000_000_000_100_000_000 h_S_) slices_S8x16x2x3x128x64_S8x16x2x2x128x64_0_0_0_0_0_0⟩, ⟨S8x16x2x2x128x64, blocks x⟩] concatenates_S8x16x2x2x128x64_S8x16x2x2x128x64_S8x16x2x2x256x64_d4

/-- The distance from a query of a block to a key of the pair of blocks. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The keys a query may attend. -/
def allowed : IVec S2x128x256 1 :=
  andi
    (broadcastInDim S2x128x256 ![0, 1, 2] bcast_S1x128x256_S2x128x256_0_1_2 (broadcastInDim S1x128x256 ![1, 2] bcast_S128x256_S1x128x256_1_2
      (andi (cmpi .sge dist (broadcastInDim S128x256 ![] bcast_S_S128x256 (constantI S_ 32 0#32))) (cmpi .sle dist (broadcastInDim S128x256 ![] bcast_S_S128x256 (constantI S_ 32 128#32))))))
    (broadcastInDim S2x128x256 ![0, 1, 2] bcast_S2x1x256_S2x128x256_0_1_2
      (cmpi .sge
        (subi
          (addi
            (broadcastInDim S2x1x256 ![0, 1, 2] bcast_S2x1x1_S2x1x256_0_1_2 (muli (broadcastInDim S2x1x1 ![0] bcast_S2_S2x1x1_0 (iotaInDim S2 32 0)) (broadcastInDim S2x1x1 ![] bcast_S_S2x1x1 (constantI S_ 32 128#32))))
            (broadcastInDim S2x1x256 ![0, 1, 2] bcast_S1x1x256_S2x1x256_0_1_2 (broadcastInDim S1x1x256 ![1, 2] bcast_S1x256_S1x1x256_1_2 (broadcastInDim S1x256 ![1] bcast_S256_S1x256_1 (iotaInDim S256 32 0)))))
          (broadcastInDim S2x1x256 ![] bcast_S_S2x1x256 (constantI S_ 32 128#32)))
        (broadcastInDim S2x1x256 ![] bcast_S_S2x1x256 (constantI S_ 32 0#32))))

/-- The masked scores. -/
def scores (q k : FVec F S8x4096x2x64 .f32) : FVec F S8x16x2x2x128x256 .f32 :=
  select (broadcastInDim S8x16x2x2x128x256 ![3, 4, 5] bcast_S2x128x256_S8x16x2x2x128x256_3_4_5 allowed)
    (mulf (Host.dotGeneral dot_S8x16x2x2x128x64_S8x16x2x2x256x64_S8x16x2x2x128x256_5_5_4_4_0123_0123 none (blocks q) (pairs k)) (broadcastInDim S8x16x2x2x128x256 ![] bcast_S_S8x16x2x2x128x256 (constant S_ .f32 0x3E000000#32)))
    (broadcastInDim S8x16x2x2x128x256 ![] bcast_S_S8x16x2x2x128x256 (constant S_ .f32 0xFF800000#32))

/-- A number per row, repeated along the row. -/
def along (x : FVec F S8x16x2x2x128 .f32) : FVec F S8x16x2x2x128x256 .f32 :=
  broadcastInDim S8x16x2x2x128x256 ![0, 1, 2, 3, 4, 5] bcast_S8x16x2x2x128x1_S8x16x2x2x128x256_0_1_2_3_4_5 (broadcastInDim S8x16x2x2x128x1 ![0, 1, 2, 3, 4] bcast_S8x16x2x2x128_S8x16x2x2x128x1_0_1_2_3_4 x)

/-- The logarithm of the sum of a row's exponentials. -/
def rowLse (s : FVec F S8x16x2x2x128x256 .f32) : FVec F S8x16x2x2x128 .f32 :=
  Host.log (Host.reduceAdd (Host.exp s) (constant S_ .f32 0x00000000#32) reducesTo_S8x16x2x2x128x256_S8x16x2x2x128_d5 h_S_)

/-- The weighted values. -/
def rowOut (s : FVec F S8x16x2x2x128x256 .f32) (v : FVec F S8x16x2x2x256x64 .f32) : FVec F S8x16x2x2x128x64 .f32 :=
  Host.dotGeneral dot_S8x16x2x2x128x256_S8x16x2x2x256x64_S8x16x2x2x128x64_5_4_4_5_0123_0123 none (Host.exp (subf s (along (rowLse s)))) v

/-- The output, residue by residue, the heads side by side. -/
def refO (q k v : FVec F S8x4096x2x64 .f32) : FVec F S8x16x256x128 .bf16 :=
  truncf .bf16 (shapeCast S8x16x256x128 (transpose S8x16x256x2x64 [0, 1, 3, 2, 4] (shapeCast S8x16x2x256x64 (rowOut (scores q k) (pairs v)) shapeCasts_S8x16x2x2x128x64_S8x16x2x256x64) transposes_S8x16x2x256x64_S8x16x256x2x64_0_1_3_2_4) shapeCasts_S8x16x256x2x64_S8x16x256x128) bitsLt_bf16_f32

/-- The log-denominators in the same layout. -/
def refL (q k : FVec F S8x4096x2x64 .f32) : FVec F S8x16x256x128 .f32 :=
  shapeCast S8x16x256x128 (broadcastInDim S8x16x256x2x64 ![0, 1, 2, 3, 4] bcast_S8x16x256x2x1_S8x16x256x2x64_0_1_2_3_4 (broadcastInDim S8x16x256x2x1 ![0, 1, 2, 3] bcast_S8x16x256x2_S8x16x256x2x1_0_1_2_3 (transpose S8x16x256x2 [0, 1, 3, 2] (shapeCast S8x16x2x256 (rowLse (scores q k)) shapeCasts_S8x16x2x2x128_S8x16x2x256) transposes_S8x16x2x256_S8x16x256x2_0_1_3_2))) shapeCasts_S8x16x256x2x64_S8x16x256x128

theorem out0_eq (m : (ℓ : Loc nD τ sig) → Buf (Elt F) ℓ) (c : Dev nD) :
    Value.res_out0 m c = refO (m ((c.tc : Thread nD τ).loc main_arg0)) (m ((c.tc : Thread nD τ).loc main_arg1)) (m ((c.tc : Thread nD τ).loc main_arg2)) := rfl

end stages

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = refO (F := Ideal) (m ((c.tc : Thread nD τ).loc main_arg0)) (m ((c.tc : Thread nD τ).loc main_arg1)) (m ((c.tc : Thread nD τ).loc main_arg2))
      ∧ r.2.mem ((c.tc : Thread nD τ).loc main_v64) = refL (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem blocks_at (q : FVec Ideal S8x4096x2x64 .f32) (b : Fin 8) (r : Fin 16) (h : Fin 2) (n : Fin 2) (i : Fin 128) (c : Fin 64) :
    blocks q (ix6 b r h n i c) = q (ix4 b ⟨(n.val * 128 + i.val) * 16 + r.val, by omega⟩ h c) := by
  pointwise [blocks]

theorem neg_inf : Ideal.ofBits .f32 0xFF800000#32 = (⊥ : EReal) := by simp [Ideal.ofBits, Ideal.ieee]

/-- A block and the one before it, read where a query sees the key. -/
theorem pairs_at (q : FVec Ideal S8x4096x2x64 .f32) (b : Fin 8) (r : Fin 16) (h : Fin 2) (n : Fin 2) (j : Fin 256) (c : Fin 64)
    (hs : 128 ≤ n.val * 128 + j.val) :
    pairs q (ix6 b r h n j c) = q (ix4 b ⟨(n.val * 128 + j.val - 128) * 16 + r.val, by omega⟩ h c) := by
  pointwise [pairs, blocks]
  by_cases h1 : j.val < 128
  · rw [dif_pos h1, dif_pos (by omega)]
    congr 2
    exact Fin.ext (by show ((n.val - 1) * 128 + j.val) * 16 + r.val = (n.val * 128 + j.val - 128) * 16 + r.val; omega)
  · rw [dif_neg h1]
    congr 2
    exact Fin.ext (by show (n.val * 128 + (j.val - 128)) * 16 + r.val = (n.val * 128 + j.val - 128) * 16 + r.val; omega)

theorem started : ∀ (n : Fin 2) (j : Fin 256), IntOp.cmpi CmpIPredicate.sge
        (IntOp.subi (IntOp.addi (IntOp.muli (BitVec.ofNat 32 n.val) 128#32) (BitVec.ofNat 32 j.val)) 128#32) 0#32
      = if 128 ≤ n.val * 128 + j.val then 1#1 else 0#1 := by decide +kernel

theorem allowed_at (n : Fin 2) (i : Fin 128) (j : Fin 256) :
    allowed (ix3 n i j) = if (i.val ≤ j.val ∧ j.val ≤ i.val + 128) ∧ 128 ≤ n.val * 128 + j.val then 1#1 else 0#1 := by
  pointwise [allowed, dist]
  rw [Attend.near, started]
  by_cases h1 : i.val ≤ j.val ∧ j.val ≤ i.val + 128 <;> by_cases h2 : 128 ≤ n.val * 128 + j.val
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

theorem scores_at (q k : FVec Ideal S8x4096x2x64 .f32) (b : Fin 8) (r : Fin 16) (h : Fin 2) (l : Fin 256) (j : Fin 256) :
    scores q k (ix6 b r h ⟨l.val / 128, by omega⟩ ⟨l.val % 128, by omega⟩ j) = Attend.scaledLast 16 q k b r.val l.val h j := by
  pointwise [scores]
  rw [allowed_at, neg_inf]
  unfold Attend.scaledLast Attend.scale
  by_cases hs : Attend.Sees l.val j.val
  · rw [if_pos hs, if_pos (show (l.val % 128 ≤ j.val ∧ j.val ≤ l.val % 128 + 128) ∧ 128 ≤ l.val / 128 * 128 + j.val from hs)]
    refine congrArg (· * _) (Finset.sum_congr rfl fun x _ => ?_)
    rw [blocks_at, pairs_at k b r h ⟨l.val / 128, by omega⟩ j x hs.2]
    refine congrArg₂ (· * ·) (Attend.rd_of q b _ h x ?_) (Attend.rd_of k b _ h x ?_)
    · show (l.val / 128 * 128 + l.val % 128) * 16 + r.val = l.val * 16 + r.val
      omega
    · show (l.val / 128 * 128 + j.val - 128) * 16 + r.val = (l.val / 128 * 128 + j.val - 128) * 16 + r.val
      rfl
  · rw [if_neg hs, if_neg (show ¬ ((l.val % 128 ≤ j.val ∧ j.val ≤ l.val % 128 + 128) ∧ 128 ≤ l.val / 128 * 128 + j.val) from hs)]; rfl

theorem lse_at (s : FVec Ideal S8x16x2x2x128x256 .f32) (b : Fin 8) (r : Fin 16) (h : Fin 2) (n : Fin 2) (i : Fin 128) :
    rowLse s (ix5 b r h n i) = Ideal.log (∑ j : Fin 256, Ideal.exp (s (ix6 b r h n i j))) := by
  unfold rowLse
  pointwise []
  rw [Softmax.sum_last]
  pointwise []

theorem out_at (s : FVec Ideal S8x16x2x2x128x256 .f32) (w : FVec Ideal S8x16x2x2x256x64 .f32) (b : Fin 8) (r : Fin 16) (h : Fin 2) (n : Fin 2) (i : Fin 128) (c : Fin 64) :
    rowOut s w (ix6 b r h n i c) = ∑ j : Fin 256, Ideal.exp (s (ix6 b r h n i j) - rowLse s (ix5 b r h n i)) * w (ix6 b r h n j c) := by
  pointwise [rowOut, along]

theorem vals_at (v : FVec Ideal S8x4096x2x64 .f32) (b : Fin 8) (r : Fin 16) (h : Fin 2) (l : Fin 256) (j : Fin 256) (c : Fin 64) (hs : Attend.Sees l.val j.val) :
    pairs v (ix6 b r h ⟨l.val / 128, by omega⟩ j c) = Attend.vals 16 v b r.val l.val h c j := by
  have h2 := hs.2
  have h1 := hs.1
  rw [pairs_at v b r h ⟨l.val / 128, by omega⟩ j c h2]
  refine Attend.rd_of v b _ h c ?_
  show (l.val / 128 * 128 + j.val - 128) * 16 + r.val = (l.val / 128 * 128 + j.val - 128) * 16 + r.val
  rfl

variable {q k v : FVec Ideal S8x4096x2x64 .f32} (hq : Attend.Real q) (hk : Attend.Real k)
include hq hk

theorem refL_at (b : Fin 8) (r : Fin 16) (l : Fin 256) (c : Fin 128) :
    refL q k (ix4 b r l c) = Softmax.lse (Attend.scaledLast 16 q k b r.val l.val ⟨c.val / 64, by omega⟩) := by
  pointwise [refL]
  rw [lse_at]
  exact (congrArg (fun s : Fin 256 → EReal => Ideal.log (∑ j, Ideal.exp (s j))) (funext fun j => scores_at q k b r _ l j)).trans
    (Softmax.lse_eq (Attend.row 16 hq hk b r.val l.val _))

theorem refO_at (b : Fin 8) (r : Fin 16) (l : Fin 256) (c : Fin 128) :
    refO q k v (ix4 b r l c) = Softmax.mean (Attend.scaledLast 16 q k b r.val l.val ⟨c.val / 64, by omega⟩) (Attend.vals 16 v b r.val l.val ⟨c.val / 64, by omega⟩ ⟨c.val % 64, by omega⟩) := by
  pointwise [refO]
  rw [out_at, lse_at]
  have row := Attend.row 16 hq hk b r.val l.val ⟨c.val / 64, by omega⟩
  refine (congrArg (fun s : Fin 256 → EReal => ∑ j, Ideal.exp (s j - Ideal.log (∑ j, Ideal.exp (s j))) * pairs v (ix6 b r ⟨c.val / 64, by omega⟩ ⟨l.val / 128, by omega⟩ j ⟨c.val % 64, by omega⟩))
    (funext fun j => scores_at q k b r _ l j)).trans ?_
  rw [Softmax.lse_eq row]
  refine (Softmax.mean_eq row _).symm.trans (Attend.mean_congr fun j hj => ?_)
  refine vals_at v b r _ l j _ ?_
  by_contra hs
  exact hj (if_neg hs)

end Cert.Ref16Ideal.Rows
end
-- ==== Proof.Dil16Claims.lean ====
module

public import proofs.«01_k».proof.Proof.Dil16Final
public import proofs.«01_k».proof.Proof.Ref16Rows
public import proofs.«01_k».proof.Proof.Finite
public import proofs.«01_k».proof.Proof.Gen.Dil16.Frame
public import Idealize.ShloMosaic.Lib.Claim
public import Idealize.ShloMosaic.Lib.Quiescent

@[expose] public section

noncomputable section

/-! The claims about the dilated attention of dilation sixteen. -/
namespace Cert.Dil16Claims

open Idealize.ShloMosaic Idealize.SL.Sem

theorem frame_p : Cert.quiescent_Dil16 := fun m g _ => Cert.Dil16.Gen.frame m g
theorem frame_pi : Cert.quiescent_Dil16Ideal := fun m g _ => Cert.Dil16Ideal.Gen.frame m g
theorem frame_pi_pre : Cert.quiescent_Dil16Ideal_pre_finite := fun m g _ => Cert.Dil16Ideal.Gen.frame m g
theorem frame_r : Cert.quiescent_Ref16Ideal := fun m g _ =>
  (θ_run Cert.Ref16Ideal.defs _ _).mono (fun r h => ⟨fun c => (h c).2.2, sem_eq_zero_of_no_sems (by decide) r.2⟩)
    (Cert.Ref16Ideal.Rows.run_named m g)
theorem frame_r_pre : Cert.quiescent_Ref16Ideal_pre_finite := fun m g _ => frame_r m g trivial

theorem preserves : Cert.preserves_Dil16_Dil16Ideal :=
  IdealRules.named_const.statement Cert.Dil16Ideal.κ "mask" .f32 0xF149F2CA#32 ⊥ rfl

theorem algebraic : Cert.algebraic_Dil16Ideal_Ref16Ideal_pre_finite := by
  intro m ρ m' ρ' hpre hagree
  refine ⟨_, _, Cert.Dil16Ideal.Value.run_blocks (F := Ideal) m ρ, ?_⟩
  refine (θ_run Cert.Ref16Ideal.defs _ _).mono (fun _ h c => ?_) (Cert.Ref16Ideal.Rows.run_named m' ρ')
  obtain ⟨hq, hk⟩ := Attend.real_args _ _ _ (hpre c)
  obtain ⟨hO, hL, hr⟩ := h c
  refine ⟨hO.trans ?_, hL.trans ?_, hr⟩
  · rw [(hagree c).1, (hagree c).2.1, (hagree c).2.2, Cert.Dil16Ideal.Final.final5]
    refine funext fun y => ?_
    rw [← ix4_eta y]
    exact (Cert.Ref16Ideal.Rows.refO_at hq hk (y 0) (y 1) (y 2) (y 3)).trans
      (congrArg (fun s => Softmax.mean s _) (Attend.scaled_eq 16 hq hk (y 0) (y 1).val (y 2).val _).symm)
  · rw [(hagree c).1, (hagree c).2.1, Cert.Dil16Ideal.Final.final6]
    refine funext fun y => ?_
    rw [← ix4_eta y]
    exact (Cert.Ref16Ideal.Rows.refL_at hq hk (y 0) (y 1) (y 2) (y 3)).trans
      (congrArg Softmax.lse (Attend.scaled_eq 16 hq hk (y 0) (y 1).val (y 2).val _).symm)

end Cert.Dil16Claims
end
-- ==== Proof.MemkvTile.lean ====
module

public import Idealize.ShloMosaic.Lib.Pipeline.ValueKit
public import proofs.«01_k».proof.Proof.Gen.MemkvIdeal.Frame
public import proofs.«01_k».proof.Proof.Gen.MemkvIdeal.Value

@[expose] public section

set_option maxRecDepth 16384

noncomputable section

/-! The call that projects the memory: its two blocks at a grid point, then the arrays it leaves. -/
namespace Cert.MemkvIdeal.Final

open Cert.MemkvIdeal Cert.MemkvIdeal.Gen Idealize.ShloMosaic Idealize.ShloMosaic.TcCoe Idealize.SL.Sem

theorem keys_at (x : Vec Ideal S1x256x1024 .f32) (w : Vec Ideal S1024x512 .bf16) (u : Fin 1) (r c : Fin 256) :
    out0_2 (F := Ideal) x w (ix3 u r c) = ∑ k : Fin 1024, (show EReal from x (ix3 0 r k)) * w (ix2 k ⟨c.val, by omega⟩) := by
  unfold out0_2
  canon_tiles x h
  idx_vars x
  obtain rfl : r = x1 := Fin.ext h1
  obtain rfl : c = x2 := Fin.ext h2
  pointwise [k0_pay2, k0_pay1]

theorem values_at (x : Vec Ideal S1x256x1024 .f32) (w : Vec Ideal S1024x512 .bf16) (u : Fin 1) (r c : Fin 256) :
    out0_3 (F := Ideal) x w (ix3 u r c) = ∑ k : Fin 1024, (show EReal from x (ix3 0 r k)) * w (ix2 k ⟨256 + c.val, by omega⟩) := by
  unfold out0_3
  canon_tiles x h
  idx_vars x
  obtain rfl : r = x1 := Fin.ext h1
  obtain rfl : c = x2 := Fin.ext h2
  pointwise [k0_pay3, k0_pay1]

variable (m : (ℓ : Loc nD τ sig) → Buf (Elt Ideal) ℓ) (e : Dev nD)

/-- Lane `c` of the projection of memory row `r` of sequence `b`. -/
def lane (b : Fin 8) (r : Fin 256) (c : Fin 512) : EReal :=
  ∑ k : Fin 1024, (show EReal from m ((e.tc : Thread nD τ).loc main_arg0) (ix3 b r k)) * m ((e.tc : Thread nD τ).loc main_arg1) (ix2 k c)

def keys : (⟨3, ![8, 256, 256]⟩ : Shape).Idx → EReal := fun y => lane m e (y 0) (y 1) ⟨(y 2).val, Nat.lt_trans (y 2).isLt (by decide)⟩
def values : (⟨3, ![8, 256, 256]⟩ : Shape).Idx → EReal := fun y => lane m e (y 0) (y 1) ⟨256 + (y 2).val, Nat.add_lt_add_left (y 2).isLt 256⟩

theorem w_at (k : Fin 1024) (c : Fin 512) : V m e main_v0 (ix2 k c) = m ((e.tc : Thread nD τ).loc main_arg1) (ix2 k c) := by
  entry_read
  pointwise []

/-- Where the blocks of grid point `t` lie. -/
theorem idx : ∀ t : Fin cfg0.N, win0_0.index t = ![t.val, 0, 0] ∧ win0_1.index t = ![0, 0] ∧ win0_2.index t = ![t.val, 0, 0] ∧ win0_3.index t = ![t.val, 0, 0] :=
  (by decide +kernel : ∀ t : Fin grid0.N, _)

theorem blk0 (t : Fin cfg0.N) (b : Fin 8) (hb : b.val = t.val) (r : Fin 256) (k : Fin 1024) :
    iblk m e 0 t (ix3 0 r k) = m ((e.tc : Thread nD τ).loc main_arg0) (ix3 b r k) := by
  obtain ⟨h0, h1, h2, h3⟩ := idx t
  rw [← V_main_arg0 m e]
  blk_point [iblk, V, h0, hb]
theorem blk1 (t : Fin cfg0.N) (k : Fin 1024) (c : Fin 512) : iblk m e 1 t (ix2 k c) = m ((e.tc : Thread nD τ).loc main_arg1) (ix2 k c) := by
  obtain ⟨h0, h1, h2, h3⟩ := idx t
  rw [← w_at m e]
  blk_point [iblk, V, h1]

theorem final2 : (dats m 0 e).arrAt 2 cfg0.N = keys m e := by
  refine (dats m 0 e).arrAt_eq_of_covers 2 _ (by decide +kernel) fun t _ y => ?_
  blk_simp
  rw [after0_2]
  obtain ⟨h0, h1, h2, h3⟩ := idx t
  idx_vars y
  have hy : ((View.whole main_v1_0).slice (win0_2.rect t)).emb (ix3 y0 y1 y2) = ix3 (⟨t.val, t.isLt⟩ : Fin 8) y1 y2 := by
    blk_ext [h2]
  rw [hy, keys_at]
  simp only [blk0 m e t ⟨t.val, t.isLt⟩ rfl, blk1 m e t]
  rfl

theorem final3 : (dats m 0 e).arrAt 3 cfg0.N = values m e := by
  refine (dats m 0 e).arrAt_eq_of_covers 3 _ (by decide +kernel) fun t _ y => ?_
  blk_simp
  rw [after0_3]
  obtain ⟨h0, h1, h2, h3⟩ := idx t
  idx_vars y
  have hy : ((View.whole main_v1_1).slice (win0_3.rect t)).emb (ix3 y0 y1 y2) = ix3 (⟨t.val, t.isLt⟩ : Fin 8) y1 y2 := by
    blk_ext [h3]
  rw [hy, values_at]
  simp only [blk0 m e t ⟨t.val, t.isLt⟩ rfl, blk1 m e t]
  rfl

end Cert.MemkvIdeal.Final
end
-- ==== Proof.MemkvClaims.lean ====
module

public import proofs.«01_k».proof.Proof.MemkvTile
public import proofs.«01_k».proof.Proof.Gen.Memkv.Frame
public import proofs.«01_k».proof.Proof.Gen.RefMemkvIdeal.Run
public import proofs.«01_k».proof.Defs
public import Idealize.ShloMosaic.Lib.Claim
public import Idealize.ShloMosaic.Lib.Quiescent

@[expose] public section

noncomputable section

namespace Cert.RefMemkvIdeal.Rows

open Idealize.ShloMosaic Idealize.ShloMosaic.TcCoe Idealize.SL.Sem
open Cert.RefMemkvIdeal Cert.RefMemkvIdeal.Gen

section stages
variable {F : FTy → Type} [FloatOps F]

/-- The projection of the memory, keys and values apart. -/
def both (x : FVec F S8x256x1024 .f32) (w : FVec F S1024x512 .f32) : FVec F S8x256x2x256 .f32 :=
  shapeCast S8x256x2x256 (Host.dotGeneral dot_S8x256x1024_S1024x512_S8x256x512_2_0_01_1_n_n none x w) shapeCasts_S8x256x512_S8x256x2x256

def keys (x : FVec F S8x256x1024 .f32) (w : FVec F S1024x512 .f32) : FVec F S8x256x256 .bf16 :=
  truncf .bf16 (shapeCast S8x256x256 (extractStridedSlice S8x256x1x256 ![0, 0, 0, 0] (both x w) slices_S8x256x2x256_S8x256x1x256_0_0_0_0) shapeCasts_S8x256x1x256_S8x256x256) bitsLt_bf16_f32

def values (x : FVec F S8x256x1024 .f32) (w : FVec F S1024x512 .f32) : FVec F S8x256x256 .bf16 :=
  truncf .bf16 (shapeCast S8x256x256 (extractStridedSlice S8x256x1x256 ![0, 0, 1, 0] (both x w) slices_S8x256x2x256_S8x256x1x256_0_0_1_0) shapeCasts_S8x256x1x256_S8x256x256) bitsLt_bf16_f32
end stages

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = keys (F := Ideal) (m ((c.tc : Thread nD τ).loc main_arg0)) (m ((c.tc : Thread nD τ).loc main_arg1))
      ∧ r.2.mem ((c.tc : Thread nD τ).loc main_v7) = values (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

theorem keys_at (x : FVec Ideal S8x256x1024 .f32) (w : FVec Ideal S1024x512 .f32) (b : Fin 8) (r c : Fin 256) :
    keys x w (ix3 b r c) = ∑ k : Fin 1024, (show EReal from x (ix3 b r k)) * w (ix2 k ⟨c.val, by omega⟩) := by
  pointwise [keys, both]

theorem values_at (x : FVec Ideal S8x256x1024 .f32) (w : FVec Ideal S1024x512 .f32) (b : Fin 8) (r c : Fin 256) :
    values x w (ix3 b r c) = ∑ k : Fin 1024, (show EReal from x (ix3 b r k)) * w (ix2 k ⟨256 + c.val, by omega⟩) := by
  pointwise [values, both]

end Cert.RefMemkvIdeal.Rows

/-! The claims about the call that projects the memory. -/
namespace Cert.MemkvClaims

open Idealize.ShloMosaic Idealize.ShloMosaic.TcCoe Idealize.SL.Sem

theorem frame_p : Cert.quiescent_Memkv := fun m g _ => Cert.Memkv.Gen.frame m g
theorem frame_pi : Cert.quiescent_MemkvIdeal := fun m g _ => Cert.MemkvIdeal.Gen.frame m g
theorem frame_r : Cert.quiescent_RefMemkvIdeal := fun m g _ =>
  (θ_run Cert.RefMemkvIdeal.defs _ _).mono (fun r h => ⟨fun c => (h c).2.2, sem_eq_zero_of_no_sems (by decide) r.2⟩)
    (Cert.RefMemkvIdeal.Rows.run_named m g)

theorem preserves : Cert.preserves_Memkv_MemkvIdeal := trivial

theorem algebraic : Cert.algebraic_MemkvIdeal_RefMemkvIdeal := by
  intro m ρ m' ρ' hpre hagree
  refine ⟨_, _, Cert.MemkvIdeal.Value.run_blocks (F := Ideal) m ρ, ?_⟩
  refine (θ_run Cert.RefMemkvIdeal.defs _ _).mono (fun _ h c => ?_) (Cert.RefMemkvIdeal.Rows.run_named m' ρ')
  obtain ⟨hK, hV, hr⟩ := h c
  obtain ⟨h0, h1⟩ := hagree c
  refine ⟨hK.trans ?_, hV.trans ?_, hr⟩
  · rw [h0, h1, Cert.MemkvIdeal.Final.final2]
    refine funext fun y => ?_
    rw [← ix3_eta y]
    exact Cert.RefMemkvIdeal.Rows.keys_at _ _ (y 0) (y 1) (y 2)
  · rw [h0, h1, Cert.MemkvIdeal.Final.final3]
    refine funext fun y => ?_
    rw [← ix3_eta y]
    exact Cert.RefMemkvIdeal.Rows.values_at _ _ (y 0) (y 1) (y 2)

end Cert.MemkvClaims
end
-- ==== Proof.MemattnTile.lean ====
module

public import proofs.«01_k».proof.Proof.Dil1Block
public import proofs.«01_k».proof.Proof.Gen.MemattnIdeal.Frame
public import proofs.«01_k».proof.Proof.Gen.MemattnIdeal.Value

@[expose] public section

set_option maxRecDepth 16384

noncomputable section

/-! The memory attention's tile: 512 queries of a pair of heads against all 256 memory rows. -/
namespace Cert.MemattnIdeal.Tile

open Cert.MemattnIdeal Cert.MemattnIdeal.Gen Idealize.ShloMosaic Idealize.ShloMosaic.TcCoe Idealize.SL.Sem
open Cert.Dil1Ideal.Tile (laneHead head0 head1 sel0 sel1 firstHead neg_inf)

section tile
variable {F : FTy → Type} [FloatOps F]

/-- The rows a tile of 512 queries stores: both heads side by side. -/
def tile (k v : Vec F S1x256x128 .bf16) (q : Vec F S1x512x128 .bf16) : FVec F S1x512x128 .bf16 :=
  k0_pay10 (k0_pay3 v) (k0_pay7 (k0_pay3 v) (k0_pay5 k q) (k0_pay6 k q)) (k0_pay8 (k0_pay2 k) (k0_pay4 q)) (k0_pay9 (k0_pay2 k) (k0_pay4 q))

theorem out3 (x0 : Vec F S1x2048x256 .bf16) (x1 x2 : Vec F S1x256x256 .bf16) :
    out0_3 x0 x1 x2 = View.canon [
      ⟨r0_9, tile (View.ld x1 r0_5) (View.ld x2 r0_5) (View.ld x0 r0_9)⟩,
      ⟨r0_8, tile (View.ld x1 r0_5) (View.ld x2 r0_5) (View.ld x0 r0_8)⟩,
      ⟨r0_7, tile (View.ld x1 r0_5) (View.ld x2 r0_5) (View.ld x0 r0_7)⟩,
      ⟨r0_6, tile (View.ld x1 r0_5) (View.ld x2 r0_5) (View.ld x0 r0_6)⟩,
      ⟨r0_4, tile (View.ld x1 r0_0) (View.ld x2 r0_0) (View.ld x0 r0_4)⟩,
      ⟨r0_3, tile (View.ld x1 r0_0) (View.ld x2 r0_0) (View.ld x0 r0_3)⟩,
      ⟨r0_2, tile (View.ld x1 r0_0) (View.ld x2 r0_0) (View.ld x0 r0_2)⟩,
      ⟨r0_1, tile (View.ld x1 r0_0) (View.ld x2 r0_0) (View.ld x0 r0_1)⟩] := rfl

end tile

/-- The score of query row `i` with memory row `j`, under the head that lane `c` belongs to. -/
def tileScore (k : Vec Ideal S1x256x128 .bf16) (q : Vec Ideal S1x512x128 .bf16) (i : Fin 512) (c : Fin 128) (j : Fin 256) : EReal :=
  ∑ x : Fin 64, (show EReal from q (ix3 0 i ⟨c.val / 64 * 64 + x.val, by omega⟩)) * k (ix3 0 j ⟨c.val / 64 * 64 + x.val, by omega⟩)

theorem scores0 (k : Vec Ideal S1x256x128 .bf16) (q : Vec Ideal S1x512x128 .bf16) (i : Fin 512) (c : Fin 128) (hc : c.val < 64) (j : Fin 256) :
    k0_pay5 k q (ix2 i j) = tileScore k q i c j := by
  pointwise [k0_pay5, k0_pay2, k0_pay4]
  show (∑ x : Fin 128, Scalar.select (IntOp.cmpi CmpIPredicate.eq (laneHead x) 0#32) (q (ix3 0 i x) * k (ix3 0 j x)) 0) = _
  rw [head0]
  have e : c.val / 64 = 0 := by omega
  simp only [tileScore, e, Nat.zero_mul, Nat.zero_add]

theorem exps1 (k : Vec Ideal S1x256x128 .bf16) (q : Vec Ideal S1x512x128 .bf16) (i : Fin 512) (c : Fin 128) (hc : ¬ c.val < 64) (j : Fin 256) :
    k0_pay8 (k0_pay2 k) (k0_pay4 q) (ix2 i j) = Ideal.exp (tileScore k q i c j - Softmax.top (tileScore k q i c)) := by
  have e : c.val / 64 = 1 := by omega
  have hs : ∀ j : Fin 256, tileScore k q i c j = ∑ x : Fin 128, Scalar.select (IntOp.cmpi CmpIPredicate.eq (laneHead x) 1#32) ((show EReal from q (ix3 0 i x)) * k (ix3 0 j x)) 0 := by
    intro j
    rw [head1]
    simp only [tileScore, e, Nat.one_mul]
  pointwise [k0_pay8, k0_pay2, k0_pay4]
  rw [neg_inf, hs, show tileScore k q i c = _ from funext hs]
  rfl

/-- A stored element is the softmax mean of the values at its lane. -/
theorem tile_at (k v : Vec Ideal S1x256x128 .bf16) (q : Vec Ideal S1x512x128 .bf16) (u : Fin 1) (i : Fin 512) (c : Fin 128) :
    tile k v q (ix3 u i c) = Softmax.mean (tileScore k q i c) (fun j => v (ix3 0 j c)) := by
  pointwise [tile, k0_pay10, k0_pay9, k0_pay7, k0_pay6, k0_pay3]
  show Scalar.select (IntOp.cmpi CmpIPredicate.eq (laneHead c) 0#32) _ _ = _
  rw [firstHead]
  by_cases hc : c.val < 64
  · rw [if_pos hc, sel1]
    simp only [scores0 k q i c hc]
    rw [neg_inf]
    rfl
  · rw [if_neg hc, sel0]
    simp only [exps1 k q i c hc]
    rfl

/-- The score of query row `r` with memory row `j`, under the head that lane `c` belongs to, read from the blocks. -/
def blkScore (X0 : Vec Ideal S1x2048x256 .bf16) (X1 : Vec Ideal S1x256x256 .bf16) (r : Fin 2048) (c j : Fin 256) : EReal :=
  ∑ x : Fin 64, (show EReal from X0 (ix3 0 r ⟨c.val / 64 * 64 + x.val, by omega⟩)) * X1 (ix3 0 j ⟨c.val / 64 * 64 + x.val, by omega⟩)

/-- A tile of rows and lanes of the blocks stores the blocks' softmax means. -/
theorem tile_blk (X0 : Vec Ideal S1x2048x256 .bf16) (X1 X2 : Vec Ideal S1x256x256 .bf16) (k v : Vec Ideal S1x256x128 .bf16) (q : Vec Ideal S1x512x128 .bf16)
    (g o : ℕ) (u : Fin 1) (r : Fin 2048) (c : Fin 256) (i : Fin 512) (l : Fin 128) (hr : r.val = o * 512 + i.val) (hg : g < 2) (hc : c.val = g * 128 + l.val)
    (hk : ∀ (j : Fin 256) (x : Fin 128), k (ix3 0 j x) = X1 (ix3 0 j ⟨g * 128 + x.val, by omega⟩))
    (hv : ∀ (j : Fin 256) (x : Fin 128), v (ix3 0 j x) = X2 (ix3 0 j ⟨g * 128 + x.val, by omega⟩))
    (hq : ∀ x : Fin 128, q (ix3 0 i x) = X0 (ix3 0 r ⟨g * 128 + x.val, by omega⟩)) :
    tile k v q (ix3 u i l) = Softmax.mean (blkScore X0 X1 r c) (fun j => X2 (ix3 0 j c)) := by
  rw [tile_at]
  refine congrArg₂ Softmax.mean (funext fun j => Finset.sum_congr rfl fun x _ => ?_) (funext fun j => (hv j l).trans ?_)
  · have ex : (⟨g * 128 + (l.val / 64 * 64 + x.val), by omega⟩ : Fin 256) = ⟨c.val / 64 * 64 + x.val, by omega⟩ := Fin.ext (by show g * 128 + (l.val / 64 * 64 + x.val) = c.val / 64 * 64 + x.val; omega)
    rw [hk, hq]
    simp only [ex]
  · rw [show c = ⟨g * 128 + l.val, by omega⟩ from Fin.ext hc]

theorem row_eq (X : Vec Ideal S1x2048x256 .bf16) {a b : Fin 2048} (h : a.val = b.val) (c : Fin 256) : X (ix3 0 a c) = X (ix3 0 b c) := by
  rw [Fin.ext h]

theorem out3_at (X0 : Vec Ideal S1x2048x256 .bf16) (X1 X2 : Vec Ideal S1x256x256 .bf16) (u : Fin 1) (r : Fin 2048) (c : Fin 256) :
    out0_3 X0 X1 X2 (ix3 u r c) = Softmax.mean (blkScore X0 X1 r c) (fun j => X2 (ix3 0 j c)) := by
  rw [out3]
  canon_tiles x h
  case piece0 =>
    idx_vars x
    refine tile_blk X0 X1 X2 _ _ _ 1 3 x0 r c x1 x2 (by omega) (by decide) (by omega) (fun j x => ?_) (fun j x => ?_) (fun x => ?_)
    · pointwise []
    · pointwise []
    · pointwise []; exact row_eq X0 (by simp only []; omega) _
  case piece1 =>
    idx_vars x
    refine tile_blk X0 X1 X2 _ _ _ 1 2 x0 r c x1 x2 (by omega) (by decide) (by omega) (fun j x => ?_) (fun j x => ?_) (fun x => ?_)
    · pointwise []
    · pointwise []
    · pointwise []; exact row_eq X0 (by simp only []; omega) _
  case piece2 =>
    idx_vars x
    refine tile_blk X0 X1 X2 _ _ _ 1 1 x0 r c x1 x2 (by omega) (by decide) (by omega) (fun j x => ?_) (fun j x => ?_) (fun x => ?_)
    · pointwise []
    · pointwise []
    · pointwise []; exact row_eq X0 (by simp only []; omega) _
  case piece3 =>
    idx_vars x
    refine tile_blk X0 X1 X2 _ _ _ 1 0 x0 r c x1 x2 (by omega) (by decide) (by omega) (fun j x => ?_) (fun j x => ?_) (fun x => ?_)
    · pointwise []
    · pointwise []
    · pointwise []; exact row_eq X0 (by simp only []; omega) _
  case piece4 =>
    idx_vars x
    refine tile_blk X0 X1 X2 _ _ _ 0 3 x0 r c x1 x2 (by omega) (by decide) (by omega) (fun j x => ?_) (fun j x => ?_) (fun x => ?_)
    · pointwise []
    · pointwise []
    · pointwise []; exact row_eq X0 (by simp only []; omega) _
  case piece5 =>
    idx_vars x
    refine tile_blk X0 X1 X2 _ _ _ 0 2 x0 r c x1 x2 (by omega) (by decide) (by omega) (fun j x => ?_) (fun j x => ?_) (fun x => ?_)
    · pointwise []
    · pointwise []
    · pointwise []; exact row_eq X0 (by simp only []; omega) _
  case piece6 =>
    idx_vars x
    refine tile_blk X0 X1 X2 _ _ _ 0 1 x0 r c x1 x2 (by omega) (by decide) (by omega) (fun j x => ?_) (fun j x => ?_) (fun x => ?_)
    · pointwise []
    · pointwise []
    · pointwise []; exact row_eq X0 (by simp only []; omega) _
  case piece7 =>
    idx_vars x
    refine tile_blk X0 X1 X2 _ _ _ 0 0 x0 r c x1 x2 (by omega) (by decide) (by omega) (fun j x => ?_) (fun j x => ?_) (fun x => ?_)
    · pointwise []
    · pointwise []
    · pointwise []; exact row_eq X0 (by simp only []; omega) _

end Cert.MemattnIdeal.Tile
end
-- ==== Proof.MemattnFinal.lean ====
module

public import proofs.«01_k».proof.Proof.MemattnTile
public import proofs.«01_k».proof.Proof.Attend

@[expose] public section

set_option maxRecDepth 16384

noncomputable section

/-! The array the memory attention leaves, from the arrays it was launched with. -/
namespace Cert.MemattnIdeal.Final

open Cert.MemattnIdeal Cert.MemattnIdeal.Gen Cert.MemattnIdeal.Tile Idealize.ShloMosaic Idealize.ShloMosaic.TcCoe Idealize.SL.Sem

/-- Four heads of 64 lanes at the 4096 positions of eight sequences. -/
abbrev Queries := (⟨4, ![8, 4096, 4, 64]⟩ : Shape).Idx → EReal
/-- Four heads of 64 lanes at the 256 memory rows of eight sequences. -/
abbrev Rows := (⟨4, ![8, 256, 4, 64]⟩ : Shape).Idx → EReal

/-- The scores of position `l` under head `h`, every query scaled before the product. -/
def scaledFirst (Q : Queries) (K : Rows) (b : Fin 8) (l : Fin 4096) (h : Fin 4) (j : Fin 256) : EReal :=
  ∑ x : Fin 64, Q (ix4 b l h x) * Attend.scale * K (ix4 b j h x)

variable (m : (ℓ : Loc nD τ sig) → Buf (Elt Ideal) ℓ) (e : Dev nD)

/-- The queries, keys and values as launched. -/
abbrev argQ : Queries := m ((e.tc : Thread nD τ).loc main_arg0)
abbrev argK : Rows := m ((e.tc : Thread nD τ).loc main_arg1)
abbrev argV : Rows := m ((e.tc : Thread nD τ).loc main_arg2)

theorem q_at (b : Fin 8) (l : Fin 4096) (c : Fin 256) :
    V m e main_v3 (ix3 b l c) = argQ m e (ix4 b l ⟨c.val / 64, by omega⟩ ⟨c.val % 64, by omega⟩) * Attend.scale := by
  entry_read
  pointwise []
  rfl
theorem k_at (b : Fin 8) (j c : Fin 256) :
    V m e main_v5 (ix3 b j c) = argK m e (ix4 b j ⟨c.val / 64, by omega⟩ ⟨c.val % 64, by omega⟩) := by
  entry_read
  pointwise []
theorem v_at (b : Fin 8) (j c : Fin 256) :
    V m e main_v7 (ix3 b j c) = argV m e (ix4 b j ⟨c.val / 64, by omega⟩ ⟨c.val % 64, by omega⟩) := by
  entry_read
  pointwise []

/-- Where the blocks of grid point `t` lie. -/
theorem idx : ∀ t : Fin cfg0.N, win0_0.index t = ![t.val / 2, t.val % 2, 0] ∧ win0_1.index t = ![t.val / 2, 0, 0] ∧ win0_2.index t = ![t.val / 2, 0, 0] ∧ win0_3.index t = ![t.val / 2, t.val % 2, 0] :=
  (by decide +kernel : ∀ t : Fin grid0.N, _)

theorem blk0 (t : Fin cfg0.N) (b : Fin 8) (hb : b.val = t.val / 2) (r : Fin 2048) (l : Fin 4096) (hl : l.val = t.val % 2 * 2048 + r.val) (c : Fin 256) :
    iblk m e 0 t (ix3 0 r c) = V m e main_v3 (ix3 b l c) := by
  obtain ⟨h0, h1, h2, h3⟩ := idx t
  blk_point [iblk, V, h0, hb, hl]
theorem blk1 (t : Fin cfg0.N) (b : Fin 8) (hb : b.val = t.val / 2) (j c : Fin 256) : iblk m e 1 t (ix3 0 j c) = V m e main_v5 (ix3 b j c) := by
  obtain ⟨h0, h1, h2, h3⟩ := idx t
  blk_point [iblk, V, h1, hb]
theorem blk2 (t : Fin cfg0.N) (b : Fin 8) (hb : b.val = t.val / 2) (j c : Fin 256) : iblk m e 2 t (ix3 0 j c) = V m e main_v7 (ix3 b j c) := by
  obtain ⟨h0, h1, h2, h3⟩ := idx t
  blk_point [iblk, V, h2, hb]

theorem score_at (t : Fin cfg0.N) (b : Fin 8) (hb : b.val = t.val / 2) (r : Fin 2048) (l : Fin 4096) (hl : l.val = t.val % 2 * 2048 + r.val) (c : Fin 256) :
    blkScore (iblk m e 0 t) (iblk m e 1 t) r c = scaledFirst (argQ m e) (argK m e) b l ⟨c.val / 64, by omega⟩ := by
  funext j
  refine Finset.sum_congr rfl fun x _ => ?_
  rw [blk0 m e t b hb r l hl, blk1 m e t b hb, q_at, k_at]
  have ex : (⟨(c.val / 64 * 64 + x.val) / 64, by omega⟩ : Fin 4) = ⟨c.val / 64, by omega⟩ := Fin.ext (by show (c.val / 64 * 64 + x.val) / 64 = c.val / 64; omega)
  have ey : (⟨(c.val / 64 * 64 + x.val) % 64, by omega⟩ : Fin 64) = x := Fin.ext (by show (c.val / 64 * 64 + x.val) % 64 = x.val; omega)
  simp only [ex, ey]

/-- The output array after the run. -/
def out : (⟨3, ![8, 4096, 256]⟩ : Shape).Idx → EReal := fun y =>
  Softmax.mean (scaledFirst (argQ m e) (argK m e) (y 0) (y 1) ⟨(y 2).val / 64, Nat.div_lt_of_lt_mul (y 2).isLt⟩)
    (fun j => argV m e (ix4 (y 0) j ⟨(y 2).val / 64, Nat.div_lt_of_lt_mul (y 2).isLt⟩ ⟨(y 2).val % 64, Nat.mod_lt _ (by decide)⟩))

theorem final3 : (dats m 0 e).arrAt 3 cfg0.N = out m e := by
  refine (dats m 0 e).arrAt_eq_of_covers 3 _ (by decide +kernel) fun t _ y => ?_
  blk_simp
  rw [after0_3]
  obtain ⟨h0, h1, h2, h3⟩ := idx t
  idx_vars y
  have hy : ((View.whole main_v8).slice (win0_3.rect t)).emb (ix3 y0 y1 y2)
      = ix3 ⟨t.val / 2, Nat.div_lt_of_lt_mul t.isLt⟩ ⟨t.val % 2 * 2048 + y1.val, by omega⟩ y2 := by
    blk_ext [h3]
  rw [hy, out3_at, score_at m e t ⟨t.val / 2, Nat.div_lt_of_lt_mul t.isLt⟩ rfl y1 ⟨t.val % 2 * 2048 + y1.val, by omega⟩ rfl]
  refine congrArg (Softmax.mean _) (funext fun j => ?_)
  rw [blk2 m e t ⟨t.val / 2, Nat.div_lt_of_lt_mul t.isLt⟩ rfl, v_at]
  rfl

end Cert.MemattnIdeal.Final
end
-- ==== Proof.RefMemattnRows.lean ====
module

public import proofs.«01_k».proof.Proof.Attend
public import proofs.«01_k».proof.Proof.Gen.RefMemattnIdeal.Run

@[expose] public section

set_option maxRecDepth 16384

noncomputable section

/-! The memory attention's reference, stage by stage, and its result lane by lane. -/
namespace Cert.RefMemattnIdeal.Rows

open Idealize.ShloMosaic Idealize.ShloMosaic.TcCoe Idealize.SL.Sem
open Cert.RefMemattnIdeal Cert.RefMemattnIdeal.Gen

section stages
variable {F : FTy → Type} [FloatOps F]

/-- The scaled scores. -/
def scores (q : FVec F S8x4096x4x64 .f32) (k : FVec F S8x256x4x64 .f32) : FVec F S8x4x4096x256 .f32 :=
  mulf (Host.dotGeneral dot_S8x4096x4x64_S8x256x4x64_S8x4x4096x256_3_3_1_1_02_02 none q k) (broadcastInDim S8x4x4096x256 ![] bcast_S_S8x4x4096x256 (constant S_ .f32 0x3E000000#32))

/-- A number for every position, repeated for the memory rows. -/
def each (v : FVec F S8x4x4096 .f32) : FVec F S8x4x4096x256 .f32 :=
  broadcastInDim S8x4x4096x256 ![0, 1, 2, 3] bcast_S8x4x4096x1_S8x4x4096x256_0_1_2_3 (broadcastInDim S8x4x4096x1 ![0, 1, 2] bcast_S8x4x4096_S8x4x4096x1_0_1_2 v)

def largest (s : FVec F S8x4x4096x256 .f32) : FVec F S8x4x4096 .f32 :=
  Host.reduce FloatOps.maximumf s (constant S_ .f32 0xFF800000#32) reducesTo_S8x4x4096x256_S8x4x4096_d3 h_S_

/-- The largest score, minus infinity at least. -/
def tops (s : FVec F S8x4x4096x256 .f32) : FVec F S8x4x4096 .f32 :=
  maximumf (broadcastInDim S8x4x4096 ![] bcast_S_S8x4x4096 (constant S_ .f32 0xFF800000#32)) (largest s)

def raws (s : FVec F S8x4x4096x256 .f32) : FVec F S8x4x4096x256 .f32 :=
  Host.exp (subf s (each (tops s)))

def sums (w : FVec F S8x4x4096x256 .f32) : FVec F S8x4x4096 .f32 :=
  Host.reduceAdd w (constant S_ .f32 0x00000000#32) reducesTo_S8x4x4096x256_S8x4x4096_d3 h_S_

/-- The weights of the memory rows. -/
def weights (s : FVec F S8x4x4096x256 .f32) : FVec F S8x4x4096x256 .f32 :=
  Host.divf (raws s) (each (sums (raws s)))

/-- The weighted values, heads side by side. -/
def mixed (w : FVec F S8x4x4096x256 .f32) (v : FVec F S8x256x4x64 .f32) : FVec F S8x4096x256 .bf16 :=
  truncf .bf16 (shapeCast S8x4096x256 (transpose S8x4096x4x64 [0, 3, 1, 2] (Host.dotGeneral dot_S8x256x4x64_S8x4x4096x256_S8x4x64x4096_1_3_3_2_02_01 none v w) transposes_S8x4x64x4096_S8x4096x4x64_0_3_1_2) shapeCasts_S8x4096x4x64_S8x4096x256) bitsLt_bf16_f32

end stages

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = mixed (F := Ideal) (weights (scores (m ((c.tc : Thread nD τ).loc main_arg0)) (m ((c.tc : Thread nD τ).loc main_arg1)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

section last
variable {n0 n1 n2 n3 : ℕ}

theorem last_filter4 (h : (⟨4, ![n0, n1, n2, n3]⟩ : Shape).ReducesTo [3] ⟨3, ![n0, n1, n2]⟩) (a : Fin n0) (b : Fin n1) (c : Fin n2) :
    (Finset.univ.filter fun i => h.drop i = ix3 a b c)
      = Finset.univ.map ⟨fun k : Fin n3 => (ix4 a b c k : (⟨4, ![n0, n1, n2, n3]⟩ : Shape).Idx), fun k l e => congrFun e 3⟩ := by
  have keep : ∀ i, h.drop i = ix3 (⟨(i 0).val, (i 0).isLt⟩ : Fin n0) ⟨(i 1).val, (i 1).isLt⟩ ⟨(i 2).val, (i 2).isLt⟩ := by
    intro i
    funext b
    apply Fin.ext
    match b with
    | ⟨0, _⟩ => exact Shape.ReducesTo.drop_apply_val_of_eq h i 0 0 (Nat.lt_of_lt_of_eq (by decide : 0 < 3) rfl) rfl
    | ⟨1, _⟩ => exact Shape.ReducesTo.drop_apply_val_of_eq h i 1 1 (Nat.lt_of_lt_of_eq (by decide : 1 < 3) rfl) rfl
    | ⟨2, _⟩ => exact Shape.ReducesTo.drop_apply_val_of_eq h i 2 2 (Nat.lt_of_lt_of_eq (by decide : 2 < 3) rfl) rfl
  ext i
  simp only [Finset.mem_filter, Finset.mem_univ, true_and, Finset.mem_map, Function.Embedding.coeFn_mk]
  constructor
  · intro hi
    refine ⟨i 3, ?_⟩
    rw [keep] at hi
    funext x
    match x with
    | ⟨0, _⟩ => exact (congrFun hi 0).symm
    | ⟨1, _⟩ => exact (congrFun hi 1).symm
    | ⟨2, _⟩ => exact (congrFun hi 2).symm
    | ⟨3, _⟩ => rfl
  · rintro ⟨k, rfl⟩
    exact keep _

/-- The host's maximum over the last of four axes, from minus infinity. -/
theorem top_last {u : Shape} (h : (⟨4, ![n0, n1, n2, n3]⟩ : Shape).ReducesTo [3] ⟨3, ![n0, n1, n2]⟩) (hu : 0 < u.numel)
    (x : FVec Ideal ⟨4, ![n0, n1, n2, n3]⟩ .f32) (z : FVec Ideal u .f32) (hz : z (Shape.Idx.first hu) = (⊥ : EReal)) (a : Fin n0) (b : Fin n1) (c : Fin n2) :
    Host.reduce FloatOps.maximumf x z h hu (ix3 a b c) = Softmax.top (fun k => x (ix4 a b c k)) := by
  rw [Host.reduce_eq_fold, last_filter4, Finset.fold_map, hz]
  rfl

end last

theorem lowest : Ideal.ofBits .f32 0xFF800000#32 = (⊥ : EReal) := by simp [Ideal.ofBits, Ideal.ieee]
theorem zero : Ideal.ofBits .f32 0x00000000#32 = (0 : EReal) := by simp [Ideal.ofBits, Ideal.ieee]

/-- The scores of position `l` under head `h`, the product scaled. -/
def scaledLast (Q : FVec Ideal S8x4096x4x64 .f32) (K : FVec Ideal S8x256x4x64 .f32) (b : Fin 8) (l : Fin 4096) (h : Fin 4) (j : Fin 256) : EReal :=
  (∑ x : Fin 64, (show EReal from Q (ix4 b l h x)) * K (ix4 b j h x)) * Attend.scale

theorem scores_at (Q : FVec Ideal S8x4096x4x64 .f32) (K : FVec Ideal S8x256x4x64 .f32) (b : Fin 8) (h : Fin 4) (l : Fin 4096) (j : Fin 256) :
    scores (F := Ideal) Q K (ix4 b h l j) = scaledLast Q K b l h j := by
  pointwise [scores]
  rfl

theorem largest_at (s : FVec Ideal S8x4x4096x256 .f32) (b : Fin 8) (h : Fin 4) (l : Fin 4096) :
    largest (F := Ideal) s (ix3 b h l) = Softmax.top (fun j => s (ix4 b h l j)) :=
  top_last reducesTo_S8x4x4096x256_S8x4x4096_d3 h_S_ s (constant (F := Ideal) S_ .f32 0xFF800000#32) lowest b h l

theorem each_at (v : FVec Ideal S8x4x4096 .f32) (b : Fin 8) (h : Fin 4) (l : Fin 4096) (j : Fin 256) :
    each (F := Ideal) v (ix4 b h l j) = v (ix3 b h l) := by
  pointwise [each]

theorem bottom (x : FVec Ideal S8x4x4096 .f32) (i : S8x4x4096.Idx) :
    maximumf (broadcastInDim S8x4x4096 ![] bcast_S_S8x4x4096 (constant (F := Ideal) S_ .f32 0xFF800000#32)) x i = x i := by
  show max (Ideal.ofBits .f32 0xFF800000#32) (x i) = x i
  rw [lowest]
  exact max_eq_right bot_le

theorem tops_at (s : FVec Ideal S8x4x4096x256 .f32) (b : Fin 8) (h : Fin 4) (l : Fin 4096) :
    tops (F := Ideal) s (ix3 b h l) = Softmax.top (fun j => s (ix4 b h l j)) :=
  (bottom (largest s) (ix3 b h l)).trans (largest_at s b h l)

theorem shifted (s : FVec Ideal S8x4x4096x256 .f32) (t : FVec Ideal S8x4x4096 .f32) (b : Fin 8) (h : Fin 4) (l : Fin 4096) (j : Fin 256) :
    Host.exp (subf s (each t)) (ix4 b h l j) = Ideal.exp ((show EReal from s (ix4 b h l j)) - t (ix3 b h l)) := by
  pointwise [each_at]

theorem raws_at (s : FVec Ideal S8x4x4096x256 .f32) (b : Fin 8) (h : Fin 4) (l : Fin 4096) (j : Fin 256) :
    raws (F := Ideal) s (ix4 b h l j) = Ideal.exp ((show EReal from s (ix4 b h l j)) - Softmax.top (fun j => s (ix4 b h l j))) := by
  refine (shifted s (tops s) b h l j).trans ?_
  rw [tops_at]

theorem sums_at (w : FVec Ideal S8x4x4096x256 .f32) (b : Fin 8) (h : Fin 4) (l : Fin 4096) :
    sums (F := Ideal) w (ix3 b h l) = ∑ j : Fin 256, (show EReal from w (ix4 b h l j)) := by
  show Ideal.hostReduceAdd reducesTo_S8x4x4096x256_S8x4x4096_d3 w (Ideal.ofBits .f32 0x00000000#32) (ix3 b h l) = _
  rw [Ideal.hostReduceAdd, last_filter4, Finset.sum_map, zero, zero_add]
  rfl

theorem weights_at (s : FVec Ideal S8x4x4096x256 .f32) (b : Fin 8) (h : Fin 4) (l : Fin 4096) (j : Fin 256) :
    weights (F := Ideal) s (ix4 b h l j) = Ideal.div (Ideal.exp ((show EReal from s (ix4 b h l j)) - Softmax.top (fun j => s (ix4 b h l j)))) (Softmax.den (fun j => s (ix4 b h l j))) := by
  pointwise [weights, each_at, sums_at, raws_at]
  rfl

theorem mixed_at (w : FVec Ideal S8x4x4096x256 .f32) (v : FVec Ideal S8x256x4x64 .f32) (b : Fin 8) (l : Fin 4096) (c : Fin 256) :
    mixed (F := Ideal) w v (ix3 b l c) = ∑ j : Fin 256, (show EReal from v (ix4 b j ⟨c.val / 64, by omega⟩ ⟨c.val % 64, by omega⟩)) * w (ix4 b ⟨c.val / 64, by omega⟩ l j) := by
  pointwise [mixed]

/-- A lane of the result, where the scores make a row. -/
theorem ref_at (Q : FVec Ideal S8x4096x4x64 .f32) (K V : FVec Ideal S8x256x4x64 .f32) (b : Fin 8) (l : Fin 4096) (c : Fin 256)
    (hr : Softmax.Row (scaledLast Q K b l ⟨c.val / 64, by omega⟩)) :
    mixed (F := Ideal) (weights (scores Q K)) V (ix3 b l c)
      = Softmax.mean (scaledLast Q K b l ⟨c.val / 64, by omega⟩) (fun j => V (ix4 b j ⟨c.val / 64, by omega⟩ ⟨c.val % 64, by omega⟩)) := by
  rw [mixed_at, Softmax.mean_div hr]
  refine Finset.sum_congr rfl fun j _ => ?_
  rw [weights_at, mul_comm]
  simp only [scores_at]

end Cert.RefMemattnIdeal.Rows
end
-- ==== Proof.MemattnClaims.lean ====
module

public import proofs.«01_k».proof.Proof.MemattnFinal
public import proofs.«01_k».proof.Proof.RefMemattnRows
public import proofs.«01_k».proof.Proof.Finite
public import proofs.«01_k».proof.Proof.Gen.Memattn.Frame
public import proofs.«01_k».proof.Proof.Gen.Pre_scores_finite
public import proofs.«01_k».proof.Defs
public import Idealize.ShloMosaic.Lib.Claim
public import Idealize.ShloMosaic.Lib.Quiescent

@[expose] public section

noncomputable section

/-! The claims about the memory attention. -/
namespace Cert.MemattnClaims

open Idealize.ShloMosaic Idealize.ShloMosaic.TcCoe Idealize.SL.Sem
open Cert.MemattnIdeal.Final (Queries Rows scaledFirst)
open Cert.RefMemattnIdeal.Rows (scaledLast)

theorem real_args [hf : Cert.Pre_scores_finite.Facts] (Q : FVec Ideal ⟨4, ![8, 4096, 4, 64]⟩ .f32) (K V : FVec Ideal ⟨4, ![8, 256, 4, 64]⟩ .f32)
    (h : Cert.Pre_scores_finite.fn (F := Ideal) Q K V = fun _ => 1#1) : (∀ i, ∃ r : ℝ, Q i = (r : EReal)) ∧ ∀ i, ∃ r : ℝ, K i = (r : EReal) := by
  have : Subsingleton Cert.Pre_scores_finite.S_.Idx := ⟨fun a b => funext fun k => k.elim0⟩
  have h0 := congrFun h (Shape.Idx.first Cert.Pre_scores_finite.Facts.h_S_)
  obtain ⟨hQ, hK⟩ := Attend.and1 h0
  constructor
  · intro i
    have e := Host.reduce_andi_all _ _ _ _ _ hQ i
    refine Attend.real_of_abs (Q i) ?_
    rw [← Attend.inf]
    exact e
  · intro i
    have e := Host.reduce_andi_all _ _ _ _ _ hK i
    refine Attend.real_of_abs (K i) ?_
    rw [← Attend.inf]
    exact e

section row
variable {Q : Queries} {K : Rows} (hQ : ∀ i, ∃ r : ℝ, Q i = (r : EReal)) (hK : ∀ i, ∃ r : ℝ, K i = (r : EReal))
include hQ hK

theorem scaled_eq (b : Fin 8) (l : Fin 4096) (h : Fin 4) : scaledFirst Q K b l h = scaledLast Q K b l h :=
  funext fun j => Attend.scale_sum _ _ _ (fun x => hQ _) (fun x => hK _) Attend.scale_real

theorem row (b : Fin 8) (l : Fin 4096) (h : Fin 4) : Softmax.Row (scaledLast Q K b l h) := by
  have real : ∀ j : Fin 256, ∃ a : ℝ, scaledLast Q K b l h j = a := by
    intro j
    choose a ha using fun x : Fin 64 => hQ (ix4 b l h x)
    choose e he using fun x : Fin 64 => hK (ix4 b j h x)
    obtain ⟨s, hs⟩ := Attend.scale_real
    refine ⟨(∑ x, a x * e x) * s, ?_⟩
    simp only [scaledLast, ha, he, hs, ← EReal.coe_mul, Softmax.coe_sum]
  refine ⟨fun j => ?_, ⟨0, ?_⟩⟩
  · obtain ⟨a, ha⟩ := real j
    rw [ha]; exact EReal.coe_ne_top a
  · obtain ⟨a, ha⟩ := real 0
    rw [ha]; exact EReal.coe_ne_bot a

end row

theorem frame_p : Cert.quiescent_Memattn := fun m g _ => Cert.Memattn.Gen.frame m g
theorem frame_pi : Cert.quiescent_MemattnIdeal := fun m g _ => Cert.MemattnIdeal.Gen.frame m g
theorem frame_pi_pre : Cert.quiescent_MemattnIdeal_pre_scores_finite := fun m g _ => Cert.MemattnIdeal.Gen.frame m g
theorem frame_r : Cert.quiescent_RefMemattnIdeal := fun m g _ =>
  (θ_run Cert.RefMemattnIdeal.defs _ _).mono (fun r h => ⟨fun c => (h c).2, sem_eq_zero_of_no_sems (by decide) r.2⟩)
    (Cert.RefMemattnIdeal.Rows.run_named m g)
theorem frame_r_pre : Cert.quiescent_RefMemattnIdeal_pre_scores_finite := fun m g _ => frame_r m g trivial

theorem preserves : Cert.preserves_Memattn_MemattnIdeal := trivial

theorem algebraic : Cert.algebraic_MemattnIdeal_RefMemattnIdeal_pre_scores_finite := by
  intro m ρ m' ρ' hpre hagree
  refine ⟨_, Cert.MemattnIdeal.Value.run_blocks (F := Ideal) m ρ, ?_⟩
  refine (θ_run Cert.RefMemattnIdeal.defs _ _).mono (fun _ h c => ?_) (Cert.RefMemattnIdeal.Rows.run_named m' ρ')
  obtain ⟨hq, hk⟩ := real_args _ _ _ (hpre c)
  obtain ⟨hO, hr⟩ := h c
  refine ⟨hO.trans ?_, hr⟩
  rw [(hagree c).1, (hagree c).2.1, (hagree c).2.2, Cert.MemattnIdeal.Final.final3]
  refine funext fun y => ?_
  rw [← ix3_eta y]
  exact (Cert.RefMemattnIdeal.Rows.ref_at _ _ _ (y 0) (y 1) (y 2) (row hq hk (y 0) (y 1) _)).trans
    (congrArg (fun s => Softmax.mean s _) (scaled_eq hq hk (y 0) (y 1) _).symm)

end Cert.MemattnClaims
end
-- ==== Proof.lean ====
module

public import proofs.«01_k».proof.Defs
public import proofs.«01_k».proof.Proof.Dil1Claims
public import proofs.«01_k».proof.Proof.CombClaims
public import proofs.«01_k».proof.Proof.MergeClaims
public import proofs.«01_k».proof.Proof.InprojClaims
public import proofs.«01_k».proof.Proof.Dil4Claims
public import proofs.«01_k».proof.Proof.Dil16Claims
public import proofs.«01_k».proof.Proof.MemkvClaims
public import proofs.«01_k».proof.Proof.MemattnClaims

@[expose] public section

noncomputable section

namespace Cert.Proof

open Idealize.ShloMosaic Idealize.SL.Sem

theorem claim : Cert.Claim :=
  ⟨Cert.Dil1.Gen.facts, Cert.Dil1Ideal.Gen.facts, Cert.Ref1Ideal.Gen.facts, Cert.Comb.Gen.facts, Cert.CombIdeal.Gen.facts, Cert.RefCombIdeal.Gen.facts,
    Cert.Merge.Gen.facts, Cert.MergeIdeal.Gen.facts, Cert.RefMergeIdeal.Gen.facts,
    Cert.Inproj.Gen.facts, Cert.InprojIdeal.Gen.facts, Cert.RefInprojIdeal.Gen.facts,
    Cert.Dil4.Gen.facts, Cert.Dil4Ideal.Gen.facts, Cert.Ref4Ideal.Gen.facts, Cert.Dil16.Gen.facts, Cert.Dil16Ideal.Gen.facts, Cert.Ref16Ideal.Gen.facts,
    Cert.Memkv.Gen.facts, Cert.MemkvIdeal.Gen.facts, Cert.RefMemkvIdeal.Gen.facts, Cert.Memattn.Gen.facts, Cert.MemattnIdeal.Gen.facts, Cert.RefMemattnIdeal.Gen.facts,
    Cert.Pre_finite.Gen.facts, Cert.Pre_heaviest_finite.Gen.facts, Cert.Pre_scores_finite.Gen.facts,
    Dil1Claims.frame_p, Dil1Claims.frame_pi, Dil1Claims.frame_pi_pre, Dil1Claims.frame_r, Dil1Claims.frame_r_pre,
    CombClaims.frame_p, CombClaims.frame_pi, CombClaims.frame_r,
    MergeClaims.frame_p, MergeClaims.frame_pi, MergeClaims.frame_pi_pre, MergeClaims.frame_r, MergeClaims.frame_r_pre,
    InprojClaims.frame_p, InprojClaims.frame_pi, InprojClaims.frame_r,
    Dil4Claims.frame_p, Dil4Claims.frame_pi, Dil4Claims.frame_pi_pre, Dil4Claims.frame_r, Dil4Claims.frame_r_pre,
    Dil16Claims.frame_p, Dil16Claims.frame_pi, Dil16Claims.frame_pi_pre, Dil16Claims.frame_r, Dil16Claims.frame_r_pre,
    MemkvClaims.frame_p, MemkvClaims.frame_pi, MemkvClaims.frame_r,
    MemattnClaims.frame_p, MemattnClaims.frame_pi, MemattnClaims.frame_pi_pre, MemattnClaims.frame_r, MemattnClaims.frame_r_pre,
    Dil1Claims.preserves, Dil1Claims.algebraic, CombClaims.preserves, CombClaims.algebraic,
    MergeClaims.preserves, MergeClaims.algebraic, InprojClaims.preserves, InprojClaims.algebraic,
    Dil4Claims.preserves, Dil4Claims.algebraic, Dil16Claims.preserves, Dil16Claims.algebraic,
    MemkvClaims.preserves, MemkvClaims.algebraic, MemattnClaims.preserves, MemattnClaims.algebraic⟩

end Cert.Proof

end
